-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite2 [hPre_finite2 : Cert.Pre_finite2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))).1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))).2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))).2.2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))).2.2.2 = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite2 [hPre_finite2 : Cert.Pre_finite2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4))).1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4))).2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4))).2.2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4))).2.2.2 = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_finite3 [hPre_finite3 : Cert.Pre_finite3.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4))).1 = (fun _ => 1#1)
    ∧ (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4))).2.1 = (fun _ => 1#1)
    ∧ (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4))).2.2.1 = (fun _ => 1#1)
    ∧ (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4))).2.2.2 = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_finite3 [hPre_finite3 : Cert.Pre_finite3.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4))).1 = (fun _ => 1#1)
    ∧ (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4))).2.1 = (fun _ => 1#1)
    ∧ (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4))).2.2.1 = (fun _ => 1#1)
    ∧ (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4))).2.2.2 = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Kernel5Ideal_finite5 [hPre_finite5 : Cert.Pre_finite5.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_finite5.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4))).1 = (fun _ => 1#1)
    ∧ (Cert.Pre_finite5.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4))).2.1 = (fun _ => 1#1)
    ∧ (Cert.Pre_finite5.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4))).2.2 = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_finite5 [hPre_finite5 : Cert.Pre_finite5.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_finite5.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4))).1 = (fun _ => 1#1)
    ∧ (Cert.Pre_finite5.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4))).2.1 = (fun _ => 1#1)
    ∧ (Cert.Pre_finite5.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4))).2.2 = (fun _ => 1#1)

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Kernel2Ideal_pre_finite2 [hKernel2Ideal : Cert.Kernel2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite2 m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Reference2Ideal_pre_finite2 [hReference2Ideal : Cert.Reference2Ideal.Facts] [hPre_finite2 : Cert.Pre_finite2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite2 m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Kernel3Ideal_pre_finite3 [hKernel3Ideal : Cert.Kernel3Ideal.Facts] [hPre_finite3 : Cert.Pre_finite3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_finite3 m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Reference3Ideal_pre_finite3 [hReference3Ideal : Cert.Reference3Ideal.Facts] [hPre_finite3 : Cert.Pre_finite3.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_finite3 m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ r.2.sem = fun _ => 0)

def quiescent_Kernel5Ideal_pre_finite5 [hKernel5Ideal : Cert.Kernel5Ideal.Facts] [hPre_finite5 : Cert.Pre_finite5.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal_finite5 m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4))
      ∧ r.2.sem = fun _ => 0)

def quiescent_Reference5Ideal_pre_finite5 [hReference5Ideal : Cert.Reference5Ideal.Facts] [hPre_finite5 : Cert.Pre_finite5.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_finite5 m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3)
      ∧ r.2.mem ((c.tc : Thread Cert.Kernel12.nD Cert.Kernel12.τ).loc Cert.Kernel12.main_arg4) = m ((c.tc : Thread Cert.Kernel12.nD Cert.Kernel12.τ).loc Cert.Kernel12.main_arg4)
      ∧ r.2.mem ((c.tc : Thread Cert.Kernel12.nD Cert.Kernel12.τ).loc Cert.Kernel12.main_arg5) = m ((c.tc : Thread Cert.Kernel12.nD Cert.Kernel12.τ).loc Cert.Kernel12.main_arg5))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
      ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4)
      ∧ r.2.mem ((c.tc : Thread Cert.Kernel12Ideal.nD Cert.Kernel12Ideal.τ).loc Cert.Kernel12Ideal.main_arg5) = m ((c.tc : Thread Cert.Kernel12Ideal.nD Cert.Kernel12Ideal.τ).loc Cert.Kernel12Ideal.main_arg5))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3)
      ∧ r.2.mem ((c.tc : Thread Cert.Reference12Ideal.nD Cert.Reference12Ideal.τ).loc Cert.Reference12Ideal.main_arg4) = m ((c.tc : Thread Cert.Reference12Ideal.nD Cert.Reference12Ideal.τ).loc Cert.Reference12Ideal.main_arg4)
      ∧ r.2.mem ((c.tc : Thread Cert.Reference12Ideal.nD Cert.Reference12Ideal.τ).loc Cert.Reference12Ideal.main_arg5) = m ((c.tc : Thread Cert.Reference12Ideal.nD Cert.Reference12Ideal.τ).loc Cert.Reference12Ideal.main_arg5))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2)
      ∧ r.2.mem ((c.tc : Thread Cert.Kernel13.nD Cert.Kernel13.τ).loc Cert.Kernel13.main_arg3) = m ((c.tc : Thread Cert.Kernel13.nD Cert.Kernel13.τ).loc Cert.Kernel13.main_arg3))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v40_0)) (v1 : (c : Dev Cert.KernelIdeal.nD) → Buf (Elt Ideal) ((c.tc : Thread Cert.KernelIdeal.nD Cert.KernelIdeal.τ).loc Cert.KernelIdeal.main_v40_1)) (v2 : (c : Dev Cert.KernelIdeal.nD) → Buf (Elt Ideal) ((c.tc : Thread Cert.KernelIdeal.nD Cert.KernelIdeal.τ).loc Cert.KernelIdeal.main_v40_2)) (v3 : (c : Dev Cert.KernelIdeal.nD) → Buf (Elt Ideal) ((c.tc : Thread Cert.KernelIdeal.nD Cert.KernelIdeal.τ).loc Cert.KernelIdeal.main_v40_3)) (v4 : (c : Dev Cert.KernelIdeal.nD) → Buf (Elt Ideal) ((c.tc : Thread Cert.KernelIdeal.nD Cert.KernelIdeal.τ).loc Cert.KernelIdeal.main_v40_4)) (v5 : (c : Dev Cert.KernelIdeal.nD) → Buf (Elt Ideal) ((c.tc : Thread Cert.KernelIdeal.nD Cert.KernelIdeal.τ).loc Cert.KernelIdeal.main_v40_5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v40_0) = v0 c
          ∧ r.2.mem ((c.tc : Thread Cert.KernelIdeal.nD Cert.KernelIdeal.τ).loc Cert.KernelIdeal.main_v40_1) = v1 c
          ∧ r.2.mem ((c.tc : Thread Cert.KernelIdeal.nD Cert.KernelIdeal.τ).loc Cert.KernelIdeal.main_v40_2) = v2 c
          ∧ r.2.mem ((c.tc : Thread Cert.KernelIdeal.nD Cert.KernelIdeal.τ).loc Cert.KernelIdeal.main_v40_3) = v3 c
          ∧ r.2.mem ((c.tc : Thread Cert.KernelIdeal.nD Cert.KernelIdeal.τ).loc Cert.KernelIdeal.main_v40_4) = v4 c
          ∧ r.2.mem ((c.tc : Thread Cert.KernelIdeal.nD Cert.KernelIdeal.τ).loc Cert.KernelIdeal.main_v40_5) = v5 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v79) = v0 c
          ∧ r.2.mem ((c.tc : Thread Cert.ReferenceIdeal.nD Cert.ReferenceIdeal.τ).loc Cert.ReferenceIdeal.main_v82) = v1 c
          ∧ r.2.mem ((c.tc : Thread Cert.ReferenceIdeal.nD Cert.ReferenceIdeal.τ).loc Cert.ReferenceIdeal.main_v85) = v2 c
          ∧ r.2.mem ((c.tc : Thread Cert.ReferenceIdeal.nD Cert.ReferenceIdeal.τ).loc Cert.ReferenceIdeal.main_v88) = v3 c
          ∧ r.2.mem ((c.tc : Thread Cert.ReferenceIdeal.nD Cert.ReferenceIdeal.τ).loc Cert.ReferenceIdeal.main_v90) = v4 c
          ∧ r.2.mem ((c.tc : Thread Cert.ReferenceIdeal.nD Cert.ReferenceIdeal.τ).loc Cert.ReferenceIdeal.main_v92) = v5 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal_pre_finite2 [hKernel2Ideal : Cert.Kernel2Ideal.Facts] [hReference2Ideal : Cert.Reference2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite2 m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v7_0)) (v1 : (c : Dev Cert.Kernel2Ideal.nD) → Buf (Elt Ideal) ((c.tc : Thread Cert.Kernel2Ideal.nD Cert.Kernel2Ideal.τ).loc Cert.Kernel2Ideal.main_v7_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v7_0) = v0 c
          ∧ r.2.mem ((c.tc : Thread Cert.Kernel2Ideal.nD Cert.Kernel2Ideal.τ).loc Cert.Kernel2Ideal.main_v7_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v39) = v0 c
          ∧ r.2.mem ((c.tc : Thread Cert.Reference2Ideal.nD Cert.Reference2Ideal.τ).loc Cert.Reference2Ideal.main_v40) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal_pre_finite3 [hKernel3Ideal : Cert.Kernel3Ideal.Facts] [hReference3Ideal : Cert.Reference3Ideal.Facts] [hPre_finite3 : Cert.Pre_finite3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_finite3 m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v8_0)) (v1 : (c : Dev Cert.Kernel3Ideal.nD) → Buf (Elt Ideal) ((c.tc : Thread Cert.Kernel3Ideal.nD Cert.Kernel3Ideal.τ).loc Cert.Kernel3Ideal.main_v8_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v8_0) = v0 c
          ∧ r.2.mem ((c.tc : Thread Cert.Kernel3Ideal.nD Cert.Kernel3Ideal.τ).loc Cert.Kernel3Ideal.main_v8_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v39) = v0 c
          ∧ r.2.mem ((c.tc : Thread Cert.Reference3Ideal.nD Cert.Reference3Ideal.τ).loc Cert.Reference3Ideal.main_v40) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)) →
    ∃ (v0 : (c : Dev Cert.Kernel4Ideal.nD) → Buf (Elt Ideal) ((c.tc : Thread Cert.Kernel4Ideal.nD Cert.Kernel4Ideal.τ).loc Cert.Kernel4Ideal.main_v18_0)) (v1 : (c : Dev Cert.Kernel4Ideal.nD) → Buf (Elt Ideal) ((c.tc : Thread Cert.Kernel4Ideal.nD Cert.Kernel4Ideal.τ).loc Cert.Kernel4Ideal.main_v18_1)) (v2 : (c : Dev Cert.Kernel4Ideal.nD) → Buf (Elt Ideal) ((c.tc : Thread Cert.Kernel4Ideal.nD Cert.Kernel4Ideal.τ).loc Cert.Kernel4Ideal.main_v18_2)) (v3 : (c : Dev Cert.Kernel4Ideal.nD) → Buf (Elt Ideal) ((c.tc : Thread Cert.Kernel4Ideal.nD Cert.Kernel4Ideal.τ).loc Cert.Kernel4Ideal.main_v18_3)) (v4 : (c : Dev Cert.Kernel4Ideal.nD) → Buf (Elt Ideal) ((c.tc : Thread Cert.Kernel4Ideal.nD Cert.Kernel4Ideal.τ).loc Cert.Kernel4Ideal.main_v18_4)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v18_0) = v0 c
          ∧ r.2.mem ((c.tc : Thread Cert.Kernel4Ideal.nD Cert.Kernel4Ideal.τ).loc Cert.Kernel4Ideal.main_v18_1) = v1 c
          ∧ r.2.mem ((c.tc : Thread Cert.Kernel4Ideal.nD Cert.Kernel4Ideal.τ).loc Cert.Kernel4Ideal.main_v18_2) = v2 c
          ∧ r.2.mem ((c.tc : Thread Cert.Kernel4Ideal.nD Cert.Kernel4Ideal.τ).loc Cert.Kernel4Ideal.main_v18_3) = v3 c
          ∧ r.2.mem ((c.tc : Thread Cert.Kernel4Ideal.nD Cert.Kernel4Ideal.τ).loc Cert.Kernel4Ideal.main_v18_4) = v4 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v30) = v0 c
          ∧ r.2.mem ((c.tc : Thread Cert.Reference4Ideal.nD Cert.Reference4Ideal.τ).loc Cert.Reference4Ideal.main_v31) = v1 c
          ∧ r.2.mem ((c.tc : Thread Cert.Reference4Ideal.nD Cert.Reference4Ideal.τ).loc Cert.Reference4Ideal.main_v32) = v2 c
          ∧ r.2.mem ((c.tc : Thread Cert.Reference4Ideal.nD Cert.Reference4Ideal.τ).loc Cert.Reference4Ideal.main_v29) = v3 c
          ∧ r.2.mem ((c.tc : Thread Cert.Reference4Ideal.nD Cert.Reference4Ideal.τ).loc Cert.Reference4Ideal.main_v18) = v4 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5))

def preserves_Kernel5_Kernel5Ideal : Prop :=
  True

def algebraic_Kernel5Ideal_Reference5Ideal_pre_finite5 [hKernel5Ideal : Cert.Kernel5Ideal.Facts] [hReference5Ideal : Cert.Reference5Ideal.Facts] [hPre_finite5 : Cert.Pre_finite5.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal_finite5 m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)) →
    ∃ (v0 : (c : Dev Cert.Kernel5Ideal.nD) → Buf (Elt Ideal) ((c.tc : Thread Cert.Kernel5Ideal.nD Cert.Kernel5Ideal.τ).loc Cert.Kernel5Ideal.main_v71_0)) (v1 : (c : Dev Cert.Kernel5Ideal.nD) → Buf (Elt Ideal) ((c.tc : Thread Cert.Kernel5Ideal.nD Cert.Kernel5Ideal.τ).loc Cert.Kernel5Ideal.main_v71_1)) (v2 : (c : Dev Cert.Kernel5Ideal.nD) → Buf (Elt Ideal) ((c.tc : Thread Cert.Kernel5Ideal.nD Cert.Kernel5Ideal.τ).loc Cert.Kernel5Ideal.main_v71_2)) (v3 : (c : Dev Cert.Kernel5Ideal.nD) → Buf (Elt Ideal) ((c.tc : Thread Cert.Kernel5Ideal.nD Cert.Kernel5Ideal.τ).loc Cert.Kernel5Ideal.main_v71_3)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v71_0) = v0 c
          ∧ r.2.mem ((c.tc : Thread Cert.Kernel5Ideal.nD Cert.Kernel5Ideal.τ).loc Cert.Kernel5Ideal.main_v71_1) = v1 c
          ∧ r.2.mem ((c.tc : Thread Cert.Kernel5Ideal.nD Cert.Kernel5Ideal.τ).loc Cert.Kernel5Ideal.main_v71_2) = v2 c
          ∧ r.2.mem ((c.tc : Thread Cert.Kernel5Ideal.nD Cert.Kernel5Ideal.τ).loc Cert.Kernel5Ideal.main_v71_3) = v3 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v142) = v0 c
          ∧ r.2.mem ((c.tc : Thread Cert.Reference5Ideal.nD Cert.Reference5Ideal.τ).loc Cert.Reference5Ideal.main_v89) = v1 c
          ∧ r.2.mem ((c.tc : Thread Cert.Reference5Ideal.nD Cert.Reference5Ideal.τ).loc Cert.Reference5Ideal.main_v83) = v2 c
          ∧ r.2.mem ((c.tc : Thread Cert.Reference5Ideal.nD Cert.Reference5Ideal.τ).loc Cert.Reference5Ideal.main_v145) = v3 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v2) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v3) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v2)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v2) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v4) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v2)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v2) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v4) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)) →
    ∃ (v0 : (c : Dev Cert.Kernel9Ideal.nD) → Buf (Elt Ideal) ((c.tc : Thread Cert.Kernel9Ideal.nD Cert.Kernel9Ideal.τ).loc Cert.Kernel9Ideal.main_v2)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v2) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v7) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)) →
    ∃ (v0 : (c : Dev Cert.Kernel10Ideal.nD) → Buf (Elt Ideal) ((c.tc : Thread Cert.Kernel10Ideal.nD Cert.Kernel10Ideal.τ).loc Cert.Kernel10Ideal.main_v2_0)) (v1 : (c : Dev Cert.Kernel10Ideal.nD) → Buf (Elt Ideal) ((c.tc : Thread Cert.Kernel10Ideal.nD Cert.Kernel10Ideal.τ).loc Cert.Kernel10Ideal.main_v2_1)) (v2 : (c : Dev Cert.Kernel10Ideal.nD) → Buf (Elt Ideal) ((c.tc : Thread Cert.Kernel10Ideal.nD Cert.Kernel10Ideal.τ).loc Cert.Kernel10Ideal.main_v2_2)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v2_0) = v0 c
          ∧ r.2.mem ((c.tc : Thread Cert.Kernel10Ideal.nD Cert.Kernel10Ideal.τ).loc Cert.Kernel10Ideal.main_v2_1) = v1 c
          ∧ r.2.mem ((c.tc : Thread Cert.Kernel10Ideal.nD Cert.Kernel10Ideal.τ).loc Cert.Kernel10Ideal.main_v2_2) = v2 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v16) = v0 c
          ∧ r.2.mem ((c.tc : Thread Cert.Reference10Ideal.nD Cert.Reference10Ideal.τ).loc Cert.Reference10Ideal.main_v17) = v1 c
          ∧ r.2.mem ((c.tc : Thread Cert.Reference10Ideal.nD Cert.Reference10Ideal.τ).loc Cert.Reference10Ideal.main_v22) = v2 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)) →
    ∃ (v0 : (c : Dev Cert.Kernel11Ideal.nD) → Buf (Elt Ideal) ((c.tc : Thread Cert.Kernel11Ideal.nD Cert.Kernel11Ideal.τ).loc Cert.Kernel11Ideal.main_v2_0)) (v1 : (c : Dev Cert.Kernel11Ideal.nD) → Buf (Elt Ideal) ((c.tc : Thread Cert.Kernel11Ideal.nD Cert.Kernel11Ideal.τ).loc Cert.Kernel11Ideal.main_v2_1)) (v2 : (c : Dev Cert.Kernel11Ideal.nD) → Buf (Elt Ideal) ((c.tc : Thread Cert.Kernel11Ideal.nD Cert.Kernel11Ideal.τ).loc Cert.Kernel11Ideal.main_v2_2)) (v3 : (c : Dev Cert.Kernel11Ideal.nD) → Buf (Elt Ideal) ((c.tc : Thread Cert.Kernel11Ideal.nD Cert.Kernel11Ideal.τ).loc Cert.Kernel11Ideal.main_v2_3)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v2_0) = v0 c
          ∧ r.2.mem ((c.tc : Thread Cert.Kernel11Ideal.nD Cert.Kernel11Ideal.τ).loc Cert.Kernel11Ideal.main_v2_1) = v1 c
          ∧ r.2.mem ((c.tc : Thread Cert.Kernel11Ideal.nD Cert.Kernel11Ideal.τ).loc Cert.Kernel11Ideal.main_v2_2) = v2 c
          ∧ r.2.mem ((c.tc : Thread Cert.Kernel11Ideal.nD Cert.Kernel11Ideal.τ).loc Cert.Kernel11Ideal.main_v2_3) = v3 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v24) = v0 c
          ∧ r.2.mem ((c.tc : Thread Cert.Reference11Ideal.nD Cert.Reference11Ideal.τ).loc Cert.Reference11Ideal.main_v25) = v1 c
          ∧ r.2.mem ((c.tc : Thread Cert.Reference11Ideal.nD Cert.Reference11Ideal.τ).loc Cert.Reference11Ideal.main_v26) = v2 c
          ∧ r.2.mem ((c.tc : Thread Cert.Reference11Ideal.nD Cert.Reference11Ideal.τ).loc Cert.Reference11Ideal.main_v27) = v3 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)
      ∧ m' ((c.tc : Thread Cert.Reference12Ideal.nD Cert.Reference12Ideal.τ).loc Cert.Reference12Ideal.main_arg3) = m ((c.tc : Thread Cert.Kernel12Ideal.nD Cert.Kernel12Ideal.τ).loc Cert.Kernel12Ideal.main_arg3)
      ∧ m' ((c.tc : Thread Cert.Reference12Ideal.nD Cert.Reference12Ideal.τ).loc Cert.Reference12Ideal.main_arg4) = m ((c.tc : Thread Cert.Kernel12Ideal.nD Cert.Kernel12Ideal.τ).loc Cert.Kernel12Ideal.main_arg4)
      ∧ m' ((c.tc : Thread Cert.Reference12Ideal.nD Cert.Reference12Ideal.τ).loc Cert.Reference12Ideal.main_arg5) = m ((c.tc : Thread Cert.Kernel12Ideal.nD Cert.Kernel12Ideal.τ).loc Cert.Kernel12Ideal.main_arg5)) →
    ∃ (v0 : (c : Dev Cert.Kernel12Ideal.nD) → Buf (Elt Ideal) ((c.tc : Thread Cert.Kernel12Ideal.nD Cert.Kernel12Ideal.τ).loc Cert.Kernel12Ideal.main_v4_0)) (v1 : (c : Dev Cert.Kernel12Ideal.nD) → Buf (Elt Ideal) ((c.tc : Thread Cert.Kernel12Ideal.nD Cert.Kernel12Ideal.τ).loc Cert.Kernel12Ideal.main_v4_1)) (v2 : (c : Dev Cert.Kernel12Ideal.nD) → Buf (Elt Ideal) ((c.tc : Thread Cert.Kernel12Ideal.nD Cert.Kernel12Ideal.τ).loc Cert.Kernel12Ideal.main_v4_2)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v4_0) = v0 c
          ∧ r.2.mem ((c.tc : Thread Cert.Kernel12Ideal.nD Cert.Kernel12Ideal.τ).loc Cert.Kernel12Ideal.main_v4_1) = v1 c
          ∧ r.2.mem ((c.tc : Thread Cert.Kernel12Ideal.nD Cert.Kernel12Ideal.τ).loc Cert.Kernel12Ideal.main_v4_2) = v2 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
          ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
          ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4)
          ∧ r.2.mem ((c.tc : Thread Cert.Kernel12Ideal.nD Cert.Kernel12Ideal.τ).loc Cert.Kernel12Ideal.main_arg5) = m ((c.tc : Thread Cert.Kernel12Ideal.nD Cert.Kernel12Ideal.τ).loc Cert.Kernel12Ideal.main_arg5))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v7) = v0 c
          ∧ r.2.mem ((c.tc : Thread Cert.Reference12Ideal.nD Cert.Reference12Ideal.τ).loc Cert.Reference12Ideal.main_v6) = v1 c
          ∧ r.2.mem ((c.tc : Thread Cert.Reference12Ideal.nD Cert.Reference12Ideal.τ).loc Cert.Reference12Ideal.main_v22) = v2 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2)
          ∧ r.2.mem ((c.tc : Thread Cert.Reference12Ideal.nD Cert.Reference12Ideal.τ).loc Cert.Reference12Ideal.main_arg3) = m' ((c.tc : Thread Cert.Reference12Ideal.nD Cert.Reference12Ideal.τ).loc Cert.Reference12Ideal.main_arg3)
          ∧ r.2.mem ((c.tc : Thread Cert.Reference12Ideal.nD Cert.Reference12Ideal.τ).loc Cert.Reference12Ideal.main_arg4) = m' ((c.tc : Thread Cert.Reference12Ideal.nD Cert.Reference12Ideal.τ).loc Cert.Reference12Ideal.main_arg4)
          ∧ r.2.mem ((c.tc : Thread Cert.Reference12Ideal.nD Cert.Reference12Ideal.τ).loc Cert.Reference12Ideal.main_arg5) = m' ((c.tc : Thread Cert.Reference12Ideal.nD Cert.Reference12Ideal.τ).loc Cert.Reference12Ideal.main_arg5))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)
      ∧ m' ((c.tc : Thread Cert.Reference13Ideal.nD Cert.Reference13Ideal.τ).loc Cert.Reference13Ideal.main_arg3) = m ((c.tc : Thread Cert.Kernel13Ideal.nD Cert.Kernel13Ideal.τ).loc Cert.Kernel13Ideal.main_arg3)) →
    ∃ (v0 : (c : Dev Cert.Kernel13Ideal.nD) → Buf (Elt Ideal) ((c.tc : Thread Cert.Kernel13Ideal.nD Cert.Kernel13Ideal.τ).loc Cert.Kernel13Ideal.main_v7_0)) (v1 : (c : Dev Cert.Kernel13Ideal.nD) → Buf (Elt Ideal) ((c.tc : Thread Cert.Kernel13Ideal.nD Cert.Kernel13Ideal.τ).loc Cert.Kernel13Ideal.main_v7_1)) (v2 : (c : Dev Cert.Kernel13Ideal.nD) → Buf (Elt Ideal) ((c.tc : Thread Cert.Kernel13Ideal.nD Cert.Kernel13Ideal.τ).loc Cert.Kernel13Ideal.main_v7_2)) (v3 : (c : Dev Cert.Kernel13Ideal.nD) → Buf (Elt Ideal) ((c.tc : Thread Cert.Kernel13Ideal.nD Cert.Kernel13Ideal.τ).loc Cert.Kernel13Ideal.main_v7_3)) (v4 : (c : Dev Cert.Kernel13Ideal.nD) → Buf (Elt Ideal) ((c.tc : Thread Cert.Kernel13Ideal.nD Cert.Kernel13Ideal.τ).loc Cert.Kernel13Ideal.main_v7_4)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v7_0) = v0 c
          ∧ r.2.mem ((c.tc : Thread Cert.Kernel13Ideal.nD Cert.Kernel13Ideal.τ).loc Cert.Kernel13Ideal.main_v7_1) = v1 c
          ∧ r.2.mem ((c.tc : Thread Cert.Kernel13Ideal.nD Cert.Kernel13Ideal.τ).loc Cert.Kernel13Ideal.main_v7_2) = v2 c
          ∧ r.2.mem ((c.tc : Thread Cert.Kernel13Ideal.nD Cert.Kernel13Ideal.τ).loc Cert.Kernel13Ideal.main_v7_3) = v3 c
          ∧ r.2.mem ((c.tc : Thread Cert.Kernel13Ideal.nD Cert.Kernel13Ideal.τ).loc Cert.Kernel13Ideal.main_v7_4) = v4 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
          ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v34) = v0 c
          ∧ r.2.mem ((c.tc : Thread Cert.Reference13Ideal.nD Cert.Reference13Ideal.τ).loc Cert.Reference13Ideal.main_v36) = v1 c
          ∧ r.2.mem ((c.tc : Thread Cert.Reference13Ideal.nD Cert.Reference13Ideal.τ).loc Cert.Reference13Ideal.main_v37) = v2 c
          ∧ r.2.mem ((c.tc : Thread Cert.Reference13Ideal.nD Cert.Reference13Ideal.τ).loc Cert.Reference13Ideal.main_v38) = v3 c
          ∧ r.2.mem ((c.tc : Thread Cert.Reference13Ideal.nD Cert.Reference13Ideal.τ).loc Cert.Reference13Ideal.main_v39) = v4 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2)
          ∧ r.2.mem ((c.tc : Thread Cert.Reference13Ideal.nD Cert.Reference13Ideal.τ).loc Cert.Reference13Ideal.main_arg3) = m' ((c.tc : Thread Cert.Reference13Ideal.nD Cert.Reference13Ideal.τ).loc Cert.Reference13Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hPre_finite : Cert.Pre_finite.Facts) (hPre_finite2 : Cert.Pre_finite2.Facts) (hPre_finite3 : Cert.Pre_finite3.Facts) (hPre_finite5 : Cert.Pre_finite5.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Kernel2Ideal_pre_finite2 (hKernel2Ideal := hKernel2Ideal) (hPre_finite2 := hPre_finite2)
    ∧ quiescent_Reference2Ideal (hReference2Ideal := hReference2Ideal)
    ∧ quiescent_Reference2Ideal_pre_finite2 (hReference2Ideal := hReference2Ideal) (hPre_finite2 := hPre_finite2)
    ∧ quiescent_Kernel3 (hKernel3 := hKernel3)
    ∧ quiescent_Kernel3Ideal (hKernel3Ideal := hKernel3Ideal)
    ∧ quiescent_Kernel3Ideal_pre_finite3 (hKernel3Ideal := hKernel3Ideal) (hPre_finite3 := hPre_finite3)
    ∧ quiescent_Reference3Ideal (hReference3Ideal := hReference3Ideal)
    ∧ quiescent_Reference3Ideal_pre_finite3 (hReference3Ideal := hReference3Ideal) (hPre_finite3 := hPre_finite3)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Kernel5Ideal_pre_finite5 (hKernel5Ideal := hKernel5Ideal) (hPre_finite5 := hPre_finite5)
    ∧ quiescent_Reference5Ideal (hReference5Ideal := hReference5Ideal)
    ∧ quiescent_Reference5Ideal_pre_finite5 (hReference5Ideal := hReference5Ideal) (hPre_finite5 := hPre_finite5)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal_pre_finite2 (hKernel2Ideal := hKernel2Ideal) (hReference2Ideal := hReference2Ideal) (hPre_finite2 := hPre_finite2)
    ∧ preserves_Kernel3_Kernel3Ideal
    ∧ algebraic_Kernel3Ideal_Reference3Ideal_pre_finite3 (hKernel3Ideal := hKernel3Ideal) (hReference3Ideal := hReference3Ideal) (hPre_finite3 := hPre_finite3)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal_pre_finite5 (hKernel5Ideal := hKernel5Ideal) (hReference5Ideal := hReference5Ideal) (hPre_finite5 := hPre_finite5)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
-- ==== Pre_finite.lean ====
abbrev S4096x1024 : Shape := ⟨2, ![4096, 1024]⟩
abbrev S2816x1024 : Shape := ⟨2, ![2816, 1024]⟩
abbrev S4096x5632 : Shape := ⟨2, ![4096, 5632]⟩
abbrev S3x5632 : Shape := ⟨2, ![3, 5632]⟩
abbrev S5632 : Shape := ⟨1, ![5632]⟩
abbrev S_ : Shape := ⟨0, ![]⟩

class Facts : Prop where
  bcast_S_S4096x1024 : S_.BroadcastsInDim S4096x1024 (![] : Fin 0 → Fin S4096x1024.rank)
  bcast_S_S2816x1024 : S_.BroadcastsInDim S2816x1024 (![] : Fin 0 → Fin S2816x1024.rank)
  bcast_S_S4096x5632 : S_.BroadcastsInDim S4096x5632 (![] : Fin 0 → Fin S4096x5632.rank)
  bcast_S_S3x5632 : S_.BroadcastsInDim S3x5632 (![] : Fin 0 → Fin S3x5632.rank)
  bcast_S_S5632 : S_.BroadcastsInDim S5632 (![] : Fin 0 → Fin S5632.rank)

variable [Facts]

def fn {F : FTy → Type} [FloatOps F] (main_arg0 : FVec F S4096x1024 .f32) (main_arg1 : FVec F S2816x1024 .f32) (main_arg2 : FVec F S4096x5632 .f32) (main_arg3 : FVec F S3x5632 .f32) (main_arg4 : FVec F S5632 .f32) : IVec S4096x1024 1 × IVec S2816x1024 1 × IVec S4096x5632 1 × IVec S3x5632 1 × IVec S5632 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_v3 : FVec F S2816x1024 .f32 := Host.absf main_arg1
  let main_cst_0 : FVec F S_ .f32 := constant S_ .f32 0x7F800000#32
  let main_v4 : FVec F S2816x1024 .f32 := broadcastInDim S2816x1024 ![] bcast_S_S2816x1024 main_cst_0
  let main_v5 : IVec S2816x1024 1 := cmpf .olt main_v3 main_v4
  let main_v6 : FVec F S4096x5632 .f32 := Host.absf main_arg2
  let main_cst_1 : FVec F S_ .f32 := constant S_ .f32 0x7F800000#32
  let main_v7 : FVec F S4096x5632 .f32 := broadcastInDim S4096x5632 ![] bcast_S_S4096x5632 main_cst_1
  let main_v8 : IVec S4096x5632 1 := cmpf .olt main_v6 main_v7
  let main_v9 : FVec F S3x5632 .f32 := Host.absf main_arg3
  let main_cst_2 : FVec F S_ .f32 := constant S_ .f32 0x7F800000#32
  let main_v10 : FVec F S3x5632 .f32 := broadcastInDim S3x5632 ![] bcast_S_S3x5632 main_cst_2
  let main_v11 : IVec S3x5632 1 := cmpf .olt main_v9 main_v10
  let main_v12 : FVec F S5632 .f32 := Host.absf main_arg4
  let main_cst_3 : FVec F S_ .f32 := constant S_ .f32 0x7F800000#32
  let main_v13 : FVec F S5632 .f32 := broadcastInDim S5632 ![] bcast_S_S5632 main_cst_3
  let main_v14 : IVec S5632 1 := cmpf .olt main_v12 main_v13
  (main_v2, main_v5, main_v8, main_v11, main_v14)
-- ==== Pre_finite2.lean ====
abbrev S4096x5632 : Shape := ⟨2, ![4096, 5632]⟩
abbrev S1024x5632 : Shape := ⟨2, ![1024, 5632]⟩
abbrev S4096x1024 : Shape := ⟨2, ![4096, 1024]⟩
abbrev S1x1024 : Shape := ⟨2, ![1, 1024]⟩
abbrev S_ : Shape := ⟨0, ![]⟩

class Facts : Prop where
  bcast_S_S4096x5632 : S_.BroadcastsInDim S4096x5632 (![] : Fin 0 → Fin S4096x5632.rank)
  bcast_S_S1024x5632 : S_.BroadcastsInDim S1024x5632 (![] : Fin 0 → Fin S1024x5632.rank)
  bcast_S_S4096x1024 : S_.BroadcastsInDim S4096x1024 (![] : Fin 0 → Fin S4096x1024.rank)
  bcast_S_S1x1024 : S_.BroadcastsInDim S1x1024 (![] : Fin 0 → Fin S1x1024.rank)

variable [Facts]

def fn {F : FTy → Type} [FloatOps F] (main_arg0 : FVec F S4096x5632 .f32) (main_arg1 : FVec F S1024x5632 .f32) (main_arg2 : FVec F S4096x1024 .f32) (main_arg3 : FVec F S4096x1024 .f32) (main_arg4 : FVec F S1x1024 .f32) : IVec S4096x5632 1 × IVec S1024x5632 1 × IVec S4096x1024 1 × IVec S1x1024 1 :=
  let main_v0 : FVec F S4096x5632 .f32 := Host.absf main_arg0
  let main_cst : FVec F S_ .f32 := constant S_ .f32 0x7F800000#32
  let main_v1 : FVec F S4096x5632 .f32 := broadcastInDim S4096x5632 ![] bcast_S_S4096x5632 main_cst
  let main_v2 : IVec S4096x5632 1 := cmpf .olt main_v0 main_v1
  let main_v3 : FVec F S1024x5632 .f32 := Host.absf main_arg1
  let main_cst_0 : FVec F S_ .f32 := constant S_ .f32 0x7F800000#32
  let main_v4 : FVec F S1024x5632 .f32 := broadcastInDim S1024x5632 ![] bcast_S_S1024x5632 main_cst_0
  let main_v5 : IVec S1024x5632 1 := cmpf .olt main_v3 main_v4
  let main_v6 : FVec F S4096x1024 .f32 := Host.absf main_arg2
  let main_cst_1 : FVec F S_ .f32 := constant S_ .f32 0x7F800000#32
  let main_v7 : FVec F S4096x1024 .f32 := broadcastInDim S4096x1024 ![] bcast_S_S4096x1024 main_cst_1
  let main_v8 : IVec S4096x1024 1 := cmpf .olt main_v6 main_v7
  let main_v9 : FVec F S1x1024 .f32 := Host.absf main_arg4
  let main_cst_2 : FVec F S_ .f32 := constant S_ .f32 0x7F800000#32
  let main_v10 : FVec F S1x1024 .f32 := broadcastInDim S1x1024 ![] bcast_S_S1x1024 main_cst_2
  let main_v11 : IVec S1x1024 1 := cmpf .olt main_v9 main_v10
  (main_v2, main_v5, main_v8, main_v11)
-- ==== Pre_finite3.lean ====
abbrev S4096x4352 : Shape := ⟨2, ![4096, 4352]⟩
abbrev S1024x4352 : Shape := ⟨2, ![1024, 4352]⟩
abbrev S4096x1024 : Shape := ⟨2, ![4096, 1024]⟩
abbrev S1x1024 : Shape := ⟨2, ![1, 1024]⟩
abbrev S_ : Shape := ⟨0, ![]⟩

class Facts : Prop where
  bcast_S_S4096x4352 : S_.BroadcastsInDim S4096x4352 (![] : Fin 0 → Fin S4096x4352.rank)
  bcast_S_S1024x4352 : S_.BroadcastsInDim S1024x4352 (![] : Fin 0 → Fin S1024x4352.rank)
  bcast_S_S4096x1024 : S_.BroadcastsInDim S4096x1024 (![] : Fin 0 → Fin S4096x1024.rank)
  bcast_S_S1x1024 : S_.BroadcastsInDim S1x1024 (![] : Fin 0 → Fin S1x1024.rank)

variable [Facts]

def fn {F : FTy → Type} [FloatOps F] (main_arg0 : FVec F S4096x4352 .f32) (main_arg1 : FVec F S1024x4352 .f32) (main_arg2 : FVec F S4096x1024 .f32) (main_arg3 : FVec F S1x1024 .f32) (main_arg4 : FVec F S4096x1024 .f32) : IVec S4096x4352 1 × IVec S1024x4352 1 × IVec S4096x1024 1 × IVec S1x1024 1 :=
  let main_v0 : FVec F S4096x4352 .f32 := Host.absf main_arg0
  let main_cst : FVec F S_ .f32 := constant S_ .f32 0x7F800000#32
  let main_v1 : FVec F S4096x4352 .f32 := broadcastInDim S4096x4352 ![] bcast_S_S4096x4352 main_cst
  let main_v2 : IVec S4096x4352 1 := cmpf .olt main_v0 main_v1
  let main_v3 : FVec F S1024x4352 .f32 := Host.absf main_arg1
  let main_cst_0 : FVec F S_ .f32 := constant S_ .f32 0x7F800000#32
  let main_v4 : FVec F S1024x4352 .f32 := broadcastInDim S1024x4352 ![] bcast_S_S1024x4352 main_cst_0
  let main_v5 : IVec S1024x4352 1 := cmpf .olt main_v3 main_v4
  let main_v6 : FVec F S4096x1024 .f32 := Host.absf main_arg2
  let main_cst_1 : FVec F S_ .f32 := constant S_ .f32 0x7F800000#32
  let main_v7 : FVec F S4096x1024 .f32 := broadcastInDim S4096x1024 ![] bcast_S_S4096x1024 main_cst_1
  let main_v8 : IVec S4096x1024 1 := cmpf .olt main_v6 main_v7
  let main_v9 : FVec F S1x1024 .f32 := Host.absf main_arg3
  let main_cst_2 : FVec F S_ .f32 := constant S_ .f32 0x7F800000#32
  let main_v10 : FVec F S1x1024 .f32 := broadcastInDim S1x1024 ![] bcast_S_S1x1024 main_cst_2
  let main_v11 : IVec S1x1024 1 := cmpf .olt main_v9 main_v10
  (main_v2, main_v5, main_v8, main_v11)
-- ==== Pre_finite5.lean ====
abbrev S4096x1024 : Shape := ⟨2, ![4096, 1024]⟩
abbrev S4x256x256 : Shape := ⟨3, ![4, 256, 256]⟩
abbrev S1x1024 : Shape := ⟨2, ![1, 1024]⟩
abbrev S_ : Shape := ⟨0, ![]⟩

class Facts : Prop where
  bcast_S_S4096x1024 : S_.BroadcastsInDim S4096x1024 (![] : Fin 0 → Fin S4096x1024.rank)
  bcast_S_S4x256x256 : S_.BroadcastsInDim S4x256x256 (![] : Fin 0 → Fin S4x256x256.rank)
  bcast_S_S1x1024 : S_.BroadcastsInDim S1x1024 (![] : Fin 0 → Fin S1x1024.rank)

variable [Facts]

def fn {F : FTy → Type} [FloatOps F] (main_arg0 : FVec F S4096x1024 .f32) (main_arg1 : FVec F S4096x1024 .f32) (main_arg2 : FVec F S4x256x256 .f32) (main_arg3 : FVec F S1x1024 .f32) (main_arg4 : FVec F S4096x1024 .f32) : IVec S4096x1024 1 × IVec S4x256x256 1 × IVec S1x1024 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_v3 : FVec F S4x256x256 .f32 := Host.absf main_arg2
  let main_cst_0 : FVec F S_ .f32 := constant S_ .f32 0x7F800000#32
  let main_v4 : FVec F S4x256x256 .f32 := broadcastInDim S4x256x256 ![] bcast_S_S4x256x256 main_cst_0
  let main_v5 : IVec S4x256x256 1 := cmpf .olt main_v3 main_v4
  let main_v6 : FVec F S1x1024 .f32 := Host.absf main_arg3
  let main_cst_1 : FVec F S_ .f32 := constant S_ .f32 0x7F800000#32
  let main_v7 : FVec F S1x1024 .f32 := broadcastInDim S1x1024 ![] bcast_S_S1x1024 main_cst_1
  let main_v8 : IVec S1x1024 1 := cmpf .olt main_v6 main_v7
  (main_v2, main_v5, main_v8)
-- ==== Kernel.lean ====
abbrev S4096x1024 : Shape := ⟨2, ![4096, 1024]⟩
abbrev S2816x1024 : Shape := ⟨2, ![2816, 1024]⟩
abbrev S4096x5632 : Shape := ⟨2, ![4096, 5632]⟩
abbrev S3x5632 : Shape := ⟨2, ![3, 5632]⟩
abbrev S5632 : Shape := ⟨1, ![5632]⟩
abbrev S1x4096x5632 : Shape := ⟨3, ![1, 4096, 5632]⟩
abbrev S1x2x5632 : Shape := ⟨3, ![1, 2, 5632]⟩
abbrev S_ : Shape := ⟨0, ![]⟩
abbrev S1x4098x5632 : Shape := ⟨3, ![1, 4098, 5632]⟩
abbrev S1x5632 : Shape := ⟨2, ![1, 5632]⟩
abbrev S1x1x5632 : Shape := ⟨3, ![1, 1, 5632]⟩
abbrev S3x4x1408 : Shape := ⟨3, ![3, 4, 1408]⟩
abbrev S4x3x1408 : Shape := ⟨3, ![4, 3, 1408]⟩
abbrev S4096x2816 : Shape := ⟨2, ![4096, 2816]⟩
abbrev S2x3x1408 : Shape := ⟨3, ![2, 3, 1408]⟩
abbrev S1x2816 : Shape := ⟨2, ![1, 2816]⟩
abbrev S512x1024 : Shape := ⟨2, ![512, 1024]⟩
abbrev S1408x1024 : Shape := ⟨2, ![1408, 1024]⟩
abbrev S512x1408 : Shape := ⟨2, ![512, 1408]⟩
abbrev S1x3x1408 : Shape := ⟨3, ![1, 3, 1408]⟩
abbrev S1x1408 : Shape := ⟨2, ![1, 1408]⟩
abbrev S8x1408 : Shape := ⟨2, ![8, 1408]⟩
abbrev S520x1408 : Shape := ⟨2, ![520, 1408]⟩
abbrev S3x1408 : Shape := ⟨2, ![3, 1408]⟩
abbrev S1x1x1408 : Shape := ⟨3, ![1, 1, 1408]⟩
abbrev S1408 : Shape := ⟨1, ![1408]⟩

abbrev nBuf : Space → Nat
  | .hbm => 52
  | .vmem => 30
  | .smem => 0
  | _ => 0

abbrev bufTy : (tb : Table) → Fin (tcTables nBuf tb) → BufTy
  | .hbm, ⟨0, _⟩ => ⟨S4096x1024, .f32⟩
  | .hbm, ⟨1, _⟩ => ⟨S2816x1024, .f32⟩
  | .hbm, ⟨2, _⟩ => ⟨S4096x5632, .f32⟩
  | .hbm, ⟨3, _⟩ => ⟨S3x5632, .f32⟩
  | .hbm, ⟨4, _⟩ => ⟨S5632, .f32⟩
  | .hbm, ⟨5, _⟩ => ⟨S1x4096x5632, .f32⟩
  | .hbm, ⟨6, _⟩ => ⟨S1x2x5632, .f32⟩
  | .hbm, ⟨7, _⟩ => ⟨S_, .f32⟩
  | .hbm, ⟨8, _⟩ => ⟨S1x2x5632, .f32⟩
  | .hbm, ⟨9, _⟩ => ⟨S1x4098x5632, .f32⟩
  | .hbm, ⟨10, _⟩ => ⟨S1x5632, .f32⟩
  | .hbm, ⟨11, _⟩ => ⟨S5632, .f32⟩
  | .hbm, ⟨12, _⟩ => ⟨S1x4096x5632, .f32⟩
  | .hbm, ⟨13, _⟩ => ⟨S1x1x5632, .f32⟩
  | .hbm, ⟨14, _⟩ => ⟨S1x4096x5632, .f32⟩
  | .hbm, ⟨15, _⟩ => ⟨S1x4096x5632, .f32⟩
  | .hbm, ⟨16, _⟩ => ⟨S1x1x5632, .f32⟩
  | .hbm, ⟨17, _⟩ => ⟨S1x4096x5632, .f32⟩
  | .hbm, ⟨18, _⟩ => ⟨S1x4096x5632, .f32⟩
  | .hbm, ⟨19, _⟩ => ⟨S1x5632, .f32⟩
  | .hbm, ⟨20, _⟩ => ⟨S5632, .f32⟩
  | .hbm, ⟨21, _⟩ => ⟨S1x4096x5632, .f32⟩
  | .hbm, ⟨22, _⟩ => ⟨S1x1x5632, .f32⟩
  | .hbm, ⟨23, _⟩ => ⟨S1x4096x5632, .f32⟩
  | .hbm, ⟨24, _⟩ => ⟨S1x4096x5632, .f32⟩
  | .hbm, ⟨25, _⟩ => ⟨S1x4096x5632, .f32⟩
  | .hbm, ⟨26, _⟩ => ⟨S1x5632, .f32⟩
  | .hbm, ⟨27, _⟩ => ⟨S5632, .f32⟩
  | .hbm, ⟨28, _⟩ => ⟨S1x4096x5632, .f32⟩
  | .hbm, ⟨29, _⟩ => ⟨S1x1x5632, .f32⟩
  | .hbm, ⟨30, _⟩ => ⟨S1x4096x5632, .f32⟩
  | .hbm, ⟨31, _⟩ => ⟨S1x4096x5632, .f32⟩
  | .hbm, ⟨32, _⟩ => ⟨S1x4096x5632, .f32⟩
  | .hbm, ⟨33, _⟩ => ⟨S4096x5632, .f32⟩
  | .hbm, ⟨34, _⟩ => ⟨S3x4x1408, .f32⟩
  | .hbm, ⟨35, _⟩ => ⟨S4x3x1408, .f32⟩
  | .hbm, ⟨36, _⟩ => ⟨S4096x1024, .bf16⟩
  | .hbm, ⟨37, _⟩ => ⟨S2816x1024, .bf16⟩
  | .hbm, ⟨38, _⟩ => ⟨S4096x2816, .f32⟩
  | .hbm, ⟨39, _⟩ => ⟨S4096x2816, .bf16⟩
  | .hbm, ⟨40, _⟩ => ⟨S4096x2816, .f32⟩
  | .hbm, ⟨41, _⟩ => ⟨S4096x2816, .bf16⟩
  | .hbm, ⟨42, _⟩ => ⟨S4096x2816, .f32⟩
  | .hbm, ⟨43, _⟩ => ⟨S4096x2816, .bf16⟩
  | .hbm, ⟨44, _⟩ => ⟨S4096x2816, .f32⟩
  | .hbm, ⟨45, _⟩ => ⟨S4096x2816, .bf16⟩
  | .hbm, ⟨46, _⟩ => ⟨S4096x2816, .bf16⟩
  | .hbm, ⟨47, _⟩ => ⟨S4096x2816, .bf16⟩
  | .hbm, ⟨48, _⟩ => ⟨S2x3x1408, .f32⟩
  | .hbm, ⟨49, _⟩ => ⟨S2x3x1408, .f32⟩
  | .hbm, ⟨50, _⟩ => ⟨S1x2816, .f32⟩
  | .hbm, ⟨51, _⟩ => ⟨S1x2816, .f32⟩
  | .local _ .vmem, ⟨0, _⟩ => ⟨S512x1024, .bf16⟩
  | .local _ .vmem, ⟨1, _⟩ => ⟨S512x1024, .bf16⟩
  | .local _ .vmem, ⟨2, _⟩ => ⟨S1408x1024, .bf16⟩
  | .local _ .vmem, ⟨3, _⟩ => ⟨S1408x1024, .bf16⟩
  | .local _ .vmem, ⟨4, _⟩ => ⟨S512x1408, .bf16⟩
  | .local _ .vmem, ⟨5, _⟩ => ⟨S512x1408, .bf16⟩
  | .local _ .vmem, ⟨6, _⟩ => ⟨S512x1408, .bf16⟩
  | .local _ .vmem, ⟨7, _⟩ => ⟨S512x1408, .bf16⟩
  | .local _ .vmem, ⟨8, _⟩ => ⟨S512x1408, .bf16⟩
  | .local _ .vmem, ⟨9, _⟩ => ⟨S512x1408, .bf16⟩
  | .local _ .vmem, ⟨10, _⟩ => ⟨S512x1408, .bf16⟩
  | .local _ .vmem, ⟨11, _⟩ => ⟨S512x1408, .bf16⟩
  | .local _ .vmem, ⟨12, _⟩ => ⟨S1x3x1408, .f32⟩
  | .local _ .vmem, ⟨13, _⟩ => ⟨S1x3x1408, .f32⟩
  | .local _ .vmem, ⟨14, _⟩ => ⟨S1x3x1408, .f32⟩
  | .local _ .vmem, ⟨15, _⟩ => ⟨S1x3x1408, .f32⟩
  | .local _ .vmem, ⟨16, _⟩ => ⟨S512x1408, .bf16⟩
  | .local _ .vmem, ⟨17, _⟩ => ⟨S512x1408, .bf16⟩
  | .local _ .vmem, ⟨18, _⟩ => ⟨S512x1408, .bf16⟩
  | .local _ .vmem, ⟨19, _⟩ => ⟨S512x1408, .bf16⟩
  | .local _ .vmem, ⟨20, _⟩ => ⟨S1x3x1408, .f32⟩
  | .local _ .vmem, ⟨21, _⟩ => ⟨S1x3x1408, .f32⟩
  | .local _ .vmem, ⟨22, _⟩ => ⟨S1x3x1408, .f32⟩
  | .local _ .vmem, ⟨23, _⟩ => ⟨S1x3x1408, .f32⟩
  | .local _ .vmem, ⟨24, _⟩ => ⟨S1x1408, .f32⟩
  | .local _ .vmem, ⟨25, _⟩ => ⟨S1x1408, .f32⟩
  | .local _ .vmem, ⟨26, _⟩ => ⟨S1x1408, .f32⟩
  | .local _ .vmem, ⟨27, _⟩ => ⟨S1x1408, .f32⟩
  | .local _ .vmem, ⟨28, _⟩ => ⟨S8x1408, .f32⟩
  | .local _ .vmem, ⟨29, _⟩ => ⟨S8x1408, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40_0 : Ref sig .tc := ⟨.hbm, 46, rfl⟩
abbrev main_v40_1 : Ref sig .tc := ⟨.hbm, 47, rfl⟩
abbrev main_v40_2 : Ref sig .tc := ⟨.hbm, 48, rfl⟩
abbrev main_v40_3 : Ref sig .tc := ⟨.hbm, 49, rfl⟩
abbrev main_v40_4 : Ref sig .tc := ⟨.hbm, 50, rfl⟩
abbrev main_v40_5 : Ref sig .tc := ⟨.hbm, 51, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_scratch0 : Ref sig .tc := ⟨.vmem, 28, rfl⟩
abbrev cc0_scratch1 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg1
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg1
  let c0_i32 : BitVec 32 := 0#32
  ![v0.toNat, arg0.toNat]

def cc0_transform_3 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg1
  let c0_i32 : BitVec 32 := 0#32
  ![v0.toNat, arg0.toNat]

def cc0_transform_4 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg1
  let c0_i32 : BitVec 32 := 0#32
  ![v0.toNat, arg0.toNat]

def cc0_transform_5 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg1
  let c0_i32 : BitVec 32 := 0#32
  ![v0.toNat, arg0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  let c0_i32_2 : BitVec 32 := 0#32
  ![v0.toNat, c0_i32_0.toNat, c0_i32_1.toNat]

def cc0_transform_7 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.addi arg0 c2_i32
  let c0_i32 : BitVec 32 := 0#32
  let c0_i32_0 : BitVec 32 := 0#32
  let c0_i32_1 : BitVec 32 := 0#32
  ![v0.toNat, c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg1
  let c0_i32 : BitVec 32 := 0#32
  ![v0.toNat, arg0.toNat]

def cc0_transform_9 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg1
  let c0_i32 : BitVec 32 := 0#32
  ![v0.toNat, arg0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x3x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x3x1408 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S512x1408 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S512x1408 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x3x1408 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S1x3x1408 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 2 → Memref sig .tc .vmem S1x1408 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]

abbrev stage0_13 : Fin 2 → Memref sig .tc .vmem S1x1408 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, false]
-- ==== ReferenceIdeal.lean ====
abbrev S4096x1024 : Shape := ⟨2, ![4096, 1024]⟩
abbrev S2816x1024 : Shape := ⟨2, ![2816, 1024]⟩
abbrev S4096x5632 : Shape := ⟨2, ![4096, 5632]⟩
abbrev S3x5632 : Shape := ⟨2, ![3, 5632]⟩
abbrev S5632 : Shape := ⟨1, ![5632]⟩
abbrev S1x4096x5632 : Shape := ⟨3, ![1, 4096, 5632]⟩
abbrev S1x2x5632 : Shape := ⟨3, ![1, 2, 5632]⟩
abbrev S_ : Shape := ⟨0, ![]⟩
abbrev S1x4098x5632 : Shape := ⟨3, ![1, 4098, 5632]⟩
abbrev S1x5632 : Shape := ⟨2, ![1, 5632]⟩
abbrev S1x1x5632 : Shape := ⟨3, ![1, 1, 5632]⟩
abbrev S1x4096x2816 : Shape := ⟨3, ![1, 4096, 2816]⟩
abbrev S1x4096x1024 : Shape := ⟨3, ![1, 4096, 1024]⟩
abbrev S4096x2816 : Shape := ⟨2, ![4096, 2816]⟩
abbrev S3x2816 : Shape := ⟨2, ![3, 2816]⟩
abbrev S3x2x1408 : Shape := ⟨3, ![3, 2, 1408]⟩
abbrev S2x3x1408 : Shape := ⟨3, ![2, 3, 1408]⟩
abbrev S2816 : Shape := ⟨1, ![2816]⟩
abbrev S1x2816 : Shape := ⟨2, ![1, 2816]⟩

abbrev nBuf : Space → Nat
  | .hbm => 131
  | .vmem => 0
  | .smem => 0
  | _ => 0

abbrev hbmTy0_0 (i : Nat) : BufTy := match i % 128 with
  | 0 => ⟨S4096x1024, .f32⟩
  | 1 => ⟨S2816x1024, .f32⟩
  | 2 => ⟨S4096x5632, .f32⟩
  | 3 => ⟨S3x5632, .f32⟩
  | 4 => ⟨S5632, .f32⟩
  | 5 => ⟨S1x4096x5632, .f32⟩
  | 6 => ⟨S1x2x5632, .f32⟩
  | 7 => ⟨S_, .f32⟩
  | 8 => ⟨S1x2x5632, .f32⟩
  | 9 => ⟨S1x4098x5632, .f32⟩
  | 10 => ⟨S_, .f32⟩
  | 11 => ⟨S1x2x5632, .f32⟩
  | 12 => ⟨S1x5632, .f32⟩
  | 13 => ⟨S5632, .f32⟩
  | 14 => ⟨S1x4096x5632, .f32⟩
  | 15 => ⟨S1x1x5632, .f32⟩
  | 16 => ⟨S1x4096x5632, .f32⟩
  | 17 => ⟨S1x4096x5632, .f32⟩
  | 18 => ⟨S1x1x5632, .f32⟩
  | 19 => ⟨S1x4096x5632, .f32⟩
  | 20 => ⟨S1x4096x5632, .f32⟩
  | 21 => ⟨S1x5632, .f32⟩
  | 22 => ⟨S5632, .f32⟩
  | 23 => ⟨S1x4096x5632, .f32⟩
  | 24 => ⟨S1x1x5632, .f32⟩
  | 25 => ⟨S1x4096x5632, .f32⟩
  | 26 => ⟨S1x4096x5632, .f32⟩
  | 27 => ⟨S1x4096x5632, .f32⟩
  | 28 => ⟨S1x5632, .f32⟩
  | 29 => ⟨S5632, .f32⟩
  | 30 => ⟨S1x4096x5632, .f32⟩
  | 31 => ⟨S1x1x5632, .f32⟩
  | 32 => ⟨S1x4096x5632, .f32⟩
  | 33 => ⟨S1x4096x5632, .f32⟩
  | 34 => ⟨S1x4096x5632, .f32⟩
  | 35 => ⟨S1x4096x2816, .f32⟩
  | 36 => ⟨S1x4096x2816, .f32⟩
  | 37 => ⟨S1x4096x2816, .f32⟩
  | 38 => ⟨S1x4096x2816, .f32⟩
  | 39 => ⟨S_, .f32⟩
  | 40 => ⟨S1x4096x2816, .f32⟩
  | 41 => ⟨S1x4096x2816, .f32⟩
  | 42 => ⟨S_, .f32⟩
  | 43 => ⟨S1x4096x2816, .f32⟩
  | 44 => ⟨S1x4096x2816, .f32⟩
  | 45 => ⟨S_, .f32⟩
  | 46 => ⟨S1x4096x2816, .f32⟩
  | 47 => ⟨S1x4096x2816, .f32⟩
  | 48 => ⟨S1x4096x2816, .f32⟩
  | 49 => ⟨S1x4096x2816, .f32⟩
  | 50 => ⟨S1x4096x2816, .f32⟩
  | 51 => ⟨S1x4096x1024, .f32⟩
  | 52 => ⟨S1x4096x1024, .f32⟩
  | 53 => ⟨S1x4096x2816, .f32⟩
  | 54 => ⟨S1x4096x2816, .f32⟩
  | 55 => ⟨S1x4096x2816, .f32⟩
  | 56 => ⟨S1x4096x2816, .f32⟩
  | 57 => ⟨S1x4096x2816, .f32⟩
  | 58 => ⟨S1x4096x2816, .f32⟩
  | 59 => ⟨S1x4096x2816, .f32⟩
  | 60 => ⟨S_, .f32⟩
  | 61 => ⟨S1x4096x5632, .f32⟩
  | 62 => ⟨S_, .f32⟩
  | 63 => ⟨S1x4096x5632, .f32⟩
  | 64 => ⟨S1x4096x5632, .f32⟩
  | 65 => ⟨S1x4096x5632, .f32⟩
  | 66 => ⟨S1x4096x5632, .f32⟩
  | 67 => ⟨S1x4096x5632, .f32⟩
  | 68 => ⟨S_, .f32⟩
  | 69 => ⟨S1x5632, .f32⟩
  | 70 => ⟨S1x1x5632, .f32⟩
  | 71 => ⟨S_, .f32⟩
  | 72 => ⟨S5632, .f32⟩
  | 73 => ⟨S_, .f32⟩
  | 74 => ⟨S1x4098x5632, .f32⟩
  | 75 => ⟨S1x5632, .f32⟩
  | 76 => ⟨S_, .f32⟩
  | 77 => ⟨S3x5632, .f32⟩
  | 78 => ⟨S1x4096x5632, .f32⟩
  | 79 => ⟨S1x4096x5632, .f32⟩
  | 80 => ⟨S1x4096x5632, .f32⟩
  | 81 => ⟨S_, .f32⟩
  | 82 => ⟨S1x5632, .f32⟩
  | 83 => ⟨S1x1x5632, .f32⟩
  | 84 => ⟨S_, .f32⟩
  | 85 => ⟨S5632, .f32⟩
  | 86 => ⟨S_, .f32⟩
  | 87 => ⟨S1x4098x5632, .f32⟩
  | 88 => ⟨S1x4098x5632, .f32⟩
  | 89 => ⟨S1x5632, .f32⟩
  | 90 => ⟨S_, .f32⟩
  | 91 => ⟨S3x5632, .f32⟩
  | 92 => ⟨S3x5632, .f32⟩
  | 93 => ⟨S_, .f32⟩
  | 94 => ⟨S1x5632, .f32⟩
  | 95 => ⟨S1x1x5632, .f32⟩
  | 96 => ⟨S_, .f32⟩
  | 97 => ⟨S5632, .f32⟩
  | 98 => ⟨S1x4096x5632, .f32⟩
  | 99 => ⟨S1x4096x5632, .f32⟩
  | 100 => ⟨S1x4096x5632, .f32⟩
  | 101 => ⟨S_, .f32⟩
  | 102 => ⟨S1x5632, .f32⟩
  | 103 => ⟨S1x1x5632, .f32⟩
  | 104 => ⟨S_, .f32⟩
  | 105 => ⟨S5632, .f32⟩
  | 106 => ⟨S_, .f32⟩
  | 107 => ⟨S1x4098x5632, .f32⟩
  | 108 => ⟨S1x4098x5632, .f32⟩
  | 109 => ⟨S1x5632, .f32⟩
  | 110 => ⟨S_, .f32⟩
  | 111 => ⟨S3x5632, .f32⟩
  | 112 => ⟨S3x5632, .f32⟩
  | 113 => ⟨S1x2x5632, .f32⟩
  | 114 => ⟨S1x4096x5632, .f32⟩
  | 115 => ⟨S1x4096x2816, .f32⟩
  | 116 => ⟨S4096x2816, .f32⟩
  | 117 => ⟨S4096x2816, .bf16⟩
  | 118 => ⟨S1x4096x2816, .f32⟩
  | 119 => ⟨S4096x2816, .f32⟩
  | 120 => ⟨S4096x2816, .bf16⟩
  | 121 => ⟨S3x2816, .f32⟩
  | 122 => ⟨S3x2x1408, .f32⟩
  | 123 => ⟨S2x3x1408, .f32⟩
  | 124 => ⟨S3x2816, .f32⟩
  | 125 => ⟨S3x2x1408, .f32⟩
  | 126 => ⟨S2x3x1408, .f32⟩
  | 127 => ⟨S2816, .f32⟩
  | _ => ⟨S4096x1024, .f32⟩

abbrev hbmTy0_1 (i : Nat) : BufTy := match i % 128 with
  | 0 => ⟨S1x2816, .f32⟩
  | 1 => ⟨S2816, .f32⟩
  | 2 => ⟨S1x2816, .f32⟩
  | _ => ⟨S4096x1024, .f32⟩

abbrev hbmTy (i : Nat) : BufTy := match i / 128 with
  | 0 => hbmTy0_0 i
  | 1 => hbmTy0_1 i
  | _ => ⟨S4096x1024, .f32⟩

abbrev bufTy : (tb : Table) → Fin (tcTables nBuf tb) → BufTy
  | .hbm, ⟨i, _⟩ => hbmTy i
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_call0_v0 : Ref sig .tc := ⟨.hbm, 37, rfl⟩
abbrev main_call0_v1 : Ref sig .tc := ⟨.hbm, 38, rfl⟩
abbrev main_call0_cst : Ref sig .tc := ⟨.hbm, 39, rfl⟩
abbrev main_call0_v2 : Ref sig .tc := ⟨.hbm, 40, rfl⟩
abbrev main_call0_v3 : Ref sig .tc := ⟨.hbm, 41, rfl⟩
abbrev main_call0_cst_0 : Ref sig .tc := ⟨.hbm, 42, rfl⟩
abbrev main_call0_v4 : Ref sig .tc := ⟨.hbm, 43, rfl⟩
abbrev main_v30_2 : Ref sig .tc := ⟨.hbm, 44, rfl⟩
abbrev main_call0_cst_1 : Ref sig .tc := ⟨.hbm, 45, rfl⟩
abbrev main_call0_v6 : Ref sig .tc := ⟨.hbm, 46, rfl⟩
abbrev main_call0_v7 : Ref sig .tc := ⟨.hbm, 47, rfl⟩
abbrev main_v30_1 : Ref sig .tc := ⟨.hbm, 48, rfl⟩
abbrev main_v30_0 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_call1_v0 : Ref sig .tc := ⟨.hbm, 56, rfl⟩
abbrev main_call1_v1 : Ref sig .tc := ⟨.hbm, 57, rfl⟩
abbrev main_call1_v2 : Ref sig .tc := ⟨.hbm, 58, rfl⟩
abbrev main_v37 : Ref sig .tc := ⟨.hbm, 59, rfl⟩
abbrev main_cst_1 : Ref sig .tc := ⟨.hbm, 60, rfl⟩
abbrev main_v38 : Ref sig .tc := ⟨.hbm, 61, rfl⟩
abbrev main_cst_2 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_cst_3 : Ref sig .tc := ⟨.hbm, 68, rfl⟩
abbrev main_v44 : Ref sig .tc := ⟨.hbm, 69, rfl⟩
abbrev main_v45 : Ref sig .tc := ⟨.hbm, 70, rfl⟩
abbrev main_cst_4 : Ref sig .tc := ⟨.hbm, 71, rfl⟩
abbrev main_v46 : Ref sig .tc := ⟨.hbm, 72, rfl⟩
abbrev main_cst_5 : Ref sig .tc := ⟨.hbm, 73, rfl⟩
abbrev main_v47 : Ref sig .tc := ⟨.hbm, 74, rfl⟩
abbrev main_v48 : Ref sig .tc := ⟨.hbm, 75, rfl⟩
abbrev main_cst_6 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_cst_7 : Ref sig .tc := ⟨.hbm, 81, rfl⟩
abbrev main_v53 : Ref sig .tc := ⟨.hbm, 82, rfl⟩
abbrev main_v54 : Ref sig .tc := ⟨.hbm, 83, rfl⟩
abbrev main_cst_8 : Ref sig .tc := ⟨.hbm, 84, rfl⟩
abbrev main_v55 : Ref sig .tc := ⟨.hbm, 85, rfl⟩
abbrev main_cst_9 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_cst_10 : Ref sig .tc := ⟨.hbm, 90, rfl⟩
abbrev main_v59 : Ref sig .tc := ⟨.hbm, 91, rfl⟩
abbrev main_v60 : Ref sig .tc := ⟨.hbm, 92, rfl⟩
abbrev main_cst_11 : Ref sig .tc := ⟨.hbm, 93, rfl⟩
abbrev main_v61 : Ref sig .tc := ⟨.hbm, 94, rfl⟩
abbrev main_v62 : Ref sig .tc := ⟨.hbm, 95, rfl⟩
abbrev main_cst_12 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_cst_13 : Ref sig .tc := ⟨.hbm, 101, rfl⟩
abbrev main_v67 : Ref sig .tc := ⟨.hbm, 102, rfl⟩
abbrev main_v68 : Ref sig .tc := ⟨.hbm, 103, rfl⟩
abbrev main_cst_14 : Ref sig .tc := ⟨.hbm, 104, rfl⟩
abbrev main_v69 : Ref sig .tc := ⟨.hbm, 105, rfl⟩
abbrev main_cst_15 : Ref sig .tc := ⟨.hbm, 106, rfl⟩
abbrev main_v70 : Ref sig .tc := ⟨.hbm, 107, rfl⟩
abbrev main_v71 : Ref sig .tc := ⟨.hbm, 108, rfl⟩
abbrev main_v72 : Ref sig .tc := ⟨.hbm, 109, rfl⟩
abbrev main_cst_16 : Ref sig .tc := ⟨.hbm, 110, rfl⟩
abbrev main_v73 : Ref sig .tc := ⟨.hbm, 111, rfl⟩
abbrev main_v74 : Ref sig .tc := ⟨.hbm, 112, rfl⟩
abbrev main_v75 : Ref sig .tc := ⟨.hbm, 113, rfl⟩
abbrev main_v76 : Ref sig .tc := ⟨.hbm, 114, rfl⟩
abbrev main_v77 : Ref sig .tc := ⟨.hbm, 115, rfl⟩
abbrev main_v78 : Ref sig .tc := ⟨.hbm, 116, rfl⟩
abbrev main_v79 : Ref sig .tc := ⟨.hbm, 117, rfl⟩
abbrev main_v80 : Ref sig .tc := ⟨.hbm, 118, rfl⟩
abbrev main_v81 : Ref sig .tc := ⟨.hbm, 119, rfl⟩
abbrev main_v82 : Ref sig .tc := ⟨.hbm, 120, rfl⟩
abbrev main_v83 : Ref sig .tc := ⟨.hbm, 121, rfl⟩
abbrev main_v84 : Ref sig .tc := ⟨.hbm, 122, rfl⟩
abbrev main_v85 : Ref sig .tc := ⟨.hbm, 123, rfl⟩
abbrev main_v86 : Ref sig .tc := ⟨.hbm, 124, rfl⟩
abbrev main_v87 : Ref sig .tc := ⟨.hbm, 125, rfl⟩
abbrev main_v88 : Ref sig .tc := ⟨.hbm, 126, rfl⟩
abbrev main_v89 : Ref sig .tc := ⟨.hbm, 127, rfl⟩
abbrev main_v90 : Ref sig .tc := ⟨.hbm, 128, rfl⟩
abbrev main_v91 : Ref sig .tc := ⟨.hbm, 129, rfl⟩
abbrev main_v92 : Ref sig .tc := ⟨.hbm, 130, rfl⟩

abbrev nD : Nat := 1
abbrev τ : Topo := Topo.v7x

variable {F : FTy → Type} [FloatOps F]
-- ==== Kernel2.lean ====
abbrev S4096x5632 : Shape := ⟨2, ![4096, 5632]⟩
abbrev S1024x5632 : Shape := ⟨2, ![1024, 5632]⟩
abbrev S4096x1024 : Shape := ⟨2, ![4096, 1024]⟩
abbrev S1x1024 : Shape := ⟨2, ![1, 1024]⟩
abbrev S1024x4x1408 : Shape := ⟨3, ![1024, 4, 1408]⟩
abbrev S4x1024x1408 : Shape := ⟨3, ![4, 1024, 1408]⟩
abbrev S4096x2816 : Shape := ⟨2, ![4096, 2816]⟩
abbrev S512x2816 : Shape := ⟨2, ![512, 2816]⟩
abbrev S512x1024 : Shape := ⟨2, ![512, 1024]⟩
abbrev S512x1408 : Shape := ⟨2, ![512, 1408]⟩
abbrev S1x1024x1408 : Shape := ⟨3, ![1, 1024, 1408]⟩
abbrev S1024x1408 : Shape := ⟨2, ![1024, 1408]⟩
abbrev S512 : Shape := ⟨1, ![512]⟩
abbrev S512x1 : Shape := ⟨2, ![512, 1]⟩
abbrev S1024 : Shape := ⟨1, ![1024]⟩

abbrev nBuf : Space → Nat
  | .hbm => 14
  | .vmem => 13
  | .smem => 0
  | _ => 0

abbrev bufTy : (tb : Table) → Fin (tcTables nBuf tb) → BufTy
  | .hbm, ⟨0, _⟩ => ⟨S4096x5632, .f32⟩
  | .hbm, ⟨1, _⟩ => ⟨S1024x5632, .f32⟩
  | .hbm, ⟨2, _⟩ => ⟨S4096x1024, .f32⟩
  | .hbm, ⟨3, _⟩ => ⟨S4096x1024, .f32⟩
  | .hbm, ⟨4, _⟩ => ⟨S1x1024, .f32⟩
  | .hbm, ⟨5, _⟩ => ⟨S1024x4x1408, .f32⟩
  | .hbm, ⟨6, _⟩ => ⟨S4x1024x1408, .f32⟩
  | .hbm, ⟨7, _⟩ => ⟨S4096x2816, .f32⟩
  | .hbm, ⟨8, _⟩ => ⟨S4096x2816, .bf16⟩
  | .hbm, ⟨9, _⟩ => ⟨S4096x2816, .f32⟩
  | .hbm, ⟨10, _⟩ => ⟨S4096x2816, .bf16⟩
  | .hbm, ⟨11, _⟩ => ⟨S4x1024x1408, .bf16⟩
  | .hbm, ⟨12, _⟩ => ⟨S4096x1024, .f32⟩
  | .hbm, ⟨13, _⟩ => ⟨S1x1024, .f32⟩
  | .local _ .vmem, ⟨0, _⟩ => ⟨S512x2816, .bf16⟩
  | .local _ .vmem, ⟨1, _⟩ => ⟨S512x2816, .bf16⟩
  | .local _ .vmem, ⟨2, _⟩ => ⟨S512x2816, .bf16⟩
  | .local _ .vmem, ⟨3, _⟩ => ⟨S512x2816, .bf16⟩
  | .local _ .vmem, ⟨4, _⟩ => ⟨S4x1024x1408, .bf16⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S1x1024, .f32⟩
  | .local _ .vmem, ⟨10, _⟩ => ⟨S512x1024, .f32⟩
  | .local _ .vmem, ⟨11, _⟩ => ⟨S512x1024, .f32⟩
  | .local _ .vmem, ⟨12, _⟩ => ⟨S1x1024, .f32⟩
  | _, _ => ⟨S4096x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7_0 : Ref sig .tc := ⟨.hbm, 12, rfl⟩
abbrev main_v7_1 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11
abbrev cc0_sem7_0 : DmaSem sig := 12

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4x1024x1408 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== Reference2Ideal.lean ====
abbrev S4096x5632 : Shape := ⟨2, ![4096, 5632]⟩
abbrev S1024x5632 : Shape := ⟨2, ![1024, 5632]⟩
abbrev S4096x1024 : Shape := ⟨2, ![4096, 1024]⟩
abbrev S1x1024 : Shape := ⟨2, ![1, 1024]⟩
abbrev S1024 : Shape := ⟨1, ![1024]⟩
abbrev S_ : Shape := ⟨0, ![]⟩
abbrev S4096 : Shape := ⟨1, ![4096]⟩
abbrev S4096x1 : Shape := ⟨2, ![4096, 1]⟩

abbrev nBuf : Space → Nat
  | .hbm => 55
  | .vmem => 0
  | .smem => 0
  | _ => 0

abbrev bufTy : (tb : Table) → Fin (tcTables nBuf tb) → BufTy
  | .hbm, ⟨0, _⟩ => ⟨S4096x5632, .f32⟩
  | .hbm, ⟨1, _⟩ => ⟨S1024x5632, .f32⟩
  | .hbm, ⟨2, _⟩ => ⟨S4096x1024, .f32⟩
  | .hbm, ⟨3, _⟩ => ⟨S4096x1024, .f32⟩
  | .hbm, ⟨4, _⟩ => ⟨S1x1024, .f32⟩
  | .hbm, ⟨5, _⟩ => ⟨S1024, .f32⟩
  | .hbm, ⟨6, _⟩ => ⟨S4096x1024, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S4096x1024, .f32⟩
  | .hbm, ⟨22, _⟩ => ⟨S4096x1024, .f32⟩
  | .hbm, ⟨23, _⟩ => ⟨S1x1024, .f32⟩
  | .hbm, ⟨24, _⟩ => ⟨S4096x1024, .f32⟩
  | .hbm, ⟨25, _⟩ => ⟨S4096x1024, .f32⟩
  | .hbm, ⟨26, _⟩ => ⟨S4096x5632, .f32⟩
  | .hbm, ⟨27, _⟩ => ⟨S4096x1024, .f32⟩
  | .hbm, ⟨28, _⟩ => ⟨S4096x1024, .f32⟩
  | .hbm, ⟨29, _⟩ => ⟨S_, .f32⟩
  | .hbm, ⟨30, _⟩ => ⟨S1024, .f32⟩
  | .hbm, ⟨31, _⟩ => ⟨S1x1024, .f32⟩
  | .hbm, ⟨32, _⟩ => ⟨S4096x1024, .f32⟩
  | .hbm, ⟨33, _⟩ => ⟨S4096x1024, .f32⟩
  | .hbm, ⟨34, _⟩ => ⟨S_, .f32⟩
  | .hbm, ⟨35, _⟩ => ⟨S1024, .f32⟩
  | .hbm, ⟨36, _⟩ => ⟨S4096x1024, .f32⟩
  | .hbm, ⟨37, _⟩ => ⟨S_, .f32⟩
  | .hbm, ⟨38, _⟩ => ⟨S4096, .f32⟩
  | .hbm, ⟨39, _⟩ => ⟨S4096x1, .f32⟩
  | .hbm, ⟨40, _⟩ => ⟨S4096x1024, .f32⟩
  | .hbm, ⟨41, _⟩ => ⟨S4096x1024, .f32⟩
  | .hbm, ⟨42, _⟩ => ⟨S4096x1024, .f32⟩
  | .hbm, ⟨43, _⟩ => ⟨S4096x1, .f32⟩
  | .hbm, ⟨44, _⟩ => ⟨S_, .f32⟩
  | .hbm, ⟨45, _⟩ => ⟨S4096x1, .f32⟩
  | .hbm, ⟨46, _⟩ => ⟨S4096x1, .f32⟩
  | .hbm, ⟨47, _⟩ => ⟨S_, .f32⟩
  | .hbm, ⟨48, _⟩ => ⟨S4096, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S4096x1024, .f32⟩
  | .hbm, ⟨53, _⟩ => ⟨S4096x1024, .f32⟩
  | .hbm, ⟨54, _⟩ => ⟨S1x1024, .f32⟩
  | _, _ => ⟨S4096x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_4 : Ref sig .tc := ⟨.hbm, 34, rfl⟩
abbrev main_v24 : Ref sig .tc := ⟨.hbm, 35, rfl⟩
abbrev main_v25 : Ref sig .tc := ⟨.hbm, 36, rfl⟩
abbrev main_cst_5 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_6 : Ref sig .tc := ⟨.hbm, 44, rfl⟩
abbrev main_v32 : Ref sig .tc := ⟨.hbm, 45, rfl⟩
abbrev main_v33 : Ref sig .tc := ⟨.hbm, 46, rfl⟩
abbrev main_cst_7 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩

abbrev nD : Nat := 1
abbrev τ : Topo := Topo.v7x

variable {F : FTy → Type} [FloatOps F]
-- ==== Kernel3.lean ====
abbrev S4096x4352 : Shape := ⟨2, ![4096, 4352]⟩
abbrev S1024x4352 : Shape := ⟨2, ![1024, 4352]⟩
abbrev S4096x1024 : Shape := ⟨2, ![4096, 1024]⟩
abbrev S1x1024 : Shape := ⟨2, ![1, 1024]⟩
abbrev S4096x1280 : Shape := ⟨2, ![4096, 1280]⟩
abbrev S4096x2048 : Shape := ⟨2, ![4096, 2048]⟩
abbrev S4352x1024 : Shape := ⟨2, ![4352, 1024]⟩
abbrev S512x1024 : Shape := ⟨2, ![512, 1024]⟩
abbrev S512x1280 : Shape := ⟨2, ![512, 1280]⟩
abbrev S512x2048 : Shape := ⟨2, ![512, 2048]⟩
abbrev S1024x1024 : Shape := ⟨2, ![1024, 1024]⟩
abbrev S1280x1024 : Shape := ⟨2, ![1280, 1024]⟩
abbrev S2048x1024 : Shape := ⟨2, ![2048, 1024]⟩
abbrev S512 : Shape := ⟨1, ![512]⟩
abbrev S512x1 : Shape := ⟨2, ![512, 1]⟩
abbrev S1024 : Shape := ⟨1, ![1024]⟩

abbrev nBuf : Space → Nat
  | .hbm => 15
  | .vmem => 15
  | .smem => 0
  | _ => 0

abbrev bufTy : (tb : Table) → Fin (tcTables nBuf tb) → BufTy
  | .hbm, ⟨0, _⟩ => ⟨S4096x4352, .f32⟩
  | .hbm, ⟨1, _⟩ => ⟨S1024x4352, .f32⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S4096x1024, .f32⟩
  | .hbm, ⟨6, _⟩ => ⟨S4096x1024, .bf16⟩
  | .hbm, ⟨7, _⟩ => ⟨S4096x1280, .f32⟩
  | .hbm, ⟨8, _⟩ => ⟨S4096x1280, .bf16⟩
  | .hbm, ⟨9, _⟩ => ⟨S4096x2048, .f32⟩
  | .hbm, ⟨10, _⟩ => ⟨S4096x2048, .bf16⟩
  | .hbm, ⟨11, _⟩ => ⟨S4352x1024, .f32⟩
  | .hbm, ⟨12, _⟩ => ⟨S4352x1024, .bf16⟩
  | .hbm, ⟨13, _⟩ => ⟨S4096x1024, .f32⟩
  | .hbm, ⟨14, _⟩ => ⟨S1x1024, .f32⟩
  | .local _ .vmem, ⟨0, _⟩ => ⟨S512x1024, .bf16⟩
  | .local _ .vmem, ⟨1, _⟩ => ⟨S512x1024, .bf16⟩
  | .local _ .vmem, ⟨2, _⟩ => ⟨S512x1280, .bf16⟩
  | .local _ .vmem, ⟨3, _⟩ => ⟨S512x1280, .bf16⟩
  | .local _ .vmem, ⟨4, _⟩ => ⟨S512x2048, .bf16⟩
  | .local _ .vmem, ⟨5, _⟩ => ⟨S512x2048, .bf16⟩
  | .local _ .vmem, ⟨6, _⟩ => ⟨S4352x1024, .bf16⟩
  | .local _ .vmem, ⟨7, _⟩ => ⟨S512x1024, .f32⟩
  | .local _ .vmem, ⟨8, _⟩ => ⟨S512x1024, .f32⟩
  | .local _ .vmem, ⟨9, _⟩ => ⟨S1x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | .local _ .vmem, ⟨14, _⟩ => ⟨S1x1024, .f32⟩
  | _, _ => ⟨S4096x4352, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8_0 : Ref sig .tc := ⟨.hbm, 13, rfl⟩
abbrev main_v8_1 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1280 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S4352x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== Reference3Ideal.lean ====
abbrev S4096x4352 : Shape := ⟨2, ![4096, 4352]⟩
abbrev S1024x4352 : Shape := ⟨2, ![1024, 4352]⟩
abbrev S4096x1024 : Shape := ⟨2, ![4096, 1024]⟩
abbrev S1x1024 : Shape := ⟨2, ![1, 1024]⟩
abbrev S1024 : Shape := ⟨1, ![1024]⟩
abbrev S_ : Shape := ⟨0, ![]⟩
abbrev S4096 : Shape := ⟨1, ![4096]⟩
abbrev S4096x1 : Shape := ⟨2, ![4096, 1]⟩

abbrev nBuf : Space → Nat
  | .hbm => 55
  | .vmem => 0
  | .smem => 0
  | _ => 0

abbrev bufTy : (tb : Table) → Fin (tcTables nBuf tb) → BufTy
  | .hbm, ⟨0, _⟩ => ⟨S4096x4352, .f32⟩
  | .hbm, ⟨1, _⟩ => ⟨S1024x4352, .f32⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S1024, .f32⟩
  | .hbm, ⟨6, _⟩ => ⟨S4096x1024, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S4096x1024, .f32⟩
  | .hbm, ⟨22, _⟩ => ⟨S4096x1024, .f32⟩
  | .hbm, ⟨23, _⟩ => ⟨S1x1024, .f32⟩
  | .hbm, ⟨24, _⟩ => ⟨S4096x1024, .f32⟩
  | .hbm, ⟨25, _⟩ => ⟨S4096x1024, .f32⟩
  | .hbm, ⟨26, _⟩ => ⟨S4096x4352, .f32⟩
  | .hbm, ⟨27, _⟩ => ⟨S4096x1024, .f32⟩
  | .hbm, ⟨28, _⟩ => ⟨S4096x1024, .f32⟩
  | .hbm, ⟨29, _⟩ => ⟨S_, .f32⟩
  | .hbm, ⟨30, _⟩ => ⟨S1024, .f32⟩
  | .hbm, ⟨31, _⟩ => ⟨S1x1024, .f32⟩
  | .hbm, ⟨32, _⟩ => ⟨S4096x1024, .f32⟩
  | .hbm, ⟨33, _⟩ => ⟨S4096x1024, .f32⟩
  | .hbm, ⟨34, _⟩ => ⟨S_, .f32⟩
  | .hbm, ⟨35, _⟩ => ⟨S1024, .f32⟩
  | .hbm, ⟨36, _⟩ => ⟨S4096x1024, .f32⟩
  | .hbm, ⟨37, _⟩ => ⟨S_, .f32⟩
  | .hbm, ⟨38, _⟩ => ⟨S4096, .f32⟩
  | .hbm, ⟨39, _⟩ => ⟨S4096x1, .f32⟩
  | .hbm, ⟨40, _⟩ => ⟨S4096x1024, .f32⟩
  | .hbm, ⟨41, _⟩ => ⟨S4096x1024, .f32⟩
  | .hbm, ⟨42, _⟩ => ⟨S4096x1024, .f32⟩
  | .hbm, ⟨43, _⟩ => ⟨S4096x1, .f32⟩
  | .hbm, ⟨44, _⟩ => ⟨S_, .f32⟩
  | .hbm, ⟨45, _⟩ => ⟨S4096x1, .f32⟩
  | .hbm, ⟨46, _⟩ => ⟨S4096x1, .f32⟩
  | .hbm, ⟨47, _⟩ => ⟨S_, .f32⟩
  | .hbm, ⟨48, _⟩ => ⟨S4096, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S4096x1024, .f32⟩
  | .hbm, ⟨53, _⟩ => ⟨S4096x1024, .f32⟩
  | .hbm, ⟨54, _⟩ => ⟨S1x1024, .f32⟩
  | _, _ => ⟨S4096x4352, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_4 : Ref sig .tc := ⟨.hbm, 34, rfl⟩
abbrev main_v24 : Ref sig .tc := ⟨.hbm, 35, rfl⟩
abbrev main_v25 : Ref sig .tc := ⟨.hbm, 36, rfl⟩
abbrev main_cst_5 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_6 : Ref sig .tc := ⟨.hbm, 44, rfl⟩
abbrev main_v32 : Ref sig .tc := ⟨.hbm, 45, rfl⟩
abbrev main_v33 : Ref sig .tc := ⟨.hbm, 46, rfl⟩
abbrev main_cst_7 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩

abbrev nD : Nat := 1
abbrev τ : Topo := Topo.v7x

variable {F : FTy → Type} [FloatOps F]
-- ==== Kernel4.lean ====
abbrev S4096x1024 : Shape := ⟨2, ![4096, 1024]⟩
abbrev S1024x1024 : Shape := ⟨2, ![1024, 1024]⟩
abbrev S4096x2048 : Shape := ⟨2, ![4096, 2048]⟩
abbrev S1x2048 : Shape := ⟨2, ![1, 2048]⟩
abbrev S_ : Shape := ⟨0, ![]⟩
abbrev S512x1024 : Shape := ⟨2, ![512, 1024]⟩
abbrev S512x2048 : Shape := ⟨2, ![512, 2048]⟩
abbrev S1x1024 : Shape := ⟨2, ![1, 1024]⟩
abbrev S1024 : Shape := ⟨1, ![1024]⟩

abbrev nBuf : Space → Nat
  | .hbm => 31
  | .vmem => 19
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S4096x1024, .f32⟩
  | .hbm, ⟨3, _⟩ => ⟨S4096x1024, .f32⟩
  | .hbm, ⟨4, _⟩ => ⟨S4096x2048, .f32⟩
  | .hbm, ⟨5, _⟩ => ⟨S1x2048, .f32⟩
  | .hbm, ⟨6, _⟩ => ⟨S4096x2048, .f32⟩
  | .hbm, ⟨7, _⟩ => ⟨S4096x2048, .f32⟩
  | .hbm, ⟨8, _⟩ => ⟨S4096x2048, .f32⟩
  | .hbm, ⟨9, _⟩ => ⟨S4096x2048, .f32⟩
  | .hbm, ⟨10, _⟩ => ⟨S_, .f32⟩
  | .hbm, ⟨11, _⟩ => ⟨S4096x2048, .f32⟩
  | .hbm, ⟨12, _⟩ => ⟨S4096x2048, .f32⟩
  | .hbm, ⟨13, _⟩ => ⟨S_, .f32⟩
  | .hbm, ⟨14, _⟩ => ⟨S4096x2048, .f32⟩
  | .hbm, ⟨15, _⟩ => ⟨S4096x2048, .f32⟩
  | .hbm, ⟨16, _⟩ => ⟨S4096x1024, .f32⟩
  | .hbm, ⟨17, _⟩ => ⟨S4096x1024, .f32⟩
  | .hbm, ⟨18, _⟩ => ⟨S4096x1024, .f32⟩
  | .hbm, ⟨19, _⟩ => ⟨S4096x1024, .f32⟩
  | .hbm, ⟨20, _⟩ => ⟨S4096x1024, .f32⟩
  | .hbm, ⟨21, _⟩ => ⟨S1024x1024, .bf16⟩
  | .hbm, ⟨22, _⟩ => ⟨S4096x1024, .bf16⟩
  | .hbm, ⟨23, _⟩ => ⟨S4096x1024, .bf16⟩
  | .hbm, ⟨24, _⟩ => ⟨S4096x2048, .bf16⟩
  | .hbm, ⟨25, _⟩ => ⟨S4096x1024, .bf16⟩
  | .hbm, ⟨26, _⟩ => ⟨S4096x1024, .bf16⟩
  | .hbm, ⟨27, _⟩ => ⟨S4096x1024, .bf16⟩
  | .hbm, ⟨28, _⟩ => ⟨S4096x2048, .bf16⟩
  | .hbm, ⟨29, _⟩ => ⟨S1x2048, .f32⟩
  | .hbm, ⟨30, _⟩ => ⟨S1024x1024, .f32⟩
  | .local _ .vmem, ⟨0, _⟩ => ⟨S512x1024, .f32⟩
  | .local _ .vmem, ⟨1, _⟩ => ⟨S512x1024, .f32⟩
  | .local _ .vmem, ⟨2, _⟩ => ⟨S1024x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x2048, .bf16⟩
  | .local _ .vmem, ⟨8, _⟩ => ⟨S512x2048, .bf16⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S512x1024, .bf16⟩
  | .local _ .vmem, ⟨13, _⟩ => ⟨S512x1024, .bf16⟩
  | .local _ .vmem, ⟨14, _⟩ => ⟨S512x1024, .bf16⟩
  | .local _ .vmem, ⟨15, _⟩ => ⟨S512x2048, .bf16⟩
  | .local _ .vmem, ⟨16, _⟩ => ⟨S512x2048, .bf16⟩
  | .local _ .vmem, ⟨17, _⟩ => ⟨S1x2048, .f32⟩
  | .local _ .vmem, ⟨18, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18_0 : Ref sig .tc := ⟨.hbm, 26, rfl⟩
abbrev main_v18_1 : Ref sig .tc := ⟨.hbm, 27, rfl⟩
abbrev main_v18_2 : Ref sig .tc := ⟨.hbm, 28, rfl⟩
abbrev main_v18_3 : Ref sig .tc := ⟨.hbm, 29, rfl⟩
abbrev main_v18_4 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg10_0 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem10_0 : DmaSem sig := 18

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== Reference4Ideal.lean ====
abbrev S4096x1024 : Shape := ⟨2, ![4096, 1024]⟩
abbrev S1024x1024 : Shape := ⟨2, ![1024, 1024]⟩
abbrev S4096x2048 : Shape := ⟨2, ![4096, 2048]⟩
abbrev S1x2048 : Shape := ⟨2, ![1, 2048]⟩
abbrev S_ : Shape := ⟨0, ![]⟩
abbrev S2048 : Shape := ⟨1, ![2048]⟩

abbrev nBuf : Space → Nat
  | .hbm => 45
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S4096x1024, .f32⟩
  | .hbm, ⟨3, _⟩ => ⟨S4096x1024, .f32⟩
  | .hbm, ⟨4, _⟩ => ⟨S4096x2048, .f32⟩
  | .hbm, ⟨5, _⟩ => ⟨S1x2048, .f32⟩
  | .hbm, ⟨6, _⟩ => ⟨S4096x2048, .f32⟩
  | .hbm, ⟨7, _⟩ => ⟨S4096x2048, .f32⟩
  | .hbm, ⟨8, _⟩ => ⟨S4096x2048, .f32⟩
  | .hbm, ⟨9, _⟩ => ⟨S4096x2048, .f32⟩
  | .hbm, ⟨10, _⟩ => ⟨S_, .f32⟩
  | .hbm, ⟨11, _⟩ => ⟨S4096x2048, .f32⟩
  | .hbm, ⟨12, _⟩ => ⟨S4096x2048, .f32⟩
  | .hbm, ⟨13, _⟩ => ⟨S_, .f32⟩
  | .hbm, ⟨14, _⟩ => ⟨S4096x2048, .f32⟩
  | .hbm, ⟨15, _⟩ => ⟨S4096x2048, .f32⟩
  | .hbm, ⟨16, _⟩ => ⟨S_, .f32⟩
  | .hbm, ⟨17, _⟩ => ⟨S4096x2048, .f32⟩
  | .hbm, ⟨18, _⟩ => ⟨S4096x2048, .f32⟩
  | .hbm, ⟨19, _⟩ => ⟨S4096x2048, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S1024x1024, .f32⟩
  | .hbm, ⟨27, _⟩ => ⟨S1024x1024, .f32⟩
  | .hbm, ⟨28, _⟩ => ⟨S4096x1024, .f32⟩
  | .hbm, ⟨29, _⟩ => ⟨S4096x1024, .f32⟩
  | .hbm, ⟨30, _⟩ => ⟨S4096x1024, .f32⟩
  | .hbm, ⟨31, _⟩ => ⟨S4096x1024, .f32⟩
  | .hbm, ⟨32, _⟩ => ⟨S4096x1024, .f32⟩
  | .hbm, ⟨33, _⟩ => ⟨S_, .f32⟩
  | .hbm, ⟨34, _⟩ => ⟨S4096x2048, .f32⟩
  | .hbm, ⟨35, _⟩ => ⟨S_, .f32⟩
  | .hbm, ⟨36, _⟩ => ⟨S4096x2048, .f32⟩
  | .hbm, ⟨37, _⟩ => ⟨S4096x2048, .f32⟩
  | .hbm, ⟨38, _⟩ => ⟨S4096x2048, .f32⟩
  | .hbm, ⟨39, _⟩ => ⟨S_, .f32⟩
  | .hbm, ⟨40, _⟩ => ⟨S2048, .f32⟩
  | .hbm, ⟨41, _⟩ => ⟨S1x2048, .f32⟩
  | .hbm, ⟨42, _⟩ => ⟨S4096x1024, .bf16⟩
  | .hbm, ⟨43, _⟩ => ⟨S4096x1024, .bf16⟩
  | .hbm, ⟨44, _⟩ => ⟨S4096x2048, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_2 : Ref sig .tc := ⟨.hbm, 33, rfl⟩
abbrev main_v24 : Ref sig .tc := ⟨.hbm, 34, rfl⟩
abbrev main_cst_3 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_4 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩

abbrev nD : Nat := 1
abbrev τ : Topo := Topo.v7x

variable {F : FTy → Type} [FloatOps F]
-- ==== Kernel5.lean ====
abbrev S4096x1024 : Shape := ⟨2, ![4096, 1024]⟩
abbrev S4x256x256 : Shape := ⟨3, ![4, 256, 256]⟩
abbrev S1x1024 : Shape := ⟨2, ![1, 1024]⟩
abbrev S1x4096x1024 : Shape := ⟨3, ![1, 4096, 1024]⟩
abbrev S1x4096x4x256 : Shape := ⟨4, ![1, 4096, 4, 256]⟩
abbrev S_ : Shape := ⟨0, ![]⟩
abbrev S4096 : Shape := ⟨1, ![4096]⟩
abbrev S1x4096x1x256 : Shape := ⟨4, ![1, 4096, 1, 256]⟩
abbrev S1x4096x256 : Shape := ⟨3, ![1, 4096, 256]⟩
abbrev S1x2x256 : Shape := ⟨3, ![1, 2, 256]⟩
abbrev S1x4094x256 : Shape := ⟨3, ![1, 4094, 256]⟩
abbrev S1x4096x1 : Shape := ⟨3, ![1, 4096, 1]⟩
abbrev S1x4x256 : Shape := ⟨3, ![1, 4, 256]⟩
abbrev S1x4092x256 : Shape := ⟨3, ![1, 4092, 256]⟩
abbrev S1x8x256 : Shape := ⟨3, ![1, 8, 256]⟩
abbrev S1x4088x256 : Shape := ⟨3, ![1, 4088, 256]⟩
abbrev S1x16x256 : Shape := ⟨3, ![1, 16, 256]⟩
abbrev S1x4080x256 : Shape := ⟨3, ![1, 4080, 256]⟩
abbrev S1024x1024 : Shape := ⟨2, ![1024, 1024]⟩
abbrev S4096x256 : Shape := ⟨2, ![4096, 256]⟩
abbrev S1x256x256 : Shape := ⟨3, ![1, 256, 256]⟩
abbrev S1x256 : Shape := ⟨2, ![1, 256]⟩
abbrev S256x1024 : Shape := ⟨2, ![256, 1024]⟩
abbrev S16x256 : Shape := ⟨2, ![16, 256]⟩
abbrev S256x256 : Shape := ⟨2, ![256, 256]⟩
abbrev S256 : Shape := ⟨1, ![256]⟩
abbrev S4096x1 : Shape := ⟨2, ![4096, 1]⟩
abbrev S4112x256 : Shape := ⟨2, ![4112, 256]⟩

abbrev nBuf : Space → Nat
  | .hbm => 94
  | .vmem => 18
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4x256x256, .f32⟩
  | .hbm, ⟨3, _⟩ => ⟨S1x1024, .f32⟩
  | .hbm, ⟨4, _⟩ => ⟨S4096x1024, .f32⟩
  | .hbm, ⟨5, _⟩ => ⟨S1x4096x1024, .f32⟩
  | .hbm, ⟨6, _⟩ => ⟨S1x4096x4x256, .f32⟩
  | .hbm, ⟨7, _⟩ => ⟨S_, .f32⟩
  | .hbm, ⟨8, _⟩ => ⟨S_, .f32⟩
  | .hbm, ⟨9, _⟩ => ⟨S1x4096x4x256, .f32⟩
  | .hbm, ⟨10, _⟩ => ⟨S4096, .f32⟩
  | .hbm, ⟨11, _⟩ => ⟨S1x4096x1x256, .f32⟩
  | .hbm, ⟨12, _⟩ => ⟨S1x4096x256, .f32⟩
  | .hbm, ⟨13, _⟩ => ⟨S1x2x256, .f32⟩
  | .hbm, ⟨14, _⟩ => ⟨S_, .f32⟩
  | .hbm, ⟨15, _⟩ => ⟨S1x2x256, .f32⟩
  | .hbm, ⟨16, _⟩ => ⟨S1x4094x256, .f32⟩
  | .hbm, ⟨17, _⟩ => ⟨S1x4096x256, .f32⟩
  | .hbm, ⟨18, _⟩ => ⟨S_, .f32⟩
  | .hbm, ⟨19, _⟩ => ⟨S4096, .f32⟩
  | .hbm, ⟨20, _⟩ => ⟨S4096, .f32⟩
  | .hbm, ⟨21, _⟩ => ⟨S_, .f32⟩
  | .hbm, ⟨22, _⟩ => ⟨S4096, .f32⟩
  | .hbm, ⟨23, _⟩ => ⟨S4096, .f32⟩
  | .hbm, ⟨24, _⟩ => ⟨S1x4096x1, .f32⟩
  | .hbm, ⟨25, _⟩ => ⟨S1x4096x256, .f32⟩
  | .hbm, ⟨26, _⟩ => ⟨S1x4096x256, .f32⟩
  | .hbm, ⟨27, _⟩ => ⟨S1x4096x256, .f32⟩
  | .hbm, ⟨28, _⟩ => ⟨S1x4096x1x256, .f32⟩
  | .hbm, ⟨29, _⟩ => ⟨S1x4096x256, .f32⟩
  | .hbm, ⟨30, _⟩ => ⟨S1x4x256, .f32⟩
  | .hbm, ⟨31, _⟩ => ⟨S_, .f32⟩
  | .hbm, ⟨32, _⟩ => ⟨S1x4x256, .f32⟩
  | .hbm, ⟨33, _⟩ => ⟨S1x4092x256, .f32⟩
  | .hbm, ⟨34, _⟩ => ⟨S1x4096x256, .f32⟩
  | .hbm, ⟨35, _⟩ => ⟨S_, .f32⟩
  | .hbm, ⟨36, _⟩ => ⟨S4096, .f32⟩
  | .hbm, ⟨37, _⟩ => ⟨S4096, .f32⟩
  | .hbm, ⟨38, _⟩ => ⟨S_, .f32⟩
  | .hbm, ⟨39, _⟩ => ⟨S4096, .f32⟩
  | .hbm, ⟨40, _⟩ => ⟨S4096, .f32⟩
  | .hbm, ⟨41, _⟩ => ⟨S1x4096x1, .f32⟩
  | .hbm, ⟨42, _⟩ => ⟨S1x4096x256, .f32⟩
  | .hbm, ⟨43, _⟩ => ⟨S1x4096x256, .f32⟩
  | .hbm, ⟨44, _⟩ => ⟨S1x4096x256, .f32⟩
  | .hbm, ⟨45, _⟩ => ⟨S1x4096x1x256, .f32⟩
  | .hbm, ⟨46, _⟩ => ⟨S1x4096x256, .f32⟩
  | .hbm, ⟨47, _⟩ => ⟨S1x8x256, .f32⟩
  | .hbm, ⟨48, _⟩ => ⟨S_, .f32⟩
  | .hbm, ⟨49, _⟩ => ⟨S1x8x256, .f32⟩
  | .hbm, ⟨50, _⟩ => ⟨S1x4088x256, .f32⟩
  | .hbm, ⟨51, _⟩ => ⟨S1x4096x256, .f32⟩
  | .hbm, ⟨52, _⟩ => ⟨S_, .f32⟩
  | .hbm, ⟨53, _⟩ => ⟨S4096, .f32⟩
  | .hbm, ⟨54, _⟩ => ⟨S4096, .f32⟩
  | .hbm, ⟨55, _⟩ => ⟨S_, .f32⟩
  | .hbm, ⟨56, _⟩ => ⟨S4096, .f32⟩
  | .hbm, ⟨57, _⟩ => ⟨S4096, .f32⟩
  | .hbm, ⟨58, _⟩ => ⟨S1x4096x1, .f32⟩
  | .hbm, ⟨59, _⟩ => ⟨S1x4096x256, .f32⟩
  | .hbm, ⟨60, _⟩ => ⟨S1x4096x256, .f32⟩
  | .hbm, ⟨61, _⟩ => ⟨S1x4096x256, .f32⟩
  | .hbm, ⟨62, _⟩ => ⟨S1x4096x1x256, .f32⟩
  | .hbm, ⟨63, _⟩ => ⟨S1x4096x256, .f32⟩
  | .hbm, ⟨64, _⟩ => ⟨S1x16x256, .f32⟩
  | .hbm, ⟨65, _⟩ => ⟨S_, .f32⟩
  | .hbm, ⟨66, _⟩ => ⟨S1x16x256, .f32⟩
  | .hbm, ⟨67, _⟩ => ⟨S1x4080x256, .f32⟩
  | .hbm, ⟨68, _⟩ => ⟨S1x4096x256, .f32⟩
  | .hbm, ⟨69, _⟩ => ⟨S_, .f32⟩
  | .hbm, ⟨70, _⟩ => ⟨S4096, .f32⟩
  | .hbm, ⟨71, _⟩ => ⟨S4096, .f32⟩
  | .hbm, ⟨72, _⟩ => ⟨S_, .f32⟩
  | .hbm, ⟨73, _⟩ => ⟨S4096, .f32⟩
  | .hbm, ⟨74, _⟩ => ⟨S4096, .f32⟩
  | .hbm, ⟨75, _⟩ => ⟨S1x4096x1, .f32⟩
  | .hbm, ⟨76, _⟩ => ⟨S1x4096x256, .f32⟩
  | .hbm, ⟨77, _⟩ => ⟨S1x4096x256, .f32⟩
  | .hbm, ⟨78, _⟩ => ⟨S1x4096x256, .f32⟩
  | .hbm, ⟨79, _⟩ => ⟨S1x4096x1x256, .f32⟩
  | .hbm, ⟨80, _⟩ => ⟨S1x4096x1x256, .f32⟩
  | .hbm, ⟨81, _⟩ => ⟨S1x4096x1x256, .f32⟩
  | .hbm, ⟨82, _⟩ => ⟨S1x4096x1x256, .f32⟩
  | .hbm, ⟨83, _⟩ => ⟨S1x4096x4x256, .f32⟩
  | .hbm, ⟨84, _⟩ => ⟨S1x4096x4x256, .f32⟩
  | .hbm, ⟨85, _⟩ => ⟨S4096x1024, .f32⟩
  | .hbm, ⟨86, _⟩ => ⟨S4096x1024, .bf16⟩
  | .hbm, ⟨87, _⟩ => ⟨S4096x1024, .bf16⟩
  | .hbm, ⟨88, _⟩ => ⟨S4x256x256, .bf16⟩
  | .hbm, ⟨89, _⟩ => ⟨S4096x1024, .bf16⟩
  | .hbm, ⟨90, _⟩ => ⟨S4096x1024, .bf16⟩
  | .hbm, ⟨91, _⟩ => ⟨S4x256x256, .f32⟩
  | .hbm, ⟨92, _⟩ => ⟨S1x1024, .f32⟩
  | .hbm, ⟨93, _⟩ => ⟨S1024x1024, .f32⟩
  | .local _ .vmem, ⟨0, _⟩ => ⟨S4096x256, .bf16⟩
  | .local _ .vmem, ⟨1, _⟩ => ⟨S4096x256, .bf16⟩
  | .local _ .vmem, ⟨2, _⟩ => ⟨S4096x256, .bf16⟩
  | .local _ .vmem, ⟨3, _⟩ => ⟨S4096x256, .bf16⟩
  | .local _ .vmem, ⟨4, _⟩ => ⟨S1x256x256, .bf16⟩
  | .local _ .vmem, ⟨5, _⟩ => ⟨S1x256x256, .bf16⟩
  | .local _ .vmem, ⟨6, _⟩ => ⟨S1x256, .f32⟩
  | .local _ .vmem, ⟨7, _⟩ => ⟨S1x256, .f32⟩
  | .local _ .vmem, ⟨8, _⟩ => ⟨S4096x1024, .bf16⟩
  | .local _ .vmem, ⟨9, _⟩ => ⟨S4096x256, .bf16⟩
  | .local _ .vmem, ⟨10, _⟩ => ⟨S4096x256, .bf16⟩
  | .local _ .vmem, ⟨11, _⟩ => ⟨S1x256x256, .f32⟩
  | .local _ .vmem, ⟨12, _⟩ => ⟨S1x256x256, .f32⟩
  | .local _ .vmem, ⟨13, _⟩ => ⟨S1x256, .f32⟩
  | .local _ .vmem, ⟨14, _⟩ => ⟨S1x256, .f32⟩
  | .local _ .vmem, ⟨15, _⟩ => ⟨S256x1024, .f32⟩
  | .local _ .vmem, ⟨16, _⟩ => ⟨S256x1024, .f32⟩
  | .local _ .vmem, ⟨17, _⟩ => ⟨S16x256, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_call0_call0_cst : Ref sig .tc := ⟨.hbm, 7, rfl⟩
abbrev main_call0_call0_v0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_0 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_2 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_3 : Ref sig .tc := ⟨.hbm, 35, rfl⟩
abbrev main_v24 : Ref sig .tc := ⟨.hbm, 36, rfl⟩
abbrev main_v25 : Ref sig .tc := ⟨.hbm, 37, rfl⟩
abbrev main_cst_4 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_cst_5 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_cst_6 : Ref sig .tc := ⟨.hbm, 52, rfl⟩
abbrev main_v38 : Ref sig .tc := ⟨.hbm, 53, rfl⟩
abbrev main_v39 : Ref sig .tc := ⟨.hbm, 54, rfl⟩
abbrev main_cst_7 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_cst_8 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_cst_9 : Ref sig .tc := ⟨.hbm, 69, rfl⟩
abbrev main_v52 : Ref sig .tc := ⟨.hbm, 70, rfl⟩
abbrev main_v53 : Ref sig .tc := ⟨.hbm, 71, rfl⟩
abbrev main_cst_10 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71_0 : Ref sig .tc := ⟨.hbm, 90, rfl⟩
abbrev main_v71_1 : Ref sig .tc := ⟨.hbm, 91, rfl⟩
abbrev main_v71_2 : Ref sig .tc := ⟨.hbm, 92, rfl⟩
abbrev main_v71_3 : Ref sig .tc := ⟨.hbm, 93, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_scratch0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨2, ![4, 1], ![false, false]⟩

def k0_cond2 (i : grid0.Coords) : BitVec 1 :=
  let arg0 : BitVec 32 := BitVec.ofNat 32 (i 0).val
  let c0_i32_26 : BitVec 32 := 0#32
  let v38 : BitVec 1 := Scalar.cmpi .eq arg0 c0_i32_26
  let v39 : BitVec 32 := Scalar.extui v38
  let c0_i32_27 : BitVec 32 := 0#32
  let v40 : BitVec 1 := Scalar.cmpi .ne v39 c0_i32_27
  v40

def k0_cond3 (i : grid0.Coords) : BitVec 1 :=
  let arg0 : BitVec 32 := BitVec.ofNat 32 (i 0).val
  let c1_i32 : BitVec 32 := 1#32
  let v41 : BitVec 1 := Scalar.cmpi .eq arg0 c1_i32
  let v42 : BitVec 32 := Scalar.extui v41
  let c0_i32_28 : BitVec 32 := 0#32
  let v43 : BitVec 1 := Scalar.cmpi .ne v42 c0_i32_28
  v43

def k0_cond4 (i : grid0.Coords) : BitVec 1 :=
  let arg0 : BitVec 32 := BitVec.ofNat 32 (i 0).val
  let c2_i32 : BitVec 32 := 2#32
  let v44 : BitVec 1 := Scalar.cmpi .eq arg0 c2_i32
  let v45 : BitVec 32 := Scalar.extui v44
  let c0_i32_29 : BitVec 32 := 0#32
  let v46 : BitVec 1 := Scalar.cmpi .ne v45 c0_i32_29
  v46

def k0_cond5 (i : grid0.Coords) : BitVec 1 :=
  let arg0 : BitVec 32 := BitVec.ofNat 32 (i 0).val
  let c3_i32 : BitVec 32 := 3#32
  let v47 : BitVec 1 := Scalar.cmpi .eq arg0 c3_i32
  let v48 : BitVec 32 := Scalar.extui v47
  let c0_i32_30 : BitVec 32 := 0#32
  let v49 : BitVec 1 := Scalar.cmpi .ne v48 c0_i32_30
  v49

def k0_cond1 (i : grid0.Coords) : BitVec 1 :=
  let arg1 : BitVec 32 := BitVec.ofNat 32 (i 1).val
  let c0_i32_0 : BitVec 32 := 0#32
  let v1 : BitVec 1 := Scalar.cmpi .eq arg1 c0_i32_0
  let v2 : BitVec 32 := Scalar.extui v1
  let c0_i32_1 : BitVec 32 := 0#32
  let v3 : BitVec 1 := Scalar.cmpi .ne v2 c0_i32_1
  v3

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.subi c0_i32 arg1
  let c0_i32_0 : BitVec 32 := 0#32
  ![v0.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.subi c0_i32 arg1
  let c0_i32_0 : BitVec 32 := 0#32
  ![v0.toNat, arg0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.subi c0_i32 arg1
  let c0_i32_0 : BitVec 32 := 0#32
  let c0_i32_1 : BitVec 32 := 0#32
  ![v0.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.subi c0_i32 arg1
  let c0_i32_0 : BitVec 32 := 0#32
  ![v0.toNat, arg0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S4096x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4096x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S4096x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, true]

abbrev stage0_5 : Fin 2 → Memref sig .tc .vmem S4096x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== Reference5Ideal.lean ====
abbrev S4096x1024 : Shape := ⟨2, ![4096, 1024]⟩
abbrev S4x256x256 : Shape := ⟨3, ![4, 256, 256]⟩
abbrev S1x1024 : Shape := ⟨2, ![1, 1024]⟩
abbrev S1x4096x1024 : Shape := ⟨3, ![1, 4096, 1024]⟩
abbrev S1x4096x4x256 : Shape := ⟨4, ![1, 4096, 4, 256]⟩
abbrev S_ : Shape := ⟨0, ![]⟩
abbrev S4096 : Shape := ⟨1, ![4096]⟩
abbrev S1x4096x1x256 : Shape := ⟨4, ![1, 4096, 1, 256]⟩
abbrev S1x4096x256 : Shape := ⟨3, ![1, 4096, 256]⟩
abbrev S1x2x256 : Shape := ⟨3, ![1, 2, 256]⟩
abbrev S1x4094x256 : Shape := ⟨3, ![1, 4094, 256]⟩
abbrev S1x4096x1 : Shape := ⟨3, ![1, 4096, 1]⟩
abbrev S1x4x256 : Shape := ⟨3, ![1, 4, 256]⟩
abbrev S1x4092x256 : Shape := ⟨3, ![1, 4092, 256]⟩
abbrev S1x8x256 : Shape := ⟨3, ![1, 8, 256]⟩
abbrev S1x4088x256 : Shape := ⟨3, ![1, 4088, 256]⟩
abbrev S1x16x256 : Shape := ⟨3, ![1, 16, 256]⟩
abbrev S1x4080x256 : Shape := ⟨3, ![1, 4080, 256]⟩
abbrev S4x256x1x4096 : Shape := ⟨4, ![4, 256, 1, 4096]⟩
abbrev S1x1x1024 : Shape := ⟨3, ![1, 1, 1024]⟩
abbrev S1024 : Shape := ⟨1, ![1024]⟩
abbrev S4x1x4096x256 : Shape := ⟨4, ![4, 1, 4096, 256]⟩
abbrev S1024x4096 : Shape := ⟨2, ![1024, 4096]⟩
abbrev S1024x1024 : Shape := ⟨2, ![1024, 1024]⟩

abbrev nBuf : Space → Nat
  | .hbm => 181
  | .vmem => 0
  | .smem => 0
  | _ => 0

abbrev hbmTy0_0 (i : Nat) : BufTy := match i % 128 with
  | 0 => ⟨S4096x1024, .f32⟩
  | 1 => ⟨S4096x1024, .f32⟩
  | 2 => ⟨S4x256x256, .f32⟩
  | 3 => ⟨S1x1024, .f32⟩
  | 4 => ⟨S4096x1024, .f32⟩
  | 5 => ⟨S1x4096x1024, .f32⟩
  | 6 => ⟨S1x4096x4x256, .f32⟩
  | 7 => ⟨S_, .f32⟩
  | 8 => ⟨S_, .f32⟩
  | 9 => ⟨S1x4096x4x256, .f32⟩
  | 10 => ⟨S4096, .f32⟩
  | 11 => ⟨S1x4096x1x256, .f32⟩
  | 12 => ⟨S1x4096x256, .f32⟩
  | 13 => ⟨S1x2x256, .f32⟩
  | 14 => ⟨S_, .f32⟩
  | 15 => ⟨S1x2x256, .f32⟩
  | 16 => ⟨S1x4094x256, .f32⟩
  | 17 => ⟨S1x4096x256, .f32⟩
  | 18 => ⟨S_, .f32⟩
  | 19 => ⟨S1x2x256, .f32⟩
  | 20 => ⟨S_, .f32⟩
  | 21 => ⟨S4096, .f32⟩
  | 22 => ⟨S4096, .f32⟩
  | 23 => ⟨S_, .f32⟩
  | 24 => ⟨S4096, .f32⟩
  | 25 => ⟨S4096, .f32⟩
  | 26 => ⟨S1x4096x1, .f32⟩
  | 27 => ⟨S1x4096x256, .f32⟩
  | 28 => ⟨S1x4096x256, .f32⟩
  | 29 => ⟨S1x4096x256, .f32⟩
  | 30 => ⟨S1x4096x1x256, .f32⟩
  | 31 => ⟨S1x4096x256, .f32⟩
  | 32 => ⟨S1x4x256, .f32⟩
  | 33 => ⟨S_, .f32⟩
  | 34 => ⟨S1x4x256, .f32⟩
  | 35 => ⟨S1x4092x256, .f32⟩
  | 36 => ⟨S1x4096x256, .f32⟩
  | 37 => ⟨S_, .f32⟩
  | 38 => ⟨S1x4x256, .f32⟩
  | 39 => ⟨S_, .f32⟩
  | 40 => ⟨S4096, .f32⟩
  | 41 => ⟨S4096, .f32⟩
  | 42 => ⟨S_, .f32⟩
  | 43 => ⟨S4096, .f32⟩
  | 44 => ⟨S4096, .f32⟩
  | 45 => ⟨S1x4096x1, .f32⟩
  | 46 => ⟨S1x4096x256, .f32⟩
  | 47 => ⟨S1x4096x256, .f32⟩
  | 48 => ⟨S1x4096x256, .f32⟩
  | 49 => ⟨S1x4096x1x256, .f32⟩
  | 50 => ⟨S1x4096x256, .f32⟩
  | 51 => ⟨S1x8x256, .f32⟩
  | 52 => ⟨S_, .f32⟩
  | 53 => ⟨S1x8x256, .f32⟩
  | 54 => ⟨S1x4088x256, .f32⟩
  | 55 => ⟨S1x4096x256, .f32⟩
  | 56 => ⟨S_, .f32⟩
  | 57 => ⟨S1x8x256, .f32⟩
  | 58 => ⟨S_, .f32⟩
  | 59 => ⟨S4096, .f32⟩
  | 60 => ⟨S4096, .f32⟩
  | 61 => ⟨S_, .f32⟩
  | 62 => ⟨S4096, .f32⟩
  | 63 => ⟨S4096, .f32⟩
  | 64 => ⟨S1x4096x1, .f32⟩
  | 65 => ⟨S1x4096x256, .f32⟩
  | 66 => ⟨S1x4096x256, .f32⟩
  | 67 => ⟨S1x4096x256, .f32⟩
  | 68 => ⟨S1x4096x1x256, .f32⟩
  | 69 => ⟨S1x4096x256, .f32⟩
  | 70 => ⟨S1x16x256, .f32⟩
  | 71 => ⟨S_, .f32⟩
  | 72 => ⟨S1x16x256, .f32⟩
  | 73 => ⟨S1x4080x256, .f32⟩
  | 74 => ⟨S1x4096x256, .f32⟩
  | 75 => ⟨S_, .f32⟩
  | 76 => ⟨S1x16x256, .f32⟩
  | 77 => ⟨S_, .f32⟩
  | 78 => ⟨S4096, .f32⟩
  | 79 => ⟨S4096, .f32⟩
  | 80 => ⟨S_, .f32⟩
  | 81 => ⟨S4096, .f32⟩
  | 82 => ⟨S4096, .f32⟩
  | 83 => ⟨S1x4096x1, .f32⟩
  | 84 => ⟨S1x4096x256, .f32⟩
  | 85 => ⟨S1x4096x256, .f32⟩
  | 86 => ⟨S1x4096x256, .f32⟩
  | 87 => ⟨S1x4096x1x256, .f32⟩
  | 88 => ⟨S1x4096x1x256, .f32⟩
  | 89 => ⟨S1x4096x1x256, .f32⟩
  | 90 => ⟨S1x4096x1x256, .f32⟩
  | 91 => ⟨S1x4096x4x256, .f32⟩
  | 92 => ⟨S1x4096x4x256, .f32⟩
  | 93 => ⟨S4x256x1x4096, .f32⟩
  | 94 => ⟨S1x4096x4x256, .f32⟩
  | 95 => ⟨S1x4096x1024, .f32⟩
  | 96 => ⟨S1x1x1024, .f32⟩
  | 97 => ⟨S1x4096x1024, .f32⟩
  | 98 => ⟨S1x4096x1024, .f32⟩
  | 99 => ⟨S1x4096x1024, .f32⟩
  | 100 => ⟨S1x4096x1024, .f32⟩
  | 101 => ⟨S_, .f32⟩
  | 102 => ⟨S1x1024, .f32⟩
  | 103 => ⟨S1x1x1024, .f32⟩
  | 104 => ⟨S1x4096x1024, .f32⟩
  | 105 => ⟨S1x4096x1024, .f32⟩
  | 106 => ⟨S_, .f32⟩
  | 107 => ⟨S1024, .f32⟩
  | 108 => ⟨S1x1024, .f32⟩
  | 109 => ⟨S1x4096x4x256, .f32⟩
  | 110 => ⟨S4x256x1x4096, .f32⟩
  | 111 => ⟨S4x1x4096x256, .f32⟩
  | 112 => ⟨S1x4096x4x256, .f32⟩
  | 113 => ⟨S4x256x256, .f32⟩
  | 114 => ⟨S4x256x256, .f32⟩
  | 115 => ⟨S1x4096x4x256, .f32⟩
  | 116 => ⟨S1x4096x1x256, .f32⟩
  | 117 => ⟨S1x4096x256, .f32⟩
  | 118 => ⟨S1x4096x1x256, .f32⟩
  | 119 => ⟨S1x4096x256, .f32⟩
  | 120 => ⟨S1x4096x1x256, .f32⟩
  | 121 => ⟨S1x4096x256, .f32⟩
  | 122 => ⟨S1x4096x1x256, .f32⟩
  | 123 => ⟨S1x4096x256, .f32⟩
  | 124 => ⟨S1x4096x256, .f32⟩
  | 125 => ⟨S1x4096x256, .f32⟩
  | 126 => ⟨S1x4096x256, .f32⟩
  | 127 => ⟨S1x16x256, .f32⟩
  | _ => ⟨S4096x1024, .f32⟩

abbrev hbmTy0_1 (i : Nat) : BufTy := match i % 128 with
  | 0 => ⟨S1x4080x256, .f32⟩
  | 1 => ⟨S_, .f32⟩
  | 2 => ⟨S1x4096x256, .f32⟩
  | 3 => ⟨S1x4096x256, .f32⟩
  | 4 => ⟨S1x4096x1x256, .f32⟩
  | 5 => ⟨S_, .f32⟩
  | 6 => ⟨S1x4096x4x256, .f32⟩
  | 7 => ⟨S1x4096x256, .f32⟩
  | 8 => ⟨S1x4096x256, .f32⟩
  | 9 => ⟨S1x4096x256, .f32⟩
  | 10 => ⟨S1x8x256, .f32⟩
  | 11 => ⟨S1x4088x256, .f32⟩
  | 12 => ⟨S_, .f32⟩
  | 13 => ⟨S1x4096x256, .f32⟩
  | 14 => ⟨S1x4096x256, .f32⟩
  | 15 => ⟨S1x4096x1x256, .f32⟩
  | 16 => ⟨S_, .f32⟩
  | 17 => ⟨S1x4096x4x256, .f32⟩
  | 18 => ⟨S1x4096x4x256, .f32⟩
  | 19 => ⟨S1x4096x256, .f32⟩
  | 20 => ⟨S1x4096x256, .f32⟩
  | 21 => ⟨S1x4096x256, .f32⟩
  | 22 => ⟨S1x4x256, .f32⟩
  | 23 => ⟨S1x4092x256, .f32⟩
  | 24 => ⟨S_, .f32⟩
  | 25 => ⟨S1x4096x256, .f32⟩
  | 26 => ⟨S1x4096x256, .f32⟩
  | 27 => ⟨S1x4096x1x256, .f32⟩
  | 28 => ⟨S_, .f32⟩
  | 29 => ⟨S1x4096x4x256, .f32⟩
  | 30 => ⟨S1x4096x4x256, .f32⟩
  | 31 => ⟨S1x4096x256, .f32⟩
  | 32 => ⟨S1x4096x256, .f32⟩
  | 33 => ⟨S1x4096x256, .f32⟩
  | 34 => ⟨S1x2x256, .f32⟩
  | 35 => ⟨S1x4094x256, .f32⟩
  | 36 => ⟨S_, .f32⟩
  | 37 => ⟨S1x4096x256, .f32⟩
  | 38 => ⟨S1x4096x256, .f32⟩
  | 39 => ⟨S1x4096x1x256, .f32⟩
  | 40 => ⟨S_, .f32⟩
  | 41 => ⟨S1x4096x4x256, .f32⟩
  | 42 => ⟨S1x4096x4x256, .f32⟩
  | 43 => ⟨S_, .f32⟩
  | 44 => ⟨S_, .f32⟩
  | 45 => ⟨S1x4096x4x256, .f32⟩
  | 46 => ⟨S1x4096x4x256, .f32⟩
  | 47 => ⟨S1x4096x1024, .f32⟩
  | 48 => ⟨S4096x1024, .f32⟩
  | 49 => ⟨S4096x1024, .bf16⟩
  | 50 => ⟨S4096x1024, .f32⟩
  | 51 => ⟨S1024x4096, .f32⟩
  | 52 => ⟨S1024x1024, .f32⟩
  | _ => ⟨S4096x1024, .f32⟩

abbrev hbmTy (i : Nat) : BufTy := match i / 128 with
  | 0 => hbmTy0_0 i
  | 1 => hbmTy0_1 i
  | _ => ⟨S4096x1024, .f32⟩

abbrev bufTy : (tb : Table) → Fin (tcTables nBuf tb) → BufTy
  | .hbm, ⟨i, _⟩ => hbmTy i
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_call0_call0_cst : Ref sig .tc := ⟨.hbm, 7, rfl⟩
abbrev main_call0_call0_v0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_0 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_cst_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_3 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_4 : Ref sig .tc := ⟨.hbm, 37, rfl⟩
abbrev main_v25 : Ref sig .tc := ⟨.hbm, 38, rfl⟩
abbrev main_cst_5 : Ref sig .tc := ⟨.hbm, 39, rfl⟩
abbrev main_v26 : Ref sig .tc := ⟨.hbm, 40, rfl⟩
abbrev main_v27 : Ref sig .tc := ⟨.hbm, 41, rfl⟩
abbrev main_cst_6 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_cst_7 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_cst_8 : Ref sig .tc := ⟨.hbm, 56, rfl⟩
abbrev main_v40 : Ref sig .tc := ⟨.hbm, 57, rfl⟩
abbrev main_cst_9 : Ref sig .tc := ⟨.hbm, 58, rfl⟩
abbrev main_v41 : Ref sig .tc := ⟨.hbm, 59, rfl⟩
abbrev main_v42 : Ref sig .tc := ⟨.hbm, 60, rfl⟩
abbrev main_cst_10 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_cst_11 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_cst_12 : Ref sig .tc := ⟨.hbm, 75, rfl⟩
abbrev main_v55 : Ref sig .tc := ⟨.hbm, 76, rfl⟩
abbrev main_cst_13 : Ref sig .tc := ⟨.hbm, 77, rfl⟩
abbrev main_v56 : Ref sig .tc := ⟨.hbm, 78, rfl⟩
abbrev main_v57 : Ref sig .tc := ⟨.hbm, 79, rfl⟩
abbrev main_cst_14 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_cst_15 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_cst_16 : Ref sig .tc := ⟨.hbm, 106, rfl⟩
abbrev main_v82 : Ref sig .tc := ⟨.hbm, 107, rfl⟩
abbrev main_v83 : Ref sig .tc := ⟨.hbm, 108, rfl⟩
abbrev main_v84 : Ref sig .tc := ⟨.hbm, 109, rfl⟩
abbrev main_v85 : Ref sig .tc := ⟨.hbm, 110, rfl⟩
abbrev main_v86 : Ref sig .tc := ⟨.hbm, 111, rfl⟩
abbrev main_v87 : Ref sig .tc := ⟨.hbm, 112, rfl⟩
abbrev main_v88 : Ref sig .tc := ⟨.hbm, 113, rfl⟩
abbrev main_v89 : Ref sig .tc := ⟨.hbm, 114, rfl⟩
abbrev main_v90 : Ref sig .tc := ⟨.hbm, 115, rfl⟩
abbrev main_v91 : Ref sig .tc := ⟨.hbm, 116, rfl⟩
abbrev main_v92 : Ref sig .tc := ⟨.hbm, 117, rfl⟩
abbrev main_v93 : Ref sig .tc := ⟨.hbm, 118, rfl⟩
abbrev main_v94 : Ref sig .tc := ⟨.hbm, 119, rfl⟩
abbrev main_v95 : Ref sig .tc := ⟨.hbm, 120, rfl⟩
abbrev main_v96 : Ref sig .tc := ⟨.hbm, 121, rfl⟩
abbrev main_v97 : Ref sig .tc := ⟨.hbm, 122, rfl⟩
abbrev main_v98 : Ref sig .tc := ⟨.hbm, 123, rfl⟩
abbrev main_v99 : Ref sig .tc := ⟨.hbm, 124, rfl⟩
abbrev main_v100 : Ref sig .tc := ⟨.hbm, 125, rfl⟩
abbrev main_v101 : Ref sig .tc := ⟨.hbm, 126, rfl⟩
abbrev main_v102 : Ref sig .tc := ⟨.hbm, 127, rfl⟩
abbrev main_v103 : Ref sig .tc := ⟨.hbm, 128, rfl⟩
abbrev main_cst_17 : Ref sig .tc := ⟨.hbm, 129, rfl⟩
abbrev main_v104 : Ref sig .tc := ⟨.hbm, 130, rfl⟩
abbrev main_v105 : Ref sig .tc := ⟨.hbm, 131, rfl⟩
abbrev main_v106 : Ref sig .tc := ⟨.hbm, 132, rfl⟩
abbrev main_cst_18 : Ref sig .tc := ⟨.hbm, 133, rfl⟩
abbrev main_v107 : Ref sig .tc := ⟨.hbm, 134, rfl⟩
abbrev main_v108 : Ref sig .tc := ⟨.hbm, 135, rfl⟩
abbrev main_v109 : Ref sig .tc := ⟨.hbm, 136, rfl⟩
abbrev main_v110 : Ref sig .tc := ⟨.hbm, 137, rfl⟩
abbrev main_v111 : Ref sig .tc := ⟨.hbm, 138, rfl⟩
abbrev main_v112 : Ref sig .tc := ⟨.hbm, 139, rfl⟩
abbrev main_cst_19 : Ref sig .tc := ⟨.hbm, 140, rfl⟩
abbrev main_v113 : Ref sig .tc := ⟨.hbm, 141, rfl⟩
abbrev main_v114 : Ref sig .tc := ⟨.hbm, 142, rfl⟩
abbrev main_v115 : Ref sig .tc := ⟨.hbm, 143, rfl⟩
abbrev main_cst_20 : Ref sig .tc := ⟨.hbm, 144, rfl⟩
abbrev main_v116 : Ref sig .tc := ⟨.hbm, 145, rfl⟩
abbrev main_v117 : Ref sig .tc := ⟨.hbm, 146, rfl⟩
abbrev main_v118 : Ref sig .tc := ⟨.hbm, 147, rfl⟩
abbrev main_v119 : Ref sig .tc := ⟨.hbm, 148, rfl⟩
abbrev main_v120 : Ref sig .tc := ⟨.hbm, 149, rfl⟩
abbrev main_v121 : Ref sig .tc := ⟨.hbm, 150, rfl⟩
abbrev main_v122 : Ref sig .tc := ⟨.hbm, 151, rfl⟩
abbrev main_cst_21 : Ref sig .tc := ⟨.hbm, 152, rfl⟩
abbrev main_v123 : Ref sig .tc := ⟨.hbm, 153, rfl⟩
abbrev main_v124 : Ref sig .tc := ⟨.hbm, 154, rfl⟩
abbrev main_v125 : Ref sig .tc := ⟨.hbm, 155, rfl⟩
abbrev main_cst_22 : Ref sig .tc := ⟨.hbm, 156, rfl⟩
abbrev main_v126 : Ref sig .tc := ⟨.hbm, 157, rfl⟩
abbrev main_v127 : Ref sig .tc := ⟨.hbm, 158, rfl⟩
abbrev main_v128 : Ref sig .tc := ⟨.hbm, 159, rfl⟩
abbrev main_v129 : Ref sig .tc := ⟨.hbm, 160, rfl⟩
abbrev main_v130 : Ref sig .tc := ⟨.hbm, 161, rfl⟩
abbrev main_v131 : Ref sig .tc := ⟨.hbm, 162, rfl⟩
abbrev main_v132 : Ref sig .tc := ⟨.hbm, 163, rfl⟩
abbrev main_cst_23 : Ref sig .tc := ⟨.hbm, 164, rfl⟩
abbrev main_v133 : Ref sig .tc := ⟨.hbm, 165, rfl⟩
abbrev main_v134 : Ref sig .tc := ⟨.hbm, 166, rfl⟩
abbrev main_v135 : Ref sig .tc := ⟨.hbm, 167, rfl⟩
abbrev main_cst_24 : Ref sig .tc := ⟨.hbm, 168, rfl⟩
abbrev main_v136 : Ref sig .tc := ⟨.hbm, 169, rfl⟩
abbrev main_v137 : Ref sig .tc := ⟨.hbm, 170, rfl⟩
abbrev main_call1_call0_cst : Ref sig .tc := ⟨.hbm, 171, rfl⟩
abbrev main_call1_call0_v0 : Ref sig .tc := ⟨.hbm, 172, rfl⟩
abbrev main_v138 : Ref sig .tc := ⟨.hbm, 173, rfl⟩
abbrev main_v139 : Ref sig .tc := ⟨.hbm, 174, rfl⟩
abbrev main_v140 : Ref sig .tc := ⟨.hbm, 175, rfl⟩
abbrev main_v141 : Ref sig .tc := ⟨.hbm, 176, rfl⟩
abbrev main_v142 : Ref sig .tc := ⟨.hbm, 177, rfl⟩
abbrev main_v143 : Ref sig .tc := ⟨.hbm, 178, rfl⟩
abbrev main_v144 : Ref sig .tc := ⟨.hbm, 179, rfl⟩
abbrev main_v145 : Ref sig .tc := ⟨.hbm, 180, rfl⟩

abbrev nD : Nat := 1
abbrev τ : Topo := Topo.v7x

variable {F : FTy → Type} [FloatOps F]
-- ==== Kernel6.lean ====
abbrev S4096x2816 : Shape := ⟨2, ![4096, 2816]⟩
abbrev S4096x1024 : Shape := ⟨2, ![4096, 1024]⟩
abbrev S2816x1024 : Shape := ⟨2, ![2816, 1024]⟩
abbrev S2048x2816 : Shape := ⟨2, ![2048, 2816]⟩
abbrev S2048x512 : Shape := ⟨2, ![2048, 512]⟩
abbrev S2816x512 : Shape := ⟨2, ![2816, 512]⟩

abbrev nBuf : Space → Nat
  | .hbm => 5
  | .vmem => 6
  | .smem => 0
  | _ => 0

abbrev bufTy : (tb : Table) → Fin (tcTables nBuf tb) → BufTy
  | .hbm, ⟨0, _⟩ => ⟨S4096x2816, .f32⟩
  | .hbm, ⟨1, _⟩ => ⟨S4096x1024, .f32⟩
  | .hbm, ⟨2, _⟩ => ⟨S4096x2816, .bf16⟩
  | .hbm, ⟨3, _⟩ => ⟨S4096x1024, .bf16⟩
  | .hbm, ⟨4, _⟩ => ⟨S2816x1024, .f32⟩
  | .local _ .vmem, ⟨0, _⟩ => ⟨S2048x2816, .bf16⟩
  | .local _ .vmem, ⟨1, _⟩ => ⟨S2048x2816, .bf16⟩
  | .local _ .vmem, ⟨2, _⟩ => ⟨S2048x512, .bf16⟩
  | .local _ .vmem, ⟨3, _⟩ => ⟨S2048x512, .bf16⟩
  | .local _ .vmem, ⟨4, _⟩ => ⟨S2816x512, .f32⟩
  | .local _ .vmem, ⟨5, _⟩ => ⟨S2816x512, .f32⟩
  | _, _ => ⟨S4096x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 2], ![false, false]⟩

def k0_cond1 (i : grid0.Coords) : BitVec 1 :=
  let arg1 : BitVec 32 := BitVec.ofNat 32 (i 1).val
  let c0_i32 : BitVec 32 := 0#32
  let v5 : BitVec 1 := Scalar.cmpi .eq arg1 c0_i32
  let v6 : BitVec 32 := Scalar.extui v5
  let c0_i32_3 : BitVec 32 := 0#32
  let v7 : BitVec 1 := Scalar.cmpi .ne v6 c0_i32_3
  v7

def k0_cond2 (i : grid0.Coords) : BitVec 1 :=
  let arg1 : BitVec 32 := BitVec.ofNat 32 (i 1).val
  let c0_i32_4 : BitVec 32 := 0#32
  let v8 : BitVec 1 := Scalar.cmpi .sgt arg1 c0_i32_4
  let v9 : BitVec 32 := Scalar.extui v8
  let c0_i32_5 : BitVec 32 := 0#32
  let v10 : BitVec 1 := Scalar.cmpi .ne v9 c0_i32_5
  v10

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S2048x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2816x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference6Ideal.lean ====
abbrev S4096x2816 : Shape := ⟨2, ![4096, 2816]⟩
abbrev S4096x1024 : Shape := ⟨2, ![4096, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 7
  | .vmem => 0
  | .smem => 0
  | _ => 0

abbrev bufTy : (tb : Table) → Fin (tcTables nBuf tb) → BufTy
  | .hbm, ⟨0, _⟩ => ⟨S4096x2816, .f32⟩
  | .hbm, ⟨1, _⟩ => ⟨S4096x1024, .f32⟩
  | .hbm, ⟨2, _⟩ => ⟨S_, .f32⟩
  | .hbm, ⟨3, _⟩ => ⟨S2816x1024, .f32⟩
  | .hbm, ⟨4, _⟩ => ⟨S4096x1024, .f32⟩
  | .hbm, ⟨5, _⟩ => ⟨S1024x2816, .f32⟩
  | .hbm, ⟨6, _⟩ => ⟨S2816x1024, .f32⟩
  | _, _ => ⟨S4096x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel7.lean ====
abbrev S4096x1024 : Shape := ⟨2, ![4096, 1024]⟩
abbrev S4096x1280 : Shape := ⟨2, ![4096, 1280]⟩
abbrev S1280x1024 : Shape := ⟨2, ![1280, 1024]⟩
abbrev S2048x1280 : Shape := ⟨2, ![2048, 1280]⟩
abbrev S2048x1024 : Shape := ⟨2, ![2048, 1024]⟩

abbrev nBuf : Space → Nat
  | .hbm => 5
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S4096x1280, .f32⟩
  | .hbm, ⟨2, _⟩ => ⟨S4096x1280, .bf16⟩
  | .hbm, ⟨3, _⟩ => ⟨S4096x1024, .bf16⟩
  | .hbm, ⟨4, _⟩ => ⟨S1280x1024, .f32⟩
  | .local _ .vmem, ⟨0, _⟩ => ⟨S2048x1280, .bf16⟩
  | .local _ .vmem, ⟨1, _⟩ => ⟨S2048x1280, .bf16⟩
  | .local _ .vmem, ⟨2, _⟩ => ⟨S2048x1024, .bf16⟩
  | .local _ .vmem, ⟨3, _⟩ => ⟨S2048x1024, .bf16⟩
  | .local _ .vmem, ⟨4, _⟩ => ⟨S1280x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![1, 2], ![false, false]⟩

def k0_cond1 (i : grid0.Coords) : BitVec 1 :=
  let arg1 : BitVec 32 := BitVec.ofNat 32 (i 1).val
  let c0_i32 : BitVec 32 := 0#32
  let v5 : BitVec 1 := Scalar.cmpi .eq arg1 c0_i32
  let v6 : BitVec 32 := Scalar.extui v5
  let c0_i32_3 : BitVec 32 := 0#32
  let v7 : BitVec 1 := Scalar.cmpi .ne v6 c0_i32_3
  v7

def k0_cond2 (i : grid0.Coords) : BitVec 1 :=
  let arg1 : BitVec 32 := BitVec.ofNat 32 (i 1).val
  let c0_i32_4 : BitVec 32 := 0#32
  let v8 : BitVec 1 := Scalar.cmpi .sgt arg1 c0_i32_4
  let v9 : BitVec 32 := Scalar.extui v8
  let c0_i32_5 : BitVec 32 := 0#32
  let v10 : BitVec 1 := Scalar.cmpi .ne v9 c0_i32_5
  v10

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S2048x1280 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1280x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]
-- ==== Reference7Ideal.lean ====
abbrev S4096x1024 : Shape := ⟨2, ![4096, 1024]⟩
abbrev S4096x1280 : Shape := ⟨2, ![4096, 1280]⟩
abbrev S_ : Shape := ⟨0, ![]⟩
abbrev S1024x1280 : Shape := ⟨2, ![1024, 1280]⟩
abbrev S1280x1024 : Shape := ⟨2, ![1280, 1024]⟩

abbrev nBuf : Space → Nat
  | .hbm => 8
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1280, .f32⟩
  | .hbm, ⟨2, _⟩ => ⟨S_, .f32⟩
  | .hbm, ⟨3, _⟩ => ⟨S1024x1280, .f32⟩
  | .hbm, ⟨4, _⟩ => ⟨S4096x1280, .f32⟩
  | .hbm, ⟨5, _⟩ => ⟨S1280x1024, .f32⟩
  | .hbm, ⟨6, _⟩ => ⟨S1024x1280, .f32⟩
  | .hbm, ⟨7, _⟩ => ⟨S1280x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel8.lean ====
abbrev S4096x1024 : Shape := ⟨2, ![4096, 1024]⟩
abbrev S4096x2048 : Shape := ⟨2, ![4096, 2048]⟩
abbrev S2048x1024 : Shape := ⟨2, ![2048, 1024]⟩
abbrev S2048x2048 : Shape := ⟨2, ![2048, 2048]⟩

abbrev nBuf : Space → Nat
  | .hbm => 5
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S4096x2048, .f32⟩
  | .hbm, ⟨2, _⟩ => ⟨S4096x2048, .bf16⟩
  | .hbm, ⟨3, _⟩ => ⟨S4096x1024, .bf16⟩
  | .hbm, ⟨4, _⟩ => ⟨S2048x1024, .f32⟩
  | .local _ .vmem, ⟨0, _⟩ => ⟨S2048x2048, .bf16⟩
  | .local _ .vmem, ⟨1, _⟩ => ⟨S2048x2048, .bf16⟩
  | .local _ .vmem, ⟨2, _⟩ => ⟨S2048x1024, .bf16⟩
  | .local _ .vmem, ⟨3, _⟩ => ⟨S2048x1024, .bf16⟩
  | .local _ .vmem, ⟨4, _⟩ => ⟨S2048x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![1, 2], ![false, false]⟩

def k0_cond1 (i : grid0.Coords) : BitVec 1 :=
  let arg1 : BitVec 32 := BitVec.ofNat 32 (i 1).val
  let c0_i32 : BitVec 32 := 0#32
  let v5 : BitVec 1 := Scalar.cmpi .eq arg1 c0_i32
  let v6 : BitVec 32 := Scalar.extui v5
  let c0_i32_3 : BitVec 32 := 0#32
  let v7 : BitVec 1 := Scalar.cmpi .ne v6 c0_i32_3
  v7

def k0_cond2 (i : grid0.Coords) : BitVec 1 :=
  let arg1 : BitVec 32 := BitVec.ofNat 32 (i 1).val
  let c0_i32_4 : BitVec 32 := 0#32
  let v8 : BitVec 1 := Scalar.cmpi .sgt arg1 c0_i32_4
  let v9 : BitVec 32 := Scalar.extui v8
  let c0_i32_5 : BitVec 32 := 0#32
  let v10 : BitVec 1 := Scalar.cmpi .ne v9 c0_i32_5
  v10

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S2048x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]
-- ==== Reference8Ideal.lean ====
abbrev S4096x1024 : Shape := ⟨2, ![4096, 1024]⟩
abbrev S4096x2048 : Shape := ⟨2, ![4096, 2048]⟩
abbrev S_ : Shape := ⟨0, ![]⟩
abbrev S1024x2048 : Shape := ⟨2, ![1024, 2048]⟩
abbrev S2048x1024 : Shape := ⟨2, ![2048, 1024]⟩

abbrev nBuf : Space → Nat
  | .hbm => 8
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x2048, .f32⟩
  | .hbm, ⟨2, _⟩ => ⟨S_, .f32⟩
  | .hbm, ⟨3, _⟩ => ⟨S1024x2048, .f32⟩
  | .hbm, ⟨4, _⟩ => ⟨S4096x2048, .f32⟩
  | .hbm, ⟨5, _⟩ => ⟨S2048x1024, .f32⟩
  | .hbm, ⟨6, _⟩ => ⟨S1024x2048, .f32⟩
  | .hbm, ⟨7, _⟩ => ⟨S2048x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel9.lean ====
abbrev S4096x1024 : Shape := ⟨2, ![4096, 1024]⟩
abbrev S4096x2816 : Shape := ⟨2, ![4096, 2816]⟩
abbrev S4x1024x1408 : Shape := ⟨3, ![4, 1024, 1408]⟩
abbrev S2048x1024 : Shape := ⟨2, ![2048, 1024]⟩
abbrev S2048x1408 : Shape := ⟨2, ![2048, 1408]⟩
abbrev S1x1024x1408 : Shape := ⟨3, ![1, 1024, 1408]⟩
abbrev S1024x1408 : Shape := ⟨2, ![1024, 1408]⟩

abbrev nBuf : Space → Nat
  | .hbm => 6
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S4096x2816, .f32⟩
  | .hbm, ⟨2, _⟩ => ⟨S4x1024x1408, .f32⟩
  | .hbm, ⟨3, _⟩ => ⟨S4096x1024, .bf16⟩
  | .hbm, ⟨4, _⟩ => ⟨S4096x2816, .bf16⟩
  | .hbm, ⟨5, _⟩ => ⟨S4x1024x1408, .f32⟩
  | .local _ .vmem, ⟨0, _⟩ => ⟨S2048x1024, .bf16⟩
  | .local _ .vmem, ⟨1, _⟩ => ⟨S2048x1024, .bf16⟩
  | .local _ .vmem, ⟨2, _⟩ => ⟨S2048x1408, .bf16⟩
  | .local _ .vmem, ⟨3, _⟩ => ⟨S2048x1408, .bf16⟩
  | .local _ .vmem, ⟨4, _⟩ => ⟨S1x1024x1408, .f32⟩
  | .local _ .vmem, ⟨5, _⟩ => ⟨S1x1024x1408, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 2], ![false, false]⟩

def k0_cond1 (i : grid0.Coords) : BitVec 1 :=
  let arg1 : BitVec 32 := BitVec.ofNat 32 (i 1).val
  let c0_i32 : BitVec 32 := 0#32
  let v6 : BitVec 1 := Scalar.cmpi .eq arg1 c0_i32
  let v7 : BitVec 32 := Scalar.extui v6
  let c0_i32_3 : BitVec 32 := 0#32
  let v8 : BitVec 1 := Scalar.cmpi .ne v7 c0_i32_3
  v8

def k0_cond2 (i : grid0.Coords) : BitVec 1 :=
  let arg1 : BitVec 32 := BitVec.ofNat 32 (i 1).val
  let c0_i32_4 : BitVec 32 := 0#32
  let v9 : BitVec 1 := Scalar.cmpi .sgt arg1 c0_i32_4
  let v10 : BitVec 32 := Scalar.extui v9
  let c0_i32_5 : BitVec 32 := 0#32
  let v11 : BitVec 1 := Scalar.cmpi .ne v10 c0_i32_5
  v11

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.addi arg0 c2_i32
  let c0_i32 : BitVec 32 := 0#32
  let c0_i32_0 : BitVec 32 := 0#32
  let c0_i32_1 : BitVec 32 := 0#32
  ![v0.toNat, c0_i32.toNat, c0_i32_0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference9Ideal.lean ====
abbrev S4096x1024 : Shape := ⟨2, ![4096, 1024]⟩
abbrev S4096x2816 : Shape := ⟨2, ![4096, 2816]⟩
abbrev S4x1024x1408 : Shape := ⟨3, ![4, 1024, 1408]⟩
abbrev S_ : Shape := ⟨0, ![]⟩
abbrev S1024x2816 : Shape := ⟨2, ![1024, 2816]⟩
abbrev S2816x1024 : Shape := ⟨2, ![2816, 1024]⟩
abbrev S2x1024x1408 : Shape := ⟨3, ![2, 1024, 1408]⟩
abbrev S1024x2x1408 : Shape := ⟨3, ![1024, 2, 1408]⟩

abbrev nBuf : Space → Nat
  | .hbm => 12
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x2816, .f32⟩
  | .hbm, ⟨2, _⟩ => ⟨S4x1024x1408, .f32⟩
  | .hbm, ⟨3, _⟩ => ⟨S_, .f32⟩
  | .hbm, ⟨4, _⟩ => ⟨S1024x2816, .f32⟩
  | .hbm, ⟨5, _⟩ => ⟨S4096x2816, .f32⟩
  | .hbm, ⟨6, _⟩ => ⟨S2816x1024, .f32⟩
  | .hbm, ⟨7, _⟩ => ⟨S1024x2816, .f32⟩
  | .hbm, ⟨8, _⟩ => ⟨S2x1024x1408, .f32⟩
  | .hbm, ⟨9, _⟩ => ⟨S1024x2x1408, .f32⟩
  | .hbm, ⟨10, _⟩ => ⟨S2x1024x1408, .f32⟩
  | .hbm, ⟨11, _⟩ => ⟨S4x1024x1408, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]
-- ==== Kernel10.lean ====
abbrev S4096x2816 : Shape := ⟨2, ![4096, 2816]⟩
abbrev S2816x1024 : Shape := ⟨2, ![2816, 1024]⟩
abbrev S4096x1024 : Shape := ⟨2, ![4096, 1024]⟩
abbrev S8x128 : Shape := ⟨2, ![8, 128]⟩
abbrev S512x2816 : Shape := ⟨2, ![512, 2816]⟩
abbrev S512x1024 : Shape := ⟨2, ![512, 1024]⟩
abbrev S64x8x1024 : Shape := ⟨3, ![64, 8, 1024]⟩
abbrev S8x1024 : Shape := ⟨2, ![8, 1024]⟩

abbrev nBuf : Space → Nat
  | .hbm => 9
  | .vmem => 12
  | .smem => 0
  | _ => 0

abbrev bufTy : (tb : Table) → Fin (tcTables nBuf tb) → BufTy
  | .hbm, ⟨0, _⟩ => ⟨S4096x2816, .f32⟩
  | .hbm, ⟨1, _⟩ => ⟨S2816x1024, .f32⟩
  | .hbm, ⟨2, _⟩ => ⟨S4096x1024, .f32⟩
  | .hbm, ⟨3, _⟩ => ⟨S4096x1024, .f32⟩
  | .hbm, ⟨4, _⟩ => ⟨S4096x2816, .bf16⟩
  | .hbm, ⟨5, _⟩ => ⟨S2816x1024, .bf16⟩
  | .hbm, ⟨6, _⟩ => ⟨S4096x1024, .f32⟩
  | .hbm, ⟨7, _⟩ => ⟨S4096x1024, .bf16⟩
  | .hbm, ⟨8, _⟩ => ⟨S8x128, .f32⟩
  | .local _ .vmem, ⟨0, _⟩ => ⟨S512x2816, .bf16⟩
  | .local _ .vmem, ⟨1, _⟩ => ⟨S512x2816, .bf16⟩
  | .local _ .vmem, ⟨2, _⟩ => ⟨S2816x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .bf16⟩
  | .local _ .vmem, ⟨10, _⟩ => ⟨S512x1024, .bf16⟩
  | .local _ .vmem, ⟨11, _⟩ => ⟨S8x128, .f32⟩
  | _, _ => ⟨S4096x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_v2_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S8x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference10Ideal.lean ====
abbrev S4096x2816 : Shape := ⟨2, ![4096, 2816]⟩
abbrev S2816x1024 : Shape := ⟨2, ![2816, 1024]⟩
abbrev S4096x1024 : Shape := ⟨2, ![4096, 1024]⟩
abbrev S_ : Shape := ⟨0, ![]⟩
abbrev S4096 : Shape := ⟨1, ![4096]⟩
abbrev S512x8x8x128 : Shape := ⟨4, ![512, 8, 8, 128]⟩
abbrev S512x8x128 : Shape := ⟨3, ![512, 8, 128]⟩
abbrev S8x128 : Shape := ⟨2, ![8, 128]⟩

abbrev nBuf : Space → Nat
  | .hbm => 37
  | .vmem => 0
  | .smem => 0
  | _ => 0

abbrev bufTy : (tb : Table) → Fin (tcTables nBuf tb) → BufTy
  | .hbm, ⟨0, _⟩ => ⟨S4096x2816, .f32⟩
  | .hbm, ⟨1, _⟩ => ⟨S2816x1024, .f32⟩
  | .hbm, ⟨2, _⟩ => ⟨S4096x1024, .f32⟩
  | .hbm, ⟨3, _⟩ => ⟨S4096x1024, .f32⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S4096x1024, .f32⟩
  | .hbm, ⟨8, _⟩ => ⟨S_, .f32⟩
  | .hbm, ⟨9, _⟩ => ⟨S4096x1024, .f32⟩
  | .hbm, ⟨10, _⟩ => ⟨S4096x1024, .f32⟩
  | .hbm, ⟨11, _⟩ => ⟨S_, .f32⟩
  | .hbm, ⟨12, _⟩ => ⟨S4096, .f32⟩
  | .hbm, ⟨13, _⟩ => ⟨S_, .f32⟩
  | .hbm, ⟨14, _⟩ => ⟨S4096, .f32⟩
  | .hbm, ⟨15, _⟩ => ⟨S4096, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S4096, .f32⟩
  | .hbm, ⟨24, _⟩ => ⟨S_, .f32⟩
  | .hbm, ⟨25, _⟩ => ⟨S4096, .f32⟩
  | .hbm, ⟨26, _⟩ => ⟨S4096, .f32⟩
  | .hbm, ⟨27, _⟩ => ⟨S4096x1024, .f32⟩
  | .hbm, ⟨28, _⟩ => ⟨S4096x1024, .f32⟩
  | .hbm, ⟨29, _⟩ => ⟨S4096x1024, .bf16⟩
  | .hbm, ⟨30, _⟩ => ⟨S4096x1024, .f32⟩
  | .hbm, ⟨31, _⟩ => ⟨S4096x1024, .f32⟩
  | .hbm, ⟨32, _⟩ => ⟨S512x8x8x128, .f32⟩
  | .hbm, ⟨33, _⟩ => ⟨S_, .f32⟩
  | .hbm, ⟨34, _⟩ => ⟨S512x8x128, .f32⟩
  | .hbm, ⟨35, _⟩ => ⟨S_, .f32⟩
  | .hbm, ⟨36, _⟩ => ⟨S8x128, .f32⟩
  | _, _ => ⟨S4096x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_cst_4 : Ref sig .tc := ⟨.hbm, 20, rfl⟩
abbrev main_cst_5 : Ref sig .tc := ⟨.hbm, 21, rfl⟩
abbrev main_v11 : Ref sig .tc := ⟨.hbm, 22, rfl⟩
abbrev main_v12 : Ref sig .tc := ⟨.hbm, 23, rfl⟩
abbrev main_cst_6 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_cst_8 : Ref sig .tc := ⟨.hbm, 35, rfl⟩
abbrev main_v22 : Ref sig .tc := ⟨.hbm, 36, rfl⟩

abbrev nD : Nat := 1
abbrev τ : Topo := Topo.v7x

variable {F : FTy → Type} [FloatOps F]
-- ==== Kernel11.lean ====
abbrev S4096x1024 : Shape := ⟨2, ![4096, 1024]⟩
abbrev S1x1024 : Shape := ⟨2, ![1, 1024]⟩
abbrev S1024x4352 : Shape := ⟨2, ![1024, 4352]⟩
abbrev S1x2048 : Shape := ⟨2, ![1, 2048]⟩
abbrev S4352x1024 : Shape := ⟨2, ![4352, 1024]⟩
abbrev S4096x1280 : Shape := ⟨2, ![4096, 1280]⟩
abbrev S4096x2048 : Shape := ⟨2, ![4096, 2048]⟩
abbrev S512x1024 : Shape := ⟨2, ![512, 1024]⟩
abbrev S512x1280 : Shape := ⟨2, ![512, 1280]⟩
abbrev S512x2048 : Shape := ⟨2, ![512, 2048]⟩
abbrev S512 : Shape := ⟨1, ![512]⟩
abbrev S512x1 : Shape := ⟨2, ![512, 1]⟩
abbrev S1024x1024 : Shape := ⟨2, ![1024, 1024]⟩
abbrev S1280x1024 : Shape := ⟨2, ![1280, 1024]⟩
abbrev S2048x1024 : Shape := ⟨2, ![2048, 1024]⟩

abbrev nBuf : Space → Nat
  | .hbm => 10
  | .vmem => 13
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x4352, .f32⟩
  | .hbm, ⟨3, _⟩ => ⟨S1x2048, .f32⟩
  | .hbm, ⟨4, _⟩ => ⟨S4352x1024, .f32⟩
  | .hbm, ⟨5, _⟩ => ⟨S4352x1024, .bf16⟩
  | .hbm, ⟨6, _⟩ => ⟨S4096x1024, .bf16⟩
  | .hbm, ⟨7, _⟩ => ⟨S4096x1024, .f32⟩
  | .hbm, ⟨8, _⟩ => ⟨S4096x1280, .f32⟩
  | .hbm, ⟨9, _⟩ => ⟨S4096x2048, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S4352x1024, .bf16⟩
  | .local _ .vmem, ⟨4, _⟩ => ⟨S1x2048, .f32⟩
  | .local _ .vmem, ⟨5, _⟩ => ⟨S512x1024, .bf16⟩
  | .local _ .vmem, ⟨6, _⟩ => ⟨S512x1024, .bf16⟩
  | .local _ .vmem, ⟨7, _⟩ => ⟨S512x1024, .f32⟩
  | .local _ .vmem, ⟨8, _⟩ => ⟨S512x1024, .f32⟩
  | .local _ .vmem, ⟨9, _⟩ => ⟨S512x1280, .f32⟩
  | .local _ .vmem, ⟨10, _⟩ => ⟨S512x1280, .f32⟩
  | .local _ .vmem, ⟨11, _⟩ => ⟨S512x2048, .bf16⟩
  | .local _ .vmem, ⟨12, _⟩ => ⟨S512x2048, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_v2_2 : Ref sig .tc := ⟨.hbm, 8, rfl⟩
abbrev main_v2_3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4352x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1280 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference11Ideal.lean ====
abbrev S4096x1024 : Shape := ⟨2, ![4096, 1024]⟩
abbrev S1x1024 : Shape := ⟨2, ![1, 1024]⟩
abbrev S1024x4352 : Shape := ⟨2, ![1024, 4352]⟩
abbrev S1x2048 : Shape := ⟨2, ![1, 2048]⟩
abbrev S1024 : Shape := ⟨1, ![1024]⟩
abbrev S_ : Shape := ⟨0, ![]⟩
abbrev S4096 : Shape := ⟨1, ![4096]⟩
abbrev S4096x1 : Shape := ⟨2, ![4096, 1]⟩
abbrev S4096x4352 : Shape := ⟨2, ![4096, 4352]⟩
abbrev S4096x2048 : Shape := ⟨2, ![4096, 2048]⟩
abbrev S4096x1280 : Shape := ⟨2, ![4096, 1280]⟩

abbrev nBuf : Space → Nat
  | .hbm => 37
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x4352, .f32⟩
  | .hbm, ⟨3, _⟩ => ⟨S1x2048, .f32⟩
  | .hbm, ⟨4, _⟩ => ⟨S1024, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1024, .f32⟩
  | .hbm, ⟨17, _⟩ => ⟨S4096x1024, .f32⟩
  | .hbm, ⟨18, _⟩ => ⟨S1x1024, .f32⟩
  | .hbm, ⟨19, _⟩ => ⟨S4096x1024, .f32⟩
  | .hbm, ⟨20, _⟩ => ⟨S4096x1024, .f32⟩
  | .hbm, ⟨21, _⟩ => ⟨S4096x4352, .f32⟩
  | .hbm, ⟨22, _⟩ => ⟨S4096x2048, .f32⟩
  | .hbm, ⟨23, _⟩ => ⟨S4096x2048, .f32⟩
  | .hbm, ⟨24, _⟩ => ⟨S4096x2048, .f32⟩
  | .hbm, ⟨25, _⟩ => ⟨S4096x2048, .f32⟩
  | .hbm, ⟨26, _⟩ => ⟨S4096x2048, .f32⟩
  | .hbm, ⟨27, _⟩ => ⟨S_, .f32⟩
  | .hbm, ⟨28, _⟩ => ⟨S4096x2048, .f32⟩
  | .hbm, ⟨29, _⟩ => ⟨S4096x2048, .f32⟩
  | .hbm, ⟨30, _⟩ => ⟨S_, .f32⟩
  | .hbm, ⟨31, _⟩ => ⟨S4096x2048, .f32⟩
  | .hbm, ⟨32, _⟩ => ⟨S4096x2048, .f32⟩
  | .hbm, ⟨33, _⟩ => ⟨S4096x1024, .bf16⟩
  | .hbm, ⟨34, _⟩ => ⟨S4096x1024, .f32⟩
  | .hbm, ⟨35, _⟩ => ⟨S4096x1280, .f32⟩
  | .hbm, ⟨36, _⟩ => ⟨S4096x2048, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_2 : Ref sig .tc := ⟨.hbm, 27, rfl⟩
abbrev main_v20 : Ref sig .tc := ⟨.hbm, 28, rfl⟩
abbrev main_v21 : Ref sig .tc := ⟨.hbm, 29, rfl⟩
abbrev main_cst_3 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩

abbrev nD : Nat := 1
abbrev τ : Topo := Topo.v7x

variable {F : FTy → Type} [FloatOps F]
-- ==== Kernel12.lean ====
abbrev S4096x1024 : Shape := ⟨2, ![4096, 1024]⟩
abbrev S4096x2048 : Shape := ⟨2, ![4096, 2048]⟩
abbrev S1024x1024 : Shape := ⟨2, ![1024, 1024]⟩
abbrev S1x1024 : Shape := ⟨2, ![1, 1024]⟩
abbrev S512x1024 : Shape := ⟨2, ![512, 1024]⟩
abbrev S512x2048 : Shape := ⟨2, ![512, 2048]⟩
abbrev S512 : Shape := ⟨1, ![512]⟩
abbrev S512x1 : Shape := ⟨2, ![512, 1]⟩

abbrev nBuf : Space → Nat
  | .hbm => 13
  | .vmem => 16
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x2048, .f32⟩
  | .hbm, ⟨3, _⟩ => ⟨S4096x1024, .f32⟩
  | .hbm, ⟨4, _⟩ => ⟨S1024x1024, .f32⟩
  | .hbm, ⟨5, _⟩ => ⟨S1x1024, .f32⟩
  | .hbm, ⟨6, _⟩ => ⟨S4096x1024, .bf16⟩
  | .hbm, ⟨7, _⟩ => ⟨S4096x1024, .bf16⟩
  | .hbm, ⟨8, _⟩ => ⟨S4096x2048, .bf16⟩
  | .hbm, ⟨9, _⟩ => ⟨S1024x1024, .bf16⟩
  | .hbm, ⟨10, _⟩ => ⟨S4096x1024, .bf16⟩
  | .hbm, ⟨11, _⟩ => ⟨S4096x1024, .f32⟩
  | .hbm, ⟨12, _⟩ => ⟨S4096x1024, .bf16⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x2048, .bf16⟩
  | .local _ .vmem, ⟨5, _⟩ => ⟨S512x2048, .bf16⟩
  | .local _ .vmem, ⟨6, _⟩ => ⟨S512x1024, .f32⟩
  | .local _ .vmem, ⟨7, _⟩ => ⟨S512x1024, .f32⟩
  | .local _ .vmem, ⟨8, _⟩ => ⟨S1024x1024, .bf16⟩
  | .local _ .vmem, ⟨9, _⟩ => ⟨S1x1024, .f32⟩
  | .local _ .vmem, ⟨10, _⟩ => ⟨S512x1024, .bf16⟩
  | .local _ .vmem, ⟨11, _⟩ => ⟨S512x1024, .bf16⟩
  | .local _ .vmem, ⟨12, _⟩ => ⟨S512x1024, .f32⟩
  | .local _ .vmem, ⟨13, _⟩ => ⟨S512x1024, .f32⟩
  | .local _ .vmem, ⟨14, _⟩ => ⟨S512x1024, .bf16⟩
  | .local _ .vmem, ⟨15, _⟩ => ⟨S512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4_0 : Ref sig .tc := ⟨.hbm, 10, rfl⟩
abbrev main_v4_1 : Ref sig .tc := ⟨.hbm, 11, rfl⟩
abbrev main_v4_2 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference12Ideal.lean ====
abbrev S4096x1024 : Shape := ⟨2, ![4096, 1024]⟩
abbrev S4096x2048 : Shape := ⟨2, ![4096, 2048]⟩
abbrev S1024x1024 : Shape := ⟨2, ![1024, 1024]⟩
abbrev S1x1024 : Shape := ⟨2, ![1, 1024]⟩
abbrev S1024 : Shape := ⟨1, ![1024]⟩
abbrev S_ : Shape := ⟨0, ![]⟩
abbrev S4096 : Shape := ⟨1, ![4096]⟩
abbrev S4096x1 : Shape := ⟨2, ![4096, 1]⟩

abbrev nBuf : Space → Nat
  | .hbm => 32
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x2048, .f32⟩
  | .hbm, ⟨3, _⟩ => ⟨S4096x1024, .f32⟩
  | .hbm, ⟨4, _⟩ => ⟨S1024x1024, .f32⟩
  | .hbm, ⟨5, _⟩ => ⟨S1x1024, .f32⟩
  | .hbm, ⟨6, _⟩ => ⟨S4096x1024, .f32⟩
  | .hbm, ⟨7, _⟩ => ⟨S4096x1024, .f32⟩
  | .hbm, ⟨8, _⟩ => ⟨S4096x1024, .f32⟩
  | .hbm, ⟨9, _⟩ => ⟨S4096x1024, .f32⟩
  | .hbm, ⟨10, _⟩ => ⟨S4096x1024, .f32⟩
  | .hbm, ⟨11, _⟩ => ⟨S4096x1024, .f32⟩
  | .hbm, ⟨12, _⟩ => ⟨S4096x1024, .f32⟩
  | .hbm, ⟨13, _⟩ => ⟨S4096x1024, .bf16⟩
  | .hbm, ⟨14, _⟩ => ⟨S1024, .f32⟩
  | .hbm, ⟨15, _⟩ => ⟨S4096x1024, .f32⟩
  | .hbm, ⟨16, _⟩ => ⟨S_, .f32⟩
  | .hbm, ⟨17, _⟩ => ⟨S4096, .f32⟩
  | .hbm, ⟨18, _⟩ => ⟨S4096x1, .f32⟩
  | .hbm, ⟨19, _⟩ => ⟨S_, .f32⟩
  | .hbm, ⟨20, _⟩ => ⟨S4096x1, .f32⟩
  | .hbm, ⟨21, _⟩ => ⟨S4096x1, .f32⟩
  | .hbm, ⟨22, _⟩ => ⟨S_, .f32⟩
  | .hbm, ⟨23, _⟩ => ⟨S4096x1, .f32⟩
  | .hbm, ⟨24, _⟩ => ⟨S4096x1, .f32⟩
  | .hbm, ⟨25, _⟩ => ⟨S4096x1, .f32⟩
  | .hbm, ⟨26, _⟩ => ⟨S4096x1024, .f32⟩
  | .hbm, ⟨27, _⟩ => ⟨S4096x1024, .f32⟩
  | .hbm, ⟨28, _⟩ => ⟨S1x1024, .f32⟩
  | .hbm, ⟨29, _⟩ => ⟨S4096x1024, .f32⟩
  | .hbm, ⟨30, _⟩ => ⟨S4096x1024, .f32⟩
  | .hbm, ⟨31, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst : Ref sig .tc := ⟨.hbm, 16, rfl⟩
abbrev main_v10 : Ref sig .tc := ⟨.hbm, 17, rfl⟩
abbrev main_v11 : Ref sig .tc := ⟨.hbm, 18, rfl⟩
abbrev main_cst_0 : Ref sig .tc := ⟨.hbm, 19, rfl⟩
abbrev main_v12 : Ref sig .tc := ⟨.hbm, 20, rfl⟩
abbrev main_v13 : Ref sig .tc := ⟨.hbm, 21, rfl⟩
abbrev main_cst_1 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩

abbrev nD : Nat := 1
abbrev τ : Topo := Topo.v7x

variable {F : FTy → Type} [FloatOps F]
-- ==== Kernel13.lean ====
abbrev S4096x1024 : Shape := ⟨2, ![4096, 1024]⟩
abbrev S1024x5632 : Shape := ⟨2, ![1024, 5632]⟩
abbrev S3x5632 : Shape := ⟨2, ![3, 5632]⟩
abbrev S5632 : Shape := ⟨1, ![5632]⟩
abbrev S1024x4x1408 : Shape := ⟨3, ![1024, 4, 1408]⟩
abbrev S4x1024x1408 : Shape := ⟨3, ![4, 1024, 1408]⟩
abbrev S3x4x1408 : Shape := ⟨3, ![3, 4, 1408]⟩
abbrev S4x3x1408 : Shape := ⟨3, ![4, 3, 1408]⟩
abbrev S1x5632 : Shape := ⟨2, ![1, 5632]⟩
abbrev S4096x2816 : Shape := ⟨2, ![4096, 2816]⟩
abbrev S512x1024 : Shape := ⟨2, ![512, 1024]⟩
abbrev S1x1024x1408 : Shape := ⟨3, ![1, 1024, 1408]⟩
abbrev S1x3x1408 : Shape := ⟨3, ![1, 3, 1408]⟩
abbrev S1x1408 : Shape := ⟨2, ![1, 1408]⟩
abbrev S512x1408 : Shape := ⟨2, ![512, 1408]⟩
abbrev S8x1408 : Shape := ⟨2, ![8, 1408]⟩
abbrev S1024x1408 : Shape := ⟨2, ![1024, 1408]⟩
abbrev S520x1408 : Shape := ⟨2, ![520, 1408]⟩
abbrev S3x1408 : Shape := ⟨2, ![3, 1408]⟩

abbrev nBuf : Space → Nat
  | .hbm => 16
  | .vmem => 26
  | .smem => 0
  | _ => 0

abbrev bufTy : (tb : Table) → Fin (tcTables nBuf tb) → BufTy
  | .hbm, ⟨0, _⟩ => ⟨S4096x1024, .f32⟩
  | .hbm, ⟨1, _⟩ => ⟨S1024x5632, .f32⟩
  | .hbm, ⟨2, _⟩ => ⟨S3x5632, .f32⟩
  | .hbm, ⟨3, _⟩ => ⟨S5632, .f32⟩
  | .hbm, ⟨4, _⟩ => ⟨S1024x4x1408, .f32⟩
  | .hbm, ⟨5, _⟩ => ⟨S4x1024x1408, .f32⟩
  | .hbm, ⟨6, _⟩ => ⟨S3x4x1408, .f32⟩
  | .hbm, ⟨7, _⟩ => ⟨S4x3x1408, .f32⟩
  | .hbm, ⟨8, _⟩ => ⟨S4096x1024, .bf16⟩
  | .hbm, ⟨9, _⟩ => ⟨S4x1024x1408, .bf16⟩
  | .hbm, ⟨10, _⟩ => ⟨S1x5632, .f32⟩
  | .hbm, ⟨11, _⟩ => ⟨S4096x2816, .bf16⟩
  | .hbm, ⟨12, _⟩ => ⟨S4096x2816, .bf16⟩
  | .hbm, ⟨13, _⟩ => ⟨S4096x2816, .bf16⟩
  | .hbm, ⟨14, _⟩ => ⟨S4096x2816, .bf16⟩
  | .hbm, ⟨15, _⟩ => ⟨S4096x2816, .bf16⟩
  | .local _ .vmem, ⟨0, _⟩ => ⟨S512x1024, .bf16⟩
  | .local _ .vmem, ⟨1, _⟩ => ⟨S512x1024, .bf16⟩
  | .local _ .vmem, ⟨2, _⟩ => ⟨S1x1024x1408, .bf16⟩
  | .local _ .vmem, ⟨3, _⟩ => ⟨S1x1024x1408, .bf16⟩
  | .local _ .vmem, ⟨4, _⟩ => ⟨S1x1024x1408, .bf16⟩
  | .local _ .vmem, ⟨5, _⟩ => ⟨S1x1024x1408, .bf16⟩
  | .local _ .vmem, ⟨6, _⟩ => ⟨S1x3x1408, .f32⟩
  | .local _ .vmem, ⟨7, _⟩ => ⟨S1x3x1408, .f32⟩
  | .local _ .vmem, ⟨8, _⟩ => ⟨S1x3x1408, .f32⟩
  | .local _ .vmem, ⟨9, _⟩ => ⟨S1x3x1408, .f32⟩
  | .local _ .vmem, ⟨10, _⟩ => ⟨S1x1408, .f32⟩
  | .local _ .vmem, ⟨11, _⟩ => ⟨S1x1408, .f32⟩
  | .local _ .vmem, ⟨12, _⟩ => ⟨S1x1408, .f32⟩
  | .local _ .vmem, ⟨13, _⟩ => ⟨S1x1408, .f32⟩
  | .local _ .vmem, ⟨14, _⟩ => ⟨S512x1408, .bf16⟩
  | .local _ .vmem, ⟨15, _⟩ => ⟨S512x1408, .bf16⟩
  | .local _ .vmem, ⟨16, _⟩ => ⟨S512x1408, .bf16⟩
  | .local _ .vmem, ⟨17, _⟩ => ⟨S512x1408, .bf16⟩
  | .local _ .vmem, ⟨18, _⟩ => ⟨S512x1408, .bf16⟩
  | .local _ .vmem, ⟨19, _⟩ => ⟨S512x1408, .bf16⟩
  | .local _ .vmem, ⟨20, _⟩ => ⟨S512x1408, .bf16⟩
  | .local _ .vmem, ⟨21, _⟩ => ⟨S512x1408, .bf16⟩
  | .local _ .vmem, ⟨22, _⟩ => ⟨S512x1408, .bf16⟩
  | .local _ .vmem, ⟨23, _⟩ => ⟨S512x1408, .bf16⟩
  | .local _ .vmem, ⟨24, _⟩ => ⟨S8x1408, .f32⟩
  | .local _ .vmem, ⟨25, _⟩ => ⟨S8x1408, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7_0 : Ref sig .tc := ⟨.hbm, 11, rfl⟩
abbrev main_v7_1 : Ref sig .tc := ⟨.hbm, 12, rfl⟩
abbrev main_v7_2 : Ref sig .tc := ⟨.hbm, 13, rfl⟩
abbrev main_v7_3 : Ref sig .tc := ⟨.hbm, 14, rfl⟩
abbrev main_v7_4 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_scratch0 : Ref sig .tc := ⟨.vmem, 24, rfl⟩
abbrev cc0_scratch1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  let c0_i32_2 : BitVec 32 := 0#32
  ![v0.toNat, c0_i32_0.toNat, c0_i32_1.toNat]

def cc0_transform_2 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.addi arg0 c2_i32
  let c0_i32 : BitVec 32 := 0#32
  let c0_i32_0 : BitVec 32 := 0#32
  let c0_i32_1 : BitVec 32 := 0#32
  ![v0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  let c0_i32_2 : BitVec 32 := 0#32
  ![v0.toNat, c0_i32_0.toNat, c0_i32_1.toNat]

def cc0_transform_4 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.addi arg0 c2_i32
  let c0_i32 : BitVec 32 := 0#32
  let c0_i32_0 : BitVec 32 := 0#32
  let c0_i32_1 : BitVec 32 := 0#32
  ![v0.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_6 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi arg0 c2_i32
  let c0_i32 : BitVec 32 := 0#32
  let c0_i32_0 : BitVec 32 := 0#32
  ![c0_i32.toNat, v0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x3x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x3x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S512x1408 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S512x1408 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S512x1408 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S512x1408 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S512x1408 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== Reference13Ideal.lean ====
abbrev S4096x1024 : Shape := ⟨2, ![4096, 1024]⟩
abbrev S1024x5632 : Shape := ⟨2, ![1024, 5632]⟩
abbrev S3x5632 : Shape := ⟨2, ![3, 5632]⟩
abbrev S5632 : Shape := ⟨1, ![5632]⟩
abbrev S4096x5632 : Shape := ⟨2, ![4096, 5632]⟩
abbrev S1x4096x5632 : Shape := ⟨3, ![1, 4096, 5632]⟩
abbrev S1x2x5632 : Shape := ⟨3, ![1, 2, 5632]⟩
abbrev S_ : Shape := ⟨0, ![]⟩
abbrev S1x4098x5632 : Shape := ⟨3, ![1, 4098, 5632]⟩
abbrev S1x5632 : Shape := ⟨2, ![1, 5632]⟩
abbrev S1x1x5632 : Shape := ⟨3, ![1, 1, 5632]⟩
abbrev S4096x2816 : Shape := ⟨2, ![4096, 2816]⟩

abbrev nBuf : Space → Nat
  | .hbm => 53
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x5632, .f32⟩
  | .hbm, ⟨2, _⟩ => ⟨S3x5632, .f32⟩
  | .hbm, ⟨3, _⟩ => ⟨S5632, .f32⟩
  | .hbm, ⟨4, _⟩ => ⟨S4096x5632, .f32⟩
  | .hbm, ⟨5, _⟩ => ⟨S1x4096x5632, .f32⟩
  | .hbm, ⟨6, _⟩ => ⟨S1x2x5632, .f32⟩
  | .hbm, ⟨7, _⟩ => ⟨S_, .f32⟩
  | .hbm, ⟨8, _⟩ => ⟨S1x2x5632, .f32⟩
  | .hbm, ⟨9, _⟩ => ⟨S1x4098x5632, .f32⟩
  | .hbm, ⟨10, _⟩ => ⟨S1x5632, .f32⟩
  | .hbm, ⟨11, _⟩ => ⟨S5632, .f32⟩
  | .hbm, ⟨12, _⟩ => ⟨S1x4096x5632, .f32⟩
  | .hbm, ⟨13, _⟩ => ⟨S1x1x5632, .f32⟩
  | .hbm, ⟨14, _⟩ => ⟨S1x4096x5632, .f32⟩
  | .hbm, ⟨15, _⟩ => ⟨S1x4096x5632, .f32⟩
  | .hbm, ⟨16, _⟩ => ⟨S1x1x5632, .f32⟩
  | .hbm, ⟨17, _⟩ => ⟨S1x4096x5632, .f32⟩
  | .hbm, ⟨18, _⟩ => ⟨S1x4096x5632, .f32⟩
  | .hbm, ⟨19, _⟩ => ⟨S1x5632, .f32⟩
  | .hbm, ⟨20, _⟩ => ⟨S5632, .f32⟩
  | .hbm, ⟨21, _⟩ => ⟨S1x4096x5632, .f32⟩
  | .hbm, ⟨22, _⟩ => ⟨S1x1x5632, .f32⟩
  | .hbm, ⟨23, _⟩ => ⟨S1x4096x5632, .f32⟩
  | .hbm, ⟨24, _⟩ => ⟨S1x4096x5632, .f32⟩
  | .hbm, ⟨25, _⟩ => ⟨S1x4096x5632, .f32⟩
  | .hbm, ⟨26, _⟩ => ⟨S1x5632, .f32⟩
  | .hbm, ⟨27, _⟩ => ⟨S5632, .f32⟩
  | .hbm, ⟨28, _⟩ => ⟨S1x4096x5632, .f32⟩
  | .hbm, ⟨29, _⟩ => ⟨S1x1x5632, .f32⟩
  | .hbm, ⟨30, _⟩ => ⟨S1x4096x5632, .f32⟩
  | .hbm, ⟨31, _⟩ => ⟨S1x4096x5632, .f32⟩
  | .hbm, ⟨32, _⟩ => ⟨S1x4096x5632, .f32⟩
  | .hbm, ⟨33, _⟩ => ⟨S4096x5632, .f32⟩
  | .hbm, ⟨34, _⟩ => ⟨S4096x2816, .f32⟩
  | .hbm, ⟨35, _⟩ => ⟨S4096x2816, .f32⟩
  | .hbm, ⟨36, _⟩ => ⟨S4096x2816, .f32⟩
  | .hbm, ⟨37, _⟩ => ⟨S4096x2816, .f32⟩
  | .hbm, ⟨38, _⟩ => ⟨S_, .f32⟩
  | .hbm, ⟨39, _⟩ => ⟨S4096x2816, .f32⟩
  | .hbm, ⟨40, _⟩ => ⟨S4096x2816, .f32⟩
  | .hbm, ⟨41, _⟩ => ⟨S_, .f32⟩
  | .hbm, ⟨42, _⟩ => ⟨S4096x2816, .f32⟩
  | .hbm, ⟨43, _⟩ => ⟨S4096x2816, .f32⟩
  | .hbm, ⟨44, _⟩ => ⟨S4096x2816, .f32⟩
  | .hbm, ⟨45, _⟩ => ⟨S4096x2816, .f32⟩
  | .hbm, ⟨46, _⟩ => ⟨S4096x2816, .f32⟩
  | .hbm, ⟨47, _⟩ => ⟨S4096x2816, .bf16⟩
  | .hbm, ⟨48, _⟩ => ⟨S4096x2816, .f32⟩
  | .hbm, ⟨49, _⟩ => ⟨S4096x2816, .bf16⟩
  | .hbm, ⟨50, _⟩ => ⟨S4096x2816, .bf16⟩
  | .hbm, ⟨51, _⟩ => ⟨S4096x2816, .bf16⟩
  | .hbm, ⟨52, _⟩ => ⟨S4096x2816, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_call0_v0 : Ref sig .tc := ⟨.hbm, 36, rfl⟩
abbrev main_call0_v1 : Ref sig .tc := ⟨.hbm, 37, rfl⟩
abbrev main_call0_cst : Ref sig .tc := ⟨.hbm, 38, rfl⟩
abbrev main_call0_v2 : Ref sig .tc := ⟨.hbm, 39, rfl⟩
abbrev main_call0_v3 : Ref sig .tc := ⟨.hbm, 40, rfl⟩
abbrev main_call0_cst_0 : Ref sig .tc := ⟨.hbm, 41, rfl⟩
abbrev main_call0_v4 : Ref sig .tc := ⟨.hbm, 42, rfl⟩
abbrev main_call0_v5 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩

abbrev nD : Nat := 1
abbrev τ : Topo := Topo.v7x

variable {F : FTy → Type} [FloatOps F]
-- ==== Proof.Stores.lean ====
/-
  Reading back a buffer that several stores filled: an index lies in the last store's rectangle, or in an earlier one's.
-/
module

public import Idealize.ShloMosaic.Lib.Pipeline.FrameBody
public import Idealize.ShloMosaic.Lib.Pipeline.ReadBack

@[expose] public section

open Idealize.ShloMosaic

namespace Cert.Stores

variable {s : Shape} {e : EltTy} {Val : EltTy → Type} [∀ e, Nonempty (Val e)]

/-- In the last store's rectangle the buffer holds what that store wrote. -/
theorem canon_at {off size : Fin s.rank → ℕ} (inb : ∀ a, off a + size a ≤ s.size a) (w : (Rect.unit off size inb).shape.Idx → Val e)
    (L : List (View.Piece Val s e)) (y : s.Idx) (x : (Rect.unit off size inb).shape.Idx) (h : ∀ a, (y a : ℕ) = off a + (x a : ℕ)) :
    View.canon (⟨Rect.unit off size inb, w⟩ :: L) y = w x := by
  have hy : y = (Rect.unit off size inb).emb x := by
    funext a
    refine Fin.ext ?_
    rw [h a]
    show _ = off a + 1 * (x a : ℕ)
    omega
  rw [hy, View.canon_cons_emb]

/-- Outside it the buffer holds what the earlier stores left. -/
theorem canon_off {off size : Fin s.rank → ℕ} (inb : ∀ a, off a + size a ≤ s.size a) (w : (Rect.unit off size inb).shape.Idx → Val e)
    (L : List (View.Piece Val s e)) (y : s.Idx) (h : ∃ a, (y a : ℕ) < off a ∨ off a + size a ≤ (y a : ℕ)) :
    View.canon (⟨Rect.unit off size inb, w⟩ :: L) y = View.canon L y := by
  refine View.canon_cons_of_not_mem _ _ fun hm => ?_
  rw [Rect.mem_set_unit] at hm
  obtain ⟨a, ha⟩ := h
  have := hm a
  omega

end Cert.Stores
-- ==== Proof.ActGrad.lean ====
/-
  The gradient of the gated causal convolution: what the kernel's six result arrays hold.
-/
module

public import proofs.«01_k».proof.Proof.Gen.KernelIdeal.Value
public import proofs.«01_k».proof.Proof.Stores
public import Idealize.ShloMosaic.Lib.Pipeline.ValueKit
public import Idealize.ShloMosaic.Lib.Pointwise
public import Idealize.ShloMosaic.Lib.StableHlo.ReadAt

@[expose] public section

set_option maxRecDepth 16384

noncomputable section

open Idealize.ShloMosaic Idealize.ShloMosaic.TcCoe Idealize.SL.Sem
open Idealize.ShloMosaic.Pipeline (Dat)

namespace Cert.KernelIdeal.Act

open Cert.KernelIdeal Cert.KernelIdeal.Gen

variable (m : (ℓ : Loc nD τ sig) → Buf (Elt Ideal) ℓ)

/-- The gradient of the down-projection's result. -/
def dy (c : Dev nD) : S4096x1024.Idx → EReal := m ((c.tc : Thread nD τ).loc main_arg0)
/-- The down-projection's weight. -/
def w (c : Dev nD) : S2816x1024.Idx → EReal := m ((c.tc : Thread nD τ).loc main_arg1)
/-- The rows before the convolution. -/
def pre (c : Dev nD) : S4096x5632.Idx → EReal := m ((c.tc : Thread nD τ).loc main_arg2)
/-- The convolution's three taps. -/
def cw (c : Dev nD) : S3x5632.Idx → EReal := m ((c.tc : Thread nD τ).loc main_arg3)
/-- The convolution's bias. -/
def cb (c : Dev nD) : S5632.Idx → EReal := m ((c.tc : Thread nD τ).loc main_arg4)

/-- The causal convolution: a row is its bias, and the taps on the row two back, the row one back and the row itself; a row
    before the first is zero. -/
def conv (x : S4096x5632.Idx → EReal) (a : S3x5632.Idx → EReal) (b : S5632.Idx → EReal) (p : Fin 4096) (q : Fin 5632) : EReal :=
  ((b (ix1 q) + a (ix2 0 q) * if h : p.val < 2 then 0 else x (ix2 ⟨p.val - 2, by omega⟩ q))
    + a (ix2 1 q) * if h : 1 + p.val < 2 then 0 else x (ix2 ⟨1 + p.val - 2, by omega⟩ q)) + a (ix2 2 q) * x (ix2 p q)

/-- A column of the gate half. -/
def gc (j : Fin 2816) : Fin 5632 := ⟨j.val, by omega⟩
/-- A column of the value half. -/
def vc (j : Fin 2816) : Fin 5632 := ⟨2816 + j.val, by omega⟩

/-- The gate before its sigmoid, and the value it is multiplied with. -/
def gate (c : Dev nD) (r : Fin 4096) (j : Fin 2816) : EReal := conv (pre m c) (cw m c) (cb m c) r (gc j)
def value (c : Dev nD) (r : Fin 4096) (j : Fin 2816) : EReal := conv (pre m c) (cw m c) (cb m c) r (vc j)

/-- The gradient of the gated product: one row of the result's gradient against one row of the weight. -/
def dact (c : Dev nD) (r : Fin 4096) (j : Fin 2816) : EReal := ∑ k : Fin 1024, dy m c (ix2 r k) * w m c (ix2 j k)
/-- The gradients of the value and of the gate. -/
def dval (c : Dev nD) (r : Fin 4096) (j : Fin 2816) : EReal :=
  dact m c r j * (gate m c r j * Ideal.logistic (gate m c r j))
def dgate (c : Dev nD) (r : Fin 4096) (j : Fin 2816) : EReal :=
  dact m c r j * value m c r j * (Ideal.logistic (gate m c r j) * (1 + gate m c r j * (1 - Ideal.logistic (gate m c r j))))

/-- A column of rows, zero past the last. -/
def past (d : Fin 4096 → EReal) (s : ℕ) : EReal := if h : s < 4096 then d ⟨s, h⟩ else 0
/-- The convolution's gradient with respect to its rows: row `r` went into rows `r`, `r + 1` and `r + 2`. -/
def dconv (d : Fin 4096 → EReal) (a : Fin 3 → EReal) (r : ℕ) : EReal :=
  a 2 * past d r + a 1 * past d (r + 1) + a 0 * past d (r + 2)
/-- The convolution's gradient with respect to tap `b`. -/
def dtap (d x : Fin 4096 → EReal) (b : Fin 3) : EReal := ∑ r : Fin 4096, past d (r.val + (2 - b.val)) * x r

theorem past_of_lt (d : Fin 4096 → EReal) (r : Fin 4096) : past d r.val = d r := dif_pos r.isLt
theorem past_of_le (d : Fin 4096 → EReal) {s : ℕ} (h : 4096 ≤ s) : past d s = 0 := dif_neg (by omega)

theorem idx : ∀ t : Fin cfg0.N, win0_0.index t = ![7 - t.val % 8, 0] ∧ win0_1.index t = ![t.val / 8, 0] ∧
    win0_2.index t = ![7 - t.val % 8, t.val / 8] ∧ win0_3.index t = ![7 - t.val % 8, t.val / 8] ∧
    win0_4.index t = ![7 - t.val % 8, t.val / 8] ∧ win0_5.index t = ![7 - t.val % 8, t.val / 8] ∧
    win0_6.index t = ![t.val / 8, 0, 0] ∧ win0_7.index t = ![t.val / 8 + 2, 0, 0] ∧
    win0_8.index t = ![7 - t.val % 8, t.val / 8] ∧ win0_9.index t = ![7 - t.val % 8, t.val / 8] ∧
    win0_10.index t = ![t.val / 8, 0, 0] ∧ win0_11.index t = ![t.val / 8, 0, 0] ∧
    win0_12.index t = ![0, t.val / 8] ∧ win0_13.index t = ![0, t.val / 8] := by
  decide +kernel

theorem point_lt (t : Fin cfg0.N) : t.val < 16 := lt_of_lt_of_eq t.isLt (by decide)

/-- The first row of point `t`'s blocks: the row blocks are taken from the last to the first. -/
def base (n : ℕ) : ℕ := (7 - n % 8) * 512
/-- The row of the whole array that row `p` of point `t`'s blocks is. -/
def at_ (t : Fin cfg0.N) (p : Fin 512) : Fin 4096 := ⟨(7 - t.val % 8) * 512 + p.val, by have := p.isLt; omega⟩
/-- The column of a half that column `q` of point `t`'s blocks is. -/
def col (t : Fin cfg0.N) (q : Fin 1408) : Fin 2816 := ⟨t.val / 8 * 1408 + q.val, by have := point_lt t; have := q.isLt; omega⟩

theorem dy_block (c : Dev nD) (t : Fin cfg0.N) (p : Fin 512) (k : Fin 1024) : iblk m c 0 t (ix2 p k) = dy m c (ix2 (at_ t p) k) := by
  have e : V m c main_v30 (ix2 (at_ t p) k) = dy m c (ix2 (at_ t p) k) := by
    unfold V dy; after_reads_at
  have h := idx t
  rw [← e]
  unfold iblk at_
  blk_ext [h]

theorem weight_block (c : Dev nD) (t : Fin cfg0.N) (q : Fin 1408) (k : Fin 1024) : iblk m c 1 t (ix2 q k) = w m c (ix2 (col t q) k) := by
  have e : V m c main_v31 (ix2 (col t q) k) = w m c (ix2 (col t q) k) := by
    unfold V w; after_reads_at
  have h := idx t
  rw [← e]
  unfold iblk col
  blk_ext [h]

/-- The convolution over rows that have two rows of zeros stacked before them. -/
theorem conv_stacked {z : S1x2x5632.Idx → EReal} {x : S1x4096x5632.Idx → EReal} {y : S4096x5632.Idx → EReal}
    (hz : ∀ p q, z (ix3 0 p q) = 0) (hx : ∀ p q, x (ix3 0 p q) = y (ix2 p q)) (a : S3x5632.Idx → EReal) (b : S5632.Idx → EReal)
    (p : Fin 4096) (q : Fin 5632) :
    ((b (ix1 q) + a (ix2 0 q) * if h : p.val < 2 then z (ix3 0 ⟨p.val, h⟩ q) else x (ix3 0 ⟨p.val - 2, by omega⟩ q))
      + a (ix2 1 q) * if h : 1 + p.val < 2 then z (ix3 0 ⟨1 + p.val, h⟩ q) else x (ix3 0 ⟨1 + p.val - 2, by omega⟩ q))
      + a (ix2 2 q) * x (ix3 0 p q) = conv y a b p q := by
  unfold conv
  simp only [hz, hx]

theorem host_zero (c : Dev nD) (p : Fin 2) (q : Fin 5632) :
    (StableHlo.upto hostOps0 (fun b => m (c, b)) 4 (Proc.tc.devRef main_v2) : S1x2x5632.Idx → EReal) (ix3 0 p q) = (0 : EReal) := by
  after_reads_at

theorem host_pre (c : Dev nD) (p : Fin 4096) (q : Fin 5632) :
    (StableHlo.upto hostOps0 (fun b => m (c, b)) 4 (Proc.tc.devRef main_v0) : S1x4096x5632.Idx → EReal) (ix3 0 p q)
      = pre m c (ix2 p q) := by
  unfold pre; after_reads_at

theorem gate_block (c : Dev nD) (t : Fin cfg0.N) (p : Fin 512) (q : Fin 1408) : iblk m c 2 t (ix2 p q) = gate m c (at_ t p) (col t q) := by
  have e : V m c main_v33 (ix2 (at_ t p) (col t q)) = gate m c (at_ t p) (col t q) := by
    unfold V; after_reads_at
    exact conv_stacked (host_zero m c) (host_pre m c) (cw m c) (cb m c) (at_ t p) (gc (col t q))
  have h := idx t
  rw [← e]
  unfold iblk at_ col
  blk_ext [h]

theorem value_block (c : Dev nD) (t : Fin cfg0.N) (p : Fin 512) (q : Fin 1408) : iblk m c 3 t (ix2 p q) = value m c (at_ t p) (col t q) := by
  have e : V m c main_v35 (ix2 (at_ t p) (col t q)) = value m c (at_ t p) (col t q) := by
    unfold V; after_reads_at
    exact conv_stacked (host_zero m c) (host_pre m c) (cw m c) (cb m c) (at_ t p) (vc (col t q))
  have h := idx t
  rw [← e]
  unfold iblk at_ col
  blk_ext [h]

theorem gate_pre_block (c : Dev nD) (t : Fin cfg0.N) (p : Fin 512) (q : Fin 1408) :
    iblk m c 4 t (ix2 p q) = pre m c (ix2 (at_ t p) (gc (col t q))) := by
  have e : V m c main_v37 (ix2 (at_ t p) (col t q)) = pre m c (ix2 (at_ t p) (gc (col t q))) := by
    unfold V pre gc; after_reads_at
  have h := idx t
  rw [← e]
  unfold iblk at_ col
  blk_ext [h]

theorem value_pre_block (c : Dev nD) (t : Fin cfg0.N) (p : Fin 512) (q : Fin 1408) :
    iblk m c 5 t (ix2 p q) = pre m c (ix2 (at_ t p) (vc (col t q))) := by
  have e : V m c main_v39 (ix2 (at_ t p) (col t q)) = pre m c (ix2 (at_ t p) (vc (col t q))) := by
    unfold V pre vc; after_reads_at
  have h := idx t
  rw [← e]
  unfold iblk at_ col
  blk_ext [h]

theorem taps (c : Dev nD) (a : Fin 4) (b : Fin 3) (q : Fin 1408) :
    V m c main_v29 (ix3 a b q) = cw m c (ix2 b ⟨a.val * 1408 + q.val, by have := a.isLt; have := q.isLt; omega⟩) := by
  unfold V cw; after_reads_at

theorem gate_taps_block (c : Dev nD) (t : Fin cfg0.N) (b : Fin 3) (q : Fin 1408) :
    iblk m c 6 t (ix3 0 b q) = cw m c (ix2 b (gc (col t q))) := by
  have ht := point_lt t
  have e := taps m c ⟨t.val / 8, by omega⟩ b q
  have h := idx t
  refine Eq.trans ?_ (e.trans (congrArg (fun k => cw m c (ix2 b k)) (Fin.ext rfl)))
  unfold iblk
  blk_ext [h]

theorem value_taps_block (c : Dev nD) (t : Fin cfg0.N) (b : Fin 3) (q : Fin 1408) :
    iblk m c 7 t (ix3 0 b q) = cw m c (ix2 b (vc (col t q))) := by
  have ht := point_lt t
  have e := taps m c ⟨t.val / 8 + 2, by omega⟩ b q
  have h := idx t
  refine Eq.trans ?_ (e.trans (congrArg (fun k => cw m c (ix2 b k)) (Fin.ext ?_)))
  · unfold iblk
    blk_ext [h]
  · show (t.val / 8 + 2) * 1408 + q.val = 2816 + (t.val / 8 * 1408 + q.val)
    omega

/-! ## What the body stores, element by element -/

theorem stored_dval (x : S512x1024.Idx → EReal) (v : S1408x1024.Idx → EReal) (g : S512x1408.Idx → EReal) (p : Fin 512) (q : Fin 1408)
    {X : Fin 1024 → EReal} {W : Fin 1024 → EReal} {G : EReal} (hx : ∀ k, x (ix2 p k) = X k) (hw : ∀ k, v (ix2 q k) = W k)
    (hg : g (ix2 p q) = G) : k0_pay11 (F := Ideal) x v g (ix2 p q) = (∑ k, X k * W k) * (G * Ideal.logistic G) := by
  pointwise [k0_pay11, k0_pay8, k0_pay9, k0_pay10]
  simp only [hx, hw, hg]

theorem stored_dgate (x : S512x1024.Idx → EReal) (v : S1408x1024.Idx → EReal) (g u : S512x1408.Idx → EReal) (p : Fin 512) (q : Fin 1408)
    {X : Fin 1024 → EReal} {W : Fin 1024 → EReal} {G U : EReal} (hx : ∀ k, x (ix2 p k) = X k) (hw : ∀ k, v (ix2 q k) = W k)
    (hg : g (ix2 p q) = G) (hu : u (ix2 p q) = U) : k0_pay12 (F := Ideal) x v g u (ix2 p q)
      = (∑ k, X k * W k) * U * (Ideal.logistic G * (1 + G * (1 - Ideal.logistic G))) := by
  pointwise [k0_pay12, k0_pay8, k0_pay9, k0_pay10]
  simp only [hx, hw, hg, hu]

/-- A block followed by the first rows of the next one, one row on. -/
theorem shifted_one (d : S512x1408.Idx → EReal) (n : S8x1408.Idx → EReal) (q : Fin 1408) {D : ℕ → EReal}
    (hd : ∀ p : Fin 512, d (ix2 p q) = D p.val) (hn : ∀ h : Fin 8, n (ix2 h q) = D (512 + h.val)) (p : Fin 512) :
    k0_pay27 (F := Ideal) d n (ix2 p q) = D (p.val + 1) := by
  pointwise [k0_pay27, k0_pay26]
  have := p.isLt
  have e : (p.val + 520 - 519) % 520 = p.val + 1 := by omega
  split
  · rw [hd]; exact congrArg D e
  · rw [hn]; exact congrArg D (by show 512 + ((p.val + 520 - 519) % 520 - 512) = p.val + 1; omega)

/-- A block followed by the first rows of the next one, two rows on. -/
theorem shifted_two (d : S512x1408.Idx → EReal) (n : S8x1408.Idx → EReal) (q : Fin 1408) {D : ℕ → EReal}
    (hd : ∀ p : Fin 512, d (ix2 p q) = D p.val) (hn : ∀ h : Fin 8, n (ix2 h q) = D (512 + h.val)) (p : Fin 512) :
    k0_pay28 (F := Ideal) d n (ix2 p q) = D (p.val + 2) := by
  pointwise [k0_pay28, k0_pay26]
  have := p.isLt
  have e : (p.val + 520 - 518) % 520 = p.val + 2 := by omega
  split
  · rw [hd]; exact congrArg D e
  · rw [hn]; exact congrArg D (by show 512 + ((p.val + 520 - 518) % 520 - 512) = p.val + 2; omega)

/-- The rows' gradient in a block. -/
theorem stored_dconv (d : S512x1408.Idx → EReal) (n : S8x1408.Idx → EReal) (a : S1x3x1408.Idx → EReal) (q : Fin 1408) {D : ℕ → EReal}
    {A : Fin 3 → EReal} (hd : ∀ p : Fin 512, d (ix2 p q) = D p.val) (hn : ∀ h : Fin 8, n (ix2 h q) = D (512 + h.val))
    (ha : ∀ b, a (ix3 0 b q) = A b) (p : Fin 512) :
    k0_pay29 (F := Ideal) d n a (ix2 p q) = A 2 * D p.val + A 1 * D (p.val + 1) + A 0 * D (p.val + 2) := by
  pointwise [k0_pay29]
  rw [shifted_one d n q hd hn, shifted_two d n q hd hn, hd, ha, ha, ha]

/-- A tap's gradient with one block's rows added. -/
theorem stored_tap (d x : S512x1408.Idx → EReal) (o : S1x1x1408.Idx → EReal) (q : Fin 1408) {D X : Fin 512 → EReal} {O : EReal}
    (hd : ∀ p, d (ix2 p q) = D p) (hx : ∀ p, x (ix2 p q) = X p) (ho : o (ix3 0 0 q) = O) :
    k0_pay33 (F := Ideal) d x o (ix3 0 0 q) = O + ∑ p, D p * X p := by
  pointwise [k0_pay33, k0_pay32]
  simp only [hd, hx, ho]

/-- The bias gradient with one block's rows added. -/
theorem stored_bias (d : S512x1408.Idx → EReal) (o : S1x1408.Idx → EReal) (q : Fin 1408) {D : Fin 512 → EReal} {O : EReal}
    (hd : ∀ p, d (ix2 p q) = D p) (ho : o (ix2 0 q) = O) : k0_pay1 (F := Ideal) d o (ix2 0 q) = O + ∑ p, D p := by
  pointwise [k0_pay1]
  simp only [hd, ho]

/-- The second half's payloads are the first half's. -/
theorem dconv_gate (x : S512x1024.Idx → EReal) (v : S1408x1024.Idx → EReal) (g u : S512x1408.Idx → EReal) (n : S8x1408.Idx → EReal)
    (a : S1x3x1408.Idx → EReal) : k0_pay19 (F := Ideal) (k0_pay14 x v g u n) (k0_pay15 x v g u n) (k0_pay16 a) (k0_pay17 x v g u a)
      (k0_pay18 a) = k0_pay29 (k0_pay12 x v g u) n a := rfl
theorem one_gate (x : S512x1024.Idx → EReal) (v : S1408x1024.Idx → EReal) (g u : S512x1408.Idx → EReal) (n : S8x1408.Idx → EReal) :
    k0_pay14 (F := Ideal) x v g u n = k0_pay27 (k0_pay12 x v g u) n := rfl
theorem two_gate (x : S512x1024.Idx → EReal) (v : S1408x1024.Idx → EReal) (g u : S512x1408.Idx → EReal) (n : S8x1408.Idx → EReal) :
    k0_pay15 (F := Ideal) x v g u n = k0_pay28 (k0_pay12 x v g u) n := rfl
theorem tap0_gate (d x : S512x1408.Idx → EReal) (o : S1x1x1408.Idx → EReal) :
    k0_pay22 (F := Ideal) d x o = k0_pay33 d x o := rfl
theorem tap1_gate (d x : S512x1408.Idx → EReal) (o : S1x1x1408.Idx → EReal) :
    k0_pay23 (F := Ideal) d x o = k0_pay33 d x o := rfl
theorem tap2_gate (d x : S512x1408.Idx → EReal) (o : S1x1x1408.Idx → EReal) :
    k0_pay24 (F := Ideal) d (k0_pay21 x) o = k0_pay33 d x o := rfl
theorem tap1_value (d x : S512x1408.Idx → EReal) (o : S1x1x1408.Idx → EReal) :
    k0_pay34 (F := Ideal) d x o = k0_pay33 d x o := rfl
theorem tap2_value (d x : S512x1408.Idx → EReal) (o : S1x1x1408.Idx → EReal) :
    k0_pay35 (F := Ideal) d x o = k0_pay33 d x o := rfl
theorem bias_gate (d : S512x1408.Idx → EReal) (o : S1x1408.Idx → EReal) : k0_pay25 (F := Ideal) d o = k0_pay1 d o := rfl

/-! ## The two gradients at a point, and the rows kept for the next point -/

theorem dval_value (c : Dev nD) (t : Fin cfg0.N) (q : Fin 1408) (p : Fin 512) :
    k0_pay11 (iblk m c 0 t) (iblk m c 1 t) (iblk m c 2 t) (ix2 p q) = past (fun r => dval m c r (col t q)) (base t.val + p.val) :=
  (stored_dval _ _ _ p q (dy_block m c t p) (weight_block m c t q) (gate_block m c t p q)).trans
    (past_of_lt (fun r => dval m c r (col t q)) (at_ t p)).symm

theorem dgate_value (c : Dev nD) (t : Fin cfg0.N) (q : Fin 1408) (p : Fin 512) :
    k0_pay12 (iblk m c 0 t) (iblk m c 1 t) (iblk m c 2 t) (iblk m c 3 t) (ix2 p q)
      = past (fun r => dgate m c r (col t q)) (base t.val + p.val) :=
  (stored_dgate _ _ _ _ p q (dy_block m c t p) (weight_block m c t q) (gate_block m c t p q) (value_block m c t p q)).trans
    (past_of_lt (fun r => dgate m c r (col t q)) (at_ t p)).symm

theorem kept_dgate (c : Dev nD) (t : Fin cfg0.N) (h : Fin 8) (q : Fin 1408) : (outsAt0 m c t.val t.isLt).2.2.2.2.2.2.1 (ix2 h q)
    = past (fun r => dgate m c r (col t q)) (base t.val + h.val) := by
  have e := dgate_value m c t q ⟨h.val, by omega⟩
  refine Eq.trans ?_ e
  by_cases h0 : t.val % 8 = 0
  · rw [outsAt0_A m c t h0]
    frame_out
    pointwise [k0_pay20]
  · rw [outsAt0_B m c t h0]
    frame_out
    pointwise [k0_pay20]

theorem kept_dval (c : Dev nD) (t : Fin cfg0.N) (h : Fin 8) (q : Fin 1408) : (outsAt0 m c t.val t.isLt).2.2.2.2.2.2.2 (ix2 h q)
    = past (fun r => dval m c r (col t q)) (base t.val + h.val) := by
  have e := dval_value m c t q ⟨h.val, by omega⟩
  refine Eq.trans ?_ e
  by_cases h0 : t.val % 8 = 0
  · rw [outsAt0_A m c t h0]
    frame_out
    pointwise [k0_pay31, k0_pay30]
  · rw [outsAt0_B m c t h0]
    frame_out
    pointwise [k0_pay31, k0_pay30]

theorem before_lt (t : Fin cfg0.N) (h0 : ¬t.val % 8 = 0) : t.val - 1 < cfg0.N := by have := t.isLt; omega

theorem base_before (n h : ℕ) (h0 : ¬n % 8 = 0) : base (n - 1) + h = base n + (512 + h) := by
  unfold base
  have e : (n - 1) % 8 = n % 8 - 1 := by omega
  have := Nat.mod_lt n (by decide : 0 < 8)
  rw [e]
  omega

theorem col_before (t : Fin cfg0.N) (h0 : ¬t.val % 8 = 0) (q : Fin 1408) : col ⟨t.val - 1, before_lt t h0⟩ q = col t q :=
  Fin.ext (by
    show (t.val - 1) / 8 * 1408 + q.val = t.val / 8 * 1408 + q.val
    have e : (t.val - 1) / 8 = t.val / 8 := by omega
    rw [e])

/-- The rows kept are the next row block's first ones. -/
theorem next_dgate (c : Dev nD) (t : Fin cfg0.N) (h0 : ¬t.val % 8 = 0) (q : Fin 1408) (h : Fin 8) :
    (outsAt0 m c (t.val - 1) (before_lt t h0)).2.2.2.2.2.2.1 (ix2 h q)
      = past (fun r => dgate m c r (col t q)) (base t.val + (512 + h.val)) := by
  rw [← base_before t.val h.val h0, ← col_before t h0 q]
  exact kept_dgate m c ⟨t.val - 1, before_lt t h0⟩ h q

theorem next_dval (c : Dev nD) (t : Fin cfg0.N) (h0 : ¬t.val % 8 = 0) (q : Fin 1408) (h : Fin 8) :
    (outsAt0 m c (t.val - 1) (before_lt t h0)).2.2.2.2.2.2.2 (ix2 h q)
      = past (fun r => dval m c r (col t q)) (base t.val + (512 + h.val)) := by
  rw [← base_before t.val h.val h0, ← col_before t h0 q]
  exact kept_dval m c ⟨t.val - 1, before_lt t h0⟩ h q

/-- Past the last row block there is nothing. -/
theorem next_none (d : Fin 4096 → EReal) (n h : ℕ) (h0 : n % 8 = 0) : past d (base n + (512 + h)) = 0 :=
  past_of_le d (by unfold base; rw [h0]; omega)

theorem none_dgate (c : Dev nD) (t : Fin cfg0.N) (h0 : t.val % 8 = 0) (q : Fin 1408) (h : Fin 8) :
    k0_pay2 (F := Ideal) (ix2 h q) = past (fun r => dgate m c r (col t q)) (base t.val + (512 + h.val)) := by
  rw [next_none _ _ _ h0]
  pointwise [k0_pay2]

theorem none_dval (c : Dev nD) (t : Fin cfg0.N) (h0 : t.val % 8 = 0) (q : Fin 1408) (h : Fin 8) :
    k0_pay3 (F := Ideal) (ix2 h q) = past (fun r => dval m c r (col t q)) (base t.val + (512 + h.val)) := by
  rw [next_none _ _ _ h0]
  pointwise [k0_pay3]

end Cert.KernelIdeal.Act

end
-- ==== Proof.ActArrays.lean ====
/-
  The gradient of the gated causal convolution: the kernel's six result arrays after the run.
-/
module

public import proofs.«01_k».proof.Proof.Gen.KernelIdeal.Value
public import proofs.«01_k».proof.Proof.Stores
public import proofs.«01_k».proof.Proof.ActGrad
public import Idealize.ShloMosaic.Lib.Pipeline.ValueKit
public import Idealize.ShloMosaic.Lib.Pointwise
public import Idealize.ShloMosaic.Lib.StableHlo.ReadAt

@[expose] public section

set_option maxRecDepth 16384

noncomputable section

open Idealize.ShloMosaic Idealize.ShloMosaic.TcCoe Idealize.SL.Sem
open Idealize.ShloMosaic.Pipeline (Dat)

namespace Cert.KernelIdeal.Act

open Cert.KernelIdeal Cert.KernelIdeal.Gen

variable (m : (ℓ : Loc nD τ sig) → Buf (Elt Ideal) ℓ)

/-- The taps on a column, as a function of the tap. -/
def tapsAt (c : Dev nD) (k : Fin 5632) (b : Fin 3) : EReal := cw m c (ix2 b k)

/-- The gate half's rows' gradient after any point. -/
theorem gate_rows_block (c : Dev nD) (t : Fin cfg0.N) (p : Fin 512) (q : Fin 1408) : (outsAt0 m c t.val t.isLt).1 (ix2 p q)
    = dconv (fun r => dgate m c r (col t q)) (tapsAt m c (gc (col t q))) (base t.val + p.val) := by
  by_cases h0 : t.val % 8 = 0
  · rw [outsAt0_A m c t h0]
    frame_out
    rw [dconv_gate]
    exact stored_dconv _ _ _ q (D := fun s => past (fun r => dgate m c r (col t q)) (base t.val + s)) (dgate_value m c t q)
      (none_dgate m c t h0 q) (fun b => gate_taps_block m c t b q) p
  · rw [outsAt0_B m c t h0]
    frame_out
    simp only [read_unread_whole]
    rw [dconv_gate]
    exact stored_dconv _ _ _ q (D := fun s => past (fun r => dgate m c r (col t q)) (base t.val + s)) (dgate_value m c t q)
      (next_dgate m c t h0 q) (fun b => gate_taps_block m c t b q) p

/-- The value half's rows' gradient after any point. -/
theorem value_rows_block (c : Dev nD) (t : Fin cfg0.N) (p : Fin 512) (q : Fin 1408) : (outsAt0 m c t.val t.isLt).2.1 (ix2 p q)
    = dconv (fun r => dval m c r (col t q)) (tapsAt m c (vc (col t q))) (base t.val + p.val) := by
  by_cases h0 : t.val % 8 = 0
  · rw [outsAt0_A m c t h0]
    frame_out
    exact stored_dconv _ _ _ q (D := fun s => past (fun r => dval m c r (col t q)) (base t.val + s)) (dval_value m c t q)
      (none_dval m c t h0 q) (fun b => value_taps_block m c t b q) p
  · rw [outsAt0_B m c t h0]
    frame_out
    simp only [read_unread_whole]
    exact stored_dconv _ _ _ q (D := fun s => past (fun r => dval m c r (col t q)) (base t.val + s)) (dval_value m c t q)
      (next_dval m c t h0 q) (fun b => value_taps_block m c t b q) p

/-! ## The taps' gradients -/

/-- Three stores of a row each, read back. -/
theorem row_two (L : List (View.Piece (Elt Ideal) S1x3x1408 .f32)) (u : S1x1x1408.Idx → EReal) (q : Fin 1408) :
    View.canon (Val := Elt Ideal) (e := .f32)
      (⟨Rect.unit (s := S1x3x1408) ![0, 2, 0] ![1, 1, 1408] inb_S1x3x1408_S1x1x1408_0_2_0, u⟩ :: L) (ix3 0 2 q) = u (ix3 0 0 q) :=
  Stores.canon_at (Val := Elt Ideal) (e := .f32) (s := S1x3x1408) (off := ![0, 2, 0]) (size := ![1, 1, 1408])
    inb_S1x3x1408_S1x1x1408_0_2_0 u _ (ix3 0 2 q) (ix3 0 0 q) (by
      intro a; change Fin 3 at a; fin_cases a
      · exact Eq.refl 0
      · exact Eq.refl 2
      · exact (Nat.zero_add q.val).symm)

theorem row_one (L : List (View.Piece (Elt Ideal) S1x3x1408 .f32)) (u v : S1x1x1408.Idx → EReal) (q : Fin 1408) :
    View.canon (Val := Elt Ideal) (e := .f32)
      (⟨Rect.unit (s := S1x3x1408) ![0, 2, 0] ![1, 1, 1408] inb_S1x3x1408_S1x1x1408_0_2_0, v⟩ ::
        ⟨Rect.unit (s := S1x3x1408) ![0, 1, 0] ![1, 1, 1408] inb_S1x3x1408_S1x1x1408_0_1_0, u⟩ :: L) (ix3 0 1 q) = u (ix3 0 0 q) := by
  rw [Stores.canon_off _ _ _ _ ⟨1, .inl (show 1 < 2 by decide)⟩]
  exact Stores.canon_at (Val := Elt Ideal) (e := .f32) (s := S1x3x1408) (off := ![0, 1, 0]) (size := ![1, 1, 1408])
    inb_S1x3x1408_S1x1x1408_0_1_0 u _ (ix3 0 1 q) (ix3 0 0 q) (by
      intro a; change Fin 3 at a; fin_cases a
      · exact Eq.refl 0
      · exact Eq.refl 1
      · exact (Nat.zero_add q.val).symm)

theorem row_zero (L : List (View.Piece (Elt Ideal) S1x3x1408 .f32)) (u v w : S1x1x1408.Idx → EReal) (q : Fin 1408) :
    View.canon (Val := Elt Ideal) (e := .f32)
      (⟨Rect.unit (s := S1x3x1408) ![0, 2, 0] ![1, 1, 1408] inb_S1x3x1408_S1x1x1408_0_2_0, w⟩ ::
        ⟨Rect.unit (s := S1x3x1408) ![0, 1, 0] ![1, 1, 1408] inb_S1x3x1408_S1x1x1408_0_1_0, v⟩ ::
        ⟨Rect.unit (s := S1x3x1408) ![0, 0, 0] ![1, 1, 1408] inb_S1x3x1408_S1x1x1408_0_0_0, u⟩ :: L) (ix3 0 0 q) = u (ix3 0 0 q) := by
  rw [Stores.canon_off _ _ _ _ ⟨1, .inl (show 0 < 2 by decide)⟩, Stores.canon_off _ _ _ _ ⟨1, .inl (show 0 < 1 by decide)⟩]
  exact Stores.canon_at (Val := Elt Ideal) (e := .f32) (s := S1x3x1408) (off := ![0, 0, 0]) (size := ![1, 1, 1408])
    inb_S1x3x1408_S1x1x1408_0_0_0 u _ (ix3 0 0 q) (ix3 0 0 q) (by
      intro a; change Fin 3 at a; fin_cases a
      · exact Eq.refl 0
      · exact Eq.refl 0
      · exact (Nat.zero_add q.val).symm)

/-- What point `n` adds to a tap's gradient, for a gradient `d` of the rows and the rows `x` of a half. -/
def tapAdded (d x : Fin 4096 → Fin 2816 → EReal) (n : ℕ) (i : Fin 3 × Fin 1408) : EReal :=
  if hn : n < cfg0.N then ∑ p : Fin 512, past (fun r => d r (col ⟨n, hn⟩ i.2)) (base n + (p.val + (2 - i.1.val)))
    * x (at_ ⟨n, hn⟩ p) (col ⟨n, hn⟩ i.2) else 0

theorem tapAdded_at (d x : Fin 4096 → Fin 2816 → EReal) (t : Fin cfg0.N) (b : Fin 3) (q : Fin 1408) :
    tapAdded d x t.val (b, q) = ∑ p : Fin 512, past (fun r => d r (col t q)) (base t.val + (p.val + (2 - b.val)))
      * x (at_ t p) (col t q) := by
  unfold tapAdded
  exact dif_pos t.isLt

/-- What point `n` adds to a bias gradient. -/
def biasAdded (d : Fin 4096 → Fin 2816 → EReal) (n : ℕ) (q : Fin 1408) : EReal :=
  if hn : n < cfg0.N then ∑ p : Fin 512, past (fun r => d r (col ⟨n, hn⟩ q)) (base n + p.val) else 0

theorem biasAdded_at (d : Fin 4096 → Fin 2816 → EReal) (t : Fin cfg0.N) (q : Fin 1408) :
    biasAdded d t.val q = ∑ p : Fin 512, past (fun r => d r (col t q)) (base t.val + p.val) := by
  unfold biasAdded
  exact dif_pos t.isLt

/-- The rows of a half. -/
def preGate (c : Dev nD) (r : Fin 4096) (j : Fin 2816) : EReal := pre m c (ix2 r (gc j))
def preValue (c : Dev nD) (r : Fin 4096) (j : Fin 2816) : EReal := pre m c (ix2 r (vc j))

/-- The gate half's taps' gradient after point `t`: the sum over the rows of the blocks up to it. -/
theorem gate_taps_grad (c : Dev nD) (t : Fin cfg0.N) (i : Fin 3 × Fin 1408) : (outsAt0 m c t.val t.isLt).2.2.1 (ix3 0 i.1 i.2)
    = 0 + ∑ j ∈ Finset.range (t.val % 8 + 1), tapAdded (dgate m c) (preGate m c) (8 * (t.val / 8) + j) i := by
  refine Pipeline.eq_sum_of_reset_step_apply (fun n h (i : Fin 3 × Fin 1408) => (outsAt0 m c n h).2.2.1 (ix3 0 i.1 i.2)) 8
    (fun _ => 0) (tapAdded (dgate m c) (preGate m c)) ?_ ?_ t i
  · rintro t h0 ⟨b, q⟩
    show (outsAt0 m c t.val t.isLt).2.2.1 (ix3 0 b q) = _
    rw [outsAt0_A m c t h0, tapAdded_at]
    frame_out
    simp (disch := decide) only [↓ View.readCov_skip, ↓ View.readCov_cons_toLoadRect, ↓ View.readCov_fill]
    simp only [tap0_gate, tap1_gate, tap2_gate, one_gate, two_gate]
    match b with
    | 0 => exact (row_zero _ _ _ _ q).trans (stored_tap _ _ _ q
        (shifted_two _ _ q (D := fun s => past (fun r => dgate m c r (col t q)) (base t.val + s)) (dgate_value m c t q) (none_dgate m c t h0 q)) (fun p => gate_pre_block m c t p q) (by pointwise [k0_pay4]))
    | 1 => exact (row_one _ _ _ q).trans (stored_tap _ _ _ q
        (shifted_one _ _ q (D := fun s => past (fun r => dgate m c r (col t q)) (base t.val + s)) (dgate_value m c t q) (none_dgate m c t h0 q)) (fun p => gate_pre_block m c t p q) (by pointwise [k0_pay4]))
    | 2 => exact (row_two _ _ q).trans (stored_tap _ _ _ q (dgate_value m c t q) (fun p => gate_pre_block m c t p q) (by pointwise [k0_pay4]))
  · rintro t h0 ⟨b, q⟩
    show (outsAt0 m c t.val t.isLt).2.2.1 (ix3 0 b q) = (outsAt0 m c (t.val - 1) (before_lt t h0)).2.2.1 (ix3 0 b q) + _
    rw [outsAt0_B m c t h0, tapAdded_at]
    frame_out
    simp only [read_unread_whole]
    simp only [tap0_gate, tap1_gate, tap2_gate, one_gate, two_gate]
    match b with
    | 0 => exact (row_zero _ _ _ _ q).trans (stored_tap _ _ _ q
        (shifted_two _ _ q (D := fun s => past (fun r => dgate m c r (col t q)) (base t.val + s)) (dgate_value m c t q) (next_dgate m c t h0 q)) (fun p => gate_pre_block m c t p q) (by pointwise))
    | 1 => exact (row_one _ _ _ q).trans (stored_tap _ _ _ q
        (shifted_one _ _ q (D := fun s => past (fun r => dgate m c r (col t q)) (base t.val + s)) (dgate_value m c t q) (next_dgate m c t h0 q)) (fun p => gate_pre_block m c t p q) (by pointwise))
    | 2 => exact (row_two _ _ q).trans (stored_tap _ _ _ q (dgate_value m c t q) (fun p => gate_pre_block m c t p q) (by pointwise))

/-- The gate half's bias gradient after point `t`: the sum over the rows of the blocks up to it. -/
theorem gate_bias_grad (c : Dev nD) (t : Fin cfg0.N) (q : Fin 1408) : (outsAt0 m c t.val t.isLt).2.2.2.2.1 (ix2 0 q)
    = 0 + ∑ j ∈ Finset.range (t.val % 8 + 1), biasAdded (dgate m c) (8 * (t.val / 8) + j) q := by
  refine Pipeline.eq_sum_of_reset_step_apply (fun n h (q : Fin 1408) => (outsAt0 m c n h).2.2.2.2.1 (ix2 0 q)) 8
    (fun _ => 0) (biasAdded (dgate m c)) ?_ ?_ t q
  · intro t h0 q
    show (outsAt0 m c t.val t.isLt).2.2.2.2.1 (ix2 0 q) = _
    rw [outsAt0_A m c t h0, biasAdded_at]
    frame_out
    rw [bias_gate]
    exact stored_bias _ _ q (dgate_value m c t q) (by pointwise [k0_pay6])
  · intro t h0 q
    show (outsAt0 m c t.val t.isLt).2.2.2.2.1 (ix2 0 q) = _
    rw [outsAt0_B m c t h0, biasAdded_at]
    frame_out
    rw [bias_gate]
    exact stored_bias _ _ q (dgate_value m c t q) rfl

/-- The value half's taps' gradient after point `t`: the sum over the rows of the blocks up to it. -/
theorem value_taps_grad (c : Dev nD) (t : Fin cfg0.N) (i : Fin 3 × Fin 1408) : (outsAt0 m c t.val t.isLt).2.2.2.1 (ix3 0 i.1 i.2)
    = 0 + ∑ j ∈ Finset.range (t.val % 8 + 1), tapAdded (dval m c) (preValue m c) (8 * (t.val / 8) + j) i := by
  refine Pipeline.eq_sum_of_reset_step_apply (fun n h (i : Fin 3 × Fin 1408) => (outsAt0 m c n h).2.2.2.1 (ix3 0 i.1 i.2)) 8
    (fun _ => 0) (tapAdded (dval m c) (preValue m c)) ?_ ?_ t i
  · rintro t h0 ⟨b, q⟩
    show (outsAt0 m c t.val t.isLt).2.2.2.1 (ix3 0 b q) = _
    rw [outsAt0_A m c t h0, tapAdded_at]
    frame_out
    simp (disch := decide) only [↓ View.readCov_skip, ↓ View.readCov_cons_toLoadRect, ↓ View.readCov_fill]
    simp only [tap1_value, tap2_value]
    match b with
    | 0 => exact (row_zero _ _ _ _ q).trans (stored_tap _ _ _ q
        (shifted_two _ _ q (D := fun s => past (fun r => dval m c r (col t q)) (base t.val + s)) (dval_value m c t q) (none_dval m c t h0 q)) (fun p => value_pre_block m c t p q) (by pointwise [k0_pay5]))
    | 1 => exact (row_one _ _ _ q).trans (stored_tap _ _ _ q
        (shifted_one _ _ q (D := fun s => past (fun r => dval m c r (col t q)) (base t.val + s)) (dval_value m c t q) (none_dval m c t h0 q)) (fun p => value_pre_block m c t p q) (by pointwise [k0_pay5]))
    | 2 => exact (row_two _ _ q).trans (stored_tap _ _ _ q (dval_value m c t q) (fun p => value_pre_block m c t p q) (by pointwise [k0_pay5]))
  · rintro t h0 ⟨b, q⟩
    show (outsAt0 m c t.val t.isLt).2.2.2.1 (ix3 0 b q) = (outsAt0 m c (t.val - 1) (before_lt t h0)).2.2.2.1 (ix3 0 b q) + _
    rw [outsAt0_B m c t h0, tapAdded_at]
    frame_out
    simp only [read_unread_whole]
    simp only [tap1_value, tap2_value]
    match b with
    | 0 => exact (row_zero _ _ _ _ q).trans (stored_tap _ _ _ q
        (shifted_two _ _ q (D := fun s => past (fun r => dval m c r (col t q)) (base t.val + s)) (dval_value m c t q) (next_dval m c t h0 q)) (fun p => value_pre_block m c t p q) (by pointwise))
    | 1 => exact (row_one _ _ _ q).trans (stored_tap _ _ _ q
        (shifted_one _ _ q (D := fun s => past (fun r => dval m c r (col t q)) (base t.val + s)) (dval_value m c t q) (next_dval m c t h0 q)) (fun p => value_pre_block m c t p q) (by pointwise))
    | 2 => exact (row_two _ _ q).trans (stored_tap _ _ _ q (dval_value m c t q) (fun p => value_pre_block m c t p q) (by pointwise))

/-- The value half's bias gradient after point `t`: the sum over the rows of the blocks up to it. -/
theorem value_bias_grad (c : Dev nD) (t : Fin cfg0.N) (q : Fin 1408) : (outsAt0 m c t.val t.isLt).2.2.2.2.2.1 (ix2 0 q)
    = 0 + ∑ j ∈ Finset.range (t.val % 8 + 1), biasAdded (dval m c) (8 * (t.val / 8) + j) q := by
  refine Pipeline.eq_sum_of_reset_step_apply (fun n h (q : Fin 1408) => (outsAt0 m c n h).2.2.2.2.2.1 (ix2 0 q)) 8
    (fun _ => 0) (biasAdded (dval m c)) ?_ ?_ t q
  · intro t h0 q
    show (outsAt0 m c t.val t.isLt).2.2.2.2.2.1 (ix2 0 q) = _
    rw [outsAt0_A m c t h0, biasAdded_at]
    frame_out
    exact stored_bias _ _ q (dval_value m c t q) (by pointwise [k0_pay7])
  · intro t h0 q
    show (outsAt0 m c t.val t.isLt).2.2.2.2.2.1 (ix2 0 q) = _
    rw [outsAt0_B m c t h0, biasAdded_at]
    frame_out
    exact stored_bias _ _ q (dval_value m c t q) rfl

/-! ## The arrays after the run -/

/-- The column of a half that column `q` of shard `a` is. -/
def shard (a : Fin 2) (q : Fin 1408) : Fin 2816 := ⟨a.val * 1408 + q.val, by have := a.isLt; have := q.isLt; omega⟩

theorem point_of (t : Fin cfg0.N) (k : Fin 8) : 8 * (t.val / 8) + k.val < cfg0.N := by
  have h := point_lt t
  have h16 : cfg0.N = 16 := by decide
  have := k.isLt
  omega

/-- A sum over the row blocks taken from the last to the first is the sum over the rows. -/
theorem sum_points (t : Fin cfg0.N) (f : ℕ → EReal) (g : Fin 4096 → EReal)
    (h : ∀ k : Fin 8, f (8 * (t.val / 8) + k.val) = ∑ p : Fin 512, g (at_ ⟨8 * (t.val / 8) + k.val, point_of t k⟩ p)) :
    0 + ∑ j ∈ Finset.range (7 + 1), f (8 * (t.val / 8) + j) = ∑ r : Fin 4096, g r := by
  rw [zero_add, Fin.sum_univ_tiles 8 512 rfl, Finset.sum_range]
  refine Eq.trans ?_ (Equiv.sum_comp Fin.revPerm _)
  refine Finset.sum_congr rfl fun k _ => (h k).trans (Finset.sum_congr rfl fun p _ => congrArg g (Fin.ext ?_))
  have hk : (Fin.revPerm k).val = 7 - k.val := by rw [Fin.revPerm_apply, Fin.val_rev]; omega
  have e : (8 * (t.val / 8) + k.val) % 8 = k.val := by have := k.isLt; omega
  simp [at_, hk, e]

theorem col_point (t : Fin cfg0.N) (k : Fin 8) (q : Fin 1408) : col ⟨8 * (t.val / 8) + k.val, point_of t k⟩ q = col t q :=
  Fin.ext (by
    show (8 * (t.val / 8) + k.val) / 8 * 1408 + q.val = t.val / 8 * 1408 + q.val
    have e : (8 * (t.val / 8) + k.val) / 8 = t.val / 8 := by have := k.isLt; omega
    rw [e])

theorem tap_total (d x : Fin 4096 → Fin 2816 → EReal) (t : Fin cfg0.N) (b : Fin 3) (q : Fin 1408) :
    0 + ∑ j ∈ Finset.range (7 + 1), tapAdded d x (8 * (t.val / 8) + j) (b, q)
      = dtap (fun r => d r (col t q)) (fun r => x r (col t q)) b := by
  refine (sum_points t (fun n => tapAdded d x n (b, q))
    (fun r => past (fun r => d r (col t q)) (r.val + (2 - b.val)) * x r (col t q)) fun k => ?_)
  refine (tapAdded_at d x ⟨8 * (t.val / 8) + k.val, point_of t k⟩ b q).trans ?_
  rw [col_point]
  exact Finset.sum_congr rfl fun p _ => congrArg (fun s => past (fun r => d r (col t q)) s
    * x (at_ ⟨8 * (t.val / 8) + k.val, point_of t k⟩ p) (col t q)) (Nat.add_assoc _ _ _).symm

theorem bias_total (d : Fin 4096 → Fin 2816 → EReal) (t : Fin cfg0.N) (q : Fin 1408) :
    0 + ∑ j ∈ Finset.range (7 + 1), biasAdded d (8 * (t.val / 8) + j) q = ∑ r : Fin 4096, d r (col t q) := by
  refine (sum_points t (fun n => biasAdded d n q) (fun r => d r (col t q)) fun k => ?_)
  refine (biasAdded_at d ⟨8 * (t.val / 8) + k.val, point_of t k⟩ q).trans ?_
  rw [col_point]
  exact Finset.sum_congr rfl fun p _ => past_of_lt (fun r => d r (col t q)) (at_ ⟨8 * (t.val / 8) + k.val, point_of t k⟩ p)

/-- The gate half's rows' gradient after the run. -/
theorem gate_rows_final (c : Dev nD) : (dats m 0 c).arrAt 8 cfg0.N
    = (fun i => dconv (fun r => dgate m c r (i 1)) (tapsAt m c (gc (i 1))) (i 0).val : S4096x2816.Idx → EReal) := by
  refine (dats m 0 c).arrAt_eq_of_covers 8 _ (by decide +kernel) fun t hf j => ?_
  obtain ⟨p, q, rfl⟩ : ∃ (p : Fin 512) (q : Fin 1408), j = ix2 p q := ⟨j 0, j 1, eq_ix2 j⟩
  show (outsAt0 m c t.val t.isLt).1 (ix2 p q) = _
  rw [gate_rows_block]
  have h := idx t
  refine congrArg₂ (fun (s : ℕ) k => dconv (fun r => dgate m c r k) (tapsAt m c (gc k)) s) ?_ (Fin.ext ?_)
  · unfold base; blk_simp [h]
  · unfold col; blk_simp [h]

/-- The gate half's taps' gradient after the run. -/
theorem gate_taps_final (c : Dev nD) : (dats m 0 c).arrAt 10 cfg0.N
    = (fun i => dtap (fun r => dgate m c r (shard (i 0) (i 2))) (fun r => preGate m c r (shard (i 0) (i 2))) (i 1)
      : S2x3x1408.Idx → EReal) := by
  refine (dats m 0 c).arrAt_eq_of_covers 10 _ (by decide +kernel) fun t hf j => ?_
  obtain ⟨p, b, q, rfl⟩ : ∃ (p : Fin 1) (b : Fin 3) (q : Fin 1408), j = ix3 p b q := ⟨j 0, j 1, j 2, eq_ix3 j⟩
  obtain rfl : p = 0 := Subsingleton.elim _ _
  have ht : t.val % 8 = 7 := by revert t; decide +kernel
  show (outsAt0 m c t.val t.isLt).2.2.1 (ix3 0 b q) = _
  rw [gate_taps_grad m c t (b, q), ht, tap_total]
  have h := idx t
  refine congrArg₂ (fun k b => dtap (fun r => dgate m c r k) (fun r => preGate m c r k) b) (Fin.ext ?_) (Fin.ext ?_)
  · unfold col shard; blk_simp [h]
    exact congrArg (fun s => s * 1408 + q.val) (Nat.add_zero _).symm
  · blk_simp [h]

/-- The gate half's bias gradient after the run. -/
theorem gate_bias_final (c : Dev nD) : (dats m 0 c).arrAt 12 cfg0.N
    = (fun i => ∑ r : Fin 4096, dgate m c r (i 1) : S1x2816.Idx → EReal) := by
  refine (dats m 0 c).arrAt_eq_of_covers 12 _ (by decide +kernel) fun t hf j => ?_
  obtain ⟨p, q, rfl⟩ : ∃ (p : Fin 1) (q : Fin 1408), j = ix2 p q := ⟨j 0, j 1, eq_ix2 j⟩
  obtain rfl : p = 0 := Subsingleton.elim _ _
  have ht : t.val % 8 = 7 := by revert t; decide +kernel
  show (outsAt0 m c t.val t.isLt).2.2.2.2.1 (ix2 0 q) = _
  rw [gate_bias_grad, ht, bias_total]
  have h := idx t
  refine congrArg (fun k => ∑ r : Fin 4096, dgate m c r k) (Fin.ext ?_)
  unfold col; blk_simp [h]

/-- The value half's rows' gradient after the run. -/
theorem value_rows_final (c : Dev nD) : (dats m 0 c).arrAt 9 cfg0.N
    = (fun i => dconv (fun r => dval m c r (i 1)) (tapsAt m c (vc (i 1))) (i 0).val : S4096x2816.Idx → EReal) := by
  refine (dats m 0 c).arrAt_eq_of_covers 9 _ (by decide +kernel) fun t hf j => ?_
  obtain ⟨p, q, rfl⟩ : ∃ (p : Fin 512) (q : Fin 1408), j = ix2 p q := ⟨j 0, j 1, eq_ix2 j⟩
  show (outsAt0 m c t.val t.isLt).2.1 (ix2 p q) = _
  rw [value_rows_block]
  have h := idx t
  refine congrArg₂ (fun (s : ℕ) k => dconv (fun r => dval m c r k) (tapsAt m c (vc k)) s) ?_ (Fin.ext ?_)
  · unfold base; blk_simp [h]
  · unfold col; blk_simp [h]

/-- The value half's taps' gradient after the run. -/
theorem value_taps_final (c : Dev nD) : (dats m 0 c).arrAt 11 cfg0.N
    = (fun i => dtap (fun r => dval m c r (shard (i 0) (i 2))) (fun r => preValue m c r (shard (i 0) (i 2))) (i 1)
      : S2x3x1408.Idx → EReal) := by
  refine (dats m 0 c).arrAt_eq_of_covers 11 _ (by decide +kernel) fun t hf j => ?_
  obtain ⟨p, b, q, rfl⟩ : ∃ (p : Fin 1) (b : Fin 3) (q : Fin 1408), j = ix3 p b q := ⟨j 0, j 1, j 2, eq_ix3 j⟩
  obtain rfl : p = 0 := Subsingleton.elim _ _
  have ht : t.val % 8 = 7 := by revert t; decide +kernel
  show (outsAt0 m c t.val t.isLt).2.2.2.1 (ix3 0 b q) = _
  rw [value_taps_grad m c t (b, q), ht, tap_total]
  have h := idx t
  refine congrArg₂ (fun k b => dtap (fun r => dval m c r k) (fun r => preValue m c r k) b) (Fin.ext ?_) (Fin.ext ?_)
  · unfold col shard; blk_simp [h]
    exact congrArg (fun s => s * 1408 + q.val) (Nat.add_zero _).symm
  · blk_simp [h]

/-- The value half's bias gradient after the run. -/
theorem value_bias_final (c : Dev nD) : (dats m 0 c).arrAt 13 cfg0.N
    = (fun i => ∑ r : Fin 4096, dval m c r (i 1) : S1x2816.Idx → EReal) := by
  refine (dats m 0 c).arrAt_eq_of_covers 13 _ (by decide +kernel) fun t hf j => ?_
  obtain ⟨p, q, rfl⟩ : ∃ (p : Fin 1) (q : Fin 1408), j = ix2 p q := ⟨j 0, j 1, eq_ix2 j⟩
  obtain rfl : p = 0 := Subsingleton.elim _ _
  have ht : t.val % 8 = 7 := by revert t; decide +kernel
  show (outsAt0 m c t.val t.isLt).2.2.2.2.2.1 (ix2 0 q) = _
  rw [value_bias_grad, ht, bias_total]
  have h := idx t
  refine congrArg (fun k => ∑ r : Fin 4096, dval m c r k) (Fin.ext ?_)
  unfold col; blk_simp [h]

end Cert.KernelIdeal.Act

end
-- ==== Proof.Rms.lean ====
/-
  The gradient of the root-mean-square norm over a row of 1024 numbers: the kernel's form and the form that
  differentiating the norm's lines gives are one number, at finite rows.
-/
module

public import Idealize.ShloMosaic.Lib.IdealHost
public import Idealize.ShloMosaic.PureOps.Ideal.Laws

@[expose] public section

noncomputable section

open Idealize.ShloMosaic

namespace Cert.Finite

/-- The extended real is a real number. -/
def IsReal (x : EReal) : Prop := ∃ r : ℝ, x = (r : EReal)

/-- An extended real whose magnitude is below infinity is real. -/
theorem isReal_of_abs {x : EReal} (h : max x (-x) < ⊤) : IsReal x := by
  induction x with
  | bot => simp at h
  | coe r => exact ⟨r, rfl⟩
  | top => simp at h

/-- The test `|x| < ∞`, come out true, says the extended real is real. -/
theorem isReal_of_test {x : EReal}
    (h : FloatOps.cmpf (F := Ideal) (φ := .f32) .olt (FloatOps.absf x) (Ideal.ofBits .f32 0x7F800000#32) = 1#1) : IsReal x := by
  have inf : Ideal.ofBits .f32 0x7F800000#32 = ⊤ := by simp [Ideal.ofBits, Ideal.ieee]
  have h' : BitVec.ofBool (decide (max x (-x) < Ideal.ofBits .f32 0x7F800000#32)) = 1#1 := h
  rw [inf] at h'
  refine isReal_of_abs ?_
  by_contra hn
  simp [hn] at h'

/-- The sum of reals, read as an extended real, is the sum of the readings. -/
theorem coe_sum {ι : Type*} (s : Finset ι) (f : ι → ℝ) : ((∑ k ∈ s, f k : ℝ) : EReal) = ∑ k ∈ s, (f k : EReal) := by
  classical
  induction s using Finset.induction_on with
  | empty => simp
  | insert a s ha ih => rw [Finset.sum_insert ha, Finset.sum_insert ha, EReal.coe_add, ih]

theorem IsReal.mul {x y : EReal} (hx : IsReal x) (hy : IsReal y) : IsReal (x * y) := by
  obtain ⟨a, rfl⟩ := hx
  obtain ⟨b, rfl⟩ := hy
  exact ⟨a * b, (EReal.coe_mul a b).symm⟩

theorem IsReal.add {x y : EReal} (hx : IsReal x) (hy : IsReal y) : IsReal (x + y) := by
  obtain ⟨a, rfl⟩ := hx
  obtain ⟨b, rfl⟩ := hy
  exact ⟨a + b, (EReal.coe_add a b).symm⟩

theorem IsReal.sum {ι : Type*} {s : Finset ι} {f : ι → EReal} (h : ∀ k, IsReal (f k)) : IsReal (∑ k ∈ s, f k) := by
  choose g hg using h
  exact ⟨∑ k ∈ s, g k, by rw [coe_sum]; exact Finset.sum_congr rfl fun k _ => hg k⟩

end Cert.Finite

namespace Cert.Rms

open Cert.Finite

theorem width : Ideal.ofBits .f32 1149239296#32 = ((1024 : ℝ) : EReal) := by
  simp [Ideal.ofBits, Ideal.ieee, -EReal.coe_mul]; norm_num

theorem minus_half : Ideal.ofBits .f32 3204448256#32 = ((-(1 / 2) : ℝ) : EReal) := by
  simp [Ideal.ofBits, Ideal.ieee, -EReal.coe_mul, -EReal.coe_neg]; norm_num

theorem eps_pos : ∃ e : ℝ, 0 < e ∧ Ideal.ofBits .f32 897988541#32 = (e : EReal) := by
  refine ⟨_, ?_, by simp only [Ideal.ofBits, Ideal.ieee]; simp [-EReal.coe_mul]; rfl⟩
  norm_num

/-- The mean square of a row plus the constant under the root. -/
def ms (y : Fin 1024 → EReal) : EReal :=
  Ideal.div (∑ k, y k * y k) (Ideal.ofBits .f32 1149239296#32) + Ideal.ofBits .f32 897988541#32

/-- What differentiating the reciprocal root leaves on each element of the row. -/
def slope (y e : Fin 1024 → EReal) : EReal :=
  ∑ _x : Fin 1, Ideal.div ((∑ k, y k * e k) * (Ideal.ofBits .f32 3204448256#32 * Ideal.div (Ideal.rsqrt (ms y)) (ms y)))
    (Ideal.ofBits .f32 1149239296#32)

/-- The kernel's gradient of the norm, added to what arrives past it, is the gradient that differentiating the
    norm's lines gives. -/
theorem backward (y d g : Fin 1024 → EReal) (o : EReal) (hy : ∀ k, IsReal (y k)) (hd : ∀ k, IsReal (d k))
    (hg : ∀ k, IsReal (g k)) (q : Fin 1024) :
    o + Ideal.rsqrt (ms y) * (d q * g q - y q * Ideal.rsqrt (ms y) *
        Ideal.div (∑ k, d k * g k * (y k * Ideal.rsqrt (ms y))) (Ideal.ofBits .f32 1149239296#32))
      = o + d q * g q * Ideal.rsqrt (ms y) + y q * slope y (fun k => d k * g k) + slope y (fun k => d k * g k) * y q := by
  choose y' hy' using hy
  choose d' hd' using hd
  choose g' hg' using hg
  obtain rfl : y = fun k => (y' k : EReal) := funext hy'
  obtain rfl : d = fun k => (d' k : EReal) := funext hd'
  obtain rfl : g = fun k => (g' k : EReal) := funext hg'
  obtain ⟨e, he, hee⟩ := eps_pos
  have h1024 : (1024 : ℝ) ≠ 0 := by norm_num
  have hm : ms (fun k => (y' k : EReal)) = (((∑ k, y' k * y' k) * (1 / 1024) + e : ℝ) : EReal) := by
    unfold ms
    rw [width, hee, Ideal.div_coe h1024, EReal.coe_add, EReal.coe_mul, coe_sum]
    simp only [EReal.coe_mul]
  have hpos : 0 < (∑ k, y' k * y' k) * (1 / 1024) + e := by
    have : 0 ≤ ∑ k, y' k * y' k := Finset.sum_nonneg fun k _ => mul_self_nonneg _
    positivity
  unfold slope
  rw [hm]
  generalize (∑ k, y' k * y' k) * (1 / 1024) + e = M at hpos
  have hr : Ideal.rsqrt (M : EReal) = (((√M)⁻¹ : ℝ) : EReal) := by
    rw [Ideal.rsqrt_coe, if_neg (not_lt.2 hpos.le), if_neg hpos.ne']
  have hs : (√M)⁻¹ * (1 / M) = (√M)⁻¹ * (√M)⁻¹ * (√M)⁻¹ := by
    have h2 : √M * √M = M := Real.mul_self_sqrt hpos.le
    have h3 : √M ≠ 0 := (Real.sqrt_pos.2 hpos).ne'
    rw [one_div, ← h2, Real.sqrt_mul_self (Real.sqrt_nonneg M)]
    field_simp
  rw [hr]
  generalize (√M)⁻¹ = R at hs
  simp only [Fin.sum_univ_one, width, minus_half, Ideal.div_coe h1024, Ideal.div_coe hpos.ne']
  simp only [← EReal.coe_mul, ← coe_sum, hs]
  simp only [add_assoc o]
  congr 1
  simp only [← EReal.coe_sub, ← EReal.coe_mul, ← EReal.coe_add]
  congr 1
  have e1 : ∑ k, d' k * g' k * (y' k * R) = R * ∑ k, y' k * (d' k * g' k) := by
    rw [Finset.mul_sum]; exact Finset.sum_congr rfl fun k _ => by ring
  rw [e1]
  ring

end Cert.Rms

end
-- ==== Proof.ActClaim.lean ====
/-
  The claims about the gradient of the gated causal convolution.
-/
module

public import proofs.«01_k».proof.Defs
public import proofs.«01_k».proof.Proof.ActArrays
public import proofs.«01_k».proof.Proof.Rms
public import proofs.«01_k».proof.Proof.Gen.ReferenceIdeal.Run
public import proofs.«01_k».proof.Proof.Gen.ReferenceIdeal.Read
public import proofs.«01_k».proof.Proof.Gen.Pre_finite

@[expose] public section

set_option maxRecDepth 16384

noncomputable section

open Idealize.ShloMosaic Idealize.SL.Sem

namespace Cert.Act

open Cert.Finite Cert.KernelIdeal.Act

/-- The sum over two leading axes of one element each is the element. -/
theorem sum_unit {n : ℕ} (h : (⟨3, ![1, 1, n]⟩ : Shape).ReducesTo [0, 1] ⟨1, ![n]⟩) (v : (⟨3, ![1, 1, n]⟩ : Shape).Idx → EReal)
    (q : Fin n) : Ideal.hostReduceAdd h v 0 (ix1 q) = v (ix3 0 0 q) := by
  have fiber : ∀ i : (⟨3, ![1, 1, n]⟩ : Shape).Idx, h.drop i = ix1 q ↔ i = ix3 0 0 q := by
    intro i
    constructor
    · intro e
      funext a; apply Fin.ext
      match a with
      | ⟨0, h0⟩ => exact Nat.lt_one_iff.mp (i ⟨0, h0⟩).isLt
      | ⟨1, h1⟩ => exact Nat.lt_one_iff.mp (i ⟨1, h1⟩).isLt
      | ⟨2, _⟩ => exact congrArg Fin.val (congrFun e 0)
    · rintro rfl
      funext b
      apply Fin.ext
      match b with
      | ⟨0, _⟩ => rfl
  unfold Ideal.hostReduceAdd
  rw [zero_add, Finset.filter_congr fun i _ => fiber i, Finset.filter_eq' Finset.univ (ix3 0 0 q : (⟨3, ![1, 1, n]⟩ : Shape).Idx),
    if_pos (Finset.mem_univ _), Finset.sum_singleton]

/-- The tap on the row itself: the products of the gradient with the rows. -/
theorem tap_two (d x : Fin 4096 → EReal) : ∑ r, d r * x r = dtap d x 2 :=
  Finset.sum_congr rfl fun r _ => congrArg (· * x r) (past_of_lt d r).symm

/-- The tap on the row before: the products with the rows moved one later. -/
theorem tap_one (d x : Fin 4096 → EReal) :
    (∑ r : Fin 4096, d r * if h : 1 + r.val < 2 then 0 else x ⟨1 + r.val - 2, by omega⟩) = dtap d x 1 := by
  unfold dtap
  rw [Fin.sum_univ_succ, Fin.sum_univ_castSucc (n := 4095)]
  have e0 : past d ((Fin.last 4095).val + (2 - (1 : Fin 3).val)) = 0 := past_of_le d (by simp)
  rw [e0, zero_mul, add_zero, dif_pos (show 1 + (0 : Fin 4096).val < 2 by decide), mul_zero, zero_add]
  refine Finset.sum_congr rfl fun r _ => ?_
  have h : ¬ 1 + r.succ.val < 2 := by simp
  rw [dif_neg h]
  have e1 : past d (r.castSucc.val + (2 - (1 : Fin 3).val)) = d r.succ := past_of_lt d r.succ
  rw [e1]
  refine congrArg (d r.succ * x ·) (Fin.ext ?_)
  simp only [Fin.val_succ, Fin.val_castSucc]
  omega

/-- The tap two rows back: the products with the rows moved two later. -/
theorem tap_zero (d x : Fin 4096 → EReal) :
    (∑ r : Fin 2, d ⟨r.val, by omega⟩ * 0) + ∑ r : Fin 4094, d ⟨2 + r.val, by omega⟩ * x ⟨r.val, by omega⟩ = dtap d x 0 := by
  unfold dtap
  rw [Fin.sum_univ_add (a := 4094) (b := 2)]
  simp only [mul_zero, Finset.sum_const_zero, zero_add]
  have e0 : ∑ i : Fin 2, past d ((Fin.natAdd 4094 i).val + (2 - (0 : Fin 3).val)) * x (Fin.natAdd 4094 i) = 0 :=
    Finset.sum_eq_zero fun i _ => by
      rw [past_of_le d (by simp only [Fin.val_natAdd, Fin.val_zero]; omega), zero_mul]
  refine Eq.trans ?_ (congrArg (_ + ·) e0).symm
  rw [add_zero]
  refine Finset.sum_congr rfl fun r _ => ?_
  have e1 : past d ((Fin.castAdd 2 r).val + (2 - (0 : Fin 3).val)) = d ⟨2 + r.val, by omega⟩ := by
    unfold past
    rw [dif_pos (by simp only [Fin.val_castAdd, Fin.val_zero]; omega)]
    refine congrArg d (Fin.ext ?_)
    simp only [Fin.val_castAdd, Fin.val_zero]
    omega
  exact congrArg (· * x ⟨r.val, by omega⟩) e1.symm

/-- The three padded products, each where its row lies inside the array, are the convolution's gradient. -/
theorem pads (g : Fin 4096 → Fin 5632 → EReal) (a : Fin 3 → Fin 5632 → EReal) (p : Fin 4096) (n : ℕ) (hn : n < 5632) :
    ((if h : n < 5632 then a 2 ⟨n, h⟩ * g p ⟨n, h⟩ else 0)
      + if h : (1 ≤ 2 + p.val ∧ 2 + p.val - 1 < 4096) ∧ n < 5632 then a 1 ⟨n, h.2⟩ * g ⟨2 + p.val - 1, h.1.2⟩ ⟨n, h.2⟩ else 0)
      + (if h : 2 + p.val < 4096 ∧ n < 5632 then a 0 ⟨n, h.2⟩ * g ⟨2 + p.val, h.1⟩ ⟨n, h.2⟩ else 0)
      = dconv (fun r => g r ⟨n, hn⟩) (fun k => a k ⟨n, hn⟩) p.val := by
  unfold dconv
  rw [dif_pos hn, past_of_lt]
  congr 1
  · congr 1
    by_cases h : p.val + 1 < 4096
    · rw [dif_pos ⟨⟨by omega, by omega⟩, hn⟩]
      unfold past
      rw [dif_pos h]
      exact congrArg (fun s => a 1 ⟨n, hn⟩ * g s ⟨n, hn⟩) (Fin.ext (by simp only; omega))
    · rw [dif_neg (fun hh => h (by omega)), past_of_le _ (by omega), mul_zero]
  · by_cases h : p.val + 2 < 4096
    · rw [dif_pos ⟨by omega, hn⟩]
      unfold past
      rw [dif_pos h]
      exact congrArg (fun s => a 0 ⟨n, hn⟩ * g s ⟨n, hn⟩) (Fin.ext (by simp only; omega))
    · rw [dif_neg (fun hh => h (by omega)), past_of_le _ (by omega), mul_zero]

/-- Of the three padded rows of taps, the one at row `b` counts. -/
theorem pick (f0 f1 f2 : Fin 5632 → EReal) (b : Fin 3) (n : ℕ) (hn : n < 5632) :
    ((if h : (2 ≤ b.val ∧ b.val - 2 < 1) ∧ n < 5632 then f2 ⟨n, h.2⟩ else 0)
      + if h : (1 ≤ b.val ∧ b.val - 1 < 1) ∧ n < 5632 then f1 ⟨n, h.2⟩ else 0)
      + (if h : b.val < 1 ∧ n < 5632 then f0 ⟨n, h.2⟩ else 0)
      = match b with | 0 => f0 ⟨n, hn⟩ | 1 => f1 ⟨n, hn⟩ | 2 => f2 ⟨n, hn⟩ := by
  match b with
  | 0 => rw [dif_neg (fun h => absurd h.1.1 (by decide)), dif_neg (fun h => absurd h.1.1 (by decide)), dif_pos ⟨by decide, hn⟩, zero_add, zero_add]
  | 1 => rw [dif_neg (fun h => absurd h.1.1 (by decide)), dif_pos ⟨⟨by decide, by decide⟩, hn⟩, dif_neg (fun h => absurd h.1 (by decide)), zero_add, add_zero]
  | 2 => rw [dif_pos ⟨⟨by decide, by decide⟩, hn⟩, dif_neg (fun h => absurd h.1.2 (by decide)), dif_neg (fun h => absurd h.1 (by decide)), add_zero, add_zero]

/-- The sigmoid of a real is real. -/
theorem isReal_logistic {x : EReal} (h : IsReal x) : IsReal (Ideal.logistic x) := by
  obtain ⟨r, rfl⟩ := h
  exact ⟨_, Ideal.logistic_coe r⟩

/-- The gradient of `g · σ(g)`, times the gradient of its product with `v`: gathered, and as the product rule writes it. -/
theorem gate_rule {d v g s : EReal} (hd : IsReal d) (hv : IsReal v) (hg : IsReal g) (hs : IsReal s) :
    d * v * s + g * (d * v) * (s * (1 - s)) = d * v * (s * (1 + g * (1 - s))) := by
  obtain ⟨d, rfl⟩ := hd
  obtain ⟨v, rfl⟩ := hv
  obtain ⟨g, rfl⟩ := hg
  obtain ⟨s, rfl⟩ := hs
  norm_cast
  ring

/-- The convolution of reals is real. -/
theorem isReal_conv {x : Cert.KernelIdeal.S4096x5632.Idx → EReal} {a : Cert.KernelIdeal.S3x5632.Idx → EReal}
    {b : Cert.KernelIdeal.S5632.Idx → EReal} (hx : ∀ i, IsReal (x i)) (ha : ∀ i, IsReal (a i)) (hb : ∀ i, IsReal (b i))
    (p : Fin 4096) (q : Fin 5632) : IsReal (conv x a b p q) := by
  have hz : IsReal (0 : EReal) := ⟨0, EReal.coe_zero.symm⟩
  unfold conv
  refine (((hb _).add ((ha _).mul ?_)).add ((ha _).mul ?_)).add ((ha _).mul (hx _))
  · split
    · exact hz
    · exact hx _
  · split
    · exact hz
    · exact hx _

end Cert.Act

namespace Cert.ReferenceIdeal.Act

open Cert.ReferenceIdeal Cert.KernelIdeal.Act

variable (x0 : S4096x1024.Idx → EReal) (x1 : S2816x1024.Idx → EReal) (x2 : S4096x5632.Idx → EReal) (x3 : S3x5632.Idx → EReal)
  (x4 : S5632.Idx → EReal)

/-- The gradient of the convolved rows that differentiating the gated product gives. -/
def dz (p : Fin 4096) (q : Fin 5632) : EReal := Read.val_main_v40 (F := Ideal) x0 x1 x2 x3 x4 (ix3 0 p q)

theorem conv_value (p : Fin 4096) (q : Fin 5632) : Read.val_main_v27 (F := Ideal) x2 x3 x4 (ix3 0 p q) = conv x2 x3 x4 p q := by
  pointwise [Read.val_main_v0, Read.val_main_v1, Read.val_main_cst, Read.val_main_v2, Read.val_main_v3,
    Read.val_main_cst_0, Read.val_main_v4, Read.val_main_v5, Read.val_main_v6, Read.val_main_v7, Read.val_main_v8,
    Read.val_main_v9, Read.val_main_v10, Read.val_main_v11, Read.val_main_v12, Read.val_main_v13, Read.val_main_v14,
    Read.val_main_v15, Read.val_main_v16, Read.val_main_v17, Read.val_main_v18, Read.val_main_v19, Read.val_main_v20,
    Read.val_main_v21, Read.val_main_v22, Read.val_main_v23, Read.val_main_v24, Read.val_main_v25, Read.val_main_v26,
    Read.val_main_v27]
  rfl

/-- In the value half it is the product's gradient times the gate's unit. -/
theorem value_half (p : Fin 4096) (q : Fin 2816) :
    dz x0 x1 x2 x3 x4 p (vc q) = (∑ k : Fin 1024, x0 (ix2 p k) * x1 (ix2 q k))
      * (conv x2 x3 x4 p (gc q) * Ideal.logistic (conv x2 x3 x4 p (gc q))) := by
  rw [← conv_value x2 x3 x4 p (gc q)]
  unfold dz vc
  pointwise [Read.val_main_v0, Read.val_main_v1, Read.val_main_cst, Read.val_main_v2, Read.val_main_v3,
    Read.val_main_cst_0, Read.val_main_v4, Read.val_main_v5, Read.val_main_v6, Read.val_main_v7, Read.val_main_v8,
    Read.val_main_v9, Read.val_main_v10, Read.val_main_v11, Read.val_main_v12, Read.val_main_v13, Read.val_main_v14,
    Read.val_main_v15, Read.val_main_v16, Read.val_main_v17, Read.val_main_v18, Read.val_main_v19, Read.val_main_v20,
    Read.val_main_v21, Read.val_main_v22, Read.val_main_v23, Read.val_main_v24, Read.val_main_v25, Read.val_main_v26,
    Read.val_main_v28, Read.val_main_v29, Read.val_main_call0_v0, Read.val_main_call0_v1, Read.val_main_call0_cst,
    Read.val_main_call0_v2, Read.val_main_call0_v3, Read.val_main_call0_cst_0, Read.val_main_call0_v4,
    Read.val_main_v30_2, Read.val_main_call0_cst_1, Read.val_main_call0_v6, Read.val_main_call0_v7, Read.val_main_v30_1,
    Read.val_main_v30_0, Read.val_main_v31, Read.val_main_v32, Read.val_main_v33, Read.val_main_v34, Read.val_main_v35,
    Read.val_main_v36, Read.val_main_call1_v0, Read.val_main_call1_v1, Read.val_main_call1_v2, Read.val_main_v37,
    Read.val_main_cst_1, Read.val_main_v38, Read.val_main_cst_2, Read.val_main_v39, Read.val_main_v40]
  exact mul_comm _ _

/-- In the gate half it is the product rule's two terms. -/
theorem gate_half (p : Fin 4096) (q : Fin 2816) :
    dz x0 x1 x2 x3 x4 p (gc q) = (∑ k : Fin 1024, x0 (ix2 p k) * x1 (ix2 q k)) * conv x2 x3 x4 p (vc q) * Ideal.logistic (conv x2 x3 x4 p (gc q))
      + conv x2 x3 x4 p (gc q) * ((∑ k : Fin 1024, x0 (ix2 p k) * x1 (ix2 q k)) * conv x2 x3 x4 p (vc q))
        * (Ideal.logistic (conv x2 x3 x4 p (gc q)) * (1 - Ideal.logistic (conv x2 x3 x4 p (gc q)))) := by
  rw [← conv_value x2 x3 x4 p (gc q), ← conv_value x2 x3 x4 p (vc q)]
  unfold dz gc
  pointwise [Read.val_main_v0, Read.val_main_v1, Read.val_main_cst, Read.val_main_v2, Read.val_main_v3,
    Read.val_main_cst_0, Read.val_main_v4, Read.val_main_v5, Read.val_main_v6, Read.val_main_v7, Read.val_main_v8,
    Read.val_main_v9, Read.val_main_v10, Read.val_main_v11, Read.val_main_v12, Read.val_main_v13, Read.val_main_v14,
    Read.val_main_v15, Read.val_main_v16, Read.val_main_v17, Read.val_main_v18, Read.val_main_v19, Read.val_main_v20,
    Read.val_main_v21, Read.val_main_v22, Read.val_main_v23, Read.val_main_v24, Read.val_main_v25, Read.val_main_v26,
    Read.val_main_v28, Read.val_main_v29, Read.val_main_call0_v0, Read.val_main_call0_v1, Read.val_main_call0_cst,
    Read.val_main_call0_v2, Read.val_main_call0_v3, Read.val_main_call0_cst_0, Read.val_main_call0_v4,
    Read.val_main_v30_2, Read.val_main_call0_cst_1, Read.val_main_call0_v6, Read.val_main_call0_v7, Read.val_main_v30_1,
    Read.val_main_v30_0, Read.val_main_v31, Read.val_main_v32, Read.val_main_v33, Read.val_main_v34, Read.val_main_v35,
    Read.val_main_v36, Read.val_main_call1_v0, Read.val_main_call1_v1, Read.val_main_call1_v2, Read.val_main_v37,
    Read.val_main_cst_1, Read.val_main_v38, Read.val_main_cst_2, Read.val_main_v39, Read.val_main_v40]
  rw [dif_neg fun h => h.1, zero_add]
  rfl

/-- The gradients of the rows before the convolution, in the gate's columns. -/
theorem gate_rows (p : Fin 4096) (q : Fin 2816) : Read.val_main_v79 (F := Ideal) x0 x1 x2 x3 x4 (ix2 p q)
    = dconv (fun r => dz x0 x1 x2 x3 x4 r (gc q)) (fun k => x3 (ix2 k (gc q))) p.val := by
  pointwise [Read.val_main_v0, Read.val_main_v1, Read.val_main_cst, Read.val_main_v2, Read.val_main_v3,
    Read.val_main_cst_0, Read.val_main_v4, Read.val_main_v5, Read.val_main_v6, Read.val_main_v7, Read.val_main_v8,
    Read.val_main_v9, Read.val_main_v10, Read.val_main_v11, Read.val_main_v12, Read.val_main_v13, Read.val_main_v14,
    Read.val_main_v15, Read.val_main_v16, Read.val_main_v17, Read.val_main_v18, Read.val_main_v19, Read.val_main_v20,
    Read.val_main_v21, Read.val_main_v22, Read.val_main_v23, Read.val_main_v24, Read.val_main_v25, Read.val_main_v26,
    Read.val_main_v28, Read.val_main_v29, Read.val_main_call0_v0, Read.val_main_call0_v1, Read.val_main_call0_cst,
    Read.val_main_call0_v2, Read.val_main_call0_v3, Read.val_main_call0_cst_0, Read.val_main_call0_v4,
    Read.val_main_v30_2, Read.val_main_call0_cst_1, Read.val_main_call0_v6, Read.val_main_call0_v7, Read.val_main_v30_1,
    Read.val_main_v30_0, Read.val_main_v31, Read.val_main_v32, Read.val_main_v33, Read.val_main_v34, Read.val_main_v35,
    Read.val_main_v36, Read.val_main_call1_v0, Read.val_main_call1_v1, Read.val_main_call1_v2, Read.val_main_v37,
    Read.val_main_cst_1, Read.val_main_v38, Read.val_main_cst_2, Read.val_main_v39, Read.val_main_v41,
    Read.val_main_v42, Read.val_main_v43, Read.val_main_cst_3, Read.val_main_v44, Read.val_main_v45,
    Read.val_main_cst_4, Read.val_main_v46, Read.val_main_cst_5, Read.val_main_v47, Read.val_main_v48,
    Read.val_main_cst_6, Read.val_main_v49, Read.val_main_v50, Read.val_main_v51, Read.val_main_v52,
    Read.val_main_cst_7, Read.val_main_v53, Read.val_main_v54, Read.val_main_cst_8, Read.val_main_v55,
    Read.val_main_cst_9, Read.val_main_v56, Read.val_main_v57, Read.val_main_v58, Read.val_main_cst_10,
    Read.val_main_v59, Read.val_main_v60, Read.val_main_cst_11, Read.val_main_v61, Read.val_main_v62,
    Read.val_main_cst_12, Read.val_main_v63, Read.val_main_v64, Read.val_main_v65, Read.val_main_v66,
    Read.val_main_cst_13, Read.val_main_v67, Read.val_main_v68, Read.val_main_cst_14, Read.val_main_v69,
    Read.val_main_cst_15, Read.val_main_v70, Read.val_main_v71, Read.val_main_v72, Read.val_main_cst_16,
    Read.val_main_v73, Read.val_main_v74, Read.val_main_v75, Read.val_main_v76, Read.val_main_v77, Read.val_main_v78,
    Read.val_main_v79]
  exact Cert.Act.pads (dz x0 x1 x2 x3 x4) (fun k n => x3 (ix2 k n)) p q.val (by omega)

/-- The same in the value's columns. -/
theorem value_rows (p : Fin 4096) (q : Fin 2816) : Read.val_main_v82 (F := Ideal) x0 x1 x2 x3 x4 (ix2 p q)
    = dconv (fun r => dz x0 x1 x2 x3 x4 r (vc q)) (fun k => x3 (ix2 k (vc q))) p.val := by
  pointwise [Read.val_main_v0, Read.val_main_v1, Read.val_main_cst, Read.val_main_v2, Read.val_main_v3,
    Read.val_main_cst_0, Read.val_main_v4, Read.val_main_v5, Read.val_main_v6, Read.val_main_v7, Read.val_main_v8,
    Read.val_main_v9, Read.val_main_v10, Read.val_main_v11, Read.val_main_v12, Read.val_main_v13, Read.val_main_v14,
    Read.val_main_v15, Read.val_main_v16, Read.val_main_v17, Read.val_main_v18, Read.val_main_v19, Read.val_main_v20,
    Read.val_main_v21, Read.val_main_v22, Read.val_main_v23, Read.val_main_v24, Read.val_main_v25, Read.val_main_v26,
    Read.val_main_v28, Read.val_main_v29, Read.val_main_call0_v0, Read.val_main_call0_v1, Read.val_main_call0_cst,
    Read.val_main_call0_v2, Read.val_main_call0_v3, Read.val_main_call0_cst_0, Read.val_main_call0_v4,
    Read.val_main_v30_2, Read.val_main_call0_cst_1, Read.val_main_call0_v6, Read.val_main_call0_v7, Read.val_main_v30_1,
    Read.val_main_v30_0, Read.val_main_v31, Read.val_main_v32, Read.val_main_v33, Read.val_main_v34, Read.val_main_v35,
    Read.val_main_v36, Read.val_main_call1_v0, Read.val_main_call1_v1, Read.val_main_call1_v2, Read.val_main_v37,
    Read.val_main_cst_1, Read.val_main_v38, Read.val_main_cst_2, Read.val_main_v39, Read.val_main_v41,
    Read.val_main_v42, Read.val_main_v43, Read.val_main_cst_3, Read.val_main_v44, Read.val_main_v45,
    Read.val_main_cst_4, Read.val_main_v46, Read.val_main_cst_5, Read.val_main_v47, Read.val_main_v48,
    Read.val_main_cst_6, Read.val_main_v49, Read.val_main_v50, Read.val_main_v51, Read.val_main_v52,
    Read.val_main_cst_7, Read.val_main_v53, Read.val_main_v54, Read.val_main_cst_8, Read.val_main_v55,
    Read.val_main_cst_9, Read.val_main_v56, Read.val_main_v57, Read.val_main_v58, Read.val_main_cst_10,
    Read.val_main_v59, Read.val_main_v60, Read.val_main_cst_11, Read.val_main_v61, Read.val_main_v62,
    Read.val_main_cst_12, Read.val_main_v63, Read.val_main_v64, Read.val_main_v65, Read.val_main_v66,
    Read.val_main_cst_13, Read.val_main_v67, Read.val_main_v68, Read.val_main_cst_14, Read.val_main_v69,
    Read.val_main_cst_15, Read.val_main_v70, Read.val_main_v71, Read.val_main_v72, Read.val_main_cst_16,
    Read.val_main_v73, Read.val_main_v74, Read.val_main_v75, Read.val_main_v76, Read.val_main_v77, Read.val_main_v78,
    Read.val_main_v79, Read.val_main_v80, Read.val_main_v81, Read.val_main_v82]
  exact Cert.Act.pads (dz x0 x1 x2 x3 x4) (fun k n => x3 (ix2 k n)) p (2816 + q.val) (by omega)

/-- The gradients of the taps and of the bias, over all columns. -/
theorem tap2_value (q : Fin 5632) : Read.val_main_v46 (F := Ideal) x0 x1 x2 x3 x4 (ix1 q)
    = dtap (fun r => dz x0 x1 x2 x3 x4 r q) (fun r => x2 (ix2 r q)) 2 := by
  pointwise [Read.val_main_v0, Read.val_main_v1, Read.val_main_cst, Read.val_main_v2, Read.val_main_v3,
    Read.val_main_cst_0, Read.val_main_v4, Read.val_main_v5, Read.val_main_v6, Read.val_main_v7, Read.val_main_v8,
    Read.val_main_v9, Read.val_main_v10, Read.val_main_v11, Read.val_main_v12, Read.val_main_v13, Read.val_main_v14,
    Read.val_main_v15, Read.val_main_v16, Read.val_main_v17, Read.val_main_v18, Read.val_main_v19, Read.val_main_v20,
    Read.val_main_v21, Read.val_main_v22, Read.val_main_v23, Read.val_main_v24, Read.val_main_v25, Read.val_main_v26,
    Read.val_main_v28, Read.val_main_v29, Read.val_main_call0_v0, Read.val_main_call0_v1, Read.val_main_call0_cst,
    Read.val_main_call0_v2, Read.val_main_call0_v3, Read.val_main_call0_cst_0, Read.val_main_call0_v4,
    Read.val_main_v30_2, Read.val_main_call0_cst_1, Read.val_main_call0_v6, Read.val_main_call0_v7, Read.val_main_v30_1,
    Read.val_main_v30_0, Read.val_main_v31, Read.val_main_v32, Read.val_main_v33, Read.val_main_v34, Read.val_main_v35,
    Read.val_main_v36, Read.val_main_call1_v0, Read.val_main_call1_v1, Read.val_main_call1_v2, Read.val_main_v37,
    Read.val_main_cst_1, Read.val_main_v38, Read.val_main_cst_2, Read.val_main_v39, Read.val_main_v41,
    Read.val_main_v42, Read.val_main_v43, Read.val_main_cst_3, Read.val_main_v44, Read.val_main_v45,
    Read.val_main_cst_4, Read.val_main_v46]
  refine (Cert.Act.sum_unit _ _ q).trans ?_
  pointwise []
  exact Cert.Act.tap_two (fun r => dz x0 x1 x2 x3 x4 r q) (fun r => x2 (ix2 r q))

theorem tap1_value (q : Fin 5632) : Read.val_main_v55 (F := Ideal) x0 x1 x2 x3 x4 (ix1 q)
    = dtap (fun r => dz x0 x1 x2 x3 x4 r q) (fun r => x2 (ix2 r q)) 1 := by
  pointwise [Read.val_main_v0, Read.val_main_v1, Read.val_main_cst, Read.val_main_v2, Read.val_main_v3,
    Read.val_main_cst_0, Read.val_main_v4, Read.val_main_v5, Read.val_main_v6, Read.val_main_v7, Read.val_main_v8,
    Read.val_main_v9, Read.val_main_v10, Read.val_main_v11, Read.val_main_v12, Read.val_main_v13, Read.val_main_v14,
    Read.val_main_v15, Read.val_main_v16, Read.val_main_v17, Read.val_main_v18, Read.val_main_v19, Read.val_main_v20,
    Read.val_main_v21, Read.val_main_v22, Read.val_main_v23, Read.val_main_v24, Read.val_main_v25, Read.val_main_v26,
    Read.val_main_v28, Read.val_main_v29, Read.val_main_call0_v0, Read.val_main_call0_v1, Read.val_main_call0_cst,
    Read.val_main_call0_v2, Read.val_main_call0_v3, Read.val_main_call0_cst_0, Read.val_main_call0_v4,
    Read.val_main_v30_2, Read.val_main_call0_cst_1, Read.val_main_call0_v6, Read.val_main_call0_v7, Read.val_main_v30_1,
    Read.val_main_v30_0, Read.val_main_v31, Read.val_main_v32, Read.val_main_v33, Read.val_main_v34, Read.val_main_v35,
    Read.val_main_v36, Read.val_main_call1_v0, Read.val_main_call1_v1, Read.val_main_call1_v2, Read.val_main_v37,
    Read.val_main_cst_1, Read.val_main_v38, Read.val_main_cst_2, Read.val_main_v39, Read.val_main_v41,
    Read.val_main_v42, Read.val_main_v43, Read.val_main_cst_3, Read.val_main_v44, Read.val_main_v45,
    Read.val_main_cst_4, Read.val_main_v46, Read.val_main_cst_5, Read.val_main_v47, Read.val_main_v48,
    Read.val_main_cst_6, Read.val_main_v49, Read.val_main_v50, Read.val_main_v51, Read.val_main_v52,
    Read.val_main_cst_7, Read.val_main_v53, Read.val_main_v54, Read.val_main_cst_8, Read.val_main_v55]
  refine (Cert.Act.sum_unit _ _ q).trans ?_
  pointwise []
  exact Cert.Act.tap_one (fun r => dz x0 x1 x2 x3 x4 r q) (fun r => x2 (ix2 r q))

theorem tap0_value (q : Fin 5632) : Read.val_main_v69 (F := Ideal) x0 x1 x2 x3 x4 (ix1 q)
    = dtap (fun r => dz x0 x1 x2 x3 x4 r q) (fun r => x2 (ix2 r q)) 0 := by
  pointwise [Read.val_main_v0, Read.val_main_v1, Read.val_main_cst, Read.val_main_v2, Read.val_main_v3,
    Read.val_main_cst_0, Read.val_main_v4, Read.val_main_v5, Read.val_main_v6, Read.val_main_v7, Read.val_main_v8,
    Read.val_main_v9, Read.val_main_v10, Read.val_main_v11, Read.val_main_v12, Read.val_main_v13, Read.val_main_v14,
    Read.val_main_v15, Read.val_main_v16, Read.val_main_v17, Read.val_main_v18, Read.val_main_v19, Read.val_main_v20,
    Read.val_main_v21, Read.val_main_v22, Read.val_main_v23, Read.val_main_v24, Read.val_main_v25, Read.val_main_v26,
    Read.val_main_v28, Read.val_main_v29, Read.val_main_call0_v0, Read.val_main_call0_v1, Read.val_main_call0_cst,
    Read.val_main_call0_v2, Read.val_main_call0_v3, Read.val_main_call0_cst_0, Read.val_main_call0_v4,
    Read.val_main_v30_2, Read.val_main_call0_cst_1, Read.val_main_call0_v6, Read.val_main_call0_v7, Read.val_main_v30_1,
    Read.val_main_v30_0, Read.val_main_v31, Read.val_main_v32, Read.val_main_v33, Read.val_main_v34, Read.val_main_v35,
    Read.val_main_v36, Read.val_main_call1_v0, Read.val_main_call1_v1, Read.val_main_call1_v2, Read.val_main_v37,
    Read.val_main_cst_1, Read.val_main_v38, Read.val_main_cst_2, Read.val_main_v39, Read.val_main_v41,
    Read.val_main_v42, Read.val_main_v43, Read.val_main_cst_3, Read.val_main_v44, Read.val_main_v45,
    Read.val_main_cst_4, Read.val_main_v46, Read.val_main_cst_5, Read.val_main_v47, Read.val_main_v48,
    Read.val_main_cst_6, Read.val_main_v49, Read.val_main_v50, Read.val_main_v51, Read.val_main_v52,
    Read.val_main_cst_7, Read.val_main_v53, Read.val_main_v54, Read.val_main_cst_8, Read.val_main_v55,
    Read.val_main_cst_9, Read.val_main_v56, Read.val_main_v57, Read.val_main_v58, Read.val_main_cst_10,
    Read.val_main_v59, Read.val_main_v60, Read.val_main_cst_11, Read.val_main_v61, Read.val_main_v62,
    Read.val_main_cst_12, Read.val_main_v63, Read.val_main_v64, Read.val_main_v65, Read.val_main_v66,
    Read.val_main_cst_13, Read.val_main_v67, Read.val_main_v68, Read.val_main_cst_14, Read.val_main_v69]
  refine (Cert.Act.sum_unit _ _ q).trans ?_
  pointwise []
  exact Cert.Act.tap_zero (fun r => dz x0 x1 x2 x3 x4 r q) (fun r => x2 (ix2 r q))

theorem bias_value (q : Fin 5632) : Read.val_main_v63 (F := Ideal) x0 x1 x2 x3 x4 (ix1 q) = ∑ r : Fin 4096, dz x0 x1 x2 x3 x4 r q := by
  pointwise [Read.val_main_v0, Read.val_main_v1, Read.val_main_cst, Read.val_main_v2, Read.val_main_v3,
    Read.val_main_cst_0, Read.val_main_v4, Read.val_main_v5, Read.val_main_v6, Read.val_main_v7, Read.val_main_v8,
    Read.val_main_v9, Read.val_main_v10, Read.val_main_v11, Read.val_main_v12, Read.val_main_v13, Read.val_main_v14,
    Read.val_main_v15, Read.val_main_v16, Read.val_main_v17, Read.val_main_v18, Read.val_main_v19, Read.val_main_v20,
    Read.val_main_v21, Read.val_main_v22, Read.val_main_v23, Read.val_main_v24, Read.val_main_v25, Read.val_main_v26,
    Read.val_main_v28, Read.val_main_v29, Read.val_main_call0_v0, Read.val_main_call0_v1, Read.val_main_call0_cst,
    Read.val_main_call0_v2, Read.val_main_call0_v3, Read.val_main_call0_cst_0, Read.val_main_call0_v4,
    Read.val_main_v30_2, Read.val_main_call0_cst_1, Read.val_main_call0_v6, Read.val_main_call0_v7, Read.val_main_v30_1,
    Read.val_main_v30_0, Read.val_main_v31, Read.val_main_v32, Read.val_main_v33, Read.val_main_v34, Read.val_main_v35,
    Read.val_main_v36, Read.val_main_call1_v0, Read.val_main_call1_v1, Read.val_main_call1_v2, Read.val_main_v37,
    Read.val_main_cst_1, Read.val_main_v38, Read.val_main_cst_2, Read.val_main_v39, Read.val_main_v41,
    Read.val_main_v42, Read.val_main_v43, Read.val_main_cst_3, Read.val_main_v44, Read.val_main_v45,
    Read.val_main_cst_4, Read.val_main_v46, Read.val_main_cst_5, Read.val_main_v47, Read.val_main_v48,
    Read.val_main_cst_6, Read.val_main_v49, Read.val_main_v50, Read.val_main_v51, Read.val_main_v52,
    Read.val_main_cst_7, Read.val_main_v53, Read.val_main_v54, Read.val_main_cst_8, Read.val_main_v55,
    Read.val_main_cst_9, Read.val_main_v56, Read.val_main_v57, Read.val_main_v58, Read.val_main_cst_10,
    Read.val_main_v59, Read.val_main_v60, Read.val_main_cst_11, Read.val_main_v61, Read.val_main_v62,
    Read.val_main_cst_12, Read.val_main_v63]
  refine (Cert.Act.sum_unit _ _ q).trans ?_
  pointwise []
  rfl

theorem gate_taps (a : Fin 2) (b : Fin 3) (q : Fin 1408) : Read.val_main_v85 (F := Ideal) x0 x1 x2 x3 x4 (ix3 a b q)
    = dtap (fun r => dz x0 x1 x2 x3 x4 r (gc (shard a q))) (fun r => x2 (ix2 r (gc (shard a q)))) b := by
  pointwise [Read.val_main_v0, Read.val_main_v1, Read.val_main_cst, Read.val_main_v2, Read.val_main_v3,
    Read.val_main_cst_0, Read.val_main_v4, Read.val_main_v5, Read.val_main_v6, Read.val_main_v7, Read.val_main_v8,
    Read.val_main_v9, Read.val_main_v10, Read.val_main_v11, Read.val_main_v12, Read.val_main_v13, Read.val_main_v14,
    Read.val_main_v15, Read.val_main_v16, Read.val_main_v17, Read.val_main_v18, Read.val_main_v19, Read.val_main_v20,
    Read.val_main_v21, Read.val_main_v22, Read.val_main_v23, Read.val_main_v24, Read.val_main_v25, Read.val_main_v26,
    Read.val_main_v27, Read.val_main_v28, Read.val_main_v29, Read.val_main_call0_v0, Read.val_main_call0_v1,
    Read.val_main_call0_cst, Read.val_main_call0_v2, Read.val_main_call0_v3, Read.val_main_call0_cst_0,
    Read.val_main_call0_v4, Read.val_main_v30_2, Read.val_main_call0_cst_1, Read.val_main_call0_v6,
    Read.val_main_call0_v7, Read.val_main_v30_1, Read.val_main_v30_0, Read.val_main_v31, Read.val_main_v32,
    Read.val_main_v33, Read.val_main_v34, Read.val_main_v35, Read.val_main_v36, Read.val_main_call1_v0,
    Read.val_main_call1_v1, Read.val_main_call1_v2, Read.val_main_v37, Read.val_main_cst_1, Read.val_main_v38,
    Read.val_main_cst_2, Read.val_main_v39, Read.val_main_v41, Read.val_main_v42, Read.val_main_v43,
    Read.val_main_cst_3, Read.val_main_v44, Read.val_main_v45, Read.val_main_cst_4, Read.val_main_cst_5,
    Read.val_main_v47, Read.val_main_v48, Read.val_main_cst_6, Read.val_main_v49, Read.val_main_v50, Read.val_main_v51,
    Read.val_main_v52, Read.val_main_cst_7, Read.val_main_v53, Read.val_main_v54, Read.val_main_cst_8,
    Read.val_main_cst_9, Read.val_main_v56, Read.val_main_v57, Read.val_main_v58, Read.val_main_cst_10,
    Read.val_main_v59, Read.val_main_v60, Read.val_main_cst_11, Read.val_main_v61, Read.val_main_v62,
    Read.val_main_cst_12, Read.val_main_v64, Read.val_main_v65, Read.val_main_v66, Read.val_main_cst_13,
    Read.val_main_v67, Read.val_main_v68, Read.val_main_cst_14, Read.val_main_cst_15, Read.val_main_v70,
    Read.val_main_v71, Read.val_main_v72, Read.val_main_cst_16, Read.val_main_v73, Read.val_main_v74, Read.val_main_v75,
    Read.val_main_v76, Read.val_main_v77, Read.val_main_v78, Read.val_main_v79, Read.val_main_v80, Read.val_main_v81,
    Read.val_main_v82, Read.val_main_v83, Read.val_main_v84, Read.val_main_v85]
  refine (Cert.Act.pick (fun n => Read.val_main_v69 (F := Ideal) x0 x1 x2 x3 x4 (ix1 n))
    (fun n => Read.val_main_v55 (F := Ideal) x0 x1 x2 x3 x4 (ix1 n)) (fun n => Read.val_main_v46 (F := Ideal) x0 x1 x2 x3 x4 (ix1 n)) b
    (a.val * 1408 + q.val) (by omega)).trans ?_
  match b with
  | 0 => exact tap0_value x0 x1 x2 x3 x4 (gc (shard a q))
  | 1 => exact tap1_value x0 x1 x2 x3 x4 (gc (shard a q))
  | 2 => exact tap2_value x0 x1 x2 x3 x4 (gc (shard a q))

theorem value_taps (a : Fin 2) (b : Fin 3) (q : Fin 1408) : Read.val_main_v88 (F := Ideal) x0 x1 x2 x3 x4 (ix3 a b q)
    = dtap (fun r => dz x0 x1 x2 x3 x4 r (vc (shard a q))) (fun r => x2 (ix2 r (vc (shard a q)))) b := by
  pointwise [Read.val_main_v0, Read.val_main_v1, Read.val_main_cst, Read.val_main_v2, Read.val_main_v3,
    Read.val_main_cst_0, Read.val_main_v4, Read.val_main_v5, Read.val_main_v6, Read.val_main_v7, Read.val_main_v8,
    Read.val_main_v9, Read.val_main_v10, Read.val_main_v11, Read.val_main_v12, Read.val_main_v13, Read.val_main_v14,
    Read.val_main_v15, Read.val_main_v16, Read.val_main_v17, Read.val_main_v18, Read.val_main_v19, Read.val_main_v20,
    Read.val_main_v21, Read.val_main_v22, Read.val_main_v23, Read.val_main_v24, Read.val_main_v25, Read.val_main_v26,
    Read.val_main_v27, Read.val_main_v28, Read.val_main_v29, Read.val_main_call0_v0, Read.val_main_call0_v1,
    Read.val_main_call0_cst, Read.val_main_call0_v2, Read.val_main_call0_v3, Read.val_main_call0_cst_0,
    Read.val_main_call0_v4, Read.val_main_v30_2, Read.val_main_call0_cst_1, Read.val_main_call0_v6,
    Read.val_main_call0_v7, Read.val_main_v30_1, Read.val_main_v30_0, Read.val_main_v31, Read.val_main_v32,
    Read.val_main_v33, Read.val_main_v34, Read.val_main_v35, Read.val_main_v36, Read.val_main_call1_v0,
    Read.val_main_call1_v1, Read.val_main_call1_v2, Read.val_main_v37, Read.val_main_cst_1, Read.val_main_v38,
    Read.val_main_cst_2, Read.val_main_v39, Read.val_main_v41, Read.val_main_v42, Read.val_main_v43,
    Read.val_main_cst_3, Read.val_main_v44, Read.val_main_v45, Read.val_main_cst_4, Read.val_main_cst_5,
    Read.val_main_v47, Read.val_main_v48, Read.val_main_cst_6, Read.val_main_v49, Read.val_main_v50, Read.val_main_v51,
    Read.val_main_v52, Read.val_main_cst_7, Read.val_main_v53, Read.val_main_v54, Read.val_main_cst_8,
    Read.val_main_cst_9, Read.val_main_v56, Read.val_main_v57, Read.val_main_v58, Read.val_main_cst_10,
    Read.val_main_v59, Read.val_main_v60, Read.val_main_cst_11, Read.val_main_v61, Read.val_main_v62,
    Read.val_main_cst_12, Read.val_main_v64, Read.val_main_v65, Read.val_main_v66, Read.val_main_cst_13,
    Read.val_main_v67, Read.val_main_v68, Read.val_main_cst_14, Read.val_main_cst_15, Read.val_main_v70,
    Read.val_main_v71, Read.val_main_v72, Read.val_main_cst_16, Read.val_main_v73, Read.val_main_v74, Read.val_main_v75,
    Read.val_main_v76, Read.val_main_v77, Read.val_main_v78, Read.val_main_v79, Read.val_main_v80, Read.val_main_v81,
    Read.val_main_v82, Read.val_main_v83, Read.val_main_v84, Read.val_main_v85, Read.val_main_v86, Read.val_main_v87,
    Read.val_main_v88]
  refine (Cert.Act.pick (fun n => Read.val_main_v69 (F := Ideal) x0 x1 x2 x3 x4 (ix1 n))
    (fun n => Read.val_main_v55 (F := Ideal) x0 x1 x2 x3 x4 (ix1 n)) (fun n => Read.val_main_v46 (F := Ideal) x0 x1 x2 x3 x4 (ix1 n)) b
    (2816 + (a.val * 1408 + q.val)) (by omega)).trans ?_
  match b with
  | 0 => exact tap0_value x0 x1 x2 x3 x4 (vc (shard a q))
  | 1 => exact tap1_value x0 x1 x2 x3 x4 (vc (shard a q))
  | 2 => exact tap2_value x0 x1 x2 x3 x4 (vc (shard a q))

theorem gate_bias (z : Fin 1) (q : Fin 2816) : Read.val_main_v90 (F := Ideal) x0 x1 x2 x3 x4 (ix2 z q)
    = ∑ r : Fin 4096, dz x0 x1 x2 x3 x4 r (gc q) := by
  pointwise [Read.val_main_v0, Read.val_main_v1, Read.val_main_cst, Read.val_main_v2, Read.val_main_v3,
    Read.val_main_cst_0, Read.val_main_v4, Read.val_main_v5, Read.val_main_v6, Read.val_main_v7, Read.val_main_v8,
    Read.val_main_v9, Read.val_main_v10, Read.val_main_v11, Read.val_main_v12, Read.val_main_v13, Read.val_main_v14,
    Read.val_main_v15, Read.val_main_v16, Read.val_main_v17, Read.val_main_v18, Read.val_main_v19, Read.val_main_v20,
    Read.val_main_v21, Read.val_main_v22, Read.val_main_v23, Read.val_main_v24, Read.val_main_v25, Read.val_main_v26,
    Read.val_main_v27, Read.val_main_v28, Read.val_main_v29, Read.val_main_call0_v0, Read.val_main_call0_v1,
    Read.val_main_call0_cst, Read.val_main_call0_v2, Read.val_main_call0_v3, Read.val_main_call0_cst_0,
    Read.val_main_call0_v4, Read.val_main_v30_2, Read.val_main_call0_cst_1, Read.val_main_call0_v6,
    Read.val_main_call0_v7, Read.val_main_v30_1, Read.val_main_v30_0, Read.val_main_v31, Read.val_main_v32,
    Read.val_main_v33, Read.val_main_v34, Read.val_main_v35, Read.val_main_v36, Read.val_main_call1_v0,
    Read.val_main_call1_v1, Read.val_main_call1_v2, Read.val_main_v37, Read.val_main_cst_1, Read.val_main_v38,
    Read.val_main_cst_2, Read.val_main_v39, Read.val_main_v41, Read.val_main_v42, Read.val_main_v43,
    Read.val_main_cst_3, Read.val_main_v44, Read.val_main_v45, Read.val_main_cst_4, Read.val_main_cst_5,
    Read.val_main_v47, Read.val_main_v48, Read.val_main_cst_6, Read.val_main_v49, Read.val_main_v50, Read.val_main_v51,
    Read.val_main_v52, Read.val_main_cst_7, Read.val_main_v53, Read.val_main_v54, Read.val_main_cst_8,
    Read.val_main_cst_9, Read.val_main_v56, Read.val_main_v57, Read.val_main_v58, Read.val_main_cst_10,
    Read.val_main_v59, Read.val_main_v60, Read.val_main_cst_11, Read.val_main_v61, Read.val_main_v62,
    Read.val_main_cst_12, Read.val_main_v64, Read.val_main_v65, Read.val_main_v66, Read.val_main_cst_13,
    Read.val_main_v67, Read.val_main_v68, Read.val_main_cst_14, Read.val_main_cst_15, Read.val_main_v70,
    Read.val_main_v71, Read.val_main_v72, Read.val_main_cst_16, Read.val_main_v73, Read.val_main_v74, Read.val_main_v75,
    Read.val_main_v76, Read.val_main_v77, Read.val_main_v78, Read.val_main_v79, Read.val_main_v80, Read.val_main_v81,
    Read.val_main_v82, Read.val_main_v83, Read.val_main_v84, Read.val_main_v85, Read.val_main_v86, Read.val_main_v87,
    Read.val_main_v88, Read.val_main_v89, Read.val_main_v90]
  exact bias_value x0 x1 x2 x3 x4 (gc q)

theorem value_bias (z : Fin 1) (q : Fin 2816) : Read.val_main_v92 (F := Ideal) x0 x1 x2 x3 x4 (ix2 z q)
    = ∑ r : Fin 4096, dz x0 x1 x2 x3 x4 r (vc q) := by
  pointwise [Read.val_main_v0, Read.val_main_v1, Read.val_main_cst, Read.val_main_v2, Read.val_main_v3,
    Read.val_main_cst_0, Read.val_main_v4, Read.val_main_v5, Read.val_main_v6, Read.val_main_v7, Read.val_main_v8,
    Read.val_main_v9, Read.val_main_v10, Read.val_main_v11, Read.val_main_v12, Read.val_main_v13, Read.val_main_v14,
    Read.val_main_v15, Read.val_main_v16, Read.val_main_v17, Read.val_main_v18, Read.val_main_v19, Read.val_main_v20,
    Read.val_main_v21, Read.val_main_v22, Read.val_main_v23, Read.val_main_v24, Read.val_main_v25, Read.val_main_v26,
    Read.val_main_v27, Read.val_main_v28, Read.val_main_v29, Read.val_main_call0_v0, Read.val_main_call0_v1,
    Read.val_main_call0_cst, Read.val_main_call0_v2, Read.val_main_call0_v3, Read.val_main_call0_cst_0,
    Read.val_main_call0_v4, Read.val_main_v30_2, Read.val_main_call0_cst_1, Read.val_main_call0_v6,
    Read.val_main_call0_v7, Read.val_main_v30_1, Read.val_main_v30_0, Read.val_main_v31, Read.val_main_v32,
    Read.val_main_v33, Read.val_main_v34, Read.val_main_v35, Read.val_main_v36, Read.val_main_call1_v0,
    Read.val_main_call1_v1, Read.val_main_call1_v2, Read.val_main_v37, Read.val_main_cst_1, Read.val_main_v38,
    Read.val_main_cst_2, Read.val_main_v39, Read.val_main_v41, Read.val_main_v42, Read.val_main_v43,
    Read.val_main_cst_3, Read.val_main_v44, Read.val_main_v45, Read.val_main_cst_4, Read.val_main_cst_5,
    Read.val_main_v47, Read.val_main_v48, Read.val_main_cst_6, Read.val_main_v49, Read.val_main_v50, Read.val_main_v51,
    Read.val_main_v52, Read.val_main_cst_7, Read.val_main_v53, Read.val_main_v54, Read.val_main_cst_8,
    Read.val_main_cst_9, Read.val_main_v56, Read.val_main_v57, Read.val_main_v58, Read.val_main_cst_10,
    Read.val_main_v59, Read.val_main_v60, Read.val_main_cst_11, Read.val_main_v61, Read.val_main_v62,
    Read.val_main_cst_12, Read.val_main_v64, Read.val_main_v65, Read.val_main_v66, Read.val_main_cst_13,
    Read.val_main_v67, Read.val_main_v68, Read.val_main_cst_14, Read.val_main_cst_15, Read.val_main_v70,
    Read.val_main_v71, Read.val_main_v72, Read.val_main_cst_16, Read.val_main_v73, Read.val_main_v74, Read.val_main_v75,
    Read.val_main_v76, Read.val_main_v77, Read.val_main_v78, Read.val_main_v79, Read.val_main_v80, Read.val_main_v81,
    Read.val_main_v82, Read.val_main_v83, Read.val_main_v84, Read.val_main_v85, Read.val_main_v86, Read.val_main_v87,
    Read.val_main_v88, Read.val_main_v89, Read.val_main_v90, Read.val_main_v91, Read.val_main_v92]
  exact bias_value x0 x1 x2 x3 x4 (vc q)

end Cert.ReferenceIdeal.Act

namespace Cert.Proof

open Cert.Finite

/-- Under the precondition the arrays of the convolution and its gate hold reals. -/
theorem act_reals {x0 : Cert.Pre_finite.S4096x1024.Idx → EReal} {x1 : Cert.Pre_finite.S2816x1024.Idx → EReal}
    {x2 : Cert.Pre_finite.S4096x5632.Idx → EReal} {x3 : Cert.Pre_finite.S3x5632.Idx → EReal} {x4 : Cert.Pre_finite.S5632.Idx → EReal}
    (h : (Cert.Pre_finite.fn (F := Ideal) x0 x1 x2 x3 x4).1 = (fun _ => 1#1)
      ∧ (Cert.Pre_finite.fn (F := Ideal) x0 x1 x2 x3 x4).2.1 = (fun _ => 1#1)
      ∧ (Cert.Pre_finite.fn (F := Ideal) x0 x1 x2 x3 x4).2.2.1 = (fun _ => 1#1)
      ∧ (Cert.Pre_finite.fn (F := Ideal) x0 x1 x2 x3 x4).2.2.2.1 = (fun _ => 1#1)
      ∧ (Cert.Pre_finite.fn (F := Ideal) x0 x1 x2 x3 x4).2.2.2.2 = (fun _ => 1#1)) :
    (∀ i, IsReal (x0 i)) ∧ (∀ i, IsReal (x1 i)) ∧ (∀ i, IsReal (x2 i)) ∧ (∀ i, IsReal (x3 i)) ∧ (∀ i, IsReal (x4 i)) :=
  ⟨fun i => isReal_of_test (congrFun h.1 i), fun i => isReal_of_test (congrFun h.2.1 i),
    fun i => isReal_of_test (congrFun h.2.2.1 i), fun i => isReal_of_test (congrFun h.2.2.2.1 i),
    fun i => isReal_of_test (congrFun h.2.2.2.2 i)⟩

section

variable (m : (ℓ : Loc Cert.KernelIdeal.nD Cert.KernelIdeal.τ Cert.KernelIdeal.sig) → Buf (Elt Ideal) ℓ) (c : Dev Cert.KernelIdeal.nD)

open Cert.KernelIdeal.Act

/-- The two halves of the convolved rows' gradient are the kernel's two gradients; the gate's at finite inputs. -/
theorem act_value (r : Fin 4096) (j : Fin 2816) :
    Cert.ReferenceIdeal.Act.dz (dy m c) (w m c) (pre m c) (cw m c) (cb m c) r (vc j) = dval m c r j :=
  Cert.ReferenceIdeal.Act.value_half _ _ _ _ _ r j

theorem act_gate (h0 : ∀ i, IsReal (dy m c i)) (h1 : ∀ i, IsReal (w m c i)) (h2 : ∀ i, IsReal (pre m c i)) (h3 : ∀ i, IsReal (cw m c i))
    (h4 : ∀ i, IsReal (cb m c i)) (r : Fin 4096) (j : Fin 2816) :
    Cert.ReferenceIdeal.Act.dz (dy m c) (w m c) (pre m c) (cw m c) (cb m c) r (gc j) = dgate m c r j :=
  (Cert.ReferenceIdeal.Act.gate_half _ _ _ _ _ r j).trans
    (Cert.Act.gate_rule (IsReal.sum fun k => (h0 _).mul (h1 _)) (Cert.Act.isReal_conv h2 h3 h4 _ _) (Cert.Act.isReal_conv h2 h3 h4 _ _)
      (Cert.Act.isReal_logistic (Cert.Act.isReal_conv h2 h3 h4 _ _)))

end

/-- The plain gradient runs, keeps its arguments and leaves no semaphore counted up. -/
theorem frame_act_reference : quiescent_ReferenceIdeal (hReferenceIdeal := Cert.ReferenceIdeal.Gen.facts) := fun m ρ _ =>
  (θ_run _ _ _).mono (fun r h => ⟨fun c => (h c).2.2.2.2.2.2, Idealize.ShloMosaic.sem_eq_zero_of_no_sems (by decide) r.2⟩)
    (Cert.ReferenceIdeal.Value.run m ρ)

/-- The kernel's gradients of the rows before the convolution, of its taps and of its bias are those of the gated
    convolution differentiated, at finite inputs. -/
theorem act : algebraic_KernelIdeal_ReferenceIdeal_pre_finite (hKernelIdeal := Cert.KernelIdeal.Gen.facts)
    (hReferenceIdeal := Cert.ReferenceIdeal.Gen.facts) (hPre_finite := Cert.Pre_finite.Gen.facts) := by
  open Cert.KernelIdeal.Act in
  intro m ρ m' ρ' hp hm
  refine ⟨fun c => (fun i => dconv (fun r => dgate m c r (i 1)) (tapsAt m c (gc (i 1))) (i 0).val : Cert.KernelIdeal.S4096x2816.Idx → EReal),
    fun c => (fun i => dconv (fun r => dval m c r (i 1)) (tapsAt m c (vc (i 1))) (i 0).val : Cert.KernelIdeal.S4096x2816.Idx → EReal),
    fun c => (fun i => dtap (fun r => dgate m c r (shard (i 0) (i 2))) (fun r => preGate m c r (shard (i 0) (i 2))) (i 1) : Cert.KernelIdeal.S2x3x1408.Idx → EReal),
    fun c => (fun i => dtap (fun r => dval m c r (shard (i 0) (i 2))) (fun r => preValue m c r (shard (i 0) (i 2))) (i 1) : Cert.KernelIdeal.S2x3x1408.Idx → EReal),
    fun c => (fun i => ∑ r : Fin 4096, dgate m c r (i 1) : Cert.KernelIdeal.S1x2816.Idx → EReal),
    fun c => (fun i => ∑ r : Fin 4096, dval m c r (i 1) : Cert.KernelIdeal.S1x2816.Idx → EReal), ?_, ?_⟩
  · exact (θ_run _ _ _).mono (fun r h c => ⟨(h c).1.trans (gate_rows_final m c), (h c).2.1.trans (value_rows_final m c),
      (h c).2.2.1.trans (gate_taps_final m c), (h c).2.2.2.1.trans (value_taps_final m c), (h c).2.2.2.2.1.trans (gate_bias_final m c),
      (h c).2.2.2.2.2.1.trans (value_bias_final m c), (h c).2.2.2.2.2.2⟩) (Cert.KernelIdeal.Value.run_blocks m ρ)
  · refine (θ_run _ _ _).mono (fun r h c => ⟨(h c).1.trans ?_, (h c).2.1.trans ?_, (h c).2.2.1.trans ?_, (h c).2.2.2.1.trans ?_,
      (h c).2.2.2.2.1.trans ?_, (h c).2.2.2.2.2.1.trans ?_, (h c).2.2.2.2.2.2⟩) (Cert.ReferenceIdeal.Value.run m' ρ')
    all_goals obtain ⟨h0, h1, h2, h3, h4⟩ := act_reals (hp c)
    all_goals have hv := act_value m c
    all_goals have hg := act_gate m c h0 h1 h2 h3 h4
    · rw [Cert.ReferenceIdeal.Read.val_main_v79_eq, (hm c).1, (hm c).2.1, (hm c).2.2.1, (hm c).2.2.2.1, (hm c).2.2.2.2]
      funext i
      rw [eq_ix2 i]
      exact (Cert.ReferenceIdeal.Act.gate_rows _ _ _ _ _ _ _).trans (congrArg (fun d => dconv d _ _) (funext fun r => hg r _))
    · rw [Cert.ReferenceIdeal.Read.val_main_v82_eq, (hm c).1, (hm c).2.1, (hm c).2.2.1, (hm c).2.2.2.1, (hm c).2.2.2.2]
      funext i
      rw [eq_ix2 i]
      exact (Cert.ReferenceIdeal.Act.value_rows _ _ _ _ _ _ _).trans (congrArg (fun d => dconv d _ _) (funext fun r => hv r _))
    · rw [Cert.ReferenceIdeal.Read.val_main_v85_eq, (hm c).1, (hm c).2.1, (hm c).2.2.1, (hm c).2.2.2.1, (hm c).2.2.2.2]
      funext i
      rw [eq_ix3 i]
      exact (Cert.ReferenceIdeal.Act.gate_taps _ _ _ _ _ _ _ _).trans (congrArg (fun d => dtap d _ _) (funext fun r => hg r _))
    · rw [Cert.ReferenceIdeal.Read.val_main_v88_eq, (hm c).1, (hm c).2.1, (hm c).2.2.1, (hm c).2.2.2.1, (hm c).2.2.2.2]
      funext i
      rw [eq_ix3 i]
      exact (Cert.ReferenceIdeal.Act.value_taps _ _ _ _ _ _ _ _).trans (congrArg (fun d => dtap d _ _) (funext fun r => hv r _))
    · rw [Cert.ReferenceIdeal.Read.val_main_v90_eq, (hm c).1, (hm c).2.1, (hm c).2.2.1, (hm c).2.2.2.1, (hm c).2.2.2.2]
      funext i
      rw [eq_ix2 i]
      exact (Cert.ReferenceIdeal.Act.gate_bias _ _ _ _ _ _ _).trans (Finset.sum_congr rfl fun r _ => hg r _)
    · rw [Cert.ReferenceIdeal.Read.val_main_v92_eq, (hm c).1, (hm c).2.1, (hm c).2.2.1, (hm c).2.2.2.1, (hm c).2.2.2.2]
      funext i
      rw [eq_ix2 i]
      exact (Cert.ReferenceIdeal.Act.value_bias _ _ _ _ _ _ _).trans (Finset.sum_congr rfl fun r _ => hv r _)

end Cert.Proof

end
-- ==== Proof.UpGrad.lean ====
/-
  The gradient of the up projection and of the norm before it: what the kernel's two result arrays hold.
-/
module

public import proofs.«01_k».proof.Proof.Gen.Kernel2Ideal.Value
public import proofs.«01_k».proof.Proof.Gen.Reference2Ideal.Read
public import proofs.«01_k».proof.Proof.Rms
public import Idealize.ShloMosaic.Lib.Pipeline.ValueKit
public import Idealize.ShloMosaic.Lib.Pointwise
public import Idealize.ShloMosaic.Lib.StableHlo.ReadAt

@[expose] public section

set_option maxRecDepth 16384

noncomputable section

open Idealize.ShloMosaic Idealize.ShloMosaic.TcCoe Idealize.SL.Sem
open Idealize.ShloMosaic.Pipeline (Dat)

namespace Cert.Kernel2Ideal.Up

open Cert.Kernel2Ideal Cert.Kernel2Ideal.Gen

variable (m : (ℓ : Loc nD τ sig) → Buf (Elt Ideal) ℓ)

/-- The gradient arriving at the projection's result. -/
def dp (c : Dev nD) : S4096x5632.Idx → EReal := m ((c.tc : Thread nD τ).loc main_arg0)
/-- The projection's weight. -/
def w (c : Dev nD) : S1024x5632.Idx → EReal := m ((c.tc : Thread nD τ).loc main_arg1)
/-- The rows before the norm. -/
def y (c : Dev nD) : S4096x1024.Idx → EReal := m ((c.tc : Thread nD τ).loc main_arg2)
/-- The gradient arriving past the norm. -/
def dy2 (c : Dev nD) : S4096x1024.Idx → EReal := m ((c.tc : Thread nD τ).loc main_arg3)
/-- The norm's weight. -/
def g (c : Dev nD) : S1x1024.Idx → EReal := m ((c.tc : Thread nD τ).loc main_arg4)

/-- One row before the norm. -/
def row (c : Dev nD) (r : Fin 4096) : Fin 1024 → EReal := fun k => y m c (ix2 r k)

/-- The gradient of the norm's result: one row of `dp` against one row of the weight. -/
def dh (c : Dev nD) (r : Fin 4096) (q : Fin 1024) : EReal := ∑ k : Fin 5632, dp m c (ix2 r k) * w m c (ix2 q k)

theorem idx : ∀ t : Fin cfg0.N, win0_0.index t = ![t.val, 0] ∧ win0_1.index t = ![t.val, 0] ∧ win0_2.index t = ![0, 0, 0] ∧
    win0_3.index t = ![t.val, 0] ∧ win0_4.index t = ![t.val, 0] ∧ win0_5.index t = ![0, 0] ∧ win0_6.index t = ![t.val, 0] ∧
    win0_7.index t = ![0, 0] := by decide +kernel

theorem point_lt (t : Fin cfg0.N) : t.val < 8 := lt_of_lt_of_eq t.isLt (by decide)

/-- The array's row that row `p` of point `t`'s block is. -/
def at_ (t : Fin cfg0.N) (p : Fin 512) : Fin 4096 := ⟨t.val * 512 + p.val, by have := point_lt t; have := p.isLt; omega⟩

theorem gate_block (c : Dev nD) (t : Fin cfg0.N) (p : Fin 512) (k : Fin 2816) :
    iblk m c 0 t (ix2 p k) = dp m c (ix2 (at_ t p) (⟨k.val, by omega⟩ : Fin 5632)) := by
  have e : V m c main_v3 (ix2 (at_ t p) k) = dp m c (ix2 (at_ t p) (⟨k.val, by omega⟩ : Fin 5632)) := by
    unfold V dp; after_reads_at
  have h := idx t
  rw [← e]
  unfold iblk at_
  blk_ext [h]

theorem value_block (c : Dev nD) (t : Fin cfg0.N) (p : Fin 512) (k : Fin 2816) :
    iblk m c 1 t (ix2 p k) = dp m c (ix2 (at_ t p) (⟨2816 + k.val, by omega⟩ : Fin 5632)) := by
  have e : V m c main_v5 (ix2 (at_ t p) k) = dp m c (ix2 (at_ t p) (⟨2816 + k.val, by omega⟩ : Fin 5632)) := by
    unfold V dp; after_reads_at
  have h := idx t
  rw [← e]
  unfold iblk at_
  blk_ext [h]

theorem weight_block (c : Dev nD) (t : Fin cfg0.N) (j : Fin 4) (q : Fin 1024) (k : Fin 1408) :
    iblk m c 2 t (ix3 j q k) = w m c (ix2 q (⟨j.val * 1408 + k.val, by omega⟩ : Fin 5632)) := by
  have e : V m c main_v6 (ix3 j q k) = w m c (ix2 q (⟨j.val * 1408 + k.val, by omega⟩ : Fin 5632)) := by
    unfold V w; after_reads_at
  have h := idx t
  rw [← e]
  unfold iblk
  blk_ext [h]

theorem row_block (c : Dev nD) (t : Fin cfg0.N) (p : Fin 512) (k : Fin 1024) :
    iblk m c 3 t (ix2 p k) = row m c (at_ t p) k := by
  have h := idx t
  unfold row y at_
  blk_ext [iblk, V, h]

theorem past_block (c : Dev nD) (t : Fin cfg0.N) (p : Fin 512) (k : Fin 1024) :
    iblk m c 4 t (ix2 p k) = dy2 m c (ix2 (at_ t p) k) := by
  have h := idx t
  unfold dy2 at_
  blk_ext [iblk, V, h]

theorem norm_block (c : Dev nD) (t : Fin cfg0.N) (p : Fin 1) (k : Fin 1024) :
    iblk m c 5 t (ix2 p k) = g m c (ix2 0 k) := by
  have h := idx t
  unfold g
  blk_ext [iblk, V, h]

/-- The four partial products over 1408 columns each are the product over all 5632. -/
theorem product (c : Dev nD) (t : Fin cfg0.N) (p : Fin 512) (q : Fin 1024) :
    k0_pay6 (View.ld (iblk m c 0 t) (Rect.unit ![0, 0] ![512, 1408] inb_S512x2816_S512x1408_0_0))
      (View.ld (iblk m c 2 t) (Rect.unit ![0, 0, 0] ![1, 1024, 1408] inb_S4x1024x1408_S1x1024x1408_0_0_0))
      (View.ld (iblk m c 0 t) (Rect.unit ![0, 1408] ![512, 1408] inb_S512x2816_S512x1408_0_1408))
      (View.ld (iblk m c 2 t) (Rect.unit ![1, 0, 0] ![1, 1024, 1408] inb_S4x1024x1408_S1x1024x1408_1_0_0))
      (View.ld (iblk m c 1 t) (Rect.unit ![0, 0] ![512, 1408] inb_S512x2816_S512x1408_0_0))
      (View.ld (iblk m c 2 t) (Rect.unit ![2, 0, 0] ![1, 1024, 1408] inb_S4x1024x1408_S1x1024x1408_2_0_0))
      (View.ld (iblk m c 1 t) (Rect.unit ![0, 1408] ![512, 1408] inb_S512x2816_S512x1408_0_1408))
      (View.ld (iblk m c 2 t) (Rect.unit ![3, 0, 0] ![1, 1024, 1408] inb_S4x1024x1408_S1x1024x1408_3_0_0)) (ix2 p q)
      = dh m c (at_ t p) q := by
  pointwise [k0_pay6]
  simp only [gate_block, value_block, weight_block]
  unfold dh
  rw [Fin.sum_univ_tiles 4 1408 rfl (fun k : Fin 5632 => dp m c (ix2 (at_ t p) k) * w m c (ix2 q k)), Fin.sum_univ_four]
  refine congrArg₂ (· + ·) (congrArg₂ (· + ·) (congrArg₂ (· + ·) ?_ ?_) ?_) ?_ <;>
    refine Finset.sum_congr rfl fun k _ => congrArg₂ (· * ·) (congrArg (fun j => dp m c (ix2 (at_ t p) j)) (Fin.ext ?_))
      (congrArg (fun j => w m c (ix2 q j)) (Fin.ext ?_)) <;> simp <;> omega

/-- What the row gradient holds at row `r`, column `q`. -/
def grad (c : Dev nD) (r : Fin 4096) (q : Fin 1024) : EReal :=
  dy2 m c (ix2 r q) + Ideal.rsqrt (Rms.ms (row m c r)) *
    (dh m c r q * g m c (ix2 0 q) - row m c r q * Ideal.rsqrt (Rms.ms (row m c r)) *
      Ideal.div (∑ k, dh m c r k * g m c (ix2 0 k) * (row m c r k * Ideal.rsqrt (Rms.ms (row m c r))))
        (Ideal.ofBits .f32 1149239296#32))

/-- One row's part of the norm weight's gradient. -/
def part (c : Dev nD) (r : Fin 4096) (q : Fin 1024) : EReal :=
  dh m c r q * (row m c r q * Ideal.rsqrt (Rms.ms (row m c r)))

/-- The stored row gradient, element by element, from one row of each block. -/
theorem stored_grad (d o x : S512x1024.Idx → EReal) (n : S1x1024.Idx → EReal) (p : Fin 512) (q : Fin 1024)
    {D X N : Fin 1024 → EReal} {O : EReal} (hd : ∀ k, d (ix2 p k) = D k) (hx : ∀ k, x (ix2 p k) = X k)
    (hn : ∀ k, n (ix2 0 k) = N k) (ho : o (ix2 p q) = O) :
    k0_pay3 (F := Ideal) d x n o (ix2 p q) = O + Ideal.rsqrt (Rms.ms X) *
      (D q * N q - X q * Ideal.rsqrt (Rms.ms X) *
        Ideal.div (∑ k, D k * N k * (X k * Ideal.rsqrt (Rms.ms X))) (Ideal.ofBits .f32 1149239296#32)) := by
  pointwise [k0_pay3, k0_pay2, k0_pay1]
  simp only [hd, hx, hn, ho, Rms.ms]

/-- The norm weight's gradient with one block's rows added, element by element. -/
theorem stored_part (d x : S512x1024.Idx → EReal) (o : S1x1024.Idx → EReal) (q : Fin 1024) {D X : Fin 512 → Fin 1024 → EReal}
    {O : EReal} (hd : ∀ p k, d (ix2 p k) = D p k) (hx : ∀ p k, x (ix2 p k) = X p k) (ho : o (ix2 0 q) = O) :
    k0_pay4 (F := Ideal) d x o (ix2 0 q) = O + ∑ p : Fin 512, D p q * (X p q * Ideal.rsqrt (Rms.ms (X p))) := by
  pointwise [k0_pay4, k0_pay2, k0_pay1]
  simp only [hd, hx, ho, Rms.ms]

/-- The row gradient's block after any point. -/
theorem grad_block (c : Dev nD) (t : Fin cfg0.N) (p : Fin 512) (q : Fin 1024) :
    (outsAt0 m c t.val t.isLt).1 (ix2 p q) = grad m c (at_ t p) q := by
  by_cases h0 : t.val % 8 = 0
  · rw [outsAt0_A m c t h0]
    frame_out
    exact stored_grad _ _ _ _ p q (product m c t p) (row_block m c t p) (norm_block m c t 0) (past_block m c t p q)
  · rw [outsAt0_B m c t h0]
    frame_out
    exact stored_grad _ _ _ _ p q (product m c t p) (row_block m c t p) (norm_block m c t 0) (past_block m c t p q)

/-- The row gradient's array after the run. -/
theorem grad_final (c : Dev nD) :
    (dats m 0 c).arrAt 6 cfg0.N = (fun i => grad m c (i 0) (i 1) : S4096x1024.Idx → EReal) := by
  refine (dats m 0 c).arrAt_eq_of_covers 6 _ (by decide +kernel) fun t hf j => ?_
  obtain ⟨p, q, rfl⟩ : ∃ (p : Fin 512) (q : Fin 1024), j = ix2 p q := ⟨j 0, j 1, eq_ix2 j⟩
  show (outsAt0 m c t.val t.isLt).1 (ix2 p q) = _
  rw [grad_block]
  have h := idx t
  refine congrArg₂ (grad m c) (Fin.ext ?_) (Fin.ext ?_)
  · unfold at_; blk_simp [h]
  · blk_simp [h]

/-- What point `n` adds to the norm weight's gradient. -/
def added (c : Dev nD) (n : ℕ) (q : Fin 1024) : EReal :=
  if hn : n < cfg0.N then ∑ p : Fin 512, part m c (at_ ⟨n, hn⟩ p) q else 0

theorem added_at (c : Dev nD) (n : ℕ) (hn : n < cfg0.N) (q : Fin 1024) :
    added m c n q = ∑ p : Fin 512, part m c (at_ ⟨n, hn⟩ p) q := by
  unfold added
  exact dif_pos hn

/-- The norm weight's gradient after point `t`: the sum over the rows of the blocks up to it. -/
theorem part_block (c : Dev nD) (t : Fin cfg0.N) (q : Fin 1024) :
    (outsAt0 m c t.val t.isLt).2 (ix2 0 q) = 0 + ∑ k ∈ Finset.range (t.val % 8 + 1), added m c (8 * (t.val / 8) + k) q := by
  refine Pipeline.eq_sum_of_reset_step_apply (fun n h (q : Fin 1024) => (outsAt0 m c n h).2 (ix2 0 q)) 8 (fun _ => 0)
    (added m c) ?_ ?_ t q
  · intro t h0 q
    show (outsAt0 m c t.val t.isLt).2 (ix2 0 q) = _
    rw [outsAt0_A m c t h0, added_at m c t.val t.isLt]
    frame_out
    exact stored_part _ _ _ q (product m c t) (row_block m c t) (by pointwise [k0_pay5])
  · intro t h0 q
    show (outsAt0 m c t.val t.isLt).2 (ix2 0 q) = _
    rw [outsAt0_B m c t h0, added_at m c t.val t.isLt]
    frame_out
    exact stored_part _ _ _ q (product m c t) (row_block m c t) rfl

/-- The norm weight's gradient after the run. -/
theorem part_final (c : Dev nD) :
    (dats m 0 c).arrAt 7 cfg0.N = (fun i => ∑ r : Fin 4096, part m c r (i 1) : S1x1024.Idx → EReal) := by
  refine (dats m 0 c).arrAt_eq_of_covers 7 _ (by decide +kernel) fun t hf j => ?_
  obtain ⟨p, q, rfl⟩ : ∃ (p : Fin 1) (q : Fin 1024), j = ix2 p q := ⟨j 0, j 1, eq_ix2 j⟩
  obtain rfl : p = 0 := Subsingleton.elim _ _
  have ht : t.val = 7 := by revert t; decide +kernel
  show (outsAt0 m c t.val t.isLt).2 (ix2 0 q) = _
  rw [part_block, ht]
  have h := idx t
  have hq : (((cfg0.win 7).blk t).view.emb (ix2 0 q)) 1 = q := by refine Fin.ext ?_; blk_simp [h]
  show _ = ∑ r : Fin 4096, part m c r ((((cfg0.win 7).blk t).view.emb (ix2 0 q)) 1)
  rw [hq, zero_add, Fin.sum_univ_tiles 8 512 rfl, Finset.sum_range]
  refine Finset.sum_congr rfl fun k _ => ?_
  have hk : 8 * (7 / 8) + k.val < cfg0.N := by
    have h8 : cfg0.N = 8 := by decide
    have := k.isLt
    omega
  rw [added_at m c _ hk]
  refine Finset.sum_congr rfl fun p _ => congrArg₂ (part m c) (Fin.ext ?_) rfl
  simp [at_]

end Cert.Kernel2Ideal.Up

end
-- ==== Proof.UpClaim.lean ====
/-
  The claims about the gradient of the up projection and of the norm before it.
-/
module

public import proofs.«01_k».proof.Defs
public import proofs.«01_k».proof.Proof.UpGrad
public import proofs.«01_k».proof.Proof.Gen.Reference2Ideal.Run
public import proofs.«01_k».proof.Proof.Gen.Pre_finite2

@[expose] public section

set_option maxRecDepth 16384

noncomputable section

open Idealize.ShloMosaic Idealize.SL.Sem

namespace Cert.Reference2Ideal.Up

open Cert.Reference2Ideal

/-- The gradient of the rows that differentiating the norm and the product gives, element by element. -/
theorem grad_value (x0 : S4096x5632.Idx → EReal) (x1 : S1024x5632.Idx → EReal) (x2 x3 : S4096x1024.Idx → EReal)
    (x4 : S1x1024.Idx → EReal) (p : Fin 4096) (q : Fin 1024) :
    Read.val_main_v39 (F := Ideal) x0 x1 x2 x3 x4 (ix2 p q)
      = x3 (ix2 p q) + (∑ k, x0 (ix2 p k) * x1 (ix2 q k)) * x4 (ix2 0 q) * Ideal.rsqrt (Rms.ms fun k => x2 (ix2 p k))
        + x2 (ix2 p q) * Rms.slope (fun k => x2 (ix2 p k)) (fun j => (∑ k, x0 (ix2 p k) * x1 (ix2 j k)) * x4 (ix2 0 j))
        + Rms.slope (fun k => x2 (ix2 p k)) (fun j => (∑ k, x0 (ix2 p k) * x1 (ix2 j k)) * x4 (ix2 0 j)) * x2 (ix2 p q) := by
  pointwise [Read.val_main_v0, Read.val_main_v1, Read.val_main_cst, Read.val_main_v2, Read.val_main_v3,
    Read.val_main_cst_0, Read.val_main_v4, Read.val_main_v5, Read.val_main_cst_1, Read.val_main_v6,
    Read.val_main_v7, Read.val_main_v8, Read.val_main_v9, Read.val_main_cst_2, Read.val_main_v10,
    Read.val_main_v11, Read.val_main_v12, Read.val_main_v13, Read.val_main_v14, Read.val_main_v15,
    Read.val_main_v16, Read.val_main_v17, Read.val_main_v18, Read.val_main_v19, Read.val_main_cst_3,
    Read.val_main_v20, Read.val_main_v21, Read.val_main_v22, Read.val_main_v23, Read.val_main_cst_4,
    Read.val_main_v24, Read.val_main_v25, Read.val_main_cst_5, Read.val_main_v26, Read.val_main_v27,
    Read.val_main_v28, Read.val_main_v29, Read.val_main_v30, Read.val_main_v31, Read.val_main_cst_6,
    Read.val_main_v32, Read.val_main_v33, Read.val_main_cst_7, Read.val_main_v34, Read.val_main_v35,
    Read.val_main_v36, Read.val_main_v37, Read.val_main_v38, Read.val_main_v39, Read.val_main_v40]
  rfl

/-- The gradient of the norm's weight that differentiating the norm gives, element by element. -/
theorem part_value (x0 : S4096x5632.Idx → EReal) (x1 : S1024x5632.Idx → EReal) (x2 : S4096x1024.Idx → EReal) (z : Fin 1)
    (q : Fin 1024) :
    Read.val_main_v40 (F := Ideal) x0 x1 x2 (ix2 z q)
      = ∑ p : Fin 4096, (∑ k, x0 (ix2 p k) * x1 (ix2 q k)) * (x2 (ix2 p q) * Ideal.rsqrt (Rms.ms fun k => x2 (ix2 p k))) := by
  pointwise [Read.val_main_v0, Read.val_main_v1, Read.val_main_cst, Read.val_main_v2, Read.val_main_v3,
    Read.val_main_cst_0, Read.val_main_v4, Read.val_main_v5, Read.val_main_cst_1, Read.val_main_v6,
    Read.val_main_v7, Read.val_main_v8, Read.val_main_v9, Read.val_main_cst_2, Read.val_main_v10,
    Read.val_main_v11, Read.val_main_v12, Read.val_main_v13, Read.val_main_v14, Read.val_main_v15,
    Read.val_main_v16, Read.val_main_v17, Read.val_main_v18, Read.val_main_v19, Read.val_main_cst_3,
    Read.val_main_v20, Read.val_main_v21, Read.val_main_v22, Read.val_main_v23, Read.val_main_cst_4,
    Read.val_main_v24, Read.val_main_v25, Read.val_main_cst_5, Read.val_main_v26, Read.val_main_v27,
    Read.val_main_v28, Read.val_main_v29, Read.val_main_v30, Read.val_main_v31, Read.val_main_cst_6,
    Read.val_main_v32, Read.val_main_v33, Read.val_main_cst_7, Read.val_main_v34, Read.val_main_v35,
    Read.val_main_v36, Read.val_main_v37, Read.val_main_v38, Read.val_main_v39, Read.val_main_v40]
  rw [Fin.sum_univ_one]
  exact Finset.sum_congr rfl fun p _ => mul_comm _ _

end Cert.Reference2Ideal.Up

namespace Cert.Proof

open Cert.Finite

/-- Under the precondition the arrays of the product and the norm hold reals. -/
theorem up_reals {x0 : Cert.Pre_finite2.S4096x5632.Idx → EReal} {x1 : Cert.Pre_finite2.S1024x5632.Idx → EReal}
    {x2 x3 : Cert.Pre_finite2.S4096x1024.Idx → EReal} {x4 : Cert.Pre_finite2.S1x1024.Idx → EReal}
    (h : (Cert.Pre_finite2.fn (F := Ideal) x0 x1 x2 x3 x4).1 = (fun _ => 1#1)
      ∧ (Cert.Pre_finite2.fn (F := Ideal) x0 x1 x2 x3 x4).2.1 = (fun _ => 1#1)
      ∧ (Cert.Pre_finite2.fn (F := Ideal) x0 x1 x2 x3 x4).2.2.1 = (fun _ => 1#1)
      ∧ (Cert.Pre_finite2.fn (F := Ideal) x0 x1 x2 x3 x4).2.2.2 = (fun _ => 1#1)) :
    (∀ i, IsReal (x0 i)) ∧ (∀ i, IsReal (x1 i)) ∧ (∀ i, IsReal (x2 i)) ∧ (∀ i, IsReal (x4 i)) :=
  ⟨fun i => isReal_of_test (congrFun h.1 i), fun i => isReal_of_test (congrFun h.2.1 i),
    fun i => isReal_of_test (congrFun h.2.2.1 i), fun i => isReal_of_test (congrFun h.2.2.2 i)⟩

/-- The kernel's gradient of a row, at finite inputs, as differentiating the norm and the product writes it. -/
theorem up_grad (m : (ℓ : Loc Cert.Kernel2Ideal.nD Cert.Kernel2Ideal.τ Cert.Kernel2Ideal.sig) → Buf (Elt Ideal) ℓ)
    (c : Dev Cert.Kernel2Ideal.nD)
    (h0 : ∀ i, IsReal (Cert.Kernel2Ideal.Up.dp m c i)) (h1 : ∀ i, IsReal (Cert.Kernel2Ideal.Up.w m c i))
    (h2 : ∀ i, IsReal (Cert.Kernel2Ideal.Up.y m c i)) (h4 : ∀ i, IsReal (Cert.Kernel2Ideal.Up.g m c i)) (p : Fin 4096) (q : Fin 1024) :
    Cert.Kernel2Ideal.Up.grad m c p q
      = Cert.Kernel2Ideal.Up.dy2 m c (ix2 p q)
        + Cert.Kernel2Ideal.Up.dh m c p q * Cert.Kernel2Ideal.Up.g m c (ix2 0 q)
          * Ideal.rsqrt (Rms.ms (Cert.Kernel2Ideal.Up.row m c p))
        + Cert.Kernel2Ideal.Up.row m c p q * Rms.slope (Cert.Kernel2Ideal.Up.row m c p)
          (fun j => Cert.Kernel2Ideal.Up.dh m c p j * Cert.Kernel2Ideal.Up.g m c (ix2 0 j))
        + Rms.slope (Cert.Kernel2Ideal.Up.row m c p)
          (fun j => Cert.Kernel2Ideal.Up.dh m c p j * Cert.Kernel2Ideal.Up.g m c (ix2 0 j)) * Cert.Kernel2Ideal.Up.row m c p q :=
  Rms.backward (Cert.Kernel2Ideal.Up.row m c p) (Cert.Kernel2Ideal.Up.dh m c p) (fun k => Cert.Kernel2Ideal.Up.g m c (ix2 0 k)) _
    (fun k => h2 _) (fun k => IsReal.sum fun j => (h0 _).mul (h1 _)) (fun k => h4 _) q

/-- The plain gradient runs, keeps its arguments and leaves no semaphore counted up. -/
theorem frame_up_reference : quiescent_Reference2Ideal (hReference2Ideal := Cert.Reference2Ideal.Gen.facts) := fun m ρ _ =>
  (θ_run _ _ _).mono (fun r h => ⟨fun c => (h c).2.2, Idealize.ShloMosaic.sem_eq_zero_of_no_sems (by decide) r.2⟩)
    (Cert.Reference2Ideal.Value.run m ρ)

/-- The kernel's gradients of the rows and of the norm's weight are those of the norm and product differentiated, at
    finite inputs. -/
theorem up : algebraic_Kernel2Ideal_Reference2Ideal_pre_finite2 (hKernel2Ideal := Cert.Kernel2Ideal.Gen.facts)
    (hReference2Ideal := Cert.Reference2Ideal.Gen.facts) (hPre_finite2 := Cert.Pre_finite2.Gen.facts) := by
  intro m ρ m' ρ' hp hm
  refine ⟨fun c => (fun i => Cert.Kernel2Ideal.Up.grad m c (i 0) (i 1) : Cert.Kernel2Ideal.S4096x1024.Idx → EReal),
    fun c => (fun i => ∑ r, Cert.Kernel2Ideal.Up.part m c r (i 1) : Cert.Kernel2Ideal.S1x1024.Idx → EReal), ?_, ?_⟩
  · exact (θ_run _ _ _).mono (fun r h c => ⟨(h c).1.trans (Cert.Kernel2Ideal.Up.grad_final m c),
      (h c).2.1.trans (Cert.Kernel2Ideal.Up.part_final m c), (h c).2.2⟩) (Cert.Kernel2Ideal.Value.run_blocks m ρ)
  · refine (θ_run _ _ _).mono (fun r h c => ⟨(h c).1.trans ?_, (h c).2.1.trans ?_, (h c).2.2⟩)
      (Cert.Reference2Ideal.Value.run m' ρ')
    · rw [Cert.Reference2Ideal.Read.val_main_v39_eq, (hm c).1, (hm c).2.1, (hm c).2.2.1, (hm c).2.2.2.1, (hm c).2.2.2.2]
      obtain ⟨h0, h1, h2, h4⟩ := up_reals (hp c)
      funext i
      rw [eq_ix2 i]
      exact (Cert.Reference2Ideal.Up.grad_value _ _ _ _ _ _ _).trans (up_grad m c h0 h1 h2 h4 _ _).symm
    · rw [Cert.Reference2Ideal.Read.val_main_v40_eq, (hm c).1, (hm c).2.1, (hm c).2.2.1]
      funext i
      rw [eq_ix2 i]
      exact Cert.Reference2Ideal.Up.part_value _ _ _ _ _

end Cert.Proof

end
-- ==== Proof.InGrad.lean ====
/-
  The gradient of the input projection and of the norm before it: what the kernel's two result arrays hold.
-/
module

public import proofs.«01_k».proof.Proof.Gen.Kernel3Ideal.Value
public import proofs.«01_k».proof.Proof.Gen.Reference3Ideal.Read
public import proofs.«01_k».proof.Proof.Rms
public import Idealize.ShloMosaic.Lib.Pipeline.ValueKit
public import Idealize.ShloMosaic.Lib.Pointwise
public import Idealize.ShloMosaic.Lib.StableHlo.ReadAt

@[expose] public section

set_option maxRecDepth 16384

noncomputable section

open Idealize.ShloMosaic Idealize.ShloMosaic.TcCoe Idealize.SL.Sem
open Idealize.ShloMosaic.Pipeline (Dat)

namespace Cert.Kernel3Ideal.In

open Cert.Kernel3Ideal Cert.Kernel3Ideal.Gen

variable (m : (ℓ : Loc nD τ sig) → Buf (Elt Ideal) ℓ)

/-- The gradient of the projection's result: the pooling columns, the attention columns, the gates' columns. -/
def dz (c : Dev nD) : S4096x4352.Idx → EReal := m ((c.tc : Thread nD τ).loc main_arg0)
/-- The projection's weight. -/
def w (c : Dev nD) : S1024x4352.Idx → EReal := m ((c.tc : Thread nD τ).loc main_arg1)
/-- The rows before the norm. -/
def x (c : Dev nD) : S4096x1024.Idx → EReal := m ((c.tc : Thread nD τ).loc main_arg2)
/-- The norm's weight. -/
def g (c : Dev nD) : S1x1024.Idx → EReal := m ((c.tc : Thread nD τ).loc main_arg3)
/-- The gradient arriving past the norm. -/
def dy1 (c : Dev nD) : S4096x1024.Idx → EReal := m ((c.tc : Thread nD τ).loc main_arg4)

/-- One row before the norm. -/
def row (c : Dev nD) (r : Fin 4096) : Fin 1024 → EReal := fun k => x m c (ix2 r k)

/-- The gradient of the norm's result: one row of `dz` against one row of the weight. -/
def dh (c : Dev nD) (r : Fin 4096) (q : Fin 1024) : EReal := ∑ k : Fin 4352, dz m c (ix2 r k) * w m c (ix2 q k)

theorem idx : ∀ t : Fin cfg0.N, win0_0.index t = ![t.val, 0] ∧ win0_1.index t = ![t.val, 0] ∧ win0_2.index t = ![t.val, 0] ∧
    win0_3.index t = ![0, 0] ∧ win0_4.index t = ![t.val, 0] ∧ win0_5.index t = ![0, 0] ∧ win0_6.index t = ![t.val, 0] ∧
    win0_7.index t = ![t.val, 0] ∧ win0_8.index t = ![0, 0] := by decide +kernel

theorem point_lt (t : Fin cfg0.N) : t.val < 8 := lt_of_lt_of_eq t.isLt (by decide)

/-- The row of the whole array that row `p` of point `t`'s blocks is. -/
def at_ (t : Fin cfg0.N) (p : Fin 512) : Fin 4096 := ⟨t.val * 512 + p.val, by have := point_lt t; have := p.isLt; omega⟩

theorem pool_block (c : Dev nD) (t : Fin cfg0.N) (p : Fin 512) (k : Fin 1024) :
    iblk m c 0 t (ix2 p k) = dz m c (ix2 (at_ t p) (⟨k.val, by omega⟩ : Fin 4352)) := by
  have e : V m c main_v1 (ix2 (at_ t p) k) = dz m c (ix2 (at_ t p) (⟨k.val, by omega⟩ : Fin 4352)) := by
    unfold V dz; after_reads_at
  have h := idx t
  rw [← e]
  unfold iblk at_
  blk_ext [h]

theorem attn_block (c : Dev nD) (t : Fin cfg0.N) (p : Fin 512) (k : Fin 1280) :
    iblk m c 1 t (ix2 p k) = dz m c (ix2 (at_ t p) (⟨1024 + k.val, by omega⟩ : Fin 4352)) := by
  have e : V m c main_v3 (ix2 (at_ t p) k) = dz m c (ix2 (at_ t p) (⟨1024 + k.val, by omega⟩ : Fin 4352)) := by
    unfold V dz; after_reads_at
  have h := idx t
  rw [← e]
  unfold iblk at_
  blk_ext [h]

theorem gates_block (c : Dev nD) (t : Fin cfg0.N) (p : Fin 512) (k : Fin 2048) :
    iblk m c 2 t (ix2 p k) = dz m c (ix2 (at_ t p) (⟨2304 + k.val, by omega⟩ : Fin 4352)) := by
  have e : V m c main_v5 (ix2 (at_ t p) k) = dz m c (ix2 (at_ t p) (⟨2304 + k.val, by omega⟩ : Fin 4352)) := by
    unfold V dz; after_reads_at
  have h := idx t
  rw [← e]
  unfold iblk at_
  blk_ext [h]

theorem weight_block (c : Dev nD) (t : Fin cfg0.N) (k : Fin 4352) (q : Fin 1024) :
    iblk m c 3 t (ix2 k q) = w m c (ix2 q k) := by
  have e : V m c main_v7 (ix2 k q) = w m c (ix2 q k) := by
    unfold V w; after_reads_at
  have h := idx t
  rw [← e]
  unfold iblk
  blk_ext [h]

theorem row_block (c : Dev nD) (t : Fin cfg0.N) (p : Fin 512) (k : Fin 1024) :
    iblk m c 4 t (ix2 p k) = row m c (at_ t p) k := by
  have h := idx t
  unfold row x at_
  blk_ext [iblk, V, h]

theorem norm_block (c : Dev nD) (t : Fin cfg0.N) (p : Fin 1) (k : Fin 1024) :
    iblk m c 5 t (ix2 p k) = g m c (ix2 0 k) := by
  have h := idx t
  unfold g
  blk_ext [iblk, V, h]

theorem past_block (c : Dev nD) (t : Fin cfg0.N) (p : Fin 512) (k : Fin 1024) :
    iblk m c 6 t (ix2 p k) = dy1 m c (ix2 (at_ t p) k) := by
  have h := idx t
  unfold dy1 at_
  blk_ext [iblk, V, h]

/-- A sum over 4352 columns is the sum over its first 1024, the next 1280 and the last 2048. -/
theorem three_parts (f : Fin 4352 → EReal) :
    ∑ k, f k = (∑ k : Fin 1024, f ⟨k.val, by omega⟩ + ∑ k : Fin 1280, f ⟨1024 + k.val, by omega⟩)
      + ∑ k : Fin 2048, f ⟨2304 + k.val, by omega⟩ := by
  rw [Fin.sum_univ_two_halves 2304 2048 rfl f, Fin.sum_univ_two_halves 1024 1280 rfl (fun k : Fin 2304 => f ⟨k.val, by omega⟩)]

/-- The three products over the parts of the columns are the product over all of them. -/
theorem product (c : Dev nD) (t : Fin cfg0.N) (p : Fin 512) (q : Fin 1024) :
    k0_pay4 (iblk m c 0 t) (View.ld (iblk m c 3 t) (Rect.unit ![0, 0] ![1024, 1024] inb_S4352x1024_S1024x1024_0_0))
      (iblk m c 1 t) (View.ld (iblk m c 3 t) (Rect.unit ![1024, 0] ![1280, 1024] inb_S4352x1024_S1280x1024_1024_0))
      (iblk m c 2 t) (View.ld (iblk m c 3 t) (Rect.unit ![2304, 0] ![2048, 1024] inb_S4352x1024_S2048x1024_2304_0)) (ix2 p q)
      = dh m c (at_ t p) q := by
  pointwise [k0_pay4]
  simp only [pool_block, attn_block, gates_block, weight_block]
  unfold dh
  rw [three_parts]

/-- What the row gradient holds at row `r`, column `q`. -/
def grad (c : Dev nD) (r : Fin 4096) (q : Fin 1024) : EReal :=
  dy1 m c (ix2 r q) + Ideal.rsqrt (Rms.ms (row m c r)) *
    (dh m c r q * g m c (ix2 0 q) - row m c r q * Ideal.rsqrt (Rms.ms (row m c r)) *
      Ideal.div (∑ k, dh m c r k * g m c (ix2 0 k) * (row m c r k * Ideal.rsqrt (Rms.ms (row m c r))))
        (Ideal.ofBits .f32 1149239296#32))

/-- One row's part of the norm weight's gradient. -/
def part (c : Dev nD) (r : Fin 4096) (q : Fin 1024) : EReal :=
  dh m c r q * (row m c r q * Ideal.rsqrt (Rms.ms (row m c r)))

/-- The product with the norm's weight on it. -/
theorem scaled (c : Dev nD) (t : Fin cfg0.N) (p : Fin 512) (q : Fin 1024) :
    k0_pay7 (iblk m c 0 t) (View.ld (iblk m c 3 t) (Rect.unit ![0, 0] ![1024, 1024] inb_S4352x1024_S1024x1024_0_0))
      (iblk m c 1 t) (View.ld (iblk m c 3 t) (Rect.unit ![1024, 0] ![1280, 1024] inb_S4352x1024_S1280x1024_1024_0))
      (iblk m c 2 t) (View.ld (iblk m c 3 t) (Rect.unit ![2304, 0] ![2048, 1024] inb_S4352x1024_S2048x1024_2304_0))
      (iblk m c 5 t) (ix2 p q) = dh m c (at_ t p) q * g m c (ix2 0 q) := by
  rw [← product, ← norm_block m c t 0 q]
  unfold k0_pay7
  pointwise

/-- The stored row gradient, element by element, from one row of each block. -/
theorem stored_grad (e o x : S512x1024.Idx → EReal) (p : Fin 512) (q : Fin 1024)
    {E X : Fin 1024 → EReal} {O : EReal} (he : ∀ k, e (ix2 p k) = E k) (hx : ∀ k, x (ix2 p k) = X k) (ho : o (ix2 p q) = O) :
    k0_pay1 (F := Ideal) (k0_pay5 x) (k0_pay6 x) e o (ix2 p q) = O + Ideal.rsqrt (Rms.ms X) *
      (E q - X q * Ideal.rsqrt (Rms.ms X) *
        Ideal.div (∑ k, E k * (X k * Ideal.rsqrt (Rms.ms X))) (Ideal.ofBits .f32 1149239296#32)) := by
  pointwise [k0_pay1, k0_pay5, k0_pay6]
  simp only [he, hx, ho, Rms.ms]

/-- The norm weight's gradient with one block's rows added, element by element. -/
theorem stored_part (d x : S512x1024.Idx → EReal) (o : S1x1024.Idx → EReal) (q : Fin 1024) {D X : Fin 512 → Fin 1024 → EReal}
    {O : EReal} (hd : ∀ p k, d (ix2 p k) = D p k) (hx : ∀ p k, x (ix2 p k) = X p k) (ho : o (ix2 0 q) = O) :
    k0_pay2 (F := Ideal) d (k0_pay6 x) o (ix2 0 q) = O + ∑ p : Fin 512, D p q * (X p q * Ideal.rsqrt (Rms.ms (X p))) := by
  pointwise [k0_pay2, k0_pay6, k0_pay5]
  simp only [hd, hx, ho, Rms.ms]

/-- The row gradient's block after any point. -/
theorem grad_block (c : Dev nD) (t : Fin cfg0.N) (p : Fin 512) (q : Fin 1024) :
    (outsAt0 m c t.val t.isLt).1 (ix2 p q) = grad m c (at_ t p) q := by
  by_cases h0 : t.val % 8 = 0
  · rw [outsAt0_A m c t h0]
    frame_out
    exact stored_grad _ _ _ p q (scaled m c t p) (row_block m c t p) (past_block m c t p q)
  · rw [outsAt0_B m c t h0]
    frame_out
    exact stored_grad _ _ _ p q (scaled m c t p) (row_block m c t p) (past_block m c t p q)

/-- The row gradient's array after the run. -/
theorem grad_final (c : Dev nD) :
    (dats m 0 c).arrAt 7 cfg0.N = (fun i => grad m c (i 0) (i 1) : S4096x1024.Idx → EReal) := by
  refine (dats m 0 c).arrAt_eq_of_covers 7 _ (by decide +kernel) fun t hf j => ?_
  obtain ⟨p, q, rfl⟩ : ∃ (p : Fin 512) (q : Fin 1024), j = ix2 p q := ⟨j 0, j 1, eq_ix2 j⟩
  show (outsAt0 m c t.val t.isLt).1 (ix2 p q) = _
  rw [grad_block]
  have h := idx t
  refine congrArg₂ (grad m c) (Fin.ext ?_) (Fin.ext ?_)
  · unfold at_; blk_simp [h]
  · blk_simp [h]

/-- What point `n` adds to the norm weight's gradient. -/
def added (c : Dev nD) (n : ℕ) (q : Fin 1024) : EReal :=
  if hn : n < cfg0.N then ∑ p : Fin 512, part m c (at_ ⟨n, hn⟩ p) q else 0

theorem added_at (c : Dev nD) (n : ℕ) (hn : n < cfg0.N) (q : Fin 1024) :
    added m c n q = ∑ p : Fin 512, part m c (at_ ⟨n, hn⟩ p) q := by
  unfold added
  exact dif_pos hn

/-- The norm weight's gradient after point `t`: the sum over the rows of the blocks up to it. -/
theorem part_block (c : Dev nD) (t : Fin cfg0.N) (q : Fin 1024) :
    (outsAt0 m c t.val t.isLt).2 (ix2 0 q) = 0 + ∑ k ∈ Finset.range (t.val % 8 + 1), added m c (8 * (t.val / 8) + k) q := by
  refine Pipeline.eq_sum_of_reset_step_apply (fun n h (q : Fin 1024) => (outsAt0 m c n h).2 (ix2 0 q)) 8 (fun _ => 0)
    (added m c) ?_ ?_ t q
  · intro t h0 q
    show (outsAt0 m c t.val t.isLt).2 (ix2 0 q) = _
    rw [outsAt0_A m c t h0, added_at m c t.val t.isLt]
    frame_out
    exact stored_part _ _ _ q (product m c t) (row_block m c t) (by pointwise [k0_pay3])
  · intro t h0 q
    show (outsAt0 m c t.val t.isLt).2 (ix2 0 q) = _
    rw [outsAt0_B m c t h0, added_at m c t.val t.isLt]
    frame_out
    exact stored_part _ _ _ q (product m c t) (row_block m c t) rfl

/-- The norm weight's gradient after the run. -/
theorem part_final (c : Dev nD) :
    (dats m 0 c).arrAt 8 cfg0.N = (fun i => ∑ r : Fin 4096, part m c r (i 1) : S1x1024.Idx → EReal) := by
  refine (dats m 0 c).arrAt_eq_of_covers 8 _ (by decide +kernel) fun t hf j => ?_
  obtain ⟨p, q, rfl⟩ : ∃ (p : Fin 1) (q : Fin 1024), j = ix2 p q := ⟨j 0, j 1, eq_ix2 j⟩
  obtain rfl : p = 0 := Subsingleton.elim _ _
  have ht : t.val = 7 := by revert t; decide +kernel
  show (outsAt0 m c t.val t.isLt).2 (ix2 0 q) = _
  rw [part_block, ht]
  have h := idx t
  have hq : (((cfg0.win 8).blk t).view.emb (ix2 0 q)) 1 = q := by refine Fin.ext ?_; blk_simp [h]
  show _ = ∑ r : Fin 4096, part m c r ((((cfg0.win 8).blk t).view.emb (ix2 0 q)) 1)
  rw [hq, zero_add, Fin.sum_univ_tiles 8 512 rfl, Finset.sum_range]
  refine Finset.sum_congr rfl fun k _ => ?_
  have hk : 8 * (7 / 8) + k.val < cfg0.N := by
    have h8 : cfg0.N = 8 := by decide
    have := k.isLt
    omega
  rw [added_at m c _ hk]
  refine Finset.sum_congr rfl fun p _ => congrArg₂ (part m c) (Fin.ext ?_) rfl
  simp [at_]

end Cert.Kernel3Ideal.In

end
-- ==== Proof.InClaim.lean ====
/-
  The claims about the gradient of the input projection and of the norm before it.
-/
module

public import proofs.«01_k».proof.Defs
public import proofs.«01_k».proof.Proof.InGrad
public import proofs.«01_k».proof.Proof.Gen.Reference3Ideal.Run
public import proofs.«01_k».proof.Proof.Gen.Pre_finite3

@[expose] public section

set_option maxRecDepth 16384

noncomputable section

open Idealize.ShloMosaic Idealize.SL.Sem

namespace Cert.Reference3Ideal.In

open Cert.Reference3Ideal

/-- The gradient of the rows that differentiating the norm and the product gives, element by element. -/
theorem grad_value (x0 : S4096x4352.Idx → EReal) (x1 : S1024x4352.Idx → EReal) (x2 : S4096x1024.Idx → EReal)
    (x3 : S1x1024.Idx → EReal) (x4 : S4096x1024.Idx → EReal) (p : Fin 4096) (q : Fin 1024) :
    Read.val_main_v39 (F := Ideal) x0 x1 x2 x3 x4 (ix2 p q)
      = x4 (ix2 p q) + (∑ k, x0 (ix2 p k) * x1 (ix2 q k)) * x3 (ix2 0 q) * Ideal.rsqrt (Rms.ms fun k => x2 (ix2 p k))
        + x2 (ix2 p q) * Rms.slope (fun k => x2 (ix2 p k)) (fun j => (∑ k, x0 (ix2 p k) * x1 (ix2 j k)) * x3 (ix2 0 j))
        + Rms.slope (fun k => x2 (ix2 p k)) (fun j => (∑ k, x0 (ix2 p k) * x1 (ix2 j k)) * x3 (ix2 0 j)) * x2 (ix2 p q) := by
  pointwise [Read.val_main_v0, Read.val_main_v1, Read.val_main_cst, Read.val_main_v2, Read.val_main_v3,
    Read.val_main_cst_0, Read.val_main_v4, Read.val_main_v5, Read.val_main_cst_1, Read.val_main_v6,
    Read.val_main_v7, Read.val_main_v8, Read.val_main_v9, Read.val_main_cst_2, Read.val_main_v10,
    Read.val_main_v11, Read.val_main_v12, Read.val_main_v13, Read.val_main_v14, Read.val_main_v15,
    Read.val_main_v16, Read.val_main_v17, Read.val_main_v18, Read.val_main_v19, Read.val_main_cst_3,
    Read.val_main_v20, Read.val_main_v21, Read.val_main_v22, Read.val_main_v23, Read.val_main_cst_4,
    Read.val_main_v24, Read.val_main_v25, Read.val_main_cst_5, Read.val_main_v26, Read.val_main_v27,
    Read.val_main_v28, Read.val_main_v29, Read.val_main_v30, Read.val_main_v31, Read.val_main_cst_6,
    Read.val_main_v32, Read.val_main_v33, Read.val_main_cst_7, Read.val_main_v34, Read.val_main_v35,
    Read.val_main_v36, Read.val_main_v37, Read.val_main_v38, Read.val_main_v39, Read.val_main_v40]
  rfl

/-- The gradient of the norm's weight that differentiating the norm gives, element by element. -/
theorem part_value (x0 : S4096x4352.Idx → EReal) (x1 : S1024x4352.Idx → EReal) (x2 : S4096x1024.Idx → EReal) (z : Fin 1)
    (q : Fin 1024) :
    Read.val_main_v40 (F := Ideal) x0 x1 x2 (ix2 z q)
      = ∑ p : Fin 4096, (∑ k, x0 (ix2 p k) * x1 (ix2 q k)) * (x2 (ix2 p q) * Ideal.rsqrt (Rms.ms fun k => x2 (ix2 p k))) := by
  pointwise [Read.val_main_v0, Read.val_main_v1, Read.val_main_cst, Read.val_main_v2, Read.val_main_v3,
    Read.val_main_cst_0, Read.val_main_v4, Read.val_main_v5, Read.val_main_cst_1, Read.val_main_v6,
    Read.val_main_v7, Read.val_main_v8, Read.val_main_v9, Read.val_main_cst_2, Read.val_main_v10,
    Read.val_main_v11, Read.val_main_v12, Read.val_main_v13, Read.val_main_v14, Read.val_main_v15,
    Read.val_main_v16, Read.val_main_v17, Read.val_main_v18, Read.val_main_v19, Read.val_main_cst_3,
    Read.val_main_v20, Read.val_main_v21, Read.val_main_v22, Read.val_main_v23, Read.val_main_cst_4,
    Read.val_main_v24, Read.val_main_v25, Read.val_main_cst_5, Read.val_main_v26, Read.val_main_v27,
    Read.val_main_v28, Read.val_main_v29, Read.val_main_v30, Read.val_main_v31, Read.val_main_cst_6,
    Read.val_main_v32, Read.val_main_v33, Read.val_main_cst_7, Read.val_main_v34, Read.val_main_v35,
    Read.val_main_v36, Read.val_main_v37, Read.val_main_v38, Read.val_main_v39, Read.val_main_v40]
  rw [Fin.sum_univ_one]
  exact Finset.sum_congr rfl fun p _ => mul_comm _ _

end Cert.Reference3Ideal.In

namespace Cert.Proof

open Cert.Finite

/-- Under the precondition the arrays of the product and the norm hold reals. -/
theorem in_reals {x0 : Cert.Pre_finite3.S4096x4352.Idx → EReal} {x1 : Cert.Pre_finite3.S1024x4352.Idx → EReal}
    {x2 : Cert.Pre_finite3.S4096x1024.Idx → EReal} {x3 : Cert.Pre_finite3.S1x1024.Idx → EReal} {x4 : Cert.Pre_finite3.S4096x1024.Idx → EReal}
    (h : (Cert.Pre_finite3.fn (F := Ideal) x0 x1 x2 x3 x4).1 = (fun _ => 1#1)
      ∧ (Cert.Pre_finite3.fn (F := Ideal) x0 x1 x2 x3 x4).2.1 = (fun _ => 1#1)
      ∧ (Cert.Pre_finite3.fn (F := Ideal) x0 x1 x2 x3 x4).2.2.1 = (fun _ => 1#1)
      ∧ (Cert.Pre_finite3.fn (F := Ideal) x0 x1 x2 x3 x4).2.2.2 = (fun _ => 1#1)) :
    (∀ i, IsReal (x0 i)) ∧ (∀ i, IsReal (x1 i)) ∧ (∀ i, IsReal (x2 i)) ∧ (∀ i, IsReal (x3 i)) :=
  ⟨fun i => isReal_of_test (congrFun h.1 i), fun i => isReal_of_test (congrFun h.2.1 i),
    fun i => isReal_of_test (congrFun h.2.2.1 i), fun i => isReal_of_test (congrFun h.2.2.2 i)⟩

/-- The kernel's gradient of a row, at finite inputs, as differentiating the norm and the product writes it. -/
theorem in_grad (m : (ℓ : Loc Cert.Kernel3Ideal.nD Cert.Kernel3Ideal.τ Cert.Kernel3Ideal.sig) → Buf (Elt Ideal) ℓ)
    (c : Dev Cert.Kernel3Ideal.nD)
    (h0 : ∀ i, IsReal (Cert.Kernel3Ideal.In.dz m c i)) (h1 : ∀ i, IsReal (Cert.Kernel3Ideal.In.w m c i))
    (h2 : ∀ i, IsReal (Cert.Kernel3Ideal.In.x m c i)) (h4 : ∀ i, IsReal (Cert.Kernel3Ideal.In.g m c i)) (p : Fin 4096) (q : Fin 1024) :
    Cert.Kernel3Ideal.In.grad m c p q
      = Cert.Kernel3Ideal.In.dy1 m c (ix2 p q)
        + Cert.Kernel3Ideal.In.dh m c p q * Cert.Kernel3Ideal.In.g m c (ix2 0 q)
          * Ideal.rsqrt (Rms.ms (Cert.Kernel3Ideal.In.row m c p))
        + Cert.Kernel3Ideal.In.row m c p q * Rms.slope (Cert.Kernel3Ideal.In.row m c p)
          (fun j => Cert.Kernel3Ideal.In.dh m c p j * Cert.Kernel3Ideal.In.g m c (ix2 0 j))
        + Rms.slope (Cert.Kernel3Ideal.In.row m c p)
          (fun j => Cert.Kernel3Ideal.In.dh m c p j * Cert.Kernel3Ideal.In.g m c (ix2 0 j)) * Cert.Kernel3Ideal.In.row m c p q :=
  Rms.backward (Cert.Kernel3Ideal.In.row m c p) (Cert.Kernel3Ideal.In.dh m c p) (fun k => Cert.Kernel3Ideal.In.g m c (ix2 0 k)) _
    (fun k => h2 _) (fun k => IsReal.sum fun j => (h0 _).mul (h1 _)) (fun k => h4 _) q

/-- The plain gradient runs, keeps its arguments and leaves no semaphore counted up. -/
theorem frame_in_reference : quiescent_Reference3Ideal (hReference3Ideal := Cert.Reference3Ideal.Gen.facts) := fun m ρ _ =>
  (θ_run _ _ _).mono (fun r h => ⟨fun c => (h c).2.2, Idealize.ShloMosaic.sem_eq_zero_of_no_sems (by decide) r.2⟩)
    (Cert.Reference3Ideal.Value.run m ρ)

/-- The kernel's gradients of the rows and of the norm's weight are those of the norm and product differentiated, at
    finite inputs. -/
theorem in_proj : algebraic_Kernel3Ideal_Reference3Ideal_pre_finite3 (hKernel3Ideal := Cert.Kernel3Ideal.Gen.facts)
    (hReference3Ideal := Cert.Reference3Ideal.Gen.facts) (hPre_finite3 := Cert.Pre_finite3.Gen.facts) := by
  intro m ρ m' ρ' hp hm
  refine ⟨fun c => (fun i => Cert.Kernel3Ideal.In.grad m c (i 0) (i 1) : Cert.Kernel3Ideal.S4096x1024.Idx → EReal),
    fun c => (fun i => ∑ r, Cert.Kernel3Ideal.In.part m c r (i 1) : Cert.Kernel3Ideal.S1x1024.Idx → EReal), ?_, ?_⟩
  · exact (θ_run _ _ _).mono (fun r h c => ⟨(h c).1.trans (Cert.Kernel3Ideal.In.grad_final m c),
      (h c).2.1.trans (Cert.Kernel3Ideal.In.part_final m c), (h c).2.2⟩) (Cert.Kernel3Ideal.Value.run_blocks m ρ)
  · refine (θ_run _ _ _).mono (fun r h c => ⟨(h c).1.trans ?_, (h c).2.1.trans ?_, (h c).2.2⟩)
      (Cert.Reference3Ideal.Value.run m' ρ')
    · rw [Cert.Reference3Ideal.Read.val_main_v39_eq, (hm c).1, (hm c).2.1, (hm c).2.2.1, (hm c).2.2.2.1, (hm c).2.2.2.2]
      obtain ⟨h0, h1, h2, h4⟩ := in_reals (hp c)
      funext i
      rw [eq_ix2 i]
      exact (Cert.Reference3Ideal.In.grad_value _ _ _ _ _ _ _).trans (in_grad m c h0 h1 h2 h4 _ _).symm
    · rw [Cert.Reference3Ideal.Read.val_main_v40_eq, (hm c).1, (hm c).2.1, (hm c).2.2.1]
      funext i
      rw [eq_ix2 i]
      exact Cert.Reference3Ideal.In.part_value _ _ _ _ _

end Cert.Proof

end
-- ==== Proof.OutGrad.lean ====
/-
  The gradient of the gated sum of the branches and of the output projection: what the kernel's five result arrays hold.
-/
module

public import proofs.«01_k».proof.Proof.Gen.Kernel4Ideal.Value
public import proofs.«01_k».proof.Proof.Stores
public import Idealize.ShloMosaic.Lib.Pipeline.ValueKit
public import Idealize.ShloMosaic.Lib.Pointwise
public import Idealize.ShloMosaic.Lib.StableHlo.ReadAt

@[expose] public section

set_option maxRecDepth 16384

noncomputable section

open Idealize.ShloMosaic Idealize.ShloMosaic.TcCoe Idealize.SL.Sem
open Idealize.ShloMosaic.Pipeline (Dat)

namespace Cert.Kernel4Ideal.Out

open Cert.Kernel4Ideal Cert.Kernel4Ideal.Gen

variable (m : (ℓ : Loc nD τ sig) → Buf (Elt Ideal) ℓ)

/-- The gradient of the projection's result. -/
def dy (c : Dev nD) : S4096x1024.Idx → EReal := m ((c.tc : Thread nD τ).loc main_arg0)
/-- The projection's weight. -/
def w (c : Dev nD) : S1024x1024.Idx → EReal := m ((c.tc : Thread nD τ).loc main_arg1)
/-- The pooling branch. -/
def a (c : Dev nD) : S4096x1024.Idx → EReal := m ((c.tc : Thread nD τ).loc main_arg2)
/-- The attention branch. -/
def b (c : Dev nD) : S4096x1024.Idx → EReal := m ((c.tc : Thread nD τ).loc main_arg3)
/-- The gates before their bias and the sigmoid. -/
def z (c : Dev nD) : S4096x2048.Idx → EReal := m ((c.tc : Thread nD τ).loc main_arg4)
/-- The gates' bias. -/
def bias (c : Dev nD) : S1x2048.Idx → EReal := m ((c.tc : Thread nD τ).loc main_arg5)

/-- The sigmoid. -/
def sigmoid (x : EReal) : EReal := Ideal.div 1 (1 + Ideal.exp (-x))
/-- The gates: the pooling branch's columns, then the attention branch's. -/
def gate (c : Dev nD) (r : Fin 4096) (k : Fin 2048) : EReal := sigmoid (z m c (ix2 r k) + bias m c (ix2 0 k))
/-- A column of the first half of the gates. -/
def lo (q : Fin 1024) : Fin 2048 := ⟨q.val, by omega⟩
/-- A column of the second half of the gates. -/
def hi (q : Fin 1024) : Fin 2048 := ⟨1024 + q.val, by omega⟩
/-- The gated sum of the branches. -/
def mix (c : Dev nD) (r : Fin 4096) (q : Fin 1024) : EReal :=
  gate m c r (lo q) * a m c (ix2 r q) + gate m c r (hi q) * b m c (ix2 r q)
/-- The gradient of the gated sum: one row of the result's gradient against one row of the weight. -/
def dmix (c : Dev nD) (r : Fin 4096) (q : Fin 1024) : EReal := ∑ k : Fin 1024, dy m c (ix2 r k) * w m c (ix2 q k)

theorem idx : ∀ t : Fin cfg0.N, win0_0.index t = ![t.val, 0] ∧ win0_1.index t = ![0, 0] ∧ win0_2.index t = ![t.val, 0] ∧
    win0_3.index t = ![t.val, 0] ∧ win0_4.index t = ![t.val, 0] ∧ win0_5.index t = ![t.val, 0] ∧ win0_6.index t = ![t.val, 0] ∧
    win0_7.index t = ![t.val, 0] ∧ win0_8.index t = ![t.val, 0] ∧ win0_9.index t = ![0, 0] ∧ win0_10.index t = ![0, 0] := by
  decide +kernel

theorem point_lt (t : Fin cfg0.N) : t.val < 8 := lt_of_lt_of_eq t.isLt (by decide)

/-- The row of the whole array that row `p` of point `t`'s blocks is. -/
def at_ (t : Fin cfg0.N) (p : Fin 512) : Fin 4096 := ⟨t.val * 512 + p.val, by have := point_lt t; have := p.isLt; omega⟩

theorem dy_block (c : Dev nD) (t : Fin cfg0.N) (p : Fin 512) (k : Fin 1024) : iblk m c 0 t (ix2 p k) = dy m c (ix2 (at_ t p) k) := by
  have h := idx t
  unfold dy at_
  blk_ext [iblk, V, h]

theorem weight_block (c : Dev nD) (t : Fin cfg0.N) (p : Fin 1024) (k : Fin 1024) : iblk m c 1 t (ix2 p k) = w m c (ix2 p k) := by
  have e : V m c main_v13 (ix2 p k) = w m c (ix2 p k) := by
    unfold V w; after_reads_at
  have h := idx t
  rw [← e]
  unfold iblk
  blk_ext [h]

theorem pool_block (c : Dev nD) (t : Fin cfg0.N) (p : Fin 512) (k : Fin 1024) : iblk m c 2 t (ix2 p k) = a m c (ix2 (at_ t p) k) := by
  have e : V m c main_v14 (ix2 (at_ t p) k) = a m c (ix2 (at_ t p) k) := by
    unfold V a; after_reads_at
  have h := idx t
  rw [← e]
  unfold iblk at_
  blk_ext [h]

theorem attn_block (c : Dev nD) (t : Fin cfg0.N) (p : Fin 512) (k : Fin 1024) : iblk m c 3 t (ix2 p k) = b m c (ix2 (at_ t p) k) := by
  have e : V m c main_v15 (ix2 (at_ t p) k) = b m c (ix2 (at_ t p) k) := by
    unfold V b; after_reads_at
  have h := idx t
  rw [← e]
  unfold iblk at_
  blk_ext [h]

theorem gate_block (c : Dev nD) (t : Fin cfg0.N) (p : Fin 512) (k : Fin 2048) : iblk m c 4 t (ix2 p k) = gate m c (at_ t p) k := by
  have e : V m c main_v16 (ix2 (at_ t p) k) = gate m c (at_ t p) k := by
    unfold V gate sigmoid z bias; after_reads_at
  have h := idx t
  rw [← e]
  unfold iblk at_
  blk_ext [h]

theorem mix_block (c : Dev nD) (t : Fin cfg0.N) (p : Fin 512) (k : Fin 1024) : iblk m c 5 t (ix2 p k) = mix m c (at_ t p) k := by
  have e : V m c main_v17 (ix2 (at_ t p) k) = mix m c (at_ t p) k := by
    unfold V mix gate sigmoid z bias a b lo hi; after_reads_at
  have h := idx t
  rw [← e]
  unfold iblk at_
  blk_ext [h]

/-- The gradient of the gated sum in a block, element by element. -/
theorem stored_dmix (x : S512x1024.Idx → EReal) (v : S1024x1024.Idx → EReal) (p : Fin 512) (q : Fin 1024) {X : Fin 1024 → EReal}
    {W : Fin 1024 → Fin 1024 → EReal} (hx : ∀ k, x (ix2 p k) = X k) (hw : ∀ j k, v (ix2 j k) = W j k) :
    k0_pay10 (F := Ideal) x v (ix2 p q) = ∑ k, X k * W q k := by
  pointwise [k0_pay10, k0_pay9]
  simp only [hx, hw]

/-- What the gates' gradient holds: the gradient of the gated sum, the branch, the sigmoid's derivative. -/
def dz (c : Dev nD) (r : Fin 4096) (k : Fin 2048) : EReal :=
  if h : k.val < 1024 then dmix m c r ⟨k.val, h⟩ * a m c (ix2 r ⟨k.val, h⟩) * (gate m c r k * (1 - gate m c r k))
  else dmix m c r ⟨k.val - 1024, by omega⟩ * b m c (ix2 r ⟨k.val - 1024, by omega⟩) * (gate m c r k * (1 - gate m c r k))

theorem dz_lo (c : Dev nD) (r : Fin 4096) (q : Fin 1024) :
    dz m c r (lo q) = dmix m c r q * a m c (ix2 r q) * (gate m c r (lo q) * (1 - gate m c r (lo q))) := by
  have hq : (lo q).val < 1024 := q.isLt
  unfold dz
  exact dif_pos hq

theorem dz_hi (c : Dev nD) (r : Fin 4096) (q : Fin 1024) :
    dz m c r (hi q) = dmix m c r q * b m c (ix2 r q) * (gate m c r (hi q) * (1 - gate m c r (hi q))) := by
  have hq : ¬(hi q).val < 1024 := by show ¬1024 + q.val < 1024; omega
  have e : (⟨(hi q).val - 1024, by have := (hi q).isLt; omega⟩ : Fin 1024) = q := Fin.ext (by show 1024 + q.val - 1024 = q.val; omega)
  unfold dz
  rw [dif_neg hq, e]

theorem lo_or_hi (k : Fin 2048) : (∃ q, k = lo q) ∨ ∃ q, k = hi q := by
  by_cases h : k.val < 1024
  · exact .inl ⟨⟨k.val, h⟩, rfl⟩
  · exact .inr ⟨⟨k.val - 1024, by omega⟩, Fin.ext (by show k.val = 1024 + (k.val - 1024); omega)⟩

/-- The pooling branch's part of the gates' gradient in a block, element by element. -/
theorem stored_lo (x : S512x1024.Idx → EReal) (v : S1024x1024.Idx → EReal) (g o : S512x1024.Idx → EReal) (p : Fin 512) (q : Fin 1024)
    {X : Fin 1024 → EReal} {W : Fin 1024 → Fin 1024 → EReal} {G O : EReal} (hx : ∀ k, x (ix2 p k) = X k)
    (hw : ∀ j k, v (ix2 j k) = W j k) (hg : g (ix2 p q) = G) (ho : o (ix2 p q) = O) :
    k0_pay15 (F := Ideal) x v g o (ix2 p q) = (∑ k, X k * W q k) * O * (G * (1 - G)) := by
  pointwise [k0_pay15, k0_pay11, k0_pay10, k0_pay9]
  simp only [hx, hw, hg, ho, Ideal.ofBits_one_f32]

/-- The attention branch's part of the gates' gradient in a block, element by element. -/
theorem stored_hi (x : S512x1024.Idx → EReal) (v : S1024x1024.Idx → EReal) (g o : S512x1024.Idx → EReal) (p : Fin 512) (q : Fin 1024)
    {X : Fin 1024 → EReal} {W : Fin 1024 → Fin 1024 → EReal} {G O : EReal} (hx : ∀ k, x (ix2 p k) = X k)
    (hw : ∀ j k, v (ix2 j k) = W j k) (hg : g (ix2 p q) = G) (ho : o (ix2 p q) = O) :
    k0_pay1 (F := Ideal) (k0_pay16 x v o) (k0_pay17 g) (ix2 p q) = (∑ k, X k * W q k) * O * (G * (1 - G)) := by
  pointwise [k0_pay1, k0_pay16, k0_pay17, k0_pay12, k0_pay10, k0_pay9]
  simp only [hx, hw, hg, ho, Ideal.ofBits_one_f32]

/-- A branch's gradient in a block, element by element. -/
theorem stored_pool (x : S512x1024.Idx → EReal) (v : S1024x1024.Idx → EReal) (g : S512x1024.Idx → EReal) (p : Fin 512) (q : Fin 1024)
    {X : Fin 1024 → EReal} {W : Fin 1024 → Fin 1024 → EReal} {G : EReal} (hx : ∀ k, x (ix2 p k) = X k)
    (hw : ∀ j k, v (ix2 j k) = W j k) (hg : g (ix2 p q) = G) : k0_pay13 (F := Ideal) x v g (ix2 p q) = (∑ k, X k * W q k) * G := by
  pointwise [k0_pay13, k0_pay11, k0_pay10, k0_pay9]
  simp only [hx, hw, hg]

theorem stored_attn (x : S512x1024.Idx → EReal) (v : S1024x1024.Idx → EReal) (g : S512x1024.Idx → EReal) (p : Fin 512) (q : Fin 1024)
    {X : Fin 1024 → EReal} {W : Fin 1024 → Fin 1024 → EReal} {G : EReal} (hx : ∀ k, x (ix2 p k) = X k)
    (hw : ∀ j k, v (ix2 j k) = W j k) (hg : g (ix2 p q) = G) : k0_pay14 (F := Ideal) x v g (ix2 p q) = (∑ k, X k * W q k) * G := by
  pointwise [k0_pay14, k0_pay12, k0_pay10, k0_pay9]
  simp only [hx, hw, hg]

/-- A bias gradient's half with one block's rows added, element by element. -/
theorem summed_lo (d : S512x1024.Idx → EReal) (o : S1x1024.Idx → EReal) (q : Fin 1024) {D : Fin 512 → EReal} {O : EReal}
    (hd : ∀ p, d (ix2 p q) = D p) (ho : o (ix2 0 q) = O) : k0_pay4 (F := Ideal) d o (ix2 0 q) = O + ∑ p, D p := by
  pointwise [k0_pay4]
  simp only [hd, ho]

theorem summed_hi (d e : S512x1024.Idx → EReal) (o : S1x1024.Idx → EReal) (q : Fin 1024) {D : Fin 512 → EReal} {O : EReal}
    (hd : ∀ p, k0_pay1 (F := Ideal) d e (ix2 p q) = D p) (ho : o (ix2 0 q) = O) :
    k0_pay5 (F := Ideal) d e o (ix2 0 q) = O + ∑ p, D p := by
  simp only [← hd, ← ho]
  pointwise [k0_pay5, k0_pay1]

/-- The weight gradient with one block's rows added, element by element. -/
theorem summed_weight (x : S512x1024.Idx → EReal) (o : S1024x1024.Idx → EReal) (y : S512x1024.Idx → EReal) (p q : Fin 1024)
    {X Y : Fin 512 → EReal} {O : EReal} (hx : ∀ k, x (ix2 k q) = X k) (hy : ∀ k, y (ix2 k p) = Y k) (ho : o (ix2 p q) = O) :
    k0_pay6 (F := Ideal) (k0_pay9 x) o y (ix2 p q) = O + ∑ k, Y k * X k := by
  pointwise [k0_pay6, k0_pay9]
  simp only [hx, hy, ho]

/-- The gates' half of a block, loaded as such. -/
theorem gate_lo (c : Dev nD) (t : Fin cfg0.N) (p : Fin 512) (q : Fin 1024) :
    View.ld (iblk m c 4 t) (Rect.unit ![0, 0] ![512, 1024] inb_S512x2048_S512x1024_0_0) (ix2 p q) = gate m c (at_ t p) (lo q) := by
  rw [← gate_block]
  pointwise
  rfl

theorem gate_hi (c : Dev nD) (t : Fin cfg0.N) (p : Fin 512) (q : Fin 1024) :
    View.ld (iblk m c 4 t) (Rect.unit ![0, 1024] ![512, 1024] inb_S512x2048_S512x1024_0_1024) (ix2 p q) = gate m c (at_ t p) (hi q) := by
  rw [← gate_block]
  pointwise
  rfl

/-- The pooling branch's part of the gates' gradient at a point. -/
theorem lo_value (c : Dev nD) (t : Fin cfg0.N) (p : Fin 512) (q : Fin 1024) :
    k0_pay15 (iblk m c 0 t) (iblk m c 1 t) (View.ld (iblk m c 4 t) (Rect.unit ![0, 0] ![512, 1024] inb_S512x2048_S512x1024_0_0))
      (iblk m c 2 t) (ix2 p q) = dz m c (at_ t p) (lo q) := by
  rw [dz_lo]
  exact stored_lo _ _ _ _ p q (dy_block m c t p) (weight_block m c t) (gate_lo m c t p q) (pool_block m c t p q)

/-- The attention branch's part of the gates' gradient at a point. -/
theorem hi_value (c : Dev nD) (t : Fin cfg0.N) (p : Fin 512) (q : Fin 1024) :
    k0_pay1 (k0_pay16 (iblk m c 0 t) (iblk m c 1 t) (iblk m c 3 t))
      (k0_pay17 (View.ld (iblk m c 4 t) (Rect.unit ![0, 1024] ![512, 1024] inb_S512x2048_S512x1024_0_1024))) (ix2 p q)
      = dz m c (at_ t p) (hi q) := by
  rw [dz_hi]
  exact stored_hi _ _ _ _ p q (dy_block m c t p) (weight_block m c t) (gate_hi m c t p q) (attn_block m c t p q)

/-- The pooling branch's gradient after any point. -/
theorem pool_grad_block (c : Dev nD) (t : Fin cfg0.N) (p : Fin 512) (q : Fin 1024) :
    (outsAt0 m c t.val t.isLt).1 (ix2 p q) = dmix m c (at_ t p) q * gate m c (at_ t p) (lo q) := by
  by_cases h0 : t.val % 8 = 0
  · rw [outsAt0_A m c t h0]
    frame_out
    exact stored_pool _ _ _ p q (dy_block m c t p) (weight_block m c t) (gate_lo m c t p q)
  · rw [outsAt0_B m c t h0]
    frame_out
    exact stored_pool _ _ _ p q (dy_block m c t p) (weight_block m c t) (gate_lo m c t p q)

/-- The attention branch's gradient after any point. -/
theorem attn_grad_block (c : Dev nD) (t : Fin cfg0.N) (p : Fin 512) (q : Fin 1024) :
    (outsAt0 m c t.val t.isLt).2.1 (ix2 p q) = dmix m c (at_ t p) q * gate m c (at_ t p) (hi q) := by
  by_cases h0 : t.val % 8 = 0
  · rw [outsAt0_A m c t h0]
    frame_out
    exact stored_attn _ _ _ p q (dy_block m c t p) (weight_block m c t) (gate_hi m c t p q)
  · rw [outsAt0_B m c t h0]
    frame_out
    exact stored_attn _ _ _ p q (dy_block m c t p) (weight_block m c t) (gate_hi m c t p q)

/-- Two stores of half the columns each, read back: a column of the first half, a column of the second. -/
theorem halves_lo (u v : S512x1024.Idx → EReal) (p : Fin 512) (q : Fin 1024) :
    View.canon (Val := Elt Ideal) (e := .bf16) [⟨Rect.unit (s := S512x2048) ![0, 1024] ![512, 1024] inb_S512x2048_S512x1024_0_1024, v⟩,
      ⟨Rect.unit (s := S512x2048) ![0, 0] ![512, 1024] inb_S512x2048_S512x1024_0_0, u⟩] (ix2 p (lo q)) = u (ix2 p q) := by
  rw [Stores.canon_off _ _ _ _ ⟨1, .inl q.isLt⟩]
  exact Stores.canon_at (Val := Elt Ideal) (e := .bf16) (s := S512x2048) (off := ![0, 0]) (size := ![512, 1024]) inb_S512x2048_S512x1024_0_0 u _ (ix2 p (lo q)) (ix2 p q) (by
    intro a; change Fin 2 at a; fin_cases a
    · exact (Nat.zero_add p.val).symm
    · exact (Nat.zero_add q.val).symm)

theorem halves_hi (L : List (View.Piece (Elt Ideal) S512x2048 .bf16)) (v : S512x1024.Idx → EReal) (p : Fin 512) (q : Fin 1024) :
    View.canon (Val := Elt Ideal) (e := .bf16) (⟨Rect.unit (s := S512x2048) ![0, 1024] ![512, 1024] inb_S512x2048_S512x1024_0_1024, v⟩ :: L)
      (ix2 p (hi q)) = v (ix2 p q) :=
  Stores.canon_at (Val := Elt Ideal) (e := .bf16) (s := S512x2048) (off := ![0, 1024]) (size := ![512, 1024]) inb_S512x2048_S512x1024_0_1024 v _ (ix2 p (hi q)) (ix2 p q) (by
    intro a; change Fin 2 at a; fin_cases a
    · exact (Nat.zero_add p.val).symm
    · exact Eq.refl (1024 + q.val))

/-- The gates' gradient after any point. -/
theorem dz_block (c : Dev nD) (t : Fin cfg0.N) (p : Fin 512) (k : Fin 2048) :
    (outsAt0 m c t.val t.isLt).2.2.1 (ix2 p k) = dz m c (at_ t p) k := by
  by_cases h0 : t.val % 8 = 0
  · rw [outsAt0_A m c t h0]
    frame_out
    obtain ⟨q, rfl⟩ | ⟨q, rfl⟩ := lo_or_hi k
    · exact (halves_lo _ _ p q).trans (lo_value m c t p q)
    · exact (halves_hi _ _ p q).trans (hi_value m c t p q)
  · rw [outsAt0_B m c t h0]
    frame_out
    obtain ⟨q, rfl⟩ | ⟨q, rfl⟩ := lo_or_hi k
    · exact (halves_lo _ _ p q).trans (lo_value m c t p q)
    · exact (halves_hi _ _ p q).trans (hi_value m c t p q)

theorem bias_lo (L : List (View.Piece (Elt Ideal) S1x2048 .f32)) (u v : S1x1024.Idx → EReal) (q : Fin 1024) :
    View.canon (Val := Elt Ideal) (e := .f32) (⟨Rect.unit (s := S1x2048) ![0, 1024] ![1, 1024] inb_S1x2048_S1x1024_0_1024, v⟩ ::
      ⟨Rect.unit (s := S1x2048) ![0, 0] ![1, 1024] inb_S1x2048_S1x1024_0_0, u⟩ :: L) (ix2 0 (lo q)) = u (ix2 0 q) := by
  rw [Stores.canon_off _ _ _ _ ⟨1, .inl q.isLt⟩]
  exact Stores.canon_at (Val := Elt Ideal) (e := .f32) (s := S1x2048) (off := ![0, 0]) (size := ![1, 1024]) inb_S1x2048_S1x1024_0_0 u _ (ix2 0 (lo q)) (ix2 0 q) (by
    intro a; change Fin 2 at a; fin_cases a
    · exact Eq.refl 0
    · exact (Nat.zero_add q.val).symm)

theorem bias_hi (L : List (View.Piece (Elt Ideal) S1x2048 .f32)) (v : S1x1024.Idx → EReal) (q : Fin 1024) :
    View.canon (Val := Elt Ideal) (e := .f32) (⟨Rect.unit (s := S1x2048) ![0, 1024] ![1, 1024] inb_S1x2048_S1x1024_0_1024, v⟩ :: L)
      (ix2 0 (hi q)) = v (ix2 0 q) :=
  Stores.canon_at (Val := Elt Ideal) (e := .f32) (s := S1x2048) (off := ![0, 1024]) (size := ![1, 1024]) inb_S1x2048_S1x1024_0_1024 v _ (ix2 0 (hi q)) (ix2 0 q) (by
    intro a; change Fin 2 at a; fin_cases a
    · exact Eq.refl 0
    · exact Eq.refl (1024 + q.val))

/-- What point `n` adds to the bias gradient. -/
def biasAdded (c : Dev nD) (n : ℕ) (k : Fin 2048) : EReal :=
  if hn : n < cfg0.N then ∑ p : Fin 512, dz m c (at_ ⟨n, hn⟩ p) k else 0

theorem biasAdded_at (c : Dev nD) (n : ℕ) (hn : n < cfg0.N) (k : Fin 2048) :
    biasAdded m c n k = ∑ p : Fin 512, dz m c (at_ ⟨n, hn⟩ p) k := by
  unfold biasAdded
  exact dif_pos hn

/-- The bias gradient after point `t`: the sum over the rows of the blocks up to it. -/
theorem bias_block (c : Dev nD) (t : Fin cfg0.N) (k : Fin 2048) :
    (outsAt0 m c t.val t.isLt).2.2.2.1 (ix2 0 k)
      = 0 + ∑ j ∈ Finset.range (t.val % 8 + 1), biasAdded m c (8 * (t.val / 8) + j) k := by
  refine Pipeline.eq_sum_of_reset_step_apply (fun n h (k : Fin 2048) => (outsAt0 m c n h).2.2.2.1 (ix2 0 k)) 8 (fun _ => 0)
    (biasAdded m c) ?_ ?_ t k
  · intro t h0 k
    show (outsAt0 m c t.val t.isLt).2.2.2.1 (ix2 0 k) = _
    rw [outsAt0_A m c t h0, biasAdded_at m c t.val t.isLt]
    frame_out
    simp (disch := decide) only [↓ View.readCov_skip, ↓ View.readCov_cons_toLoadRect, ↓ View.readCov_fill]
    obtain ⟨q, rfl⟩ | ⟨q, rfl⟩ := lo_or_hi k
    · exact (bias_lo _ _ _ q).trans (summed_lo _ _ q (fun p => lo_value m c t p q) (by pointwise [k0_pay7]))
    · exact (bias_hi _ _ q).trans (summed_hi _ _ _ q (fun p => hi_value m c t p q) (by pointwise [k0_pay7]))
  · intro t h0 k
    show (outsAt0 m c t.val t.isLt).2.2.2.1 (ix2 0 k) = _
    rw [outsAt0_B m c t h0, biasAdded_at m c t.val t.isLt]
    frame_out
    obtain ⟨q, rfl⟩ | ⟨q, rfl⟩ := lo_or_hi k
    · exact (bias_lo _ _ _ q).trans (summed_lo _ _ q (fun p => lo_value m c t p q) (by pointwise; rfl))
    · exact (bias_hi _ _ q).trans (summed_hi _ _ _ q (fun p => hi_value m c t p q) (by pointwise; rfl))

/-- What point `n` adds to the weight gradient. -/
def weightAdded (c : Dev nD) (n : ℕ) (i : Fin 1024 × Fin 1024) : EReal :=
  if hn : n < cfg0.N then ∑ p : Fin 512, mix m c (at_ ⟨n, hn⟩ p) i.1 * dy m c (ix2 (at_ ⟨n, hn⟩ p) i.2) else 0

theorem weightAdded_at (c : Dev nD) (n : ℕ) (hn : n < cfg0.N) (i : Fin 1024 × Fin 1024) :
    weightAdded m c n i = ∑ p : Fin 512, mix m c (at_ ⟨n, hn⟩ p) i.1 * dy m c (ix2 (at_ ⟨n, hn⟩ p) i.2) := by
  unfold weightAdded
  exact dif_pos hn

/-- The weight gradient after point `t`: the sum over the rows of the blocks up to it. -/
theorem weight_grad_block (c : Dev nD) (t : Fin cfg0.N) (i : Fin 1024 × Fin 1024) :
    (outsAt0 m c t.val t.isLt).2.2.2.2 (ix2 i.1 i.2)
      = 0 + ∑ j ∈ Finset.range (t.val % 8 + 1), weightAdded m c (8 * (t.val / 8) + j) i := by
  refine Pipeline.eq_sum_of_reset_step_apply (fun n h (i : Fin 1024 × Fin 1024) => (outsAt0 m c n h).2.2.2.2 (ix2 i.1 i.2)) 8
    (fun _ => 0) (weightAdded m c) ?_ ?_ t i
  · intro t h0 i
    show (outsAt0 m c t.val t.isLt).2.2.2.2 (ix2 i.1 i.2) = _
    rw [outsAt0_A m c t h0, weightAdded_at m c t.val t.isLt]
    frame_out
    exact summed_weight _ _ _ _ _ (fun k => dy_block m c t k _) (fun k => mix_block m c t k _) (by pointwise [k0_pay8])
  · intro t h0 i
    show (outsAt0 m c t.val t.isLt).2.2.2.2 (ix2 i.1 i.2) = _
    rw [outsAt0_B m c t h0, weightAdded_at m c t.val t.isLt]
    frame_out
    exact summed_weight _ _ _ _ _ (fun k => dy_block m c t k _) (fun k => mix_block m c t k _) rfl

/-- The pooling branch's gradient after the run. -/
theorem pool_final (c : Dev nD) :
    (dats m 0 c).arrAt 6 cfg0.N = (fun i => dmix m c (i 0) (i 1) * gate m c (i 0) (lo (i 1)) : S4096x1024.Idx → EReal) := by
  refine (dats m 0 c).arrAt_eq_of_covers 6 _ (by decide +kernel) fun t hf j => ?_
  obtain ⟨p, q, rfl⟩ : ∃ (p : Fin 512) (q : Fin 1024), j = ix2 p q := ⟨j 0, j 1, eq_ix2 j⟩
  show (outsAt0 m c t.val t.isLt).1 (ix2 p q) = _
  rw [pool_grad_block]
  have h := idx t
  refine congrArg₂ (fun r q => dmix m c r q * gate m c r (lo q)) (Fin.ext ?_) (Fin.ext ?_)
  · unfold at_; blk_simp [h]
  · blk_simp [h]

/-- The attention branch's gradient after the run. -/
theorem attn_final (c : Dev nD) :
    (dats m 0 c).arrAt 7 cfg0.N = (fun i => dmix m c (i 0) (i 1) * gate m c (i 0) (hi (i 1)) : S4096x1024.Idx → EReal) := by
  refine (dats m 0 c).arrAt_eq_of_covers 7 _ (by decide +kernel) fun t hf j => ?_
  obtain ⟨p, q, rfl⟩ : ∃ (p : Fin 512) (q : Fin 1024), j = ix2 p q := ⟨j 0, j 1, eq_ix2 j⟩
  show (outsAt0 m c t.val t.isLt).2.1 (ix2 p q) = _
  rw [attn_grad_block]
  have h := idx t
  refine congrArg₂ (fun r q => dmix m c r q * gate m c r (hi q)) (Fin.ext ?_) (Fin.ext ?_)
  · unfold at_; blk_simp [h]
  · blk_simp [h]

/-- The gates' gradient after the run. -/
theorem dz_final (c : Dev nD) :
    (dats m 0 c).arrAt 8 cfg0.N = (fun i => dz m c (i 0) (i 1) : S4096x2048.Idx → EReal) := by
  refine (dats m 0 c).arrAt_eq_of_covers 8 _ (by decide +kernel) fun t hf j => ?_
  obtain ⟨p, q, rfl⟩ : ∃ (p : Fin 512) (q : Fin 2048), j = ix2 p q := ⟨j 0, j 1, eq_ix2 j⟩
  show (outsAt0 m c t.val t.isLt).2.2.1 (ix2 p q) = _
  rw [dz_block]
  have h := idx t
  refine congrArg₂ (dz m c) (Fin.ext ?_) (Fin.ext ?_)
  · unfold at_; blk_simp [h]
  · blk_simp [h]

theorem point_of (k : Fin 8) : 8 * (7 / 8) + k.val < cfg0.N := by
  have h8 : cfg0.N = 8 := by decide
  have := k.isLt
  omega

/-- The bias gradient after the run. -/
theorem bias_final (c : Dev nD) :
    (dats m 0 c).arrAt 9 cfg0.N = (fun i => ∑ r : Fin 4096, dz m c r (i 1) : S1x2048.Idx → EReal) := by
  refine (dats m 0 c).arrAt_eq_of_covers 9 _ (by decide +kernel) fun t hf j => ?_
  obtain ⟨p, q, rfl⟩ : ∃ (p : Fin 1) (q : Fin 2048), j = ix2 p q := ⟨j 0, j 1, eq_ix2 j⟩
  obtain rfl : p = 0 := Subsingleton.elim _ _
  have ht : t.val = 7 := by revert t; decide +kernel
  show (outsAt0 m c t.val t.isLt).2.2.2.1 (ix2 0 q) = _
  rw [bias_block, ht]
  have h := idx t
  have hq : (((cfg0.win 9).blk t).view.emb (ix2 0 q)) 1 = q := by refine Fin.ext ?_; blk_simp [h]
  show _ = ∑ r : Fin 4096, dz m c r ((((cfg0.win 9).blk t).view.emb (ix2 0 q)) 1)
  rw [hq, zero_add, Fin.sum_univ_tiles 8 512 rfl, Finset.sum_range]
  refine Finset.sum_congr rfl fun k _ => ?_
  rw [biasAdded_at m c _ (point_of k)]
  refine Finset.sum_congr rfl fun p _ => congrArg₂ (dz m c) (Fin.ext ?_) rfl
  simp [at_]

/-- The weight gradient after the run. -/
theorem weight_final (c : Dev nD) :
    (dats m 0 c).arrAt 10 cfg0.N
      = (fun i => ∑ r : Fin 4096, mix m c r (i 0) * dy m c (ix2 r (i 1)) : S1024x1024.Idx → EReal) := by
  refine (dats m 0 c).arrAt_eq_of_covers 10 _ (by decide +kernel) fun t hf j => ?_
  obtain ⟨p, q, rfl⟩ : ∃ (p : Fin 1024) (q : Fin 1024), j = ix2 p q := ⟨j 0, j 1, eq_ix2 j⟩
  have ht : t.val = 7 := by revert t; decide +kernel
  show (outsAt0 m c t.val t.isLt).2.2.2.2 (ix2 p q) = _
  rw [weight_grad_block m c t (p, q), ht]
  have h := idx t
  have hp : (((cfg0.win 10).blk t).view.emb (ix2 p q)) 0 = p := by refine Fin.ext ?_; blk_simp [h]
  have hq : (((cfg0.win 10).blk t).view.emb (ix2 p q)) 1 = q := by refine Fin.ext ?_; blk_simp [h]
  show _ = ∑ r : Fin 4096, mix m c r ((((cfg0.win 10).blk t).view.emb (ix2 p q)) 0)
    * dy m c (ix2 r ((((cfg0.win 10).blk t).view.emb (ix2 p q)) 1))
  rw [hp, hq, zero_add, Fin.sum_univ_tiles 8 512 rfl, Finset.sum_range]
  refine Finset.sum_congr rfl fun k _ => ?_
  rw [weightAdded_at m c _ (point_of k)]
  refine Finset.sum_congr rfl fun j _ => congrArg (fun r => mix m c r p * dy m c (ix2 r q)) (Fin.ext ?_)
  simp [at_]

end Cert.Kernel4Ideal.Out

end
-- ==== Proof.OutClaim.lean ====
/-
  The claims about the gradient of the gated output projection.
-/
module

public import proofs.«01_k».proof.Defs
public import proofs.«01_k».proof.Proof.OutGrad
public import proofs.«01_k».proof.Proof.Gen.Reference4Ideal.Run
public import proofs.«01_k».proof.Proof.Gen.Reference4Ideal.Read

@[expose] public section

set_option maxRecDepth 16384

noncomputable section

open Idealize.ShloMosaic Idealize.SL.Sem

namespace Cert.Reference4Ideal.Out

open Cert.Reference4Ideal
open Cert.Kernel4Ideal.Out (sigmoid lo hi)

/-- The gates. -/
theorem gate_value (x4 : S4096x2048.Idx → EReal) (x5 : S1x2048.Idx → EReal) (p : Fin 4096) (k : Fin 2048) :
    Read.val_main_v7 (F := Ideal) x4 x5 (ix2 p k) = sigmoid (x4 (ix2 p k) + x5 (ix2 0 k)) := by
  pointwise [Read.val_main_v0, Read.val_main_v1, Read.val_main_v2, Read.val_main_v3, Read.val_main_cst,
    Read.val_main_v4, Read.val_main_v5, Read.val_main_cst_0, Read.val_main_v6, Read.val_main_v7, Read.val_main_cst_1,
    Read.val_main_v8, Read.val_main_v9, Read.val_main_v10, Read.val_main_v11, Read.val_main_v12, Read.val_main_v13,
    Read.val_main_v14, Read.val_main_v15, Read.val_main_v16, Read.val_main_v17, Read.val_main_v18, Read.val_main_v19,
    Read.val_main_v20, Read.val_main_v21, Read.val_main_v22, Read.val_main_v23, Read.val_main_cst_2, Read.val_main_v24,
    Read.val_main_cst_3, Read.val_main_v25, Read.val_main_v26, Read.val_main_v27, Read.val_main_cst_4,
    Read.val_main_v28, Read.val_main_v29, Read.val_main_v30, Read.val_main_v31, Read.val_main_v32]
  rfl

/-- The pooling branch's gradient that differentiating gives. -/
theorem pool_value (x0 : S4096x1024.Idx → EReal) (x1 : S1024x1024.Idx → EReal) (x4 : S4096x2048.Idx → EReal) (x5 : S1x2048.Idx → EReal)
    (p : Fin 4096) (q : Fin 1024) : Read.val_main_v30 (F := Ideal) x0 x1 x4 x5 (ix2 p q)
      = (∑ k, x0 (ix2 p k) * x1 (ix2 q k)) * sigmoid (x4 (ix2 p (lo q)) + x5 (ix2 0 (lo q))) := by
  refine Eq.trans ?_ (mul_comm _ _)
  pointwise [Read.val_main_v0, Read.val_main_v1, Read.val_main_v2, Read.val_main_v3, Read.val_main_cst,
    Read.val_main_v4, Read.val_main_v5, Read.val_main_cst_0, Read.val_main_v6, Read.val_main_v7, Read.val_main_cst_1,
    Read.val_main_v8, Read.val_main_v9, Read.val_main_v10, Read.val_main_v11, Read.val_main_v12, Read.val_main_v13,
    Read.val_main_v14, Read.val_main_v15, Read.val_main_v16, Read.val_main_v17, Read.val_main_v18, Read.val_main_v19,
    Read.val_main_v20, Read.val_main_v21, Read.val_main_v22, Read.val_main_v23, Read.val_main_cst_2, Read.val_main_v24,
    Read.val_main_cst_3, Read.val_main_v25, Read.val_main_v26, Read.val_main_v27, Read.val_main_cst_4,
    Read.val_main_v28, Read.val_main_v29, Read.val_main_v30, Read.val_main_v31, Read.val_main_v32]
  rfl

/-- The attention branch's gradient that differentiating gives. -/
theorem attn_value (x0 : S4096x1024.Idx → EReal) (x1 : S1024x1024.Idx → EReal) (x4 : S4096x2048.Idx → EReal) (x5 : S1x2048.Idx → EReal)
    (p : Fin 4096) (q : Fin 1024) : Read.val_main_v31 (F := Ideal) x0 x1 x4 x5 (ix2 p q)
      = (∑ k, x0 (ix2 p k) * x1 (ix2 q k)) * sigmoid (x4 (ix2 p (hi q)) + x5 (ix2 0 (hi q))) := by
  refine Eq.trans ?_ (mul_comm _ _)
  pointwise [Read.val_main_v0, Read.val_main_v1, Read.val_main_v2, Read.val_main_v3, Read.val_main_cst,
    Read.val_main_v4, Read.val_main_v5, Read.val_main_cst_0, Read.val_main_v6, Read.val_main_v7, Read.val_main_cst_1,
    Read.val_main_v8, Read.val_main_v9, Read.val_main_v10, Read.val_main_v11, Read.val_main_v12, Read.val_main_v13,
    Read.val_main_v14, Read.val_main_v15, Read.val_main_v16, Read.val_main_v17, Read.val_main_v18, Read.val_main_v19,
    Read.val_main_v20, Read.val_main_v21, Read.val_main_v22, Read.val_main_v23, Read.val_main_cst_2, Read.val_main_v24,
    Read.val_main_cst_3, Read.val_main_v25, Read.val_main_v26, Read.val_main_v27, Read.val_main_cst_4,
    Read.val_main_v28, Read.val_main_v29, Read.val_main_v30, Read.val_main_v31, Read.val_main_v32]
  rfl

/-- The gates' gradient that differentiating gives. -/
theorem dz_value (x0 : S4096x1024.Idx → EReal) (x1 : S1024x1024.Idx → EReal) (x2 x3 : S4096x1024.Idx → EReal) (x4 : S4096x2048.Idx → EReal)
    (x5 : S1x2048.Idx → EReal) (p : Fin 4096) (k : Fin 2048) : Read.val_main_v32 (F := Ideal) x0 x1 x2 x3 x4 x5 (ix2 p k)
      = if h : k.val < 1024 then (∑ j, x0 (ix2 p j) * x1 (ix2 ⟨k.val, h⟩ j)) * x2 (ix2 p ⟨k.val, h⟩)
          * (sigmoid (x4 (ix2 p k) + x5 (ix2 0 k)) * (1 - sigmoid (x4 (ix2 p k) + x5 (ix2 0 k))))
        else (∑ j, x0 (ix2 p j) * x1 (ix2 ⟨k.val - 1024, by omega⟩ j)) * x3 (ix2 p ⟨k.val - 1024, by omega⟩)
          * (sigmoid (x4 (ix2 p k) + x5 (ix2 0 k)) * (1 - sigmoid (x4 (ix2 p k) + x5 (ix2 0 k)))) := by
  pointwise [Read.val_main_v0, Read.val_main_v1, Read.val_main_v2, Read.val_main_v3, Read.val_main_cst,
    Read.val_main_v4, Read.val_main_v5, Read.val_main_cst_0, Read.val_main_v6, Read.val_main_v7, Read.val_main_cst_1,
    Read.val_main_v8, Read.val_main_v9, Read.val_main_v10, Read.val_main_v11, Read.val_main_v12, Read.val_main_v13,
    Read.val_main_v14, Read.val_main_v15, Read.val_main_v16, Read.val_main_v17, Read.val_main_v18, Read.val_main_v19,
    Read.val_main_v20, Read.val_main_v21, Read.val_main_v22, Read.val_main_v23, Read.val_main_cst_2, Read.val_main_v24,
    Read.val_main_cst_3, Read.val_main_v25, Read.val_main_v26, Read.val_main_v27, Read.val_main_cst_4,
    Read.val_main_v28, Read.val_main_v29, Read.val_main_v30, Read.val_main_v31, Read.val_main_v32]
  have hk := k.isLt
  by_cases h : k.val < 1024
  · have h' : ¬(1024 ≤ k.val ∧ k.val - 1024 < 1024) := by omega
    rw [dif_neg h', dif_pos h, dif_pos h, zero_add]
    rfl
  · have h' : 1024 ≤ k.val ∧ k.val - 1024 < 1024 := by omega
    rw [dif_pos h', dif_neg h, dif_neg h, add_zero]
    rfl

/-- The bias's gradient that differentiating gives: the gates' gradient summed over the rows. -/
theorem bias_value (x0 : S4096x1024.Idx → EReal) (x1 : S1024x1024.Idx → EReal) (x2 x3 : S4096x1024.Idx → EReal) (x4 : S4096x2048.Idx → EReal)
    (x5 : S1x2048.Idx → EReal) (z : Fin 1) (k : Fin 2048) : Read.val_main_v29 (F := Ideal) x0 x1 x2 x3 x4 x5 (ix2 z k)
      = ∑ p : Fin 4096, Read.val_main_v32 (F := Ideal) x0 x1 x2 x3 x4 x5 (ix2 p k) := by
  pointwise [Read.val_main_v28, Read.val_main_v29, Read.val_main_v32, Read.val_main_cst_4]

/-- The weight's gradient that differentiating gives. -/
theorem weight_value (x0 : S4096x1024.Idx → EReal) (x2 x3 : S4096x1024.Idx → EReal) (x4 : S4096x2048.Idx → EReal)
    (x5 : S1x2048.Idx → EReal) (p q : Fin 1024) : Read.val_main_v18 (F := Ideal) x0 x2 x3 x4 x5 (ix2 p q)
      = ∑ r : Fin 4096, (sigmoid (x4 (ix2 r (lo p)) + x5 (ix2 0 (lo p))) * x2 (ix2 r p)
          + sigmoid (x4 (ix2 r (hi p)) + x5 (ix2 0 (hi p))) * x3 (ix2 r p)) * x0 (ix2 r q) := by
  refine Eq.trans ?_ (Finset.sum_congr rfl fun r _ => mul_comm _ _)
  pointwise [Read.val_main_v0, Read.val_main_v1, Read.val_main_v2, Read.val_main_v3, Read.val_main_cst,
    Read.val_main_v4, Read.val_main_v5, Read.val_main_cst_0, Read.val_main_v6, Read.val_main_v7, Read.val_main_cst_1,
    Read.val_main_v8, Read.val_main_v9, Read.val_main_v10, Read.val_main_v11, Read.val_main_v12, Read.val_main_v13,
    Read.val_main_v14, Read.val_main_v15, Read.val_main_v16, Read.val_main_v17, Read.val_main_v18, Read.val_main_v19,
    Read.val_main_v20, Read.val_main_v21, Read.val_main_v22, Read.val_main_v23, Read.val_main_cst_2, Read.val_main_v24,
    Read.val_main_cst_3, Read.val_main_v25, Read.val_main_v26, Read.val_main_v27, Read.val_main_cst_4,
    Read.val_main_v28, Read.val_main_v29, Read.val_main_v30, Read.val_main_v31, Read.val_main_v32]
  rfl

end Cert.Reference4Ideal.Out

namespace Cert.Proof

/-- The plain gradient runs, keeps its arguments and leaves no semaphore counted up. -/
theorem frame_out_reference : quiescent_Reference4Ideal (hReference4Ideal := Cert.Reference4Ideal.Gen.facts) := fun m ρ _ =>
  (θ_run _ _ _).mono (fun r h => ⟨fun c => (h c).2.2.2.2.2, Idealize.ShloMosaic.sem_eq_zero_of_no_sems (by decide) r.2⟩)
    (Cert.Reference4Ideal.Value.run m ρ)

/-- The kernel's gradients of the branches, of the gates and of the weight are those of the gated projection
    differentiated. -/
theorem out_proj : algebraic_Kernel4Ideal_Reference4Ideal (hKernel4Ideal := Cert.Kernel4Ideal.Gen.facts)
    (hReference4Ideal := Cert.Reference4Ideal.Gen.facts) := by
  intro m ρ m' ρ' hp hm
  refine ⟨fun c => (fun i => Cert.Kernel4Ideal.Out.dmix m c (i 0) (i 1) * Cert.Kernel4Ideal.Out.gate m c (i 0) (Cert.Kernel4Ideal.Out.lo (i 1))
      : Cert.Kernel4Ideal.S4096x1024.Idx → EReal),
    fun c => (fun i => Cert.Kernel4Ideal.Out.dmix m c (i 0) (i 1) * Cert.Kernel4Ideal.Out.gate m c (i 0) (Cert.Kernel4Ideal.Out.hi (i 1))
      : Cert.Kernel4Ideal.S4096x1024.Idx → EReal),
    fun c => (fun i => Cert.Kernel4Ideal.Out.dz m c (i 0) (i 1) : Cert.Kernel4Ideal.S4096x2048.Idx → EReal),
    fun c => (fun i => ∑ r : Fin 4096, Cert.Kernel4Ideal.Out.dz m c r (i 1) : Cert.Kernel4Ideal.S1x2048.Idx → EReal),
    fun c => (fun i => ∑ r : Fin 4096, Cert.Kernel4Ideal.Out.mix m c r (i 0) * Cert.Kernel4Ideal.Out.dy m c (ix2 r (i 1))
      : Cert.Kernel4Ideal.S1024x1024.Idx → EReal), ?_, ?_⟩
  · exact (θ_run _ _ _).mono (fun r h c => ⟨(h c).1.trans (Cert.Kernel4Ideal.Out.pool_final m c),
      (h c).2.1.trans (Cert.Kernel4Ideal.Out.attn_final m c), (h c).2.2.1.trans (Cert.Kernel4Ideal.Out.dz_final m c),
      (h c).2.2.2.1.trans (Cert.Kernel4Ideal.Out.bias_final m c), (h c).2.2.2.2.1.trans (Cert.Kernel4Ideal.Out.weight_final m c),
      (h c).2.2.2.2.2⟩) (Cert.Kernel4Ideal.Value.run_blocks m ρ)
  · refine (θ_run _ _ _).mono (fun r h c => ⟨(h c).1.trans ?_, (h c).2.1.trans ?_, (h c).2.2.1.trans ?_, (h c).2.2.2.1.trans ?_,
      (h c).2.2.2.2.1.trans ?_, (h c).2.2.2.2.2⟩) (Cert.Reference4Ideal.Value.run m' ρ')
    · rw [Cert.Reference4Ideal.Read.val_main_v30_eq, (hm c).1, (hm c).2.1, (hm c).2.2.2.2.1, (hm c).2.2.2.2.2]
      funext i
      rw [eq_ix2 i]
      exact Cert.Reference4Ideal.Out.pool_value _ _ _ _ _ _
    · rw [Cert.Reference4Ideal.Read.val_main_v31_eq, (hm c).1, (hm c).2.1, (hm c).2.2.2.2.1, (hm c).2.2.2.2.2]
      funext i
      rw [eq_ix2 i]
      exact Cert.Reference4Ideal.Out.attn_value _ _ _ _ _ _
    · rw [Cert.Reference4Ideal.Read.val_main_v32_eq, (hm c).1, (hm c).2.1, (hm c).2.2.1, (hm c).2.2.2.1, (hm c).2.2.2.2.1,
        (hm c).2.2.2.2.2]
      funext i
      rw [eq_ix2 i]
      exact Cert.Reference4Ideal.Out.dz_value _ _ _ _ _ _ _ _
    · rw [Cert.Reference4Ideal.Read.val_main_v29_eq, (hm c).1, (hm c).2.1, (hm c).2.2.1, (hm c).2.2.2.1, (hm c).2.2.2.2.1,
        (hm c).2.2.2.2.2]
      funext i
      rw [eq_ix2 i]
      exact (Cert.Reference4Ideal.Out.bias_value _ _ _ _ _ _ _ _).trans
        (Finset.sum_congr rfl fun r _ => Cert.Reference4Ideal.Out.dz_value _ _ _ _ _ _ _ _)
    · rw [Cert.Reference4Ideal.Read.val_main_v18_eq, (hm c).1, (hm c).2.2.1, (hm c).2.2.2.1, (hm c).2.2.2.2.1, (hm c).2.2.2.2.2]
      funext i
      rw [eq_ix2 i]
      exact Cert.Reference4Ideal.Out.weight_value _ _ _ _ _ _ _

end Cert.Proof

end
-- ==== Proof.Windows.lean ====
/-
  Sums over the rows of a window: the running sum from the end, as a reduction over a window as long as the array, and
  what is left of it when the rows a window further on are taken away.
-/
module

public import proofs.«01_k».proof.Proof.Rms
public import Idealize.ShloMosaic.Lib.Pointwise

@[expose] public section

set_option maxRecDepth 16384

noncomputable section

open Idealize.ShloMosaic

namespace Cert.Window

open Cert.Finite

/-- The four windows, as they are written in the programs. -/
def width (g : Fin 4) : EReal := match g with
  | 0 => Ideal.ofBits .f32 1073741824#32
  | 1 => Ideal.ofBits .f32 1082130432#32
  | 2 => Ideal.ofBits .f32 1090519040#32
  | 3 => Ideal.ofBits .f32 1098907648#32

/-- The windows are positive real numbers. -/
theorem width_pos (g : Fin 4) : ∃ r : ℝ, 0 < r ∧ width g = (r : EReal) := by
  match g with
  | 0 => exact ⟨2, by norm_num, by simp [width, Ideal.ofBits, Ideal.ieee, -EReal.coe_mul]; norm_num⟩
  | 1 => exact ⟨4, by norm_num, by simp [width, Ideal.ofBits, Ideal.ieee, -EReal.coe_mul]; norm_num⟩
  | 2 => exact ⟨8, by norm_num, by simp [width, Ideal.ofBits, Ideal.ieee, -EReal.coe_mul]; norm_num⟩
  | 3 => exact ⟨16, by norm_num, by simp [width, Ideal.ofBits, Ideal.ieee, -EReal.coe_mul]; norm_num⟩

/-- A row's number, read as a number. -/
theorem row_number (n : ℕ) (h : n < 4096) : FloatOps.sitofp (F := Ideal) FTy.f32 (BitVec.ofNat 32 n) = ((n : ℝ) : EReal) := by
  have e : (BitVec.ofNat 32 n).toInt = (n : ℤ) := by
    rw [BitVec.toInt_eq_toNat_cond, BitVec.toNat_ofNat]
    have : n % 2 ^ 32 = n := Nat.mod_eq_of_lt (by omega)
    rw [this, if_pos (by omega)]
  show (((BitVec.ofNat 32 n).toInt : ℝ) : EReal) = _
  rw [e]
  simp

/-- How many rows a window that ends at a row has: a positive real number. -/
theorem count_pos (g : Fin 4) (n : ℕ) : ∃ r : ℝ, 0 < r ∧ min (((n : ℝ) : EReal) + 1) (width g) = (r : EReal) := by
  obtain ⟨w, hw, e⟩ := width_pos g
  refine ⟨min ((n : ℝ) + 1) w, lt_min (by positivity) hw, ?_⟩
  rw [e, ← EReal.coe_one, ← EReal.coe_add]
  exact (EReal.coe_strictMono.monotone.map_min).symm

/-- Dividing by the count is multiplying by its reciprocal. -/
theorem div_count (x : EReal) {c : EReal} (h : ∃ r : ℝ, 0 < r ∧ c = (r : EReal)) : Ideal.div x c = x * Ideal.div 1 c := by
  obtain ⟨r, hr, rfl⟩ := h
  have h0 : ((r : ℝ) : EReal) ≠ 0 := by exact_mod_cast hr.ne'
  simp only [Ideal.div, if_neg h0, one_mul]

/-- The quotient of a real by the count is real. -/
theorem isReal_div {x c : EReal} (hx : IsReal x) (h : ∃ r : ℝ, 0 < r ∧ c = (r : EReal)) : IsReal (Ideal.div x c) := by
  obtain ⟨r, hr, rfl⟩ := h
  have h0 : ((r : ℝ) : EReal) ≠ 0 := by exact_mod_cast hr.ne'
  simp only [Ideal.div, if_neg h0]
  exact hx.mul ⟨r⁻¹, (EReal.coe_inv r).symm⟩

/-- A column of rows, zero past the last. -/
def past (d : Fin 4096 → EReal) (s : ℕ) : EReal := if h : s < 4096 then d ⟨s, h⟩ else 0

theorem foldl_add {ι : Type*} (f : ι → EReal) (l : List ι) (v : EReal) : l.foldl (fun r n => r + f n) v = v + (l.map f).sum := by
  induction l generalizing v with
  | nil => simp
  | cons a l ih => rw [List.foldl_cons, ih, List.map_cons, List.sum_cons, add_assoc]

/-- The window's positions are the rows. -/
def positions : (⟨4, ![1, 4096, 1, 1]⟩ : Shape).Idx ≃ Fin 4096 where
  toFun i := i 1
  invFun s := ix4 0 s 0 0
  left_inv i := by
    funext a
    match a with
    | 0 => exact Subsingleton.elim (α := Fin 1) _ _
    | 1 => rfl
    | 2 => exact Subsingleton.elim (α := Fin 1) _ _
    | 3 => exact Subsingleton.elim (α := Fin 1) _ _
  right_inv s := rfl

/-- The position with the given number. -/
abbrev at_ (n : Fin (⟨4, ![1, 4096, 1, 1]⟩ : Shape).numel) : (⟨4, ![1, 4096, 1, 1]⟩ : Shape).Idx :=
  (⟨4, ![1, 4096, 1, 1]⟩ : Shape).rowMajor.symm n

/-- The reduction over a window that reaches from a row past the end is the sum of the rows from that row on. -/
theorem running (x : (⟨4, ![1, 4096, 4, 256]⟩ : Shape).Idx → EReal)
    (h : (⟨4, ![1, 4096, 4, 256]⟩ : Shape).ReduceWindows ![1, 4096, 1, 1] ![1, 1, 1, 1] ![0, 0, 0, 0] ![0, 4095, 0, 0]
      ⟨4, ![1, 4096, 4, 256]⟩) (p : Fin 4096) (g : Fin 4) (q : Fin 256) :
    Ideal.hostReduceWindowAdd ![1, 4096, 1, 1] ![1, 1, 1, 1] ![0, 0, 0, 0] ![0, 4095, 0, 0] h x 0 (ix4 0 p g q)
      = ∑ k ∈ Finset.range 4096, past (fun r => x (ix4 0 r g q)) (p.val + k) := by
  unfold Ideal.hostReduceWindowAdd Host.reduceWindow
  rw [foldl_add, zero_add, ← Fin.sum_univ_def, Finset.sum_range,
    ← Equiv.sum_comp ((⟨4, ![1, 4096, 1, 1]⟩ : Shape).rowMajor.symm.trans positions)]
  refine Finset.sum_congr rfl fun n _ => ?_
  have h1 : (((⟨4, ![1, 4096, 1, 1]⟩ : Shape).rowMajor.symm.trans positions) n) = at_ n 1 := rfl
  rw [h1]
  have i0 : (at_ n 0).val = 0 := Nat.lt_one_iff.mp (at_ n 0).isLt
  have i2 : (at_ n 2).val = 0 := Nat.lt_one_iff.mp (at_ n 2).isLt
  have i3 : (at_ n 3).val = 0 := Nat.lt_one_iff.mp (at_ n 3).isLt
  unfold past
  by_cases hk : p.val + (at_ n 1).val < 4096
  · rw [dif_pos hk, dif_pos]
    · refine congrArg x (funext fun a => Fin.ext ?_)
      match a with
      | 0 => show 0 * 1 + (at_ n 0).val - 0 = 0; omega
      | 1 => show p.val * 1 + (at_ n 1).val - 0 = p.val + (at_ n 1).val; omega
      | 2 => show g.val * 1 + (at_ n 2).val - 0 = g.val; omega
      | 3 => show q.val * 1 + (at_ n 3).val - 0 = q.val; omega
    · intro a
      refine ⟨by match a with | 0 => exact Nat.zero_le _ | 1 => exact Nat.zero_le _ | 2 => exact Nat.zero_le _ | 3 => exact Nat.zero_le _, ?_⟩
      match a with
      | 0 => show 0 * 1 + (at_ n 0).val - 0 < 1; omega
      | 1 => show p.val * 1 + (at_ n 1).val - 0 < 4096; omega
      | 2 => show g.val * 1 + (at_ n 2).val - 0 < 4; omega
      | 3 => show q.val * 1 + (at_ n 3).val - 0 < 256; omega
  · rw [dif_neg hk, dif_neg]
    intro hin
    have : p.val * 1 + (at_ n 1).val - 0 < 4096 := (hin 1).2
    omega

/-- The same of the host's reduction, from an initial value of zero. -/
theorem running_host {u : Shape} (x : (⟨4, ![1, 4096, 4, 256]⟩ : Shape).Idx → EReal) (z : u.Idx → EReal)
    (h : (⟨4, ![1, 4096, 4, 256]⟩ : Shape).ReduceWindows ![1, 4096, 1, 1] ![1, 1, 1, 1] ![0, 0, 0, 0] ![0, 4095, 0, 0]
      ⟨4, ![1, 4096, 4, 256]⟩) (hu : 0 < u.numel) (hz : z (Shape.Idx.first hu) = 0) (p : Fin 4096) (g : Fin 4) (q : Fin 256) :
    Host.reduceWindowAdd (F := Ideal) (φ := .f32) ![1, 4096, 1, 1] ![1, 1, 1, 1] ![0, 0, 0, 0] ![0, 4095, 0, 0] x z h hu (ix4 0 p g q)
      = ∑ k ∈ Finset.range 4096, past (fun r => x (ix4 0 r g q)) (p.val + k) := by
  rw [← running x h p g q, ← hz]
  rfl

/-- Rows less the rows a window further on, summed from a row to the end, leave the rows of the window. -/
theorem telescope {e v : Fin 4096 → EReal} (he : ∀ r, IsReal (e r)) (w : ℕ)
    (hv : ∀ r : Fin 4096, v r = e r + if h : w + r.val < 4096 then -e ⟨w + r.val, h⟩ else 0) (p : ℕ) :
    ∑ k ∈ Finset.range 4096, past v (p + k) = ∑ k ∈ Finset.range w, past e (p + k) := by
  choose d hd using he
  let D : ℕ → ℝ := fun n => if h : n < 4096 then d ⟨n, h⟩ else 0
  have hD : ∀ n, past e n = ((D n : ℝ) : EReal) := fun n => by
    simp only [past, D]
    by_cases h : n < 4096
    · rw [dif_pos h, dif_pos h, hd]
    · rw [dif_neg h, dif_neg h]; rfl
  have hV : ∀ n, past v n = ((D n - D (w + n) : ℝ) : EReal) := fun n => by
    simp only [past, D]
    by_cases h : n < 4096
    · rw [dif_pos h, dif_pos h, hv, hd]
      by_cases h' : w + n < 4096
      · rw [dif_pos h', dif_pos h', hd]
        norm_cast
      · rw [dif_neg h', dif_neg h', add_zero, sub_zero]
    · rw [dif_neg h, dif_neg h, dif_neg (by omega)]
      simp
  have hz : ∀ n, 4096 ≤ n → D n = 0 := fun n h => by simp only [D]; rw [dif_neg (by omega)]
  simp only [hD, hV]
  rw [← coe_sum, ← coe_sum, Finset.sum_sub_distrib]
  refine congrArg _ ?_
  have a := Finset.sum_range_add (fun k => D (p + k)) w 4096
  have b := Finset.sum_range_add (fun k => D (p + k)) 4096 w
  have c : ∑ k ∈ Finset.range w, D (p + (4096 + k)) = 0 := Finset.sum_eq_zero fun k _ => hz _ (by omega)
  rw [c, add_zero, add_comm 4096 w] at b
  have f : ∑ k ∈ Finset.range 4096, D (w + (p + k)) = ∑ k ∈ Finset.range 4096, D (p + (w + k)) :=
    Finset.sum_congr rfl fun k _ => congrArg D (by omega)
  rw [f]
  linarith

end Cert.Window
-- ==== Proof.PoolGrad.lean ====
/-
  The gradient of the pooling mixer: what the kernel's four result arrays hold.
-/
module

public import proofs.«01_k».proof.Proof.Gen.Kernel5Ideal.Value
public import proofs.«01_k».proof.Proof.Windows
public import Idealize.ShloMosaic.Lib.Pipeline.ValueKit
public import Idealize.ShloMosaic.Lib.Pointwise
public import Idealize.ShloMosaic.Lib.StableHlo.ReadAt

@[expose] public section

set_option maxRecDepth 16384

noncomputable section

open Idealize.ShloMosaic Idealize.ShloMosaic.TcCoe Idealize.SL.Sem
open Idealize.ShloMosaic.Pipeline (Dat)

namespace Cert.Kernel5Ideal.Pool

open Cert.Kernel5Ideal Cert.Kernel5Ideal.Gen Cert.Window

variable (m : (ℓ : Loc nD τ sig) → Buf (Elt Ideal) ℓ)

/-- The gradient of the mixer's result. -/
def da (c : Dev nD) : S4096x1024.Idx → EReal := m ((c.tc : Thread nD τ).loc main_arg0)
/-- The mixer's rows. -/
def u (c : Dev nD) : S4096x1024.Idx → EReal := m ((c.tc : Thread nD τ).loc main_arg1)
/-- The four groups' weights. -/
def w (c : Dev nD) : S4x256x256.Idx → EReal := m ((c.tc : Thread nD τ).loc main_arg2)
/-- The scale of the mixed channels. -/
def scale (c : Dev nD) : S1x1024.Idx → EReal := m ((c.tc : Thread nD τ).loc main_arg3)
/-- The normed rows that the input projection takes. -/
def h1 (c : Dev nD) : S4096x1024.Idx → EReal := m ((c.tc : Thread nD τ).loc main_arg4)
/-- The pooled rows that the host hands to the kernel. -/
def pooled (c : Dev nD) : S4096x1024.Idx → EReal := V m c main_v68

/-- Channel `q` of group `g`. -/
def chan (g : Fin 4) (q : Fin 256) : Fin 1024 := ⟨g.val * 256 + q.val, by omega⟩

theorem idx : ∀ t : Fin cfg0.N, win0_0.index t = ![0, t.val] ∧ win0_1.index t = ![0, t.val] ∧
    win0_2.index t = ![t.val, 0, 0] ∧ win0_3.index t = ![0, t.val] ∧ win0_4.index t = ![0, 0] ∧
    win0_5.index t = ![0, t.val] ∧ win0_6.index t = ![t.val, 0, 0] ∧ win0_7.index t = ![0, t.val] ∧
    win0_8.index t = ![t.val, 0] := by
  decide +kernel

theorem point_lt (t : Fin cfg0.N) : t.val < 4 := lt_of_lt_of_eq t.isLt (by decide)
/-- The group that a point works on. -/
def grp (t : Fin cfg0.N) : Fin 4 := ⟨t.val, point_lt t⟩

theorem da_block (c : Dev nD) (t : Fin cfg0.N) (p : Fin 4096) (q : Fin 256) : iblk m c 0 t (ix2 p q) = da m c (ix2 p (chan (grp t) q)) := by
  have e : V m c main_v67 (ix2 p (chan (grp t) q)) = da m c (ix2 p (chan (grp t) q)) := by
    unfold V da; after_reads_at
  have h := idx t
  rw [← e]
  unfold iblk chan grp
  blk_ext [h]

theorem pooled_block (c : Dev nD) (t : Fin cfg0.N) (p : Fin 4096) (q : Fin 256) :
    iblk m c 1 t (ix2 p q) = pooled m c (ix2 p (chan (grp t) q)) := by
  have h := idx t
  unfold pooled iblk chan grp
  blk_ext [h]

theorem weight_block (c : Dev nD) (t : Fin cfg0.N) (p q : Fin 256) : iblk m c 2 t (ix3 0 p q) = w m c (ix3 (grp t) p q) := by
  have e : V m c main_v69 (ix3 (grp t) p q) = w m c (ix3 (grp t) p q) := by
    unfold V w; after_reads_at
  have h := idx t
  rw [← e]
  unfold iblk grp
  blk_ext [h]

theorem scale_block (c : Dev nD) (t : Fin cfg0.N) (q : Fin 256) : iblk m c 3 t (ix2 0 q) = scale m c (ix2 0 (chan (grp t) q)) := by
  have e : V m c main_arg3 (ix2 0 (chan (grp t) q)) = scale m c (ix2 0 (chan (grp t) q)) := by
    unfold V scale; after_reads_at
  have h := idx t
  rw [← e]
  unfold iblk chan grp
  blk_ext [h]

theorem rows_block (c : Dev nD) (t : Fin cfg0.N) (p : Fin 4096) (q : Fin 1024) : iblk m c 4 t (ix2 p q) = h1 m c (ix2 p q) := by
  have e : V m c main_v70 (ix2 p q) = h1 m c (ix2 p q) := by
    unfold V h1; after_reads_at
  have h := idx t
  rw [← e]
  unfold iblk
  blk_ext [h]

/-! ## The pieces of the gradient -/

/-- The number of a row. -/
def step (p : Fin 4096) : EReal := ((p.val : ℝ) : EReal)
/-- The gradient of the mixed channels. -/
def dmix (c : Dev nD) (g : Fin 4) (p : Fin 4096) (q : Fin 256) : EReal := da m c (ix2 p (chan g q)) * scale m c (ix2 0 (chan g q))
/-- The gradient of the pooled rows. -/
def dpool (c : Dev nD) (g : Fin 4) (p : Fin 4096) (q : Fin 256) : EReal := ∑ k : Fin 256, dmix m c g p k * w m c (ix3 g q k)
/-- What a row's gradient gives to each of the rows of its window. -/
def part (c : Dev nD) (g : Fin 4) (p : Fin 4096) (q : Fin 256) : EReal :=
  dpool m c g p q * Ideal.div 1 (min (step p + 1) (width g))

/-- The gradient of the mixer's rows: row `p` went into the windows of the rows `p`, …, `p + w - 1`. -/
def du (c : Dev nD) (g : Fin 4) (p : Fin 4096) (q : Fin 256) : EReal :=
  (∑ k ∈ Finset.range (2 * 2 ^ g.val), past (fun r => part m c g r q) (p.val + k)) - dpool m c g p q

theorem step_eq (p : Fin 4096) :
    FloatOps.sitofp (F := Ideal) FTy.f32 (IntOp.addi (Scalar.muli 0#32 4096#32) (BitVec.ofNat 32 p.val)) = step p := by
  have e : (IntOp.addi (Scalar.muli 0#32 4096#32) (BitVec.ofNat 32 p.val)).toInt = (p.val : ℤ) := by
    have h := p.isLt
    have e0 : IntOp.addi (Scalar.muli 0#32 4096#32) (BitVec.ofNat 32 p.val) = BitVec.ofNat 32 p.val := by
      show 0#32 * 4096#32 + BitVec.ofNat 32 p.val = _
      simp
    rw [e0, BitVec.toInt_eq_toNat_cond, BitVec.toNat_ofNat]
    have : p.val % 2 ^ 32 = p.val := Nat.mod_eq_of_lt (by omega)
    rw [this, if_pos (by omega)]
  show (((IntOp.addi (Scalar.muli 0#32 4096#32) (BitVec.ofNat 32 p.val)).toInt : ℝ) : EReal) = _
  rw [e]
  simp [step]

/-! ## Sums over windows by doubling -/

/-- A rotation by almost the whole length reads the rows a few further on. -/
theorem roll (x : S4112x256.Idx → EReal) (b : BitVec 32) (s : ℕ) (hb : b.toNat + s = 4112) (hs : 0 < s) (p : Fin 4112) (q : Fin 256)
    (h : p.val + s < 4112) : dynamicRotate 0 b none x rotates_S4112x256_d0 (ix2 p q) = x (ix2 ⟨p.val + s, h⟩ q) := by
  unfold dynamicRotate
  refine congrArg x (funext fun a => Fin.ext ?_)
  match a with
  | ⟨0, _⟩ =>
    show (p.val + 4112 - (b.toNat + 0) % 4112) % 4112 = p.val + s
    have : (b.toNat + 0) % 4112 = b.toNat := Nat.mod_eq_of_lt (by omega)
    rw [this]
    omega
  | ⟨1, _⟩ => rfl

/-- The rows added to themselves, a rotation further on. -/
def added (b : BitVec 32) (x : S4112x256.Idx → EReal) : S4112x256.Idx → EReal :=
  addf (F := Ideal) (φ := .f32) x (dynamicRotate 0 b none x rotates_S4112x256_d0)

/-- The sums over the windows of the first 4096 rows, less what the rows themselves give. -/
def less (x : S4112x256.Idx → EReal) (y : S4096x256.Idx → EReal) : S4096x256.Idx → EReal :=
  truncf (F := Ideal) (φ := .f32) .bf16 (subf (extractStridedSlice S4096x256 ![0, 0] x slices_S4112x256_o0_0_S4096x256) y) bitsLt_bf16_f32

theorem less_at (x : S4112x256.Idx → EReal) (y : S4096x256.Idx → EReal) (p : Fin 4096) (q : Fin 256) :
    less x y (ix2 p q) = x (ix2 ⟨p.val, by omega⟩ q) - y (ix2 p q) := by
  pointwise [less]

/-- Rows that hold the sum over `n` rows, added to themselves `n` further on, hold the sum over `2 * n`. -/
theorem double {x : S4112x256.Idx → EReal} {D : ℕ → EReal} (b : BitVec 32) (n : ℕ) (hb : b.toNat + n = 4112) (hn : 0 < n) {q : Fin 256}
    (hx : ∀ p : Fin 4112, p.val + n ≤ 4112 → x (ix2 p q) = ∑ k ∈ Finset.range n, D (p.val + k)) (p : Fin 4112)
    (h : p.val + (n + n) ≤ 4112) :
    added b x (ix2 p q) = ∑ k ∈ Finset.range (n + n), D (p.val + k) := by
  show x (ix2 p q) + dynamicRotate 0 b none x rotates_S4112x256_d0 (ix2 p q) = _
  rw [roll x b n hb hn p q (by omega), hx p (by omega), hx ⟨p.val + n, by omega⟩ (by show p.val + n + n ≤ 4112; omega), Finset.sum_range_add]
  refine congrArg (_ + ·) (Finset.sum_congr rfl fun k _ => congrArg D ?_)
  show p.val + n + k = p.val + (n + k)
  omega

/-- The rows followed by sixteen rows of zeros. -/
theorem followed (e : S4096x256.Idx → EReal) (q : Fin 256) {d : Fin 4096 → EReal} (he : ∀ p, e (ix2 p q) = d p) (p : Fin 4112)
    (h : p.val + 1 ≤ 4112) :
    concatenate S4112x256 0 [⟨S4096x256, e⟩, ⟨S16x256, k0_pay19 (F := Ideal)⟩] concatenates_S4096x256_S16x256_S4112x256_d0 (ix2 p q)
      = ∑ k ∈ Finset.range 1, past d (p.val + k) := by
  rw [Finset.sum_range_one]
  pointwise [k0_pay19]
  unfold past
  simp only [add_zero, he]

theorem part_2 (x : S4096x256.Idx → EReal) (v : S1x256x256.Idx → EReal) (p : Fin 4096) (q : Fin 256) {X : Fin 4096 → Fin 256 → EReal}
    {W : Fin 256 → EReal} (hx : ∀ p k, x (ix2 p k) = X p k) (hw : ∀ k, v (ix3 0 q k) = W k) :
    k0_pay3 (F := Ideal) 0#32 x v (ix2 p q) = (∑ k, X p k * W k) * Ideal.div 1 (min (step p + 1) (width 0)) := by
  pointwise [k0_pay3, k0_pay2, k0_pay1]
  rw [step_eq]
  simp only [hx, hw]
  rfl

/-- The rows' gradient with the window of 2. -/
theorem du_2 (x : S4096x256.Idx → EReal) (v : S1x256x256.Idx → EReal) (p : Fin 4096) (q : Fin 256) {X : Fin 4096 → Fin 256 → EReal}
    {W : Fin 256 → EReal} (hx : ∀ p k, x (ix2 p k) = X p k) (hw : ∀ k, v (ix3 0 q k) = W k) :
    k0_pay4 (F := Ideal) 0#32 x v (k0_pay19 (F := Ideal)) (ix2 p q)
      = (∑ k ∈ Finset.range 2, past (fun r => (∑ k, X r k * W k) * Ideal.div 1 (min (step r + 1) (width 0))) (p.val + k))
        - ∑ k, X p k * W k := by
  have he := fun p => part_2 x v p q hx hw
  have hp : k0_pay1 (F := Ideal) x v (ix2 p q) = ∑ k, X p k * W k := by
    pointwise [k0_pay1]
    simp only [hx, hw]
  have eq : k0_pay4 (F := Ideal) 0#32 x v (k0_pay19 (F := Ideal)) = less (added 4111#32 (concatenate S4112x256 0 [⟨S4096x256, k0_pay3 (F := Ideal) 0#32 x v⟩, ⟨S16x256, k0_pay19 (F := Ideal)⟩] concatenates_S4096x256_S16x256_S4112x256_d0)) (k0_pay1 (F := Ideal) x v) := by
    unfold k0_pay4 less added
    rfl
  have e := double 4111#32 1 (by decide) (by decide) (followed _ q he) ⟨p.val, by omega⟩ (by show p.val + (1 + 1) ≤ 4112; omega)
  rw [eq, less_at]
  exact congrArg₂ (· - ·) e hp

theorem part_4 (x : S4096x256.Idx → EReal) (v : S1x256x256.Idx → EReal) (p : Fin 4096) (q : Fin 256) {X : Fin 4096 → Fin 256 → EReal}
    {W : Fin 256 → EReal} (hx : ∀ p k, x (ix2 p k) = X p k) (hw : ∀ k, v (ix3 0 q k) = W k) :
    k0_pay7 (F := Ideal) 0#32 x v (ix2 p q) = (∑ k, X p k * W k) * Ideal.div 1 (min (step p + 1) (width 1)) := by
  pointwise [k0_pay7, k0_pay2, k0_pay1]
  rw [step_eq]
  simp only [hx, hw]
  rfl

/-- The rows' gradient with the window of 4. -/
theorem du_4 (x : S4096x256.Idx → EReal) (v : S1x256x256.Idx → EReal) (p : Fin 4096) (q : Fin 256) {X : Fin 4096 → Fin 256 → EReal}
    {W : Fin 256 → EReal} (hx : ∀ p k, x (ix2 p k) = X p k) (hw : ∀ k, v (ix3 0 q k) = W k) :
    k0_pay8 (F := Ideal) 0#32 x v (k0_pay19 (F := Ideal)) (ix2 p q)
      = (∑ k ∈ Finset.range 4, past (fun r => (∑ k, X r k * W k) * Ideal.div 1 (min (step r + 1) (width 1))) (p.val + k))
        - ∑ k, X p k * W k := by
  have he := fun p => part_4 x v p q hx hw
  have hp : k0_pay1 (F := Ideal) x v (ix2 p q) = ∑ k, X p k * W k := by
    pointwise [k0_pay1]
    simp only [hx, hw]
  have eq : k0_pay8 (F := Ideal) 0#32 x v (k0_pay19 (F := Ideal)) = less (added 4110#32 (added 4111#32 (concatenate S4112x256 0 [⟨S4096x256, k0_pay7 (F := Ideal) 0#32 x v⟩, ⟨S16x256, k0_pay19 (F := Ideal)⟩] concatenates_S4096x256_S16x256_S4112x256_d0))) (k0_pay1 (F := Ideal) x v) := by
    unfold k0_pay8 less added
    rfl
  have e := double 4110#32 2 (by decide) (by decide) (double 4111#32 1 (by decide) (by decide) (followed _ q he)) ⟨p.val, by omega⟩ (by show p.val + (2 + 2) ≤ 4112; omega)
  rw [eq, less_at]
  exact congrArg₂ (· - ·) e hp

theorem part_8 (x : S4096x256.Idx → EReal) (v : S1x256x256.Idx → EReal) (p : Fin 4096) (q : Fin 256) {X : Fin 4096 → Fin 256 → EReal}
    {W : Fin 256 → EReal} (hx : ∀ p k, x (ix2 p k) = X p k) (hw : ∀ k, v (ix3 0 q k) = W k) :
    k0_pay11 (F := Ideal) 0#32 x v (ix2 p q) = (∑ k, X p k * W k) * Ideal.div 1 (min (step p + 1) (width 2)) := by
  pointwise [k0_pay11, k0_pay2, k0_pay1]
  rw [step_eq]
  simp only [hx, hw]
  rfl

/-- The rows' gradient with the window of 8. -/
theorem du_8 (x : S4096x256.Idx → EReal) (v : S1x256x256.Idx → EReal) (p : Fin 4096) (q : Fin 256) {X : Fin 4096 → Fin 256 → EReal}
    {W : Fin 256 → EReal} (hx : ∀ p k, x (ix2 p k) = X p k) (hw : ∀ k, v (ix3 0 q k) = W k) :
    k0_pay12 (F := Ideal) 0#32 x v (k0_pay19 (F := Ideal)) (ix2 p q)
      = (∑ k ∈ Finset.range 8, past (fun r => (∑ k, X r k * W k) * Ideal.div 1 (min (step r + 1) (width 2))) (p.val + k))
        - ∑ k, X p k * W k := by
  have he := fun p => part_8 x v p q hx hw
  have hp : k0_pay1 (F := Ideal) x v (ix2 p q) = ∑ k, X p k * W k := by
    pointwise [k0_pay1]
    simp only [hx, hw]
  have eq : k0_pay12 (F := Ideal) 0#32 x v (k0_pay19 (F := Ideal)) = less (added 4108#32 (added 4110#32 (added 4111#32 (concatenate S4112x256 0 [⟨S4096x256, k0_pay11 (F := Ideal) 0#32 x v⟩, ⟨S16x256, k0_pay19 (F := Ideal)⟩] concatenates_S4096x256_S16x256_S4112x256_d0)))) (k0_pay1 (F := Ideal) x v) := by
    unfold k0_pay12 less added
    rfl
  have e := double 4108#32 4 (by decide) (by decide) (double 4110#32 2 (by decide) (by decide) (double 4111#32 1 (by decide) (by decide) (followed _ q he))) ⟨p.val, by omega⟩ (by show p.val + (4 + 4) ≤ 4112; omega)
  rw [eq, less_at]
  exact congrArg₂ (· - ·) e hp

theorem part_16 (x : S4096x256.Idx → EReal) (v : S1x256x256.Idx → EReal) (p : Fin 4096) (q : Fin 256) {X : Fin 4096 → Fin 256 → EReal}
    {W : Fin 256 → EReal} (hx : ∀ p k, x (ix2 p k) = X p k) (hw : ∀ k, v (ix3 0 q k) = W k) :
    k0_pay15 (F := Ideal) 0#32 x v (ix2 p q) = (∑ k, X p k * W k) * Ideal.div 1 (min (step p + 1) (width 3)) := by
  pointwise [k0_pay15, k0_pay2, k0_pay1]
  rw [step_eq]
  simp only [hx, hw]
  rfl

/-- The rows' gradient with the window of 16. -/
theorem du_16 (x : S4096x256.Idx → EReal) (v : S1x256x256.Idx → EReal) (p : Fin 4096) (q : Fin 256) {X : Fin 4096 → Fin 256 → EReal}
    {W : Fin 256 → EReal} (hx : ∀ p k, x (ix2 p k) = X p k) (hw : ∀ k, v (ix3 0 q k) = W k) :
    k0_pay16 (F := Ideal) 0#32 x v (k0_pay19 (F := Ideal)) (ix2 p q)
      = (∑ k ∈ Finset.range 16, past (fun r => (∑ k, X r k * W k) * Ideal.div 1 (min (step r + 1) (width 3))) (p.val + k))
        - ∑ k, X p k * W k := by
  have he := fun p => part_16 x v p q hx hw
  have hp : k0_pay1 (F := Ideal) x v (ix2 p q) = ∑ k, X p k * W k := by
    pointwise [k0_pay1]
    simp only [hx, hw]
  have eq : k0_pay16 (F := Ideal) 0#32 x v (k0_pay19 (F := Ideal)) = less (added 4104#32 (added 4108#32 (added 4110#32 (added 4111#32 (concatenate S4112x256 0 [⟨S4096x256, k0_pay15 (F := Ideal) 0#32 x v⟩, ⟨S16x256, k0_pay19 (F := Ideal)⟩] concatenates_S4096x256_S16x256_S4112x256_d0))))) (k0_pay1 (F := Ideal) x v) := by
    unfold k0_pay16 less added
    rfl
  have e := double 4104#32 8 (by decide) (by decide) (double 4108#32 4 (by decide) (by decide) (double 4110#32 2 (by decide) (by decide) (double 4111#32 1 (by decide) (by decide) (followed _ q he)))) ⟨p.val, by omega⟩ (by show p.val + (8 + 8) ≤ 4112; omega)
  rw [eq, less_at]
  exact congrArg₂ (· - ·) e hp

/-! ## What the body stores -/

theorem time_zero (t : Fin cfg0.N) : Scalar.subi 0#32 (BitVec.ofNat 32 (grid0.coords t 1).val) = 0#32 := by
  revert t; decide +kernel

theorem stored_mix (x : S4096x256.Idx → EReal) (y : S1x256.Idx → EReal) (p : Fin 4096) (q : Fin 256) :
    k0_pay26 (F := Ideal) x y (ix2 p q) = x (ix2 p q) * y (ix2 0 q) := by
  pointwise [k0_pay26, k0_pay24]

theorem mix_block (c : Dev nD) (t : Fin cfg0.N) (p : Fin 4096) (q : Fin 256) :
    k0_pay26 (F := Ideal) (iblk m c 0 t) (iblk m c 3 t) (ix2 p q) = dmix m c (grp t) p q :=
  (stored_mix _ _ p q).trans (congrArg₂ (· * ·) (da_block m c t p q) (scale_block m c t q))

/-- The weight gradient's tile. -/
theorem stored_weight (x y : S4096x256.Idx → EReal) (z : S1x256.Idx → EReal) (p q : Fin 256) {X D : Fin 4096 → EReal}
    (hx : ∀ k, x (ix2 k p) = X k) (hd : ∀ k, k0_pay26 (F := Ideal) y z (ix2 k q) = D k) :
    k0_pay27 (F := Ideal) x y z (k0_pay20 (F := Ideal)) (ix3 0 p q) = ∑ k, X k * D k := by
  pointwise [k0_pay27, k0_pay20, k0_pay23]
  simp only [hx, hd, zero_add]

/-- The scale's gradient. -/
theorem stored_scale (x y : S4096x256.Idx → EReal) (v : S1x256x256.Idx → EReal) (q : Fin 256) {X : Fin 4096 → Fin 256 → EReal}
    {Y : Fin 4096 → EReal} {W : Fin 256 → EReal} (hx : ∀ k l, x (ix2 k l) = X k l) (hy : ∀ k, y (ix2 k q) = Y k)
    (hw : ∀ k, v (ix3 0 k q) = W k) :
    k0_pay25 (F := Ideal) x y (k0_pay21 (F := Ideal)) v (ix2 0 q) = ∑ k, Y k * ∑ l, X k l * W l := by
  pointwise [k0_pay25, k0_pay21, k0_pay23, k0_pay24]
  simp only [hx, hy, hw, zero_add]

theorem input_2 (x : S4096x256.Idx → EReal) (v : S1x256x256.Idx → EReal) (h : S4096x1024.Idx → EReal) (p : Fin 256) (q : Fin 1024)
    {D H : Fin 4096 → EReal} (hd : ∀ k, k0_pay4 (F := Ideal) 0#32 x v (k0_pay19 (F := Ideal)) (ix2 k p) = D k) (hh : ∀ k, h (ix2 k q) = H k) :
    k0_pay5 (F := Ideal) 0#32 x v (k0_pay19 (F := Ideal)) (k0_pay22 (F := Ideal)) h (ix2 p q) = ∑ k, D k * H k := by
  pointwise [k0_pay5, k0_pay22]
  simp only [hd, hh, zero_add]

theorem rows_2 (c : Dev nD) (t : Fin cfg0.N) (ht : t.val = 0) (p : Fin 4096) (q : Fin 256) :
    k0_pay4 (F := Ideal) 0#32 (k0_pay26 (F := Ideal) (iblk m c 0 t) (iblk m c 3 t)) (iblk m c 2 t) (k0_pay19 (F := Ideal)) (ix2 p q)
      = du m c (grp t) p q := by
  have e := du_2 _ _ p q (fun p k => mix_block m c t p k) (fun k => weight_block m c t q k)
  refine e.trans ?_
  have hg : grp t = 0 := Fin.ext ht
  rw [hg]
  rfl

theorem input_4 (x : S4096x256.Idx → EReal) (v : S1x256x256.Idx → EReal) (h : S4096x1024.Idx → EReal) (p : Fin 256) (q : Fin 1024)
    {D H : Fin 4096 → EReal} (hd : ∀ k, k0_pay8 (F := Ideal) 0#32 x v (k0_pay19 (F := Ideal)) (ix2 k p) = D k) (hh : ∀ k, h (ix2 k q) = H k) :
    k0_pay9 (F := Ideal) 0#32 x v (k0_pay19 (F := Ideal)) (k0_pay22 (F := Ideal)) h (ix2 p q) = ∑ k, D k * H k := by
  pointwise [k0_pay9, k0_pay22]
  simp only [hd, hh, zero_add]

theorem rows_4 (c : Dev nD) (t : Fin cfg0.N) (ht : t.val = 1) (p : Fin 4096) (q : Fin 256) :
    k0_pay8 (F := Ideal) 0#32 (k0_pay26 (F := Ideal) (iblk m c 0 t) (iblk m c 3 t)) (iblk m c 2 t) (k0_pay19 (F := Ideal)) (ix2 p q)
      = du m c (grp t) p q := by
  have e := du_4 _ _ p q (fun p k => mix_block m c t p k) (fun k => weight_block m c t q k)
  refine e.trans ?_
  have hg : grp t = 1 := Fin.ext ht
  rw [hg]
  rfl

theorem input_8 (x : S4096x256.Idx → EReal) (v : S1x256x256.Idx → EReal) (h : S4096x1024.Idx → EReal) (p : Fin 256) (q : Fin 1024)
    {D H : Fin 4096 → EReal} (hd : ∀ k, k0_pay12 (F := Ideal) 0#32 x v (k0_pay19 (F := Ideal)) (ix2 k p) = D k) (hh : ∀ k, h (ix2 k q) = H k) :
    k0_pay13 (F := Ideal) 0#32 x v (k0_pay19 (F := Ideal)) (k0_pay22 (F := Ideal)) h (ix2 p q) = ∑ k, D k * H k := by
  pointwise [k0_pay13, k0_pay22]
  simp only [hd, hh, zero_add]

theorem rows_8 (c : Dev nD) (t : Fin cfg0.N) (ht : t.val = 2) (p : Fin 4096) (q : Fin 256) :
    k0_pay12 (F := Ideal) 0#32 (k0_pay26 (F := Ideal) (iblk m c 0 t) (iblk m c 3 t)) (iblk m c 2 t) (k0_pay19 (F := Ideal)) (ix2 p q)
      = du m c (grp t) p q := by
  have e := du_8 _ _ p q (fun p k => mix_block m c t p k) (fun k => weight_block m c t q k)
  refine e.trans ?_
  have hg : grp t = 2 := Fin.ext ht
  rw [hg]
  rfl

theorem input_16 (x : S4096x256.Idx → EReal) (v : S1x256x256.Idx → EReal) (h : S4096x1024.Idx → EReal) (p : Fin 256) (q : Fin 1024)
    {D H : Fin 4096 → EReal} (hd : ∀ k, k0_pay16 (F := Ideal) 0#32 x v (k0_pay19 (F := Ideal)) (ix2 k p) = D k) (hh : ∀ k, h (ix2 k q) = H k) :
    k0_pay17 (F := Ideal) 0#32 x v (k0_pay19 (F := Ideal)) (k0_pay22 (F := Ideal)) h (ix2 p q) = ∑ k, D k * H k := by
  pointwise [k0_pay17, k0_pay22]
  simp only [hd, hh, zero_add]

theorem rows_16 (c : Dev nD) (t : Fin cfg0.N) (ht : t.val = 3) (p : Fin 4096) (q : Fin 256) :
    k0_pay16 (F := Ideal) 0#32 (k0_pay26 (F := Ideal) (iblk m c 0 t) (iblk m c 3 t)) (iblk m c 2 t) (k0_pay19 (F := Ideal)) (ix2 p q)
      = du m c (grp t) p q := by
  have e := du_16 _ _ p q (fun p k => mix_block m c t p k) (fun k => weight_block m c t q k)
  refine e.trans ?_
  have hg : grp t = 3 := Fin.ext ht
  rw [hg]
  rfl

theorem du_block (c : Dev nD) (t : Fin cfg0.N) (p : Fin 4096) (q : Fin 256) : (outsAt0 m c t.val t.isLt).1 (ix2 p q) = du m c (grp t) p q := by
  have hlt := point_lt t
  obtain ht | ht | ht | ht : t.val = 0 ∨ t.val = 1 ∨ t.val = 2 ∨ t.val = 3 := by omega
  · rw [outsAt0_A m c t (by omega) (by omega) (by omega) (by omega)]
    frame_out
    rw [time_zero]
    exact rows_2 m c t ht p q
  · rw [outsAt0_B m c t (by omega) (by omega) (by omega) (by omega)]
    frame_out
    rw [time_zero]
    exact rows_4 m c t ht p q
  · rw [outsAt0_C m c t (by omega) (by omega) (by omega) (by omega)]
    frame_out
    rw [time_zero]
    exact rows_8 m c t ht p q
  · rw [outsAt0_D m c t (by omega) (by omega) (by omega) (by omega)]
    frame_out
    rw [time_zero]
    exact rows_16 m c t ht p q

theorem weight_grad_block (c : Dev nD) (t : Fin cfg0.N) (p q : Fin 256) :
    (outsAt0 m c t.val t.isLt).2.1 (ix3 0 p q) = ∑ k, pooled m c (ix2 k (chan (grp t) p)) * dmix m c (grp t) k q := by
  have hlt := point_lt t
  obtain ht | ht | ht | ht : t.val = 0 ∨ t.val = 1 ∨ t.val = 2 ∨ t.val = 3 := by omega
  · rw [outsAt0_A m c t (by omega) (by omega) (by omega) (by omega)]
    frame_out
    exact stored_weight _ _ _ p q (fun k => pooled_block m c t k p) (fun k => mix_block m c t k q)
  · rw [outsAt0_B m c t (by omega) (by omega) (by omega) (by omega)]
    frame_out
    exact stored_weight _ _ _ p q (fun k => pooled_block m c t k p) (fun k => mix_block m c t k q)
  · rw [outsAt0_C m c t (by omega) (by omega) (by omega) (by omega)]
    frame_out
    exact stored_weight _ _ _ p q (fun k => pooled_block m c t k p) (fun k => mix_block m c t k q)
  · rw [outsAt0_D m c t (by omega) (by omega) (by omega) (by omega)]
    frame_out
    exact stored_weight _ _ _ p q (fun k => pooled_block m c t k p) (fun k => mix_block m c t k q)

theorem scale_grad_block (c : Dev nD) (t : Fin cfg0.N) (q : Fin 256) :
    (outsAt0 m c t.val t.isLt).2.2.1 (ix2 0 q)
      = ∑ k, da m c (ix2 k (chan (grp t) q)) * ∑ l, pooled m c (ix2 k (chan (grp t) l)) * w m c (ix3 (grp t) l q) := by
  have hlt := point_lt t
  obtain ht | ht | ht | ht : t.val = 0 ∨ t.val = 1 ∨ t.val = 2 ∨ t.val = 3 := by omega
  · rw [outsAt0_A m c t (by omega) (by omega) (by omega) (by omega)]
    frame_out
    exact stored_scale _ _ _ q (fun k l => pooled_block m c t k l) (fun k => da_block m c t k q) (fun l => weight_block m c t l q)
  · rw [outsAt0_B m c t (by omega) (by omega) (by omega) (by omega)]
    frame_out
    exact stored_scale _ _ _ q (fun k l => pooled_block m c t k l) (fun k => da_block m c t k q) (fun l => weight_block m c t l q)
  · rw [outsAt0_C m c t (by omega) (by omega) (by omega) (by omega)]
    frame_out
    exact stored_scale _ _ _ q (fun k l => pooled_block m c t k l) (fun k => da_block m c t k q) (fun l => weight_block m c t l q)
  · rw [outsAt0_D m c t (by omega) (by omega) (by omega) (by omega)]
    frame_out
    exact stored_scale _ _ _ q (fun k l => pooled_block m c t k l) (fun k => da_block m c t k q) (fun l => weight_block m c t l q)

theorem input_grad_block (c : Dev nD) (t : Fin cfg0.N) (p : Fin 256) (q : Fin 1024) :
    (outsAt0 m c t.val t.isLt).2.2.2 (ix2 p q) = ∑ k, du m c (grp t) k p * h1 m c (ix2 k q) := by
  have hlt := point_lt t
  obtain ht | ht | ht | ht : t.val = 0 ∨ t.val = 1 ∨ t.val = 2 ∨ t.val = 3 := by omega
  · rw [outsAt0_A m c t (by omega) (by omega) (by omega) (by omega)]
    frame_out
    rw [time_zero]
    exact input_2 _ _ _ p q (fun k => rows_2 m c t ht k p) (fun k => rows_block m c t k q)
  · rw [outsAt0_B m c t (by omega) (by omega) (by omega) (by omega)]
    frame_out
    rw [time_zero]
    exact input_4 _ _ _ p q (fun k => rows_4 m c t ht k p) (fun k => rows_block m c t k q)
  · rw [outsAt0_C m c t (by omega) (by omega) (by omega) (by omega)]
    frame_out
    rw [time_zero]
    exact input_8 _ _ _ p q (fun k => rows_8 m c t ht k p) (fun k => rows_block m c t k q)
  · rw [outsAt0_D m c t (by omega) (by omega) (by omega) (by omega)]
    frame_out
    rw [time_zero]
    exact input_16 _ _ _ p q (fun k => rows_16 m c t ht k p) (fun k => rows_block m c t k q)

/-! ## The result arrays -/

def grpOf (i : Fin 1024) : Fin 4 := ⟨i.val / 256, by omega⟩
def inGrp (i : Fin 1024) : Fin 256 := ⟨i.val % 256, by omega⟩

/-- The gradient of the mixer's rows after the run. -/
theorem du_final (c : Dev nD) :
    (dats m 0 c).arrAt 5 cfg0.N = (fun i => du m c (grpOf (i 1)) (i 0) (inGrp (i 1)) : S4096x1024.Idx → EReal) := by
  refine (dats m 0 c).arrAt_eq_of_covers 5 _ (by decide +kernel) fun t hf j => ?_
  obtain ⟨p, q, rfl⟩ : ∃ (p : Fin 4096) (q : Fin 256), j = ix2 p q := ⟨j 0, j 1, eq_ix2 j⟩
  show (outsAt0 m c t.val t.isLt).1 (ix2 p q) = _
  rw [du_block]
  have h := idx t
  have hp : (((cfg0.win 5).blk t).view.emb (ix2 p q)) 0 = p := by refine Fin.ext ?_; blk_simp [h]
  have hq : ((((cfg0.win 5).blk t).view.emb (ix2 p q)) 1).val = t.val * 256 + q.val := by blk_simp [h]
  show _ = du m c (grpOf ((((cfg0.win 5).blk t).view.emb (ix2 p q)) 1)) ((((cfg0.win 5).blk t).view.emb (ix2 p q)) 0)
    (inGrp ((((cfg0.win 5).blk t).view.emb (ix2 p q)) 1))
  have e1 : grp t = grpOf ((((cfg0.win 5).blk t).view.emb (ix2 p q)) 1) := Fin.ext (by show t.val = _ / 256; rw [hq]; omega)
  have e2 : q = inGrp ((((cfg0.win 5).blk t).view.emb (ix2 p q)) 1) := Fin.ext (by show q.val = _ % 256; rw [hq]; omega)
  rw [hp, ← e1, ← e2]

/-- The groups' weight gradient after the run. -/
theorem weight_final (c : Dev nD) :
    (dats m 0 c).arrAt 6 cfg0.N
      = (fun i => ∑ k, pooled m c (ix2 k (chan (i 0) (i 1))) * dmix m c (i 0) k (i 2) : S4x256x256.Idx → EReal) := by
  refine (dats m 0 c).arrAt_eq_of_covers 6 _ (by decide +kernel) fun t hf j => ?_
  obtain ⟨z, p, q, rfl⟩ : ∃ (z : Fin 1) (p q : Fin 256), j = ix3 z p q := ⟨j 0, j 1, j 2, eq_ix3 j⟩
  obtain rfl : z = 0 := Subsingleton.elim _ _
  show (outsAt0 m c t.val t.isLt).2.1 (ix3 0 p q) = _
  rw [weight_grad_block]
  have h := idx t
  have h0 : (((cfg0.win 6).blk t).view.emb (ix3 0 p q)) 0 = grp t := by
    refine Fin.ext ?_
    unfold grp
    blk_simp [h]
    simp
  have hp : (((cfg0.win 6).blk t).view.emb (ix3 0 p q)) 1 = p := by refine Fin.ext ?_; blk_simp [h]
  have hq : (((cfg0.win 6).blk t).view.emb (ix3 0 p q)) 2 = q := by refine Fin.ext ?_; blk_simp [h]
  show _ = ∑ k, pooled m c (ix2 k (chan ((((cfg0.win 6).blk t).view.emb (ix3 0 p q)) 0) ((((cfg0.win 6).blk t).view.emb (ix3 0 p q)) 1)))
    * dmix m c ((((cfg0.win 6).blk t).view.emb (ix3 0 p q)) 0) k ((((cfg0.win 6).blk t).view.emb (ix3 0 p q)) 2)
  rw [h0, hp, hq]

theorem grpOf_chan (g : Fin 4) (q : Fin 256) : grpOf (chan g q) = g := Fin.ext (by show (g.val * 256 + q.val) / 256 = g.val; omega)
theorem inGrp_chan (g : Fin 4) (q : Fin 256) : inGrp (chan g q) = q := Fin.ext (by show (g.val * 256 + q.val) % 256 = q.val; omega)

/-- The scale's gradient. -/
def dscale (c : Dev nD) (g : Fin 4) (q : Fin 256) : EReal :=
  ∑ k, da m c (ix2 k (chan g q)) * ∑ l, pooled m c (ix2 k (chan g l)) * w m c (ix3 g l q)

/-- The scale's gradient after the run. -/
theorem scale_final (c : Dev nD) :
    (dats m 0 c).arrAt 7 cfg0.N = (fun i => dscale m c (grpOf (i 1)) (inGrp (i 1)) : S1x1024.Idx → EReal) := by
  refine (dats m 0 c).arrAt_eq_of_covers 7 _ (by decide +kernel) fun t hf j => ?_
  obtain ⟨z, q, rfl⟩ : ∃ (z : Fin 1) (q : Fin 256), j = ix2 z q := ⟨j 0, j 1, eq_ix2 j⟩
  obtain rfl : z = 0 := Subsingleton.elim _ _
  show (outsAt0 m c t.val t.isLt).2.2.1 (ix2 0 q) = _
  rw [scale_grad_block]
  have h := idx t
  have hq : (((cfg0.win 7).blk t).view.emb (ix2 0 q)) 1 = chan (grp t) q := by
    refine Fin.ext ?_
    unfold chan grp
    blk_simp [h]
  show dscale m c (grp t) q = dscale m c (grpOf ((((cfg0.win 7).blk t).view.emb (ix2 0 q)) 1)) (inGrp ((((cfg0.win 7).blk t).view.emb (ix2 0 q)) 1))
  rw [hq, grpOf_chan, inGrp_chan]

/-- The input weights' gradient. -/
def dinput (c : Dev nD) (g : Fin 4) (q : Fin 256) (j : Fin 1024) : EReal := ∑ k, du m c g k q * h1 m c (ix2 k j)

/-- The input weights' gradient after the run. -/
theorem input_final (c : Dev nD) :
    (dats m 0 c).arrAt 8 cfg0.N = (fun i => dinput m c (grpOf (i 0)) (inGrp (i 0)) (i 1) : S1024x1024.Idx → EReal) := by
  refine (dats m 0 c).arrAt_eq_of_covers 8 _ (by decide +kernel) fun t hf j => ?_
  obtain ⟨p, q, rfl⟩ : ∃ (p : Fin 256) (q : Fin 1024), j = ix2 p q := ⟨j 0, j 1, eq_ix2 j⟩
  show (outsAt0 m c t.val t.isLt).2.2.2 (ix2 p q) = _
  rw [input_grad_block]
  have h := idx t
  have hq : (((cfg0.win 8).blk t).view.emb (ix2 p q)) 1 = q := by refine Fin.ext ?_; blk_simp [h]
  have hp : (((cfg0.win 8).blk t).view.emb (ix2 p q)) 0 = chan (grp t) p := by
    refine Fin.ext ?_
    unfold chan grp
    blk_simp [h]
  show dinput m c (grp t) p q = dinput m c (grpOf ((((cfg0.win 8).blk t).view.emb (ix2 p q)) 0)) (inGrp ((((cfg0.win 8).blk t).view.emb (ix2 p q)) 0))
    ((((cfg0.win 8).blk t).view.emb (ix2 p q)) 1)
  rw [hp, hq, grpOf_chan, inGrp_chan]

end Cert.Kernel5Ideal.Pool
-- ==== Proof.PoolHost.lean ====
/-
  The pooling mixer's mean rows as the host computes them for the kernel are the reference's.
-/
module

public import proofs.«01_k».proof.Proof.PoolGrad
public import proofs.«01_k».proof.Proof.Gen.Reference5Ideal.Run
public import proofs.«01_k».proof.Proof.Gen.Reference5Ideal.Read

@[expose] public section

set_option maxRecDepth 16384

noncomputable section

open Idealize.ShloMosaic Idealize.ShloMosaic.TcCoe Idealize.SL.Sem

namespace Cert.Kernel5Ideal.Pool

open Cert.Kernel5Ideal Cert.Kernel5Ideal.Gen Cert.Window

variable (m : (ℓ : Loc nD τ sig) → Buf (Elt Ideal) ℓ)

/-- The running sums of the mixer's rows. -/
def cum (u : S4096x1024.Idx → EReal) (p : Fin 4096) (g : Fin 4) (q : Fin 256) : EReal :=
  Host.reduceWindowAdd (F := Ideal) (φ := .f32) ![1, 4096, 1, 1] ![1, 1, 1, 1] ![0, 4095, 0, 0] ![0, 0, 0, 0]
    (fun i : S1x4096x4x256.Idx => u (ix2 (i 1) ⟨(i 2).val * 256 + (i 3).val, by
      have h2 : (i 2).val < 4 := (i 2).isLt
      have h3 : (i 3).val < 256 := (i 3).isLt
      show _ < 1024
      omega⟩))
    (broadcastInDim S_ ![] bcast_S_S_ (constant (F := Ideal) S_ .f32 0#32))
    reduceWindows_S1x4096x4x256_S1x4096x4x256_w1s1p0_0_w4096s1p4095_0_w1s1p0_0_w1s1p0_0 h_S_ (ix4 0 p g q)

/-- The reference's running sums are these. -/
theorem cum_reference (u : S4096x1024.Idx → EReal) (p : Fin 4096) (g : Fin 4) (q : Fin 256) :
    Cert.Reference5Ideal.Read.val_main_v2 (F := Ideal) u (ix4 0 p g q) = cum u p g q := by
  have e : Cert.Reference5Ideal.Read.val_main_v1 (F := Ideal) u = (fun i : S1x4096x4x256.Idx => u (ix2 (i 1) ⟨(i 2).val * 256 + (i 3).val, by
      have h2 : (i 2).val < 4 := (i 2).isLt
      have h3 : (i 3).val < 256 := (i 3).isLt
      show _ < 1024
      omega⟩)) := by
    funext i
    obtain ⟨a, b, c, d, rfl⟩ : ∃ (a : Fin 1) (b : Fin 4096) (c : Fin 4) (d : Fin 256), i = ix4 a b c d := ⟨i 0, i 1, i 2, i 3, eq_ix4 i⟩
    pointwise [Cert.Reference5Ideal.Read.val_main_v1, Cert.Reference5Ideal.Read.val_main_v0]
  unfold Cert.Reference5Ideal.Read.val_main_v2
  rw [e]
  rfl

theorem zeros0 (c : Dev nD) (p : Fin 2) (q : Fin 256) :
    (StableHlo.upto [hostOps0, hostOps0_1, hostOps0_2].flatten (fun b => m (c, b)) 12 (Proc.tc.devRef main_v7) : S1x2x256.Idx → EReal) (ix3 0 p q) = (0 : EReal) := by
  after_reads_at

theorem rows0 (c : Dev nD) (p : Fin 4094) (q : Fin 256) :
    (StableHlo.upto [hostOps0, hostOps0_1, hostOps0_2].flatten (fun b => m (c, b)) 12 (Proc.tc.devRef main_v8) : S1x4094x256.Idx → EReal) (ix3 0 p q)
      = cum (u m c) ⟨p.val, by omega⟩ 0 q := by
  after_reads_at
  rfl

/-- The means of group 0. -/
def mean0 (c : Dev nD) : S1x4096x1x256.Idx → EReal := StableHlo.upto [hostOps0, hostOps0_1, hostOps0_2].flatten (fun b => m (c, b)) 78 (Proc.tc.devRef main_v60)

theorem means0 (c : Dev nD) (p : Fin 4096) (q : Fin 256) :
    mean0 m c (ix4 0 p 0 q)
      = Ideal.div (cum (u m c) p 0 q - if h : p.val < 2 then 0 else cum (u m c) ⟨p.val - 2, by omega⟩ 0 q)
          (min (FloatOps.sitofp (F := Ideal) FTy.f32 (BitVec.ofNat 32 p.val) + 1) (Ideal.ofBits FTy.f32 1073741824#32)) := by
  unfold mean0
  after_reads_at
  exact congrArg₂ Ideal.div (congrArg₂ (· - ·) rfl (dite_congr rfl (fun h => zeros0 m c ⟨p.val, h⟩ q)
    (fun h => rows0 m c ⟨p.val - 2, by omega⟩ q))) rfl

theorem zeros1 (c : Dev nD) (p : Fin 4) (q : Fin 256) :
    (StableHlo.upto [hostOps0, hostOps0_1, hostOps0_2].flatten (fun b => m (c, b)) 29 (Proc.tc.devRef main_v21) : S1x4x256.Idx → EReal) (ix3 0 p q) = (0 : EReal) := by
  after_reads_at

theorem rows1 (c : Dev nD) (p : Fin 4092) (q : Fin 256) :
    (StableHlo.upto [hostOps0, hostOps0_1, hostOps0_2].flatten (fun b => m (c, b)) 29 (Proc.tc.devRef main_v22) : S1x4092x256.Idx → EReal) (ix3 0 p q)
      = cum (u m c) ⟨p.val, by omega⟩ 1 q := by
  after_reads_at
  rfl

/-- The means of group 1. -/
def mean1 (c : Dev nD) : S1x4096x1x256.Idx → EReal := StableHlo.upto [hostOps0, hostOps0_1, hostOps0_2].flatten (fun b => m (c, b)) 78 (Proc.tc.devRef main_v61)

theorem means1 (c : Dev nD) (p : Fin 4096) (q : Fin 256) :
    mean1 m c (ix4 0 p 0 q)
      = Ideal.div (cum (u m c) p 1 q - if h : p.val < 4 then 0 else cum (u m c) ⟨p.val - 4, by omega⟩ 1 q)
          (min (FloatOps.sitofp (F := Ideal) FTy.f32 (BitVec.ofNat 32 p.val) + 1) (Ideal.ofBits FTy.f32 1082130432#32)) := by
  unfold mean1
  after_reads_at
  exact congrArg₂ Ideal.div (congrArg₂ (· - ·) rfl (dite_congr rfl (fun h => zeros1 m c ⟨p.val, h⟩ q)
    (fun h => rows1 m c ⟨p.val - 4, by omega⟩ q))) rfl

theorem zeros2 (c : Dev nD) (p : Fin 8) (q : Fin 256) :
    (StableHlo.upto [hostOps0, hostOps0_1, hostOps0_2].flatten (fun b => m (c, b)) 46 (Proc.tc.devRef main_v35) : S1x8x256.Idx → EReal) (ix3 0 p q) = (0 : EReal) := by
  after_reads_at

theorem rows2 (c : Dev nD) (p : Fin 4088) (q : Fin 256) :
    (StableHlo.upto [hostOps0, hostOps0_1, hostOps0_2].flatten (fun b => m (c, b)) 46 (Proc.tc.devRef main_v36) : S1x4088x256.Idx → EReal) (ix3 0 p q)
      = cum (u m c) ⟨p.val, by omega⟩ 2 q := by
  after_reads_at
  rfl

/-- The means of group 2. -/
def mean2 (c : Dev nD) : S1x4096x1x256.Idx → EReal := StableHlo.upto [hostOps0, hostOps0_1, hostOps0_2].flatten (fun b => m (c, b)) 78 (Proc.tc.devRef main_v62)

theorem means2 (c : Dev nD) (p : Fin 4096) (q : Fin 256) :
    mean2 m c (ix4 0 p 0 q)
      = Ideal.div (cum (u m c) p 2 q - if h : p.val < 8 then 0 else cum (u m c) ⟨p.val - 8, by omega⟩ 2 q)
          (min (FloatOps.sitofp (F := Ideal) FTy.f32 (BitVec.ofNat 32 p.val) + 1) (Ideal.ofBits FTy.f32 1090519040#32)) := by
  unfold mean2
  after_reads_at
  exact congrArg₂ Ideal.div (congrArg₂ (· - ·) rfl (dite_congr rfl (fun h => zeros2 m c ⟨p.val, h⟩ q)
    (fun h => rows2 m c ⟨p.val - 8, by omega⟩ q))) rfl

theorem zeros3 (c : Dev nD) (p : Fin 16) (q : Fin 256) :
    (StableHlo.upto [hostOps0, hostOps0_1, hostOps0_2].flatten (fun b => m (c, b)) 63 (Proc.tc.devRef main_v49) : S1x16x256.Idx → EReal) (ix3 0 p q) = (0 : EReal) := by
  after_reads_at

theorem rows3 (c : Dev nD) (p : Fin 4080) (q : Fin 256) :
    (StableHlo.upto [hostOps0, hostOps0_1, hostOps0_2].flatten (fun b => m (c, b)) 63 (Proc.tc.devRef main_v50) : S1x4080x256.Idx → EReal) (ix3 0 p q)
      = cum (u m c) ⟨p.val, by omega⟩ 3 q := by
  after_reads_at
  rfl

/-- The means of group 3. -/
def mean3 (c : Dev nD) : S1x4096x1x256.Idx → EReal := StableHlo.upto [hostOps0, hostOps0_1, hostOps0_2].flatten (fun b => m (c, b)) 78 (Proc.tc.devRef main_v63)

theorem means3 (c : Dev nD) (p : Fin 4096) (q : Fin 256) :
    mean3 m c (ix4 0 p 0 q)
      = Ideal.div (cum (u m c) p 3 q - if h : p.val < 16 then 0 else cum (u m c) ⟨p.val - 16, by omega⟩ 3 q)
          (min (FloatOps.sitofp (F := Ideal) FTy.f32 (BitVec.ofNat 32 p.val) + 1) (Ideal.ofBits FTy.f32 1098907648#32)) := by
  unfold mean3
  after_reads_at
  exact congrArg₂ Ideal.div (congrArg₂ (· - ·) rfl (dite_congr rfl (fun h => zeros3 m c ⟨p.val, h⟩ q)
    (fun h => rows3 m c ⟨p.val - 16, by omega⟩ q))) rfl

/-- The pooled rows by group. -/
theorem pooled_cases (c : Dev nD) (p : Fin 4096) (q : Fin 1024) :
    pooled m c (ix2 p q)
      = (if h : q.val / 256 < 1 then mean0 m c (ix4 0 p ⟨q.val / 256, h⟩ ⟨q.val % 256, Nat.mod_lt _ (by decide)⟩)
        else if h : q.val / 256 - 1 < 1 then mean1 m c (ix4 0 p ⟨q.val / 256 - 1, h⟩ ⟨q.val % 256, Nat.mod_lt _ (by decide)⟩)
        else if h : q.val / 256 - 1 - 1 < 1 then mean2 m c (ix4 0 p ⟨q.val / 256 - 1 - 1, h⟩ ⟨q.val % 256, Nat.mod_lt _ (by decide)⟩)
        else mean3 m c (ix4 0 p ⟨q.val / 256 - 1 - 1 - 1, by omega⟩ ⟨q.val % 256, Nat.mod_lt _ (by decide)⟩))
        - u m c (ix2 p ⟨q.val / 256 * 256 + q.val % 256, by omega⟩) := by
  unfold pooled V
  after_reads_at
  rfl

theorem chan_div (g : Fin 4) (q : Fin 256) : (chan g q).val / 256 = g.val := by
  show (g.val * 256 + q.val) / 256 = g.val
  omega

theorem chan_mod (g : Fin 4) (q : Fin 256) : (chan g q).val % 256 = q.val := by
  show (g.val * 256 + q.val) % 256 = q.val
  omega

theorem pooled0 (c : Dev nD) (p : Fin 4096) (q : Fin 256) :
    pooled m c (ix2 p (chan 0 q)) = Cert.Reference5Ideal.Read.val_main_v69 (F := Ideal) (u m c) (ix4 0 p 0 q) := by
  have k : pooled m c (ix2 p (chan 0 q))
      = mean0 m c (ix4 0 p 0 q)
        - u m c (ix2 p (chan 0 q)) := by
    refine (pooled_cases m c p _).trans (congrArg₂ (· - ·) ?_ (congrArg (fun j => u m c (ix2 p j)) (Fin.ext ?_)))
    · have hd := chan_div 0 q
      have e : (0 : Fin 4).val = 0 := rfl
      rw [e] at hd
      rw [dif_pos (by omega)]
      exact congrArg (mean0 m c) (congrArg₂ (fun a b => ix4 0 p a b) (Fin.ext (by show (chan 0 q).val / 256 = 0; omega)) (Fin.ext (chan_mod 0 q)))
    · show (0 * 256 + q.val) / 256 * 256 + (0 * 256 + q.val) % 256 = 0 * 256 + q.val
      omega
  rw [k, means0]
  symm
  pointwise [Cert.Reference5Ideal.Read.val_main_v0, Cert.Reference5Ideal.Read.val_main_v1,
    Cert.Reference5Ideal.Read.val_main_call0_call0_cst, Cert.Reference5Ideal.Read.val_main_call0_call0_v0,
    Cert.Reference5Ideal.Read.val_main_v3, Cert.Reference5Ideal.Read.val_main_v4, Cert.Reference5Ideal.Read.val_main_v5,
    Cert.Reference5Ideal.Read.val_main_v6, Cert.Reference5Ideal.Read.val_main_cst, Cert.Reference5Ideal.Read.val_main_v7,
    Cert.Reference5Ideal.Read.val_main_v8, Cert.Reference5Ideal.Read.val_main_v9, Cert.Reference5Ideal.Read.val_main_cst_0,
    Cert.Reference5Ideal.Read.val_main_v10, Cert.Reference5Ideal.Read.val_main_cst_1, Cert.Reference5Ideal.Read.val_main_v11,
    Cert.Reference5Ideal.Read.val_main_v12, Cert.Reference5Ideal.Read.val_main_cst_2, Cert.Reference5Ideal.Read.val_main_v13,
    Cert.Reference5Ideal.Read.val_main_v14, Cert.Reference5Ideal.Read.val_main_v15, Cert.Reference5Ideal.Read.val_main_v16,
    Cert.Reference5Ideal.Read.val_main_v17, Cert.Reference5Ideal.Read.val_main_v18, Cert.Reference5Ideal.Read.val_main_v19,
    Cert.Reference5Ideal.Read.val_main_v20, Cert.Reference5Ideal.Read.val_main_v21, Cert.Reference5Ideal.Read.val_main_cst_3,
    Cert.Reference5Ideal.Read.val_main_v22, Cert.Reference5Ideal.Read.val_main_v23, Cert.Reference5Ideal.Read.val_main_v24,
    Cert.Reference5Ideal.Read.val_main_cst_4, Cert.Reference5Ideal.Read.val_main_v25, Cert.Reference5Ideal.Read.val_main_cst_5,
    Cert.Reference5Ideal.Read.val_main_v26, Cert.Reference5Ideal.Read.val_main_v27, Cert.Reference5Ideal.Read.val_main_cst_6,
    Cert.Reference5Ideal.Read.val_main_v28, Cert.Reference5Ideal.Read.val_main_v29, Cert.Reference5Ideal.Read.val_main_v30,
    Cert.Reference5Ideal.Read.val_main_v31, Cert.Reference5Ideal.Read.val_main_v32, Cert.Reference5Ideal.Read.val_main_v33,
    Cert.Reference5Ideal.Read.val_main_v34, Cert.Reference5Ideal.Read.val_main_v35, Cert.Reference5Ideal.Read.val_main_v36,
    Cert.Reference5Ideal.Read.val_main_cst_7, Cert.Reference5Ideal.Read.val_main_v37, Cert.Reference5Ideal.Read.val_main_v38,
    Cert.Reference5Ideal.Read.val_main_v39, Cert.Reference5Ideal.Read.val_main_cst_8, Cert.Reference5Ideal.Read.val_main_v40,
    Cert.Reference5Ideal.Read.val_main_cst_9, Cert.Reference5Ideal.Read.val_main_v41, Cert.Reference5Ideal.Read.val_main_v42,
    Cert.Reference5Ideal.Read.val_main_cst_10, Cert.Reference5Ideal.Read.val_main_v43, Cert.Reference5Ideal.Read.val_main_v44,
    Cert.Reference5Ideal.Read.val_main_v45, Cert.Reference5Ideal.Read.val_main_v46, Cert.Reference5Ideal.Read.val_main_v47,
    Cert.Reference5Ideal.Read.val_main_v48, Cert.Reference5Ideal.Read.val_main_v49, Cert.Reference5Ideal.Read.val_main_v50,
    Cert.Reference5Ideal.Read.val_main_v51, Cert.Reference5Ideal.Read.val_main_cst_11, Cert.Reference5Ideal.Read.val_main_v52,
    Cert.Reference5Ideal.Read.val_main_v53, Cert.Reference5Ideal.Read.val_main_v54, Cert.Reference5Ideal.Read.val_main_cst_12,
    Cert.Reference5Ideal.Read.val_main_v55, Cert.Reference5Ideal.Read.val_main_cst_13, Cert.Reference5Ideal.Read.val_main_v56,
    Cert.Reference5Ideal.Read.val_main_v57, Cert.Reference5Ideal.Read.val_main_cst_14, Cert.Reference5Ideal.Read.val_main_v58,
    Cert.Reference5Ideal.Read.val_main_v59, Cert.Reference5Ideal.Read.val_main_v60, Cert.Reference5Ideal.Read.val_main_v61,
    Cert.Reference5Ideal.Read.val_main_v62, Cert.Reference5Ideal.Read.val_main_v63, Cert.Reference5Ideal.Read.val_main_v64,
    Cert.Reference5Ideal.Read.val_main_v65, Cert.Reference5Ideal.Read.val_main_v66, Cert.Reference5Ideal.Read.val_main_v67,
    Cert.Reference5Ideal.Read.val_main_v68, Cert.Reference5Ideal.Read.val_main_v69, Cert.Reference5Ideal.Read.val_main_cst_15,
    Cert.Reference5Ideal.Read.val_main_cst_16, Cert.Reference5Ideal.Read.val_main_cst_17,
    Cert.Reference5Ideal.Read.val_main_cst_18, Cert.Reference5Ideal.Read.val_main_cst_19,
    Cert.Reference5Ideal.Read.val_main_cst_20, Cert.Reference5Ideal.Read.val_main_cst_21,
    Cert.Reference5Ideal.Read.val_main_cst_22, Cert.Reference5Ideal.Read.val_main_cst_23,
    Cert.Reference5Ideal.Read.val_main_cst_24, Cert.Reference5Ideal.Read.val_main_call1_call0_cst,
    Cert.Reference5Ideal.Read.val_main_call1_call0_v0]
  simp only [cum_reference]
  exact congrArg₂ (· - ·) rfl (congrArg (fun j => u m c (ix2 p j)) (Fin.ext (by show q.val = 0 * 256 + q.val; omega)))

theorem pooled1 (c : Dev nD) (p : Fin 4096) (q : Fin 256) :
    pooled m c (ix2 p (chan 1 q)) = Cert.Reference5Ideal.Read.val_main_v69 (F := Ideal) (u m c) (ix4 0 p 1 q) := by
  have k : pooled m c (ix2 p (chan 1 q))
      = mean1 m c (ix4 0 p 0 q)
        - u m c (ix2 p (chan 1 q)) := by
    refine (pooled_cases m c p _).trans (congrArg₂ (· - ·) ?_ (congrArg (fun j => u m c (ix2 p j)) (Fin.ext ?_)))
    · have hd := chan_div 1 q
      have e : (1 : Fin 4).val = 1 := rfl
      rw [e] at hd
      rw [dif_neg (by omega)]
      rw [dif_pos (by omega)]
      exact congrArg (mean1 m c) (congrArg₂ (fun a b => ix4 0 p a b) (Fin.ext (by show (chan 1 q).val / 256 - 1 = 0; omega)) (Fin.ext (chan_mod 1 q)))
    · show (1 * 256 + q.val) / 256 * 256 + (1 * 256 + q.val) % 256 = 1 * 256 + q.val
      omega
  rw [k, means1]
  symm
  pointwise [Cert.Reference5Ideal.Read.val_main_v0, Cert.Reference5Ideal.Read.val_main_v1,
    Cert.Reference5Ideal.Read.val_main_call0_call0_cst, Cert.Reference5Ideal.Read.val_main_call0_call0_v0,
    Cert.Reference5Ideal.Read.val_main_v3, Cert.Reference5Ideal.Read.val_main_v4, Cert.Reference5Ideal.Read.val_main_v5,
    Cert.Reference5Ideal.Read.val_main_v6, Cert.Reference5Ideal.Read.val_main_cst, Cert.Reference5Ideal.Read.val_main_v7,
    Cert.Reference5Ideal.Read.val_main_v8, Cert.Reference5Ideal.Read.val_main_v9, Cert.Reference5Ideal.Read.val_main_cst_0,
    Cert.Reference5Ideal.Read.val_main_v10, Cert.Reference5Ideal.Read.val_main_cst_1, Cert.Reference5Ideal.Read.val_main_v11,
    Cert.Reference5Ideal.Read.val_main_v12, Cert.Reference5Ideal.Read.val_main_cst_2, Cert.Reference5Ideal.Read.val_main_v13,
    Cert.Reference5Ideal.Read.val_main_v14, Cert.Reference5Ideal.Read.val_main_v15, Cert.Reference5Ideal.Read.val_main_v16,
    Cert.Reference5Ideal.Read.val_main_v17, Cert.Reference5Ideal.Read.val_main_v18, Cert.Reference5Ideal.Read.val_main_v19,
    Cert.Reference5Ideal.Read.val_main_v20, Cert.Reference5Ideal.Read.val_main_v21, Cert.Reference5Ideal.Read.val_main_cst_3,
    Cert.Reference5Ideal.Read.val_main_v22, Cert.Reference5Ideal.Read.val_main_v23, Cert.Reference5Ideal.Read.val_main_v24,
    Cert.Reference5Ideal.Read.val_main_cst_4, Cert.Reference5Ideal.Read.val_main_v25, Cert.Reference5Ideal.Read.val_main_cst_5,
    Cert.Reference5Ideal.Read.val_main_v26, Cert.Reference5Ideal.Read.val_main_v27, Cert.Reference5Ideal.Read.val_main_cst_6,
    Cert.Reference5Ideal.Read.val_main_v28, Cert.Reference5Ideal.Read.val_main_v29, Cert.Reference5Ideal.Read.val_main_v30,
    Cert.Reference5Ideal.Read.val_main_v31, Cert.Reference5Ideal.Read.val_main_v32, Cert.Reference5Ideal.Read.val_main_v33,
    Cert.Reference5Ideal.Read.val_main_v34, Cert.Reference5Ideal.Read.val_main_v35, Cert.Reference5Ideal.Read.val_main_v36,
    Cert.Reference5Ideal.Read.val_main_cst_7, Cert.Reference5Ideal.Read.val_main_v37, Cert.Reference5Ideal.Read.val_main_v38,
    Cert.Reference5Ideal.Read.val_main_v39, Cert.Reference5Ideal.Read.val_main_cst_8, Cert.Reference5Ideal.Read.val_main_v40,
    Cert.Reference5Ideal.Read.val_main_cst_9, Cert.Reference5Ideal.Read.val_main_v41, Cert.Reference5Ideal.Read.val_main_v42,
    Cert.Reference5Ideal.Read.val_main_cst_10, Cert.Reference5Ideal.Read.val_main_v43, Cert.Reference5Ideal.Read.val_main_v44,
    Cert.Reference5Ideal.Read.val_main_v45, Cert.Reference5Ideal.Read.val_main_v46, Cert.Reference5Ideal.Read.val_main_v47,
    Cert.Reference5Ideal.Read.val_main_v48, Cert.Reference5Ideal.Read.val_main_v49, Cert.Reference5Ideal.Read.val_main_v50,
    Cert.Reference5Ideal.Read.val_main_v51, Cert.Reference5Ideal.Read.val_main_cst_11, Cert.Reference5Ideal.Read.val_main_v52,
    Cert.Reference5Ideal.Read.val_main_v53, Cert.Reference5Ideal.Read.val_main_v54, Cert.Reference5Ideal.Read.val_main_cst_12,
    Cert.Reference5Ideal.Read.val_main_v55, Cert.Reference5Ideal.Read.val_main_cst_13, Cert.Reference5Ideal.Read.val_main_v56,
    Cert.Reference5Ideal.Read.val_main_v57, Cert.Reference5Ideal.Read.val_main_cst_14, Cert.Reference5Ideal.Read.val_main_v58,
    Cert.Reference5Ideal.Read.val_main_v59, Cert.Reference5Ideal.Read.val_main_v60, Cert.Reference5Ideal.Read.val_main_v61,
    Cert.Reference5Ideal.Read.val_main_v62, Cert.Reference5Ideal.Read.val_main_v63, Cert.Reference5Ideal.Read.val_main_v64,
    Cert.Reference5Ideal.Read.val_main_v65, Cert.Reference5Ideal.Read.val_main_v66, Cert.Reference5Ideal.Read.val_main_v67,
    Cert.Reference5Ideal.Read.val_main_v68, Cert.Reference5Ideal.Read.val_main_v69, Cert.Reference5Ideal.Read.val_main_cst_15,
    Cert.Reference5Ideal.Read.val_main_cst_16, Cert.Reference5Ideal.Read.val_main_cst_17,
    Cert.Reference5Ideal.Read.val_main_cst_18, Cert.Reference5Ideal.Read.val_main_cst_19,
    Cert.Reference5Ideal.Read.val_main_cst_20, Cert.Reference5Ideal.Read.val_main_cst_21,
    Cert.Reference5Ideal.Read.val_main_cst_22, Cert.Reference5Ideal.Read.val_main_cst_23,
    Cert.Reference5Ideal.Read.val_main_cst_24, Cert.Reference5Ideal.Read.val_main_call1_call0_cst,
    Cert.Reference5Ideal.Read.val_main_call1_call0_v0]
  simp only [cum_reference]
  rfl

theorem pooled2 (c : Dev nD) (p : Fin 4096) (q : Fin 256) :
    pooled m c (ix2 p (chan 2 q)) = Cert.Reference5Ideal.Read.val_main_v69 (F := Ideal) (u m c) (ix4 0 p 2 q) := by
  have k : pooled m c (ix2 p (chan 2 q))
      = mean2 m c (ix4 0 p 0 q)
        - u m c (ix2 p (chan 2 q)) := by
    refine (pooled_cases m c p _).trans (congrArg₂ (· - ·) ?_ (congrArg (fun j => u m c (ix2 p j)) (Fin.ext ?_)))
    · have hd := chan_div 2 q
      have e : (2 : Fin 4).val = 2 := rfl
      rw [e] at hd
      rw [dif_neg (by omega)]
      rw [dif_neg (by omega)]
      rw [dif_pos (by omega)]
      exact congrArg (mean2 m c) (congrArg₂ (fun a b => ix4 0 p a b) (Fin.ext (by show (chan 2 q).val / 256 - 1 - 1 = 0; omega)) (Fin.ext (chan_mod 2 q)))
    · show (2 * 256 + q.val) / 256 * 256 + (2 * 256 + q.val) % 256 = 2 * 256 + q.val
      omega
  rw [k, means2]
  symm
  pointwise [Cert.Reference5Ideal.Read.val_main_v0, Cert.Reference5Ideal.Read.val_main_v1,
    Cert.Reference5Ideal.Read.val_main_call0_call0_cst, Cert.Reference5Ideal.Read.val_main_call0_call0_v0,
    Cert.Reference5Ideal.Read.val_main_v3, Cert.Reference5Ideal.Read.val_main_v4, Cert.Reference5Ideal.Read.val_main_v5,
    Cert.Reference5Ideal.Read.val_main_v6, Cert.Reference5Ideal.Read.val_main_cst, Cert.Reference5Ideal.Read.val_main_v7,
    Cert.Reference5Ideal.Read.val_main_v8, Cert.Reference5Ideal.Read.val_main_v9, Cert.Reference5Ideal.Read.val_main_cst_0,
    Cert.Reference5Ideal.Read.val_main_v10, Cert.Reference5Ideal.Read.val_main_cst_1, Cert.Reference5Ideal.Read.val_main_v11,
    Cert.Reference5Ideal.Read.val_main_v12, Cert.Reference5Ideal.Read.val_main_cst_2, Cert.Reference5Ideal.Read.val_main_v13,
    Cert.Reference5Ideal.Read.val_main_v14, Cert.Reference5Ideal.Read.val_main_v15, Cert.Reference5Ideal.Read.val_main_v16,
    Cert.Reference5Ideal.Read.val_main_v17, Cert.Reference5Ideal.Read.val_main_v18, Cert.Reference5Ideal.Read.val_main_v19,
    Cert.Reference5Ideal.Read.val_main_v20, Cert.Reference5Ideal.Read.val_main_v21, Cert.Reference5Ideal.Read.val_main_cst_3,
    Cert.Reference5Ideal.Read.val_main_v22, Cert.Reference5Ideal.Read.val_main_v23, Cert.Reference5Ideal.Read.val_main_v24,
    Cert.Reference5Ideal.Read.val_main_cst_4, Cert.Reference5Ideal.Read.val_main_v25, Cert.Reference5Ideal.Read.val_main_cst_5,
    Cert.Reference5Ideal.Read.val_main_v26, Cert.Reference5Ideal.Read.val_main_v27, Cert.Reference5Ideal.Read.val_main_cst_6,
    Cert.Reference5Ideal.Read.val_main_v28, Cert.Reference5Ideal.Read.val_main_v29, Cert.Reference5Ideal.Read.val_main_v30,
    Cert.Reference5Ideal.Read.val_main_v31, Cert.Reference5Ideal.Read.val_main_v32, Cert.Reference5Ideal.Read.val_main_v33,
    Cert.Reference5Ideal.Read.val_main_v34, Cert.Reference5Ideal.Read.val_main_v35, Cert.Reference5Ideal.Read.val_main_v36,
    Cert.Reference5Ideal.Read.val_main_cst_7, Cert.Reference5Ideal.Read.val_main_v37, Cert.Reference5Ideal.Read.val_main_v38,
    Cert.Reference5Ideal.Read.val_main_v39, Cert.Reference5Ideal.Read.val_main_cst_8, Cert.Reference5Ideal.Read.val_main_v40,
    Cert.Reference5Ideal.Read.val_main_cst_9, Cert.Reference5Ideal.Read.val_main_v41, Cert.Reference5Ideal.Read.val_main_v42,
    Cert.Reference5Ideal.Read.val_main_cst_10, Cert.Reference5Ideal.Read.val_main_v43, Cert.Reference5Ideal.Read.val_main_v44,
    Cert.Reference5Ideal.Read.val_main_v45, Cert.Reference5Ideal.Read.val_main_v46, Cert.Reference5Ideal.Read.val_main_v47,
    Cert.Reference5Ideal.Read.val_main_v48, Cert.Reference5Ideal.Read.val_main_v49, Cert.Reference5Ideal.Read.val_main_v50,
    Cert.Reference5Ideal.Read.val_main_v51, Cert.Reference5Ideal.Read.val_main_cst_11, Cert.Reference5Ideal.Read.val_main_v52,
    Cert.Reference5Ideal.Read.val_main_v53, Cert.Reference5Ideal.Read.val_main_v54, Cert.Reference5Ideal.Read.val_main_cst_12,
    Cert.Reference5Ideal.Read.val_main_v55, Cert.Reference5Ideal.Read.val_main_cst_13, Cert.Reference5Ideal.Read.val_main_v56,
    Cert.Reference5Ideal.Read.val_main_v57, Cert.Reference5Ideal.Read.val_main_cst_14, Cert.Reference5Ideal.Read.val_main_v58,
    Cert.Reference5Ideal.Read.val_main_v59, Cert.Reference5Ideal.Read.val_main_v60, Cert.Reference5Ideal.Read.val_main_v61,
    Cert.Reference5Ideal.Read.val_main_v62, Cert.Reference5Ideal.Read.val_main_v63, Cert.Reference5Ideal.Read.val_main_v64,
    Cert.Reference5Ideal.Read.val_main_v65, Cert.Reference5Ideal.Read.val_main_v66, Cert.Reference5Ideal.Read.val_main_v67,
    Cert.Reference5Ideal.Read.val_main_v68, Cert.Reference5Ideal.Read.val_main_v69, Cert.Reference5Ideal.Read.val_main_cst_15,
    Cert.Reference5Ideal.Read.val_main_cst_16, Cert.Reference5Ideal.Read.val_main_cst_17,
    Cert.Reference5Ideal.Read.val_main_cst_18, Cert.Reference5Ideal.Read.val_main_cst_19,
    Cert.Reference5Ideal.Read.val_main_cst_20, Cert.Reference5Ideal.Read.val_main_cst_21,
    Cert.Reference5Ideal.Read.val_main_cst_22, Cert.Reference5Ideal.Read.val_main_cst_23,
    Cert.Reference5Ideal.Read.val_main_cst_24, Cert.Reference5Ideal.Read.val_main_call1_call0_cst,
    Cert.Reference5Ideal.Read.val_main_call1_call0_v0]
  simp only [cum_reference]
  rfl

theorem pooled3 (c : Dev nD) (p : Fin 4096) (q : Fin 256) :
    pooled m c (ix2 p (chan 3 q)) = Cert.Reference5Ideal.Read.val_main_v69 (F := Ideal) (u m c) (ix4 0 p 3 q) := by
  have k : pooled m c (ix2 p (chan 3 q))
      = mean3 m c (ix4 0 p 0 q)
        - u m c (ix2 p (chan 3 q)) := by
    refine (pooled_cases m c p _).trans (congrArg₂ (· - ·) ?_ (congrArg (fun j => u m c (ix2 p j)) (Fin.ext ?_)))
    · have hd := chan_div 3 q
      have e : (3 : Fin 4).val = 3 := rfl
      rw [e] at hd
      rw [dif_neg (by omega)]
      rw [dif_neg (by omega)]
      rw [dif_neg (by omega)]
      exact congrArg (mean3 m c) (congrArg₂ (fun a b => ix4 0 p a b) (Fin.ext (by show (chan 3 q).val / 256 - 1 - 1 - 1 = 0; omega)) (Fin.ext (chan_mod 3 q)))
    · show (3 * 256 + q.val) / 256 * 256 + (3 * 256 + q.val) % 256 = 3 * 256 + q.val
      omega
  rw [k, means3]
  symm
  pointwise [Cert.Reference5Ideal.Read.val_main_v0, Cert.Reference5Ideal.Read.val_main_v1,
    Cert.Reference5Ideal.Read.val_main_call0_call0_cst, Cert.Reference5Ideal.Read.val_main_call0_call0_v0,
    Cert.Reference5Ideal.Read.val_main_v3, Cert.Reference5Ideal.Read.val_main_v4, Cert.Reference5Ideal.Read.val_main_v5,
    Cert.Reference5Ideal.Read.val_main_v6, Cert.Reference5Ideal.Read.val_main_cst, Cert.Reference5Ideal.Read.val_main_v7,
    Cert.Reference5Ideal.Read.val_main_v8, Cert.Reference5Ideal.Read.val_main_v9, Cert.Reference5Ideal.Read.val_main_cst_0,
    Cert.Reference5Ideal.Read.val_main_v10, Cert.Reference5Ideal.Read.val_main_cst_1, Cert.Reference5Ideal.Read.val_main_v11,
    Cert.Reference5Ideal.Read.val_main_v12, Cert.Reference5Ideal.Read.val_main_cst_2, Cert.Reference5Ideal.Read.val_main_v13,
    Cert.Reference5Ideal.Read.val_main_v14, Cert.Reference5Ideal.Read.val_main_v15, Cert.Reference5Ideal.Read.val_main_v16,
    Cert.Reference5Ideal.Read.val_main_v17, Cert.Reference5Ideal.Read.val_main_v18, Cert.Reference5Ideal.Read.val_main_v19,
    Cert.Reference5Ideal.Read.val_main_v20, Cert.Reference5Ideal.Read.val_main_v21, Cert.Reference5Ideal.Read.val_main_cst_3,
    Cert.Reference5Ideal.Read.val_main_v22, Cert.Reference5Ideal.Read.val_main_v23, Cert.Reference5Ideal.Read.val_main_v24,
    Cert.Reference5Ideal.Read.val_main_cst_4, Cert.Reference5Ideal.Read.val_main_v25, Cert.Reference5Ideal.Read.val_main_cst_5,
    Cert.Reference5Ideal.Read.val_main_v26, Cert.Reference5Ideal.Read.val_main_v27, Cert.Reference5Ideal.Read.val_main_cst_6,
    Cert.Reference5Ideal.Read.val_main_v28, Cert.Reference5Ideal.Read.val_main_v29, Cert.Reference5Ideal.Read.val_main_v30,
    Cert.Reference5Ideal.Read.val_main_v31, Cert.Reference5Ideal.Read.val_main_v32, Cert.Reference5Ideal.Read.val_main_v33,
    Cert.Reference5Ideal.Read.val_main_v34, Cert.Reference5Ideal.Read.val_main_v35, Cert.Reference5Ideal.Read.val_main_v36,
    Cert.Reference5Ideal.Read.val_main_cst_7, Cert.Reference5Ideal.Read.val_main_v37, Cert.Reference5Ideal.Read.val_main_v38,
    Cert.Reference5Ideal.Read.val_main_v39, Cert.Reference5Ideal.Read.val_main_cst_8, Cert.Reference5Ideal.Read.val_main_v40,
    Cert.Reference5Ideal.Read.val_main_cst_9, Cert.Reference5Ideal.Read.val_main_v41, Cert.Reference5Ideal.Read.val_main_v42,
    Cert.Reference5Ideal.Read.val_main_cst_10, Cert.Reference5Ideal.Read.val_main_v43, Cert.Reference5Ideal.Read.val_main_v44,
    Cert.Reference5Ideal.Read.val_main_v45, Cert.Reference5Ideal.Read.val_main_v46, Cert.Reference5Ideal.Read.val_main_v47,
    Cert.Reference5Ideal.Read.val_main_v48, Cert.Reference5Ideal.Read.val_main_v49, Cert.Reference5Ideal.Read.val_main_v50,
    Cert.Reference5Ideal.Read.val_main_v51, Cert.Reference5Ideal.Read.val_main_cst_11, Cert.Reference5Ideal.Read.val_main_v52,
    Cert.Reference5Ideal.Read.val_main_v53, Cert.Reference5Ideal.Read.val_main_v54, Cert.Reference5Ideal.Read.val_main_cst_12,
    Cert.Reference5Ideal.Read.val_main_v55, Cert.Reference5Ideal.Read.val_main_cst_13, Cert.Reference5Ideal.Read.val_main_v56,
    Cert.Reference5Ideal.Read.val_main_v57, Cert.Reference5Ideal.Read.val_main_cst_14, Cert.Reference5Ideal.Read.val_main_v58,
    Cert.Reference5Ideal.Read.val_main_v59, Cert.Reference5Ideal.Read.val_main_v60, Cert.Reference5Ideal.Read.val_main_v61,
    Cert.Reference5Ideal.Read.val_main_v62, Cert.Reference5Ideal.Read.val_main_v63, Cert.Reference5Ideal.Read.val_main_v64,
    Cert.Reference5Ideal.Read.val_main_v65, Cert.Reference5Ideal.Read.val_main_v66, Cert.Reference5Ideal.Read.val_main_v67,
    Cert.Reference5Ideal.Read.val_main_v68, Cert.Reference5Ideal.Read.val_main_v69, Cert.Reference5Ideal.Read.val_main_cst_15,
    Cert.Reference5Ideal.Read.val_main_cst_16, Cert.Reference5Ideal.Read.val_main_cst_17,
    Cert.Reference5Ideal.Read.val_main_cst_18, Cert.Reference5Ideal.Read.val_main_cst_19,
    Cert.Reference5Ideal.Read.val_main_cst_20, Cert.Reference5Ideal.Read.val_main_cst_21,
    Cert.Reference5Ideal.Read.val_main_cst_22, Cert.Reference5Ideal.Read.val_main_cst_23,
    Cert.Reference5Ideal.Read.val_main_cst_24, Cert.Reference5Ideal.Read.val_main_call1_call0_cst,
    Cert.Reference5Ideal.Read.val_main_call1_call0_v0]
  simp only [cum_reference]
  rfl

/-- The pooled rows that the kernel takes are the reference's. -/
theorem pooled_reference (c : Dev nD) (p : Fin 4096) (g : Fin 4) (q : Fin 256) :
    pooled m c (ix2 p (chan g q)) = Cert.Reference5Ideal.Read.val_main_v69 (F := Ideal) (u m c) (ix4 0 p g q) := by
  match g with
  | 0 => exact pooled0 m c p q
  | 1 => exact pooled1 m c p q
  | 2 => exact pooled2 m c p q
  | 3 => exact pooled3 m c p q

end Cert.Kernel5Ideal.Pool
-- ==== Proof.PoolClaim.lean ====
/-
  The gradient of the pooling mixer: the kernel's four results are the mixer differentiated.
-/
module

public import proofs.«01_k».proof.Proof.PoolHost
public import proofs.«01_k».proof.Proof.ActClaim
public import proofs.«01_k».proof.Proof.Gen.Pre_finite5
public import proofs.«01_k».proof.Defs

@[expose] public section

set_option maxRecDepth 16384

noncomputable section

open Idealize.ShloMosaic Idealize.ShloMosaic.TcCoe Idealize.SL.Sem

namespace Cert.Reference5Ideal.Pool

open Cert.Reference5Ideal Cert.Window Cert.Finite

variable (x0 x1 : S4096x1024.Idx → EReal) (x2 : S4x256x256.Idx → EReal) (x3 : S1x1024.Idx → EReal) (x4 : S4096x1024.Idx → EReal)

/-- Channel `q` of group `g`. -/
def chan (g : Fin 4) (q : Fin 256) : Fin 1024 := ⟨g.val * 256 + q.val, by omega⟩

/-- The gradient of the pooled rows. -/
def back (g : Fin 4) (p : Fin 4096) (q : Fin 256) : EReal := ∑ k, x0 (ix2 p (chan g k)) * x3 (ix2 0 (chan g k)) * x2 (ix3 g q k)

theorem back_at (p : Fin 4096) (g : Fin 4) (q : Fin 256) :
    Read.val_main_v87 (F := Ideal) x0 x2 x3 (ix4 0 p g q) = back x0 x2 x3 g p q := by
  pointwise [Read.val_main_call0_call0_cst, Read.val_main_call0_call0_v0, Read.val_main_cst, Read.val_main_cst_0,
    Read.val_main_cst_1, Read.val_main_cst_2, Read.val_main_cst_3, Read.val_main_cst_4, Read.val_main_cst_5, Read.val_main_cst_6,
    Read.val_main_cst_7, Read.val_main_cst_8, Read.val_main_cst_9, Read.val_main_cst_10, Read.val_main_cst_11,
    Read.val_main_cst_12, Read.val_main_cst_13, Read.val_main_cst_14, Read.val_main_v70, Read.val_main_v71, Read.val_main_v72,
    Read.val_main_v73, Read.val_main_v74, Read.val_main_v75, Read.val_main_v76, Read.val_main_v77, Read.val_main_cst_15,
    Read.val_main_v78, Read.val_main_v79, Read.val_main_v80, Read.val_main_v81, Read.val_main_cst_16, Read.val_main_v82,
    Read.val_main_v83, Read.val_main_v84, Read.val_main_v85, Read.val_main_v86, Read.val_main_v87, Read.val_main_cst_17,
    Read.val_main_cst_18, Read.val_main_cst_19, Read.val_main_cst_20, Read.val_main_cst_21, Read.val_main_cst_22,
    Read.val_main_cst_23, Read.val_main_cst_24, Read.val_main_call1_call0_cst, Read.val_main_call1_call0_v0]
  rfl

/-- A row's gradient over the number of rows in its window. -/
def each (g : Fin 4) (q : Fin 256) (p : Fin 4096) : EReal := Ideal.div (back x0 x2 x3 g p q) (min (((p.val : ℝ) : EReal) + 1) (width g))

theorem apart0 (p : Fin 4096) (q : Fin 256) :
    Read.val_main_v137 (F := Ideal) x0 x2 x3 (ix4 0 p 0 q)
      = each x0 x2 x3 0 q p + if h : 2 + p.val < 4096 then -each x0 x2 x3 0 q ⟨2 + p.val, h⟩ else 0 := by
  pointwise [Read.val_main_v0, Read.val_main_v1, Read.val_main_call0_call0_cst, Read.val_main_call0_call0_v0, Read.val_main_v3,
    Read.val_main_v4, Read.val_main_v5, Read.val_main_v6, Read.val_main_cst, Read.val_main_v7, Read.val_main_v8, Read.val_main_v9,
    Read.val_main_cst_0, Read.val_main_v10, Read.val_main_cst_1, Read.val_main_v11, Read.val_main_v12, Read.val_main_cst_2,
    Read.val_main_v13, Read.val_main_v14, Read.val_main_v15, Read.val_main_v16, Read.val_main_v17, Read.val_main_v18,
    Read.val_main_v19, Read.val_main_v20, Read.val_main_v21, Read.val_main_cst_3, Read.val_main_v22, Read.val_main_v23,
    Read.val_main_v24, Read.val_main_cst_4, Read.val_main_v25, Read.val_main_cst_5, Read.val_main_v26, Read.val_main_v27,
    Read.val_main_cst_6, Read.val_main_v28, Read.val_main_v29, Read.val_main_v30, Read.val_main_v31, Read.val_main_v32,
    Read.val_main_v33, Read.val_main_v34, Read.val_main_v35, Read.val_main_v36, Read.val_main_cst_7, Read.val_main_v37,
    Read.val_main_v38, Read.val_main_v39, Read.val_main_cst_8, Read.val_main_v40, Read.val_main_cst_9, Read.val_main_v41,
    Read.val_main_v42, Read.val_main_cst_10, Read.val_main_v43, Read.val_main_v44, Read.val_main_v45, Read.val_main_v46,
    Read.val_main_v47, Read.val_main_v48, Read.val_main_v49, Read.val_main_v50, Read.val_main_v51, Read.val_main_cst_11,
    Read.val_main_v52, Read.val_main_v53, Read.val_main_v54, Read.val_main_cst_12, Read.val_main_v55, Read.val_main_cst_13,
    Read.val_main_v56, Read.val_main_v57, Read.val_main_cst_14, Read.val_main_v58, Read.val_main_v59, Read.val_main_v60,
    Read.val_main_v61, Read.val_main_v62, Read.val_main_v63, Read.val_main_v64, Read.val_main_v65, Read.val_main_v66,
    Read.val_main_v67, Read.val_main_v68, Read.val_main_v70, Read.val_main_v71, Read.val_main_v72, Read.val_main_v73,
    Read.val_main_v74, Read.val_main_v75, Read.val_main_v76, Read.val_main_v77, Read.val_main_cst_15, Read.val_main_v78,
    Read.val_main_v79, Read.val_main_v80, Read.val_main_v81, Read.val_main_cst_16, Read.val_main_v82, Read.val_main_v83,
    Read.val_main_v84, Read.val_main_v85, Read.val_main_v86, Read.val_main_v88, Read.val_main_v89, Read.val_main_v90,
    Read.val_main_v91, Read.val_main_v92, Read.val_main_v93, Read.val_main_v94, Read.val_main_v95, Read.val_main_v96,
    Read.val_main_v97, Read.val_main_v98, Read.val_main_v99, Read.val_main_v100, Read.val_main_v101, Read.val_main_v102,
    Read.val_main_v103, Read.val_main_cst_17, Read.val_main_v104, Read.val_main_v105, Read.val_main_v106, Read.val_main_cst_18,
    Read.val_main_v107, Read.val_main_v108, Read.val_main_v109, Read.val_main_v110, Read.val_main_v111, Read.val_main_v112,
    Read.val_main_cst_19, Read.val_main_v113, Read.val_main_v114, Read.val_main_v115, Read.val_main_cst_20, Read.val_main_v116,
    Read.val_main_v117, Read.val_main_v118, Read.val_main_v119, Read.val_main_v120, Read.val_main_v121, Read.val_main_v122,
    Read.val_main_cst_21, Read.val_main_v123, Read.val_main_v124, Read.val_main_v125, Read.val_main_cst_22, Read.val_main_v126,
    Read.val_main_v127, Read.val_main_v128, Read.val_main_v129, Read.val_main_v130, Read.val_main_v131, Read.val_main_v132,
    Read.val_main_cst_23, Read.val_main_v133, Read.val_main_v134, Read.val_main_v135, Read.val_main_cst_24, Read.val_main_v136,
    Read.val_main_v137, Read.val_main_call1_call0_cst, Read.val_main_call1_call0_v0]
  rw [row_number p.val p.isLt, back_at]
  refine congrArg₂ (· + ·) rfl ?_
  by_cases h : p.val < 4094
  · rw [dif_pos h, dif_pos (show 2 + p.val < 4096 by omega), row_number _ (by omega), back_at]
    rfl
  · rw [dif_neg h, dif_neg (by omega)]

theorem apart1 (p : Fin 4096) (q : Fin 256) :
    Read.val_main_v137 (F := Ideal) x0 x2 x3 (ix4 0 p 1 q)
      = each x0 x2 x3 1 q p + if h : 4 + p.val < 4096 then -each x0 x2 x3 1 q ⟨4 + p.val, h⟩ else 0 := by
  pointwise [Read.val_main_v0, Read.val_main_v1, Read.val_main_call0_call0_cst, Read.val_main_call0_call0_v0, Read.val_main_v3,
    Read.val_main_v4, Read.val_main_v5, Read.val_main_v6, Read.val_main_cst, Read.val_main_v7, Read.val_main_v8, Read.val_main_v9,
    Read.val_main_cst_0, Read.val_main_v10, Read.val_main_cst_1, Read.val_main_v11, Read.val_main_v12, Read.val_main_cst_2,
    Read.val_main_v13, Read.val_main_v14, Read.val_main_v15, Read.val_main_v16, Read.val_main_v17, Read.val_main_v18,
    Read.val_main_v19, Read.val_main_v20, Read.val_main_v21, Read.val_main_cst_3, Read.val_main_v22, Read.val_main_v23,
    Read.val_main_v24, Read.val_main_cst_4, Read.val_main_v25, Read.val_main_cst_5, Read.val_main_v26, Read.val_main_v27,
    Read.val_main_cst_6, Read.val_main_v28, Read.val_main_v29, Read.val_main_v30, Read.val_main_v31, Read.val_main_v32,
    Read.val_main_v33, Read.val_main_v34, Read.val_main_v35, Read.val_main_v36, Read.val_main_cst_7, Read.val_main_v37,
    Read.val_main_v38, Read.val_main_v39, Read.val_main_cst_8, Read.val_main_v40, Read.val_main_cst_9, Read.val_main_v41,
    Read.val_main_v42, Read.val_main_cst_10, Read.val_main_v43, Read.val_main_v44, Read.val_main_v45, Read.val_main_v46,
    Read.val_main_v47, Read.val_main_v48, Read.val_main_v49, Read.val_main_v50, Read.val_main_v51, Read.val_main_cst_11,
    Read.val_main_v52, Read.val_main_v53, Read.val_main_v54, Read.val_main_cst_12, Read.val_main_v55, Read.val_main_cst_13,
    Read.val_main_v56, Read.val_main_v57, Read.val_main_cst_14, Read.val_main_v58, Read.val_main_v59, Read.val_main_v60,
    Read.val_main_v61, Read.val_main_v62, Read.val_main_v63, Read.val_main_v64, Read.val_main_v65, Read.val_main_v66,
    Read.val_main_v67, Read.val_main_v68, Read.val_main_v70, Read.val_main_v71, Read.val_main_v72, Read.val_main_v73,
    Read.val_main_v74, Read.val_main_v75, Read.val_main_v76, Read.val_main_v77, Read.val_main_cst_15, Read.val_main_v78,
    Read.val_main_v79, Read.val_main_v80, Read.val_main_v81, Read.val_main_cst_16, Read.val_main_v82, Read.val_main_v83,
    Read.val_main_v84, Read.val_main_v85, Read.val_main_v86, Read.val_main_v88, Read.val_main_v89, Read.val_main_v90,
    Read.val_main_v91, Read.val_main_v92, Read.val_main_v93, Read.val_main_v94, Read.val_main_v95, Read.val_main_v96,
    Read.val_main_v97, Read.val_main_v98, Read.val_main_v99, Read.val_main_v100, Read.val_main_v101, Read.val_main_v102,
    Read.val_main_v103, Read.val_main_cst_17, Read.val_main_v104, Read.val_main_v105, Read.val_main_v106, Read.val_main_cst_18,
    Read.val_main_v107, Read.val_main_v108, Read.val_main_v109, Read.val_main_v110, Read.val_main_v111, Read.val_main_v112,
    Read.val_main_cst_19, Read.val_main_v113, Read.val_main_v114, Read.val_main_v115, Read.val_main_cst_20, Read.val_main_v116,
    Read.val_main_v117, Read.val_main_v118, Read.val_main_v119, Read.val_main_v120, Read.val_main_v121, Read.val_main_v122,
    Read.val_main_cst_21, Read.val_main_v123, Read.val_main_v124, Read.val_main_v125, Read.val_main_cst_22, Read.val_main_v126,
    Read.val_main_v127, Read.val_main_v128, Read.val_main_v129, Read.val_main_v130, Read.val_main_v131, Read.val_main_v132,
    Read.val_main_cst_23, Read.val_main_v133, Read.val_main_v134, Read.val_main_v135, Read.val_main_cst_24, Read.val_main_v136,
    Read.val_main_v137, Read.val_main_call1_call0_cst, Read.val_main_call1_call0_v0]
  rw [row_number p.val p.isLt, back_at]
  refine congrArg₂ (· + ·) rfl ?_
  by_cases h : p.val < 4092
  · rw [dif_pos h, dif_pos (show 4 + p.val < 4096 by omega), row_number _ (by omega), back_at]
    rfl
  · rw [dif_neg h, dif_neg (by omega)]

theorem apart2 (p : Fin 4096) (q : Fin 256) :
    Read.val_main_v137 (F := Ideal) x0 x2 x3 (ix4 0 p 2 q)
      = each x0 x2 x3 2 q p + if h : 8 + p.val < 4096 then -each x0 x2 x3 2 q ⟨8 + p.val, h⟩ else 0 := by
  pointwise [Read.val_main_v0, Read.val_main_v1, Read.val_main_call0_call0_cst, Read.val_main_call0_call0_v0, Read.val_main_v3,
    Read.val_main_v4, Read.val_main_v5, Read.val_main_v6, Read.val_main_cst, Read.val_main_v7, Read.val_main_v8, Read.val_main_v9,
    Read.val_main_cst_0, Read.val_main_v10, Read.val_main_cst_1, Read.val_main_v11, Read.val_main_v12, Read.val_main_cst_2,
    Read.val_main_v13, Read.val_main_v14, Read.val_main_v15, Read.val_main_v16, Read.val_main_v17, Read.val_main_v18,
    Read.val_main_v19, Read.val_main_v20, Read.val_main_v21, Read.val_main_cst_3, Read.val_main_v22, Read.val_main_v23,
    Read.val_main_v24, Read.val_main_cst_4, Read.val_main_v25, Read.val_main_cst_5, Read.val_main_v26, Read.val_main_v27,
    Read.val_main_cst_6, Read.val_main_v28, Read.val_main_v29, Read.val_main_v30, Read.val_main_v31, Read.val_main_v32,
    Read.val_main_v33, Read.val_main_v34, Read.val_main_v35, Read.val_main_v36, Read.val_main_cst_7, Read.val_main_v37,
    Read.val_main_v38, Read.val_main_v39, Read.val_main_cst_8, Read.val_main_v40, Read.val_main_cst_9, Read.val_main_v41,
    Read.val_main_v42, Read.val_main_cst_10, Read.val_main_v43, Read.val_main_v44, Read.val_main_v45, Read.val_main_v46,
    Read.val_main_v47, Read.val_main_v48, Read.val_main_v49, Read.val_main_v50, Read.val_main_v51, Read.val_main_cst_11,
    Read.val_main_v52, Read.val_main_v53, Read.val_main_v54, Read.val_main_cst_12, Read.val_main_v55, Read.val_main_cst_13,
    Read.val_main_v56, Read.val_main_v57, Read.val_main_cst_14, Read.val_main_v58, Read.val_main_v59, Read.val_main_v60,
    Read.val_main_v61, Read.val_main_v62, Read.val_main_v63, Read.val_main_v64, Read.val_main_v65, Read.val_main_v66,
    Read.val_main_v67, Read.val_main_v68, Read.val_main_v70, Read.val_main_v71, Read.val_main_v72, Read.val_main_v73,
    Read.val_main_v74, Read.val_main_v75, Read.val_main_v76, Read.val_main_v77, Read.val_main_cst_15, Read.val_main_v78,
    Read.val_main_v79, Read.val_main_v80, Read.val_main_v81, Read.val_main_cst_16, Read.val_main_v82, Read.val_main_v83,
    Read.val_main_v84, Read.val_main_v85, Read.val_main_v86, Read.val_main_v88, Read.val_main_v89, Read.val_main_v90,
    Read.val_main_v91, Read.val_main_v92, Read.val_main_v93, Read.val_main_v94, Read.val_main_v95, Read.val_main_v96,
    Read.val_main_v97, Read.val_main_v98, Read.val_main_v99, Read.val_main_v100, Read.val_main_v101, Read.val_main_v102,
    Read.val_main_v103, Read.val_main_cst_17, Read.val_main_v104, Read.val_main_v105, Read.val_main_v106, Read.val_main_cst_18,
    Read.val_main_v107, Read.val_main_v108, Read.val_main_v109, Read.val_main_v110, Read.val_main_v111, Read.val_main_v112,
    Read.val_main_cst_19, Read.val_main_v113, Read.val_main_v114, Read.val_main_v115, Read.val_main_cst_20, Read.val_main_v116,
    Read.val_main_v117, Read.val_main_v118, Read.val_main_v119, Read.val_main_v120, Read.val_main_v121, Read.val_main_v122,
    Read.val_main_cst_21, Read.val_main_v123, Read.val_main_v124, Read.val_main_v125, Read.val_main_cst_22, Read.val_main_v126,
    Read.val_main_v127, Read.val_main_v128, Read.val_main_v129, Read.val_main_v130, Read.val_main_v131, Read.val_main_v132,
    Read.val_main_cst_23, Read.val_main_v133, Read.val_main_v134, Read.val_main_v135, Read.val_main_cst_24, Read.val_main_v136,
    Read.val_main_v137, Read.val_main_call1_call0_cst, Read.val_main_call1_call0_v0]
  rw [row_number p.val p.isLt, back_at]
  refine congrArg₂ (· + ·) rfl ?_
  by_cases h : p.val < 4088
  · rw [dif_pos h, dif_pos (show 8 + p.val < 4096 by omega), row_number _ (by omega), back_at]
    rfl
  · rw [dif_neg h, dif_neg (by omega)]

theorem apart3 (p : Fin 4096) (q : Fin 256) :
    Read.val_main_v137 (F := Ideal) x0 x2 x3 (ix4 0 p 3 q)
      = each x0 x2 x3 3 q p + if h : 16 + p.val < 4096 then -each x0 x2 x3 3 q ⟨16 + p.val, h⟩ else 0 := by
  pointwise [Read.val_main_v0, Read.val_main_v1, Read.val_main_call0_call0_cst, Read.val_main_call0_call0_v0, Read.val_main_v3,
    Read.val_main_v4, Read.val_main_v5, Read.val_main_v6, Read.val_main_cst, Read.val_main_v7, Read.val_main_v8, Read.val_main_v9,
    Read.val_main_cst_0, Read.val_main_v10, Read.val_main_cst_1, Read.val_main_v11, Read.val_main_v12, Read.val_main_cst_2,
    Read.val_main_v13, Read.val_main_v14, Read.val_main_v15, Read.val_main_v16, Read.val_main_v17, Read.val_main_v18,
    Read.val_main_v19, Read.val_main_v20, Read.val_main_v21, Read.val_main_cst_3, Read.val_main_v22, Read.val_main_v23,
    Read.val_main_v24, Read.val_main_cst_4, Read.val_main_v25, Read.val_main_cst_5, Read.val_main_v26, Read.val_main_v27,
    Read.val_main_cst_6, Read.val_main_v28, Read.val_main_v29, Read.val_main_v30, Read.val_main_v31, Read.val_main_v32,
    Read.val_main_v33, Read.val_main_v34, Read.val_main_v35, Read.val_main_v36, Read.val_main_cst_7, Read.val_main_v37,
    Read.val_main_v38, Read.val_main_v39, Read.val_main_cst_8, Read.val_main_v40, Read.val_main_cst_9, Read.val_main_v41,
    Read.val_main_v42, Read.val_main_cst_10, Read.val_main_v43, Read.val_main_v44, Read.val_main_v45, Read.val_main_v46,
    Read.val_main_v47, Read.val_main_v48, Read.val_main_v49, Read.val_main_v50, Read.val_main_v51, Read.val_main_cst_11,
    Read.val_main_v52, Read.val_main_v53, Read.val_main_v54, Read.val_main_cst_12, Read.val_main_v55, Read.val_main_cst_13,
    Read.val_main_v56, Read.val_main_v57, Read.val_main_cst_14, Read.val_main_v58, Read.val_main_v59, Read.val_main_v60,
    Read.val_main_v61, Read.val_main_v62, Read.val_main_v63, Read.val_main_v64, Read.val_main_v65, Read.val_main_v66,
    Read.val_main_v67, Read.val_main_v68, Read.val_main_v70, Read.val_main_v71, Read.val_main_v72, Read.val_main_v73,
    Read.val_main_v74, Read.val_main_v75, Read.val_main_v76, Read.val_main_v77, Read.val_main_cst_15, Read.val_main_v78,
    Read.val_main_v79, Read.val_main_v80, Read.val_main_v81, Read.val_main_cst_16, Read.val_main_v82, Read.val_main_v83,
    Read.val_main_v84, Read.val_main_v85, Read.val_main_v86, Read.val_main_v88, Read.val_main_v89, Read.val_main_v90,
    Read.val_main_v91, Read.val_main_v92, Read.val_main_v93, Read.val_main_v94, Read.val_main_v95, Read.val_main_v96,
    Read.val_main_v97, Read.val_main_v98, Read.val_main_v99, Read.val_main_v100, Read.val_main_v101, Read.val_main_v102,
    Read.val_main_v103, Read.val_main_cst_17, Read.val_main_v104, Read.val_main_v105, Read.val_main_v106, Read.val_main_cst_18,
    Read.val_main_v107, Read.val_main_v108, Read.val_main_v109, Read.val_main_v110, Read.val_main_v111, Read.val_main_v112,
    Read.val_main_cst_19, Read.val_main_v113, Read.val_main_v114, Read.val_main_v115, Read.val_main_cst_20, Read.val_main_v116,
    Read.val_main_v117, Read.val_main_v118, Read.val_main_v119, Read.val_main_v120, Read.val_main_v121, Read.val_main_v122,
    Read.val_main_cst_21, Read.val_main_v123, Read.val_main_v124, Read.val_main_v125, Read.val_main_cst_22, Read.val_main_v126,
    Read.val_main_v127, Read.val_main_v128, Read.val_main_v129, Read.val_main_v130, Read.val_main_v131, Read.val_main_v132,
    Read.val_main_cst_23, Read.val_main_v133, Read.val_main_v134, Read.val_main_v135, Read.val_main_cst_24, Read.val_main_v136,
    Read.val_main_v137, Read.val_main_call1_call0_cst, Read.val_main_call1_call0_v0]
  rw [row_number p.val p.isLt, back_at]
  refine congrArg₂ (· + ·) rfl ?_
  by_cases h : p.val < 4080
  · rw [dif_pos h, dif_pos (show 16 + p.val < 4096 by omega), row_number _ (by omega), back_at]
    rfl
  · rw [dif_neg h, dif_neg (by omega)]

theorem isReal_back (h0 : ∀ i, IsReal (x0 i)) (h2 : ∀ i, IsReal (x2 i)) (h3 : ∀ i, IsReal (x3 i)) (g : Fin 4) (p : Fin 4096) (q : Fin 256) :
    IsReal (back x0 x2 x3 g p q) := IsReal.sum fun k => ((h0 _).mul (h3 _)).mul (h2 _)

theorem start (i : S_.Idx) : Read.val_main_call1_call0_v0 (F := Ideal) i = (0 : EReal) := Ideal.ofBits_zero_f32

/-- The running sum from the end is the sum of the rows from a row on. -/
theorem from_row (p : Fin 4096) (g : Fin 4) (q : Fin 256) :
    Read.val_main_v138 (F := Ideal) x0 x2 x3 (ix4 0 p g q)
      = ∑ k ∈ Finset.range 4096, past (fun r => Read.val_main_v137 (F := Ideal) x0 x2 x3 (ix4 0 r g q)) (p.val + k) := by
  unfold Read.val_main_v138
  exact running_host _ _ _ _ (start _) p g q

theorem window0 (h0 : ∀ i, IsReal (x0 i)) (h2 : ∀ i, IsReal (x2 i)) (h3 : ∀ i, IsReal (x3 i)) (p : Fin 4096) (q : Fin 256) :
    Read.val_main_v138 (F := Ideal) x0 x2 x3 (ix4 0 p 0 q)
      = ∑ k ∈ Finset.range 2, past (each x0 x2 x3 0 q) (p.val + k) := by
  rw [from_row]
  exact telescope (fun r => isReal_div (isReal_back x0 x2 x3 h0 h2 h3 0 r q) (count_pos 0 r.val)) 2
    (fun r => apart0 x0 x2 x3 r q) p.val

theorem window1 (h0 : ∀ i, IsReal (x0 i)) (h2 : ∀ i, IsReal (x2 i)) (h3 : ∀ i, IsReal (x3 i)) (p : Fin 4096) (q : Fin 256) :
    Read.val_main_v138 (F := Ideal) x0 x2 x3 (ix4 0 p 1 q)
      = ∑ k ∈ Finset.range 4, past (each x0 x2 x3 1 q) (p.val + k) := by
  rw [from_row]
  exact telescope (fun r => isReal_div (isReal_back x0 x2 x3 h0 h2 h3 1 r q) (count_pos 1 r.val)) 4
    (fun r => apart1 x0 x2 x3 r q) p.val

theorem window2 (h0 : ∀ i, IsReal (x0 i)) (h2 : ∀ i, IsReal (x2 i)) (h3 : ∀ i, IsReal (x3 i)) (p : Fin 4096) (q : Fin 256) :
    Read.val_main_v138 (F := Ideal) x0 x2 x3 (ix4 0 p 2 q)
      = ∑ k ∈ Finset.range 8, past (each x0 x2 x3 2 q) (p.val + k) := by
  rw [from_row]
  exact telescope (fun r => isReal_div (isReal_back x0 x2 x3 h0 h2 h3 2 r q) (count_pos 2 r.val)) 8
    (fun r => apart2 x0 x2 x3 r q) p.val

theorem window3 (h0 : ∀ i, IsReal (x0 i)) (h2 : ∀ i, IsReal (x2 i)) (h3 : ∀ i, IsReal (x3 i)) (p : Fin 4096) (q : Fin 256) :
    Read.val_main_v138 (F := Ideal) x0 x2 x3 (ix4 0 p 3 q)
      = ∑ k ∈ Finset.range 16, past (each x0 x2 x3 3 q) (p.val + k) := by
  rw [from_row]
  exact telescope (fun r => isReal_div (isReal_back x0 x2 x3 h0 h2 h3 3 r q) (count_pos 3 r.val)) 16
    (fun r => apart3 x0 x2 x3 r q) p.val

/-- The running sum from the end: what is left of it is the sum over the window. -/
theorem window (h0 : ∀ i, IsReal (x0 i)) (h2 : ∀ i, IsReal (x2 i)) (h3 : ∀ i, IsReal (x3 i)) (p : Fin 4096) (g : Fin 4) (q : Fin 256) :
    Read.val_main_v138 (F := Ideal) x0 x2 x3 (ix4 0 p g q)
      = ∑ k ∈ Finset.range (2 * 2 ^ g.val), past (each x0 x2 x3 g q) (p.val + k) := by
  match g with
  | 0 => exact window0 x0 x2 x3 h0 h2 h3 p q
  | 1 => exact window1 x0 x2 x3 h0 h2 h3 p q
  | 2 => exact window2 x0 x2 x3 h0 h2 h3 p q
  | 3 => exact window3 x0 x2 x3 h0 h2 h3 p q

/-- The gradient of the mixer's rows. -/
theorem rows (p : Fin 4096) (q : Fin 1024) :
    Read.val_main_v142 (F := Ideal) x0 x2 x3 (ix2 p q)
      = -back x0 x2 x3 ⟨q.val / 256, by omega⟩ p ⟨q.val % 256, by omega⟩
        + Read.val_main_v138 (F := Ideal) x0 x2 x3 (ix4 0 p ⟨q.val / 256, by omega⟩ ⟨q.val % 256, by omega⟩) := by
  pointwise [Read.val_main_call0_call0_cst, Read.val_main_call0_call0_v0, Read.val_main_cst, Read.val_main_cst_0,
    Read.val_main_cst_1, Read.val_main_cst_2, Read.val_main_cst_3, Read.val_main_cst_4, Read.val_main_cst_5, Read.val_main_cst_6,
    Read.val_main_cst_7, Read.val_main_cst_8, Read.val_main_cst_9, Read.val_main_cst_10, Read.val_main_cst_11,
    Read.val_main_cst_12, Read.val_main_cst_13, Read.val_main_cst_14, Read.val_main_cst_15, Read.val_main_cst_16,
    Read.val_main_v88, Read.val_main_v89, Read.val_main_v90, Read.val_main_v91, Read.val_main_v92, Read.val_main_v93,
    Read.val_main_v94, Read.val_main_v95, Read.val_main_v96, Read.val_main_v97, Read.val_main_v98, Read.val_main_v99,
    Read.val_main_v100, Read.val_main_v101, Read.val_main_v102, Read.val_main_v103, Read.val_main_cst_17, Read.val_main_v104,
    Read.val_main_v105, Read.val_main_v106, Read.val_main_cst_18, Read.val_main_v107, Read.val_main_v108, Read.val_main_v109,
    Read.val_main_v110, Read.val_main_v111, Read.val_main_v112, Read.val_main_cst_19, Read.val_main_v113, Read.val_main_v114,
    Read.val_main_v115, Read.val_main_cst_20, Read.val_main_v116, Read.val_main_v117, Read.val_main_v118, Read.val_main_v119,
    Read.val_main_v120, Read.val_main_v121, Read.val_main_v122, Read.val_main_cst_21, Read.val_main_v123, Read.val_main_v124,
    Read.val_main_v125, Read.val_main_cst_22, Read.val_main_v126, Read.val_main_v127, Read.val_main_v128, Read.val_main_v129,
    Read.val_main_v130, Read.val_main_v131, Read.val_main_v132, Read.val_main_cst_23, Read.val_main_v133, Read.val_main_v134,
    Read.val_main_v135, Read.val_main_cst_24, Read.val_main_v136, Read.val_main_v137, Read.val_main_call1_call0_cst,
    Read.val_main_call1_call0_v0, Read.val_main_v139, Read.val_main_v140, Read.val_main_v141, Read.val_main_v142]
  rw [back_at]

/-- The gradient of the input projection's weights. -/
theorem input (p q : Fin 1024) :
    Read.val_main_v145 (F := Ideal) x0 x2 x3 x4 (ix2 p q)
      = ∑ k, (-back x0 x2 x3 ⟨p.val / 256, by omega⟩ k ⟨p.val % 256, by omega⟩
        + Read.val_main_v138 (F := Ideal) x0 x2 x3 (ix4 0 k ⟨p.val / 256, by omega⟩ ⟨p.val % 256, by omega⟩)) * x4 (ix2 k q) := by
  pointwise [Read.val_main_call0_call0_cst, Read.val_main_call0_call0_v0, Read.val_main_cst, Read.val_main_cst_0,
    Read.val_main_cst_1, Read.val_main_cst_2, Read.val_main_cst_3, Read.val_main_cst_4, Read.val_main_cst_5, Read.val_main_cst_6,
    Read.val_main_cst_7, Read.val_main_cst_8, Read.val_main_cst_9, Read.val_main_cst_10, Read.val_main_cst_11,
    Read.val_main_cst_12, Read.val_main_cst_13, Read.val_main_cst_14, Read.val_main_cst_15, Read.val_main_cst_16,
    Read.val_main_v88, Read.val_main_v89, Read.val_main_v90, Read.val_main_v91, Read.val_main_v92, Read.val_main_v93,
    Read.val_main_v94, Read.val_main_v95, Read.val_main_v96, Read.val_main_v97, Read.val_main_v98, Read.val_main_v99,
    Read.val_main_v100, Read.val_main_v101, Read.val_main_v102, Read.val_main_v103, Read.val_main_cst_17, Read.val_main_v104,
    Read.val_main_v105, Read.val_main_v106, Read.val_main_cst_18, Read.val_main_v107, Read.val_main_v108, Read.val_main_v109,
    Read.val_main_v110, Read.val_main_v111, Read.val_main_v112, Read.val_main_cst_19, Read.val_main_v113, Read.val_main_v114,
    Read.val_main_v115, Read.val_main_cst_20, Read.val_main_v116, Read.val_main_v117, Read.val_main_v118, Read.val_main_v119,
    Read.val_main_v120, Read.val_main_v121, Read.val_main_v122, Read.val_main_cst_21, Read.val_main_v123, Read.val_main_v124,
    Read.val_main_v125, Read.val_main_cst_22, Read.val_main_v126, Read.val_main_v127, Read.val_main_v128, Read.val_main_v129,
    Read.val_main_v130, Read.val_main_v131, Read.val_main_v132, Read.val_main_cst_23, Read.val_main_v133, Read.val_main_v134,
    Read.val_main_v135, Read.val_main_cst_24, Read.val_main_v136, Read.val_main_v137, Read.val_main_call1_call0_cst,
    Read.val_main_call1_call0_v0, Read.val_main_v139, Read.val_main_v140, Read.val_main_v141, Read.val_main_v142,
    Read.val_main_v143, Read.val_main_v144, Read.val_main_v145]
  simp only [back_at]

/-- The gradient of the groups' weights. -/
theorem weights (g : Fin 4) (p q : Fin 256) :
    Read.val_main_v89 (F := Ideal) x0 x1 x3 (ix3 g p q)
      = ∑ k, x0 (ix2 k (chan g q)) * x3 (ix2 0 (chan g q)) * Read.val_main_v69 (F := Ideal) x1 (ix4 0 k g p) := by
  pointwise [Read.val_main_call0_call0_cst, Read.val_main_call0_call0_v0, Read.val_main_cst, Read.val_main_cst_0,
    Read.val_main_cst_1, Read.val_main_cst_2, Read.val_main_cst_3, Read.val_main_cst_4, Read.val_main_cst_5, Read.val_main_cst_6,
    Read.val_main_cst_7, Read.val_main_cst_8, Read.val_main_cst_9, Read.val_main_cst_10, Read.val_main_cst_11,
    Read.val_main_cst_12, Read.val_main_cst_13, Read.val_main_cst_14, Read.val_main_v70, Read.val_main_v71, Read.val_main_v72,
    Read.val_main_v73, Read.val_main_v74, Read.val_main_v75, Read.val_main_v76, Read.val_main_v77, Read.val_main_cst_15,
    Read.val_main_v78, Read.val_main_v79, Read.val_main_v80, Read.val_main_v81, Read.val_main_cst_16, Read.val_main_v82,
    Read.val_main_v83, Read.val_main_v84, Read.val_main_v85, Read.val_main_v86, Read.val_main_v87, Read.val_main_v88,
    Read.val_main_v89, Read.val_main_cst_17, Read.val_main_cst_18, Read.val_main_cst_19, Read.val_main_cst_20,
    Read.val_main_cst_21, Read.val_main_cst_22, Read.val_main_cst_23, Read.val_main_cst_24, Read.val_main_call1_call0_cst,
    Read.val_main_call1_call0_v0]
  rw [Fin.sum_univ_one]
  rfl

/-- The gradient of the scale. -/
theorem scales (q : Fin 1024) :
    Read.val_main_v83 (F := Ideal) x0 x1 x2 (ix2 0 q)
      = ∑ k, (∑ l, x2 (ix3 ⟨q.val / 256, by omega⟩ l ⟨q.val % 256, by omega⟩)
          * Read.val_main_v69 (F := Ideal) x1 (ix4 0 k ⟨q.val / 256, by omega⟩ l)) * x0 (ix2 k q) := by
  pointwise [Read.val_main_call0_call0_cst, Read.val_main_call0_call0_v0, Read.val_main_cst, Read.val_main_cst_0,
    Read.val_main_cst_1, Read.val_main_cst_2, Read.val_main_cst_3, Read.val_main_cst_4, Read.val_main_cst_5, Read.val_main_cst_6,
    Read.val_main_cst_7, Read.val_main_cst_8, Read.val_main_cst_9, Read.val_main_cst_10, Read.val_main_cst_11,
    Read.val_main_cst_12, Read.val_main_cst_13, Read.val_main_cst_14, Read.val_main_v70, Read.val_main_v71, Read.val_main_v72,
    Read.val_main_v73, Read.val_main_v74, Read.val_main_v75, Read.val_main_v76, Read.val_main_v77, Read.val_main_cst_15,
    Read.val_main_v78, Read.val_main_v79, Read.val_main_v80, Read.val_main_v81, Read.val_main_cst_16, Read.val_main_v82,
    Read.val_main_v83, Read.val_main_cst_17, Read.val_main_cst_18, Read.val_main_cst_19, Read.val_main_cst_20,
    Read.val_main_cst_21, Read.val_main_cst_22, Read.val_main_cst_23, Read.val_main_cst_24, Read.val_main_call1_call0_cst,
    Read.val_main_call1_call0_v0]
  refine (Cert.Act.sum_unit _ _ q).trans ?_
  pointwise []

end Cert.Reference5Ideal.Pool

namespace Cert.Proof

open Cert.Finite

theorem pool_reals {x0 x1 : Cert.Pre_finite5.S4096x1024.Idx → EReal} {x2 : Cert.Pre_finite5.S4x256x256.Idx → EReal}
    {x3 : Cert.Pre_finite5.S1x1024.Idx → EReal} {x4 : Cert.Pre_finite5.S4096x1024.Idx → EReal}
    (h : (Cert.Pre_finite5.fn (F := Ideal) x0 x1 x2 x3 x4).1 = (fun _ => 1#1)
      ∧ (Cert.Pre_finite5.fn (F := Ideal) x0 x1 x2 x3 x4).2.1 = (fun _ => 1#1)
      ∧ (Cert.Pre_finite5.fn (F := Ideal) x0 x1 x2 x3 x4).2.2 = (fun _ => 1#1)) :
    (∀ i, IsReal (x0 i)) ∧ (∀ i, IsReal (x2 i)) ∧ (∀ i, IsReal (x3 i)) :=
  ⟨fun i => isReal_of_test (congrFun h.1 i), fun i => isReal_of_test (congrFun h.2.1 i), fun i => isReal_of_test (congrFun h.2.2 i)⟩

section

open Cert.Kernel5Ideal.Pool Cert.Window

variable (m : (ℓ : Loc Cert.Kernel5Ideal.nD Cert.Kernel5Ideal.τ Cert.Kernel5Ideal.sig) → Buf (Elt Ideal) ℓ)

/-- The reference's gradient of the mixer's rows is the kernel's. -/
theorem pool_rows (c : Dev Cert.Kernel5Ideal.nD) (h0 : ∀ i, IsReal (da m c i)) (h2 : ∀ i, IsReal (w m c i)) (h3 : ∀ i, IsReal (scale m c i))
    (p : Fin 4096) (g : Fin 4) (q : Fin 256) :
    -Cert.Reference5Ideal.Pool.back (da m c) (w m c) (scale m c) g p q
        + Cert.Reference5Ideal.Read.val_main_v138 (F := Ideal) (da m c) (w m c) (scale m c) (ix4 0 p g q)
      = du m c g p q := by
  rw [Cert.Reference5Ideal.Pool.window _ _ _ h0 h2 h3, add_comm, ← sub_eq_add_neg]
  refine congrArg₂ (· - ·) (Finset.sum_congr rfl fun k _ => congrArg (fun d => past d _) (funext fun r => ?_)) rfl
  exact div_count _ (count_pos g r.val)

end

/-- The plain gradient runs, keeps its arguments and leaves no semaphore counted up. -/
theorem frame_pool_reference : quiescent_Reference5Ideal (hReference5Ideal := Cert.Reference5Ideal.Gen.facts) := fun m ρ _ =>
  (θ_run _ _ _).mono (fun r h => ⟨fun c => (h c).2.2.2.2, Idealize.ShloMosaic.sem_eq_zero_of_no_sems (by decide) r.2⟩)
    (Cert.Reference5Ideal.Value.run m ρ)

/-- The kernel's gradients of the mixer's rows, of the groups' weights, of the scale and of the input projection's columns are those
    of the pooling mixer differentiated, at finite inputs. -/
theorem pool : algebraic_Kernel5Ideal_Reference5Ideal_pre_finite5 (hKernel5Ideal := Cert.Kernel5Ideal.Gen.facts)
    (hReference5Ideal := Cert.Reference5Ideal.Gen.facts) (hPre_finite5 := Cert.Pre_finite5.Gen.facts) := by
  open Cert.Kernel5Ideal.Pool in
  intro m ρ m' ρ' hp hm
  refine ⟨fun c => (fun i => du m c (grpOf (i 1)) (i 0) (inGrp (i 1)) : Cert.Kernel5Ideal.S4096x1024.Idx → EReal),
    fun c => (fun i => ∑ k, pooled m c (ix2 k (chan (i 0) (i 1))) * dmix m c (i 0) k (i 2) : Cert.Kernel5Ideal.S4x256x256.Idx → EReal),
    fun c => (fun i => dscale m c (grpOf (i 1)) (inGrp (i 1)) : Cert.Kernel5Ideal.S1x1024.Idx → EReal),
    fun c => (fun i => dinput m c (grpOf (i 0)) (inGrp (i 0)) (i 1) : Cert.Kernel5Ideal.S1024x1024.Idx → EReal), ?_, ?_⟩
  · exact (θ_run _ _ _).mono (fun r h c => ⟨(h c).1.trans (du_final m c), (h c).2.1.trans (weight_final m c),
      (h c).2.2.1.trans (scale_final m c), (h c).2.2.2.1.trans (input_final m c), (h c).2.2.2.2⟩) (Cert.Kernel5Ideal.Value.run_blocks m ρ)
  · refine (θ_run _ _ _).mono (fun r h c => ⟨(h c).1.trans ?_, (h c).2.1.trans ?_, (h c).2.2.1.trans ?_, (h c).2.2.2.1.trans ?_,
      (h c).2.2.2.2⟩) (Cert.Reference5Ideal.Value.run m' ρ')
    all_goals obtain ⟨h0, h2, h3⟩ := pool_reals (hp c)
    · rw [Cert.Reference5Ideal.Read.val_main_v142_eq, (hm c).1, (hm c).2.2.1, (hm c).2.2.2.1]
      funext i
      rw [eq_ix2 i]
      exact (Cert.Reference5Ideal.Pool.rows _ _ _ _ _).trans (pool_rows m c h0 h2 h3 _ _ _)
    · rw [Cert.Reference5Ideal.Read.val_main_v89_eq, (hm c).1, (hm c).2.1, (hm c).2.2.2.1]
      funext i
      rw [eq_ix3 i]
      refine (Cert.Reference5Ideal.Pool.weights _ _ _ _ _ _).trans (Finset.sum_congr rfl fun k _ => ?_)
      rw [mul_comm]
      exact congrArg₂ (· * ·) (pooled_reference m c k _ _).symm rfl
    · rw [Cert.Reference5Ideal.Read.val_main_v83_eq, (hm c).1, (hm c).2.1, (hm c).2.2.1]
      funext i
      obtain ⟨z, q, rfl⟩ : ∃ (z : Fin 1) (q : Fin 1024), i = ix2 z q := ⟨i 0, i 1, eq_ix2 i⟩
      obtain rfl : z = 0 := Subsingleton.elim _ _
      refine (Cert.Reference5Ideal.Pool.scales _ _ _ _).trans (Finset.sum_congr rfl fun k _ => ?_)
      rw [mul_comm]
      refine congrArg₂ (· * ·) (congrArg (fun j => da m c (ix2 k j)) (Fin.ext ?_)) (Finset.sum_congr rfl fun l _ => ?_)
      · show q.val = q.val / 256 * 256 + q.val % 256
        omega
      · rw [mul_comm]
        exact congrArg₂ (· * ·) (pooled_reference m c k _ _).symm rfl
    · rw [Cert.Reference5Ideal.Read.val_main_v145_eq, (hm c).1, (hm c).2.2.1, (hm c).2.2.2.1, (hm c).2.2.2.2]
      funext i
      rw [eq_ix2 i]
      refine (Cert.Reference5Ideal.Pool.input _ _ _ _ _ _).trans (Finset.sum_congr rfl fun k _ => ?_)
      exact congrArg₂ (· * ·) (pool_rows m c h0 h2 h3 _ _ _) rfl

end Cert.Proof

end
-- ==== Proof.DownGrad.lean ====
/-
  The gradient of the down projection's weight: `actᵀ · dy`, summed over two blocks of 2048 rows.
-/
module

public import proofs.«01_k».proof.Proof.Gen.Kernel6Ideal.Value
public import proofs.«01_k».proof.Proof.Gen.Reference6Ideal.Read
public import Idealize.ShloMosaic.Lib.Pipeline.Value
public import Idealize.ShloMosaic.Lib.Pointwise
public import Idealize.ShloMosaic.Lib.StableHlo.ReadAt

@[expose] public section

noncomputable section

open Idealize.ShloMosaic Idealize.ShloMosaic.TcCoe Idealize.SL.Sem
open Idealize.ShloMosaic.Pipeline (Dat)

namespace Cert.Kernel6Ideal.Down

open Cert.Kernel6Ideal Cert.Kernel6Ideal.Gen

theorem hz : (![0, 0] : Fin 2 → Nat) = fun _ => 0 := funext fun a => by fin_cases a <;> rfl

section Cases
variable {F : FTy → Type} [FloatOps F]

/-- The first block of a column: the product is stored. -/
theorem first_block (c : Dev nD) (i : grid0.Coords) (a2 : Memref sig .tc .vmem S2048x2816 .bf16) (h2 : a2.IsWhole)
    (a3 : Memref sig .tc .vmem S2048x512 .bf16) (h3 : a3.IsWhole) (a4 : Memref sig .tc .vmem S2816x512 .f32) (h4 : a4.IsWhole)
    (hc0 : cond0_0 i) (hc1 : ¬cond0_1 i) (x : Vec F S2048x2816 .bf16) (y : Vec F S2048x512 .bf16) :
    out0_A_2 c i a2 h2 a3 h3 a4 h4 hc0 hc1 x y = k0_pay1 x y := by
  unfold out0_A_2
  rw [View.read_writes_eq_canon _ _ _ (cover0_A_2 c i a2 h2 a3 h3 a4 h4 hc0 hc1 x y)]
  unfold kernelRun0_A
  dsimp only
  rw [View.canon_unit_zero hz]
  simp only [View.readAt_eq_ld, h2.read_unread, h3.read_unread, View.ld_unit_zero (S := S2048x2816) hz,
    View.ld_unit_zero (S := S2048x512) hz]

/-- The second block: the product is added to what the first left. -/
theorem next_block (c : Dev nD) (i : grid0.Coords) (a2 : Memref sig .tc .vmem S2048x2816 .bf16) (h2 : a2.IsWhole)
    (a3 : Memref sig .tc .vmem S2048x512 .bf16) (h3 : a3.IsWhole) (a4 : Memref sig .tc .vmem S2816x512 .f32) (h4 : a4.IsWhole)
    (hc0 : ¬cond0_0 i) (hc1 : cond0_1 i) (x : Vec F S2048x2816 .bf16) (y : Vec F S2048x512 .bf16) (o : Vec F S2816x512 .f32) :
    out0_B_2 c i a2 h2 a3 h3 a4 h4 hc0 hc1 x y o = k0_pay2 x y o := by
  unfold out0_B_2
  rw [View.read_writes_eq_canon _ _ _ (cover0_B_2 c i a2 h2 a3 h3 a4 h4 hc0 hc1 x y o)]
  unfold kernelRun0_B
  dsimp only
  rw [View.canon_unit_zero hz]
  simp only [View.readAt_eq_ld, h2.read_unread, h3.read_unread, h4.read_unread, View.ld_unit_zero (S := S2048x2816) hz,
    View.ld_unit_zero (S := S2048x512) hz, View.ld_unit_zero (S := S2816x512) hz]

end Cases

variable (m : (ℓ : Loc nD τ sig) → Buf (Elt Ideal) ℓ)

/-- The activations at a row and a column. -/
abbrev act (c : Dev nD) (r : Fin 4096) (k : Fin 2816) : EReal := m ((c : Thread nD τ).loc main_arg0) (ix2 r k)
/-- The gradient of the output at a row and a column. -/
abbrev dy (c : Dev nD) (r : Fin 4096) (k : Fin 1024) : EReal := m ((c : Thread nD τ).loc main_arg1) (ix2 r k)

/-- The window of the activations at a point reads the rows of the point's block. -/
theorem act_block (c : Dev nD) (t : Fin cfg0.N) (r : Fin 2048) (k : Fin 2816) :
    (iblk m c 0 t : Vec Ideal S2048x2816 .bf16) (ix2 r k) = act m c ⟨t.val % 2 * 2048 + r, by omega⟩ k := by
  have hi : win0_0.index t 0 = t.val % 2 ∧ win0_0.index t 1 = 0 := by
    revert t; decide +kernel
  unfold iblk
  rw [View.read_apply]
  show V m c main_v0 _ = _
  unfold V
  after_reads_at
  congr 1
  funext a
  apply Fin.ext
  match a with
  | ⟨0, _⟩ => show win0_0.index t 0 * 2048 + 1 * r.val = t.val % 2 * 2048 + r.val; rw [hi.1]; omega
  | ⟨1, _⟩ => show win0_0.index t 1 * 2816 + 1 * k.val = k.val; rw [hi.2]; omega

/-- The window of the output gradient at a point reads the rows of the point's block and the columns of the point's column block. -/
theorem dy_block (c : Dev nD) (t : Fin cfg0.N) (r : Fin 2048) (k : Fin 512) :
    (iblk m c 1 t : Vec Ideal S2048x512 .bf16) (ix2 r k)
      = dy m c ⟨t.val % 2 * 2048 + r, by omega⟩ ⟨t.val / 2 * 512 + k, by have := t.isLt; have : cfg0.N = 4 := N_0; omega⟩ := by
  have hi : win0_1.index t 0 = t.val % 2 ∧ win0_1.index t 1 = t.val / 2 := by
    revert t; decide +kernel
  unfold iblk
  rw [View.read_apply]
  show V m c main_v1 _ = _
  unfold V
  after_reads_at
  congr 1
  funext a
  apply Fin.ext
  match a with
  | ⟨0, _⟩ => show win0_1.index t 0 * 2048 + 1 * r.val = t.val % 2 * 2048 + r.val; rw [hi.1]; omega
  | ⟨1, _⟩ => show win0_1.index t 1 * 512 + 1 * k.val = t.val / 2 * 512 + k.val; rw [hi.2]; omega

/-- The sum over all rows. -/
def grad (c : Dev nD) (p : Fin 2816) (q : Fin 1024) : EReal := ∑ r : Fin 4096, act m c r p * dy m c r q

/-- After the second block of a column the output block holds the sums over all rows. -/
theorem block_value (c : Dev nD) (t : Fin cfg0.N) (ht : t.val % 2 = 1) (p : Fin 2816) (q : Fin 512) :
    outsAt0 m c t.val t.isLt (ix2 p q)
      = grad m c p ⟨t.val / 2 * 512 + q, by have := t.isLt; have : cfg0.N = 4 := N_0; omega⟩ := by
  have hN : cfg0.N = 4 := N_0
  have hlt := t.isLt
  rw [outsAt0_B m c t (by omega) ht, next_block]
  have hp : t.val - 1 < cfg0.N := by omega
  have hprev := outsAt0_A m c ⟨t.val - 1, hp⟩ (by show (t.val - 1) % 2 = 0; omega) (by show ¬(t.val - 1) % 2 = 1; omega)
  rw [first_block] at hprev
  rw [show outsAt0 m c (t.val - 1) _ = _ from hprev]
  pointwise [k0_pay2, k0_pay1]
  simp only [act_block, dy_block]
  unfold grad
  rw [Fin.sum_univ_two_halves 2048 2048 rfl]
  refine congrArg₂ (· + ·) (Finset.sum_congr rfl fun k _ => ?_) (Finset.sum_congr rfl fun k _ => ?_)
  · refine congrArg₂ (fun a b => act m c a p * dy m c a b) (Fin.ext ?_) (Fin.ext ?_)
    · show (t.val - 1) % 2 * 2048 + k.val = k.val; omega
    · show (t.val - 1) / 2 * 512 + q.val = t.val / 2 * 512 + q.val; omega
  · refine congrArg₂ (fun a b => act m c a p * dy m c a b) (Fin.ext ?_) rfl
    show t.val % 2 * 2048 + k.val = 2048 + k.val; omega

/-- The array of the sums. -/
def result (c : Dev nD) : Buf (Elt Ideal) ((c : Thread nD τ).loc main_v2) :=
  fun i => grad m c (i 0) (i 1)

/-- What is written back at a point is the point's block of the sums. -/
theorem flushed_eq (c : Dev nD) (t : Fin cfg0.N) (hf : (cfg0.win 2).flush t = true) :
    (dats m 0 c).flushed 2 t = ((cfg0.win 2).blk t).view.read (Elt Ideal) (result m c) := by
  have ht : t.val % 2 = 1 := by revert t; decide +kernel
  have hi : win0_2.index t 0 = 0 ∧ win0_2.index t 1 = t.val / 2 := by clear hf ht; revert t; decide +kernel
  rw [Value.flushed2]
  funext j
  rw [View.read_apply]
  obtain ⟨p, q, rfl⟩ : ∃ (p : Fin 2816) (q : Fin 512), j = ix2 p q := ⟨j 0, j 1, eq_ix2 j⟩
  show outsAt0 m c t.val t.isLt (ix2 p q) = _
  rw [block_value m c t ht]
  refine congrArg₂ (grad m c) (Fin.ext ?_) (Fin.ext ?_)
  · show p.val = win0_2.index t 0 * 2816 + 1 * p.val; rw [hi.1]; omega
  · show t.val / 2 * 512 + q.val = win0_2.index t 1 * 512 + 1 * q.val; rw [hi.2]; omega

/-- The result array holds the sums. -/
theorem final (c : Dev nD) : (dats m 0 c).arrAt 2 cfg0.N = result m c :=
  (dats m 0 c).arrAt_eq_of_cover 2 (result m c) (flushed_eq m c) fun i => by
    have h0 : (i 0 : Nat) < 2816 := (i 0).isLt
    have h1 : (i 1 : Nat) < 1024 := (i 1).isLt
    obtain ⟨t, ht, hi⟩ : ∃ t : Fin cfg0.N, (cfg0.win 2).flush t = true ∧ t.val / 2 = (i 1 : Nat) / 512 := by
      have : (i 1 : Nat) / 512 < 2 := by omega
      generalize (i 1 : Nat) / 512 = b at this
      revert b; decide +kernel
    have hx : win0_2.index t 0 = 0 ∧ win0_2.index t 1 = t.val / 2 := by clear hi ht; revert t; decide +kernel
    refine ⟨t, ht, ?_⟩
    show i ∈ ((View.whole main_v2).slice (win0_2.rect t)).set
    rw [View.set_slice_whole, Rect.mem_set_unit]
    intro a
    match a with
    | ⟨0, _⟩ =>
      show win0_2.index t 0 * 2816 ≤ (i 0 : Nat) ∧ (i 0 : Nat) < win0_2.index t 0 * 2816 + 2816
      rw [hx.1]; omega
    | ⟨1, _⟩ =>
      show win0_2.index t 1 * 512 ≤ (i 1 : Nat) ∧ (i 1 : Nat) < win0_2.index t 1 * 512 + 512
      rw [hx.2, hi]; omega

end Cert.Kernel6Ideal.Down

namespace Cert.Reference6Ideal.Down

open Cert.Reference6Ideal

variable (x0 : (⟨S4096x2816, .f32⟩ : BufTy).Contents (Elt Ideal)) (x1 : (⟨S4096x1024, .f32⟩ : BufTy).Contents (Elt Ideal))

/-- The reference's weight gradient at an index. -/
theorem value (p : Fin 2816) (q : Fin 1024) :
    Read.val_main_v3 (F := Ideal) x0 x1 (ix2 p q) = ∑ r : Fin 4096, x0 (ix2 r p) * x1 (ix2 r q) := by
  rw [Read.val_main_v3_apply, Read.val_main_v2_apply]
  refine Finset.sum_congr rfl fun r _ => ?_
  rw [mul_comm]
  refine congrArg₂ (· * ·) (congrArg x0 ?_) (congrArg x1 ?_) <;>
    exact funext fun a => match a with | ⟨0, _⟩ => rfl | ⟨1, _⟩ => rfl

end Cert.Reference6Ideal.Down

end
-- ==== Proof.DownClaim.lean ====
/-
  The claims about the gradient of the down projection's weight.
-/
module

public import proofs.«01_k».proof.Defs
public import proofs.«01_k».proof.Proof.DownGrad
public import proofs.«01_k».proof.Proof.Gen.Reference6Ideal.Run

@[expose] public section

noncomputable section

namespace Cert.Proof

open Idealize.ShloMosaic Idealize.SL.Sem

/-- The plain product runs, keeps its arguments and leaves no semaphore counted up. -/
theorem frame_down_reference : quiescent_Reference6Ideal (hReference6Ideal := Cert.Reference6Ideal.Gen.facts) := fun m ρ _ =>
  (θ_run _ _ _).mono (fun r h => ⟨fun c => (h c).2, Idealize.ShloMosaic.sem_eq_zero_of_no_sems (by decide) r.2⟩)
    (Cert.Reference6Ideal.Value.run m ρ)

/-- The kernel's weight gradient is the plain product's, at every finite or infinite input. -/
theorem down : algebraic_Kernel6Ideal_Reference6Ideal (hKernel6Ideal := Cert.Kernel6Ideal.Gen.facts)
    (hReference6Ideal := Cert.Reference6Ideal.Gen.facts) := by
  intro m ρ m' ρ' _ hm
  refine ⟨fun c => Cert.Kernel6Ideal.Down.result m c, ?_, ?_⟩
  · refine (θ_run _ _ _).mono (fun r h c => ⟨(h c).1.trans (Cert.Kernel6Ideal.Down.final m c), (h c).2⟩)
      (Cert.Kernel6Ideal.Value.run_blocks m ρ)
  · refine (θ_run _ _ _).mono (fun r h c => ⟨(h c).1.trans ?_, (h c).2⟩) (Cert.Reference6Ideal.Value.run m' ρ')
    rw [Cert.Reference6Ideal.Read.val_main_v3_eq, (hm c).1, (hm c).2]
    funext i
    rw [eq_ix2 i]
    exact Cert.Reference6Ideal.Down.value _ _ _ _

end Cert.Proof

end
-- ==== Proof.QkvGrad.lean ====
/-
  The gradient of the input projection's attention columns: kernel, plain product and their claims.
-/
module

public import proofs.«01_k».proof.Defs
public import proofs.«01_k».proof.Proof.Gen.Kernel7Ideal.Value
public import proofs.«01_k».proof.Proof.Gen.Reference7Ideal.Run
public import proofs.«01_k».proof.Proof.Gen.Reference7Ideal.Read
public import Idealize.ShloMosaic.Lib.Pipeline.ValueKit
public import Idealize.ShloMosaic.Lib.Pointwise
public import Idealize.ShloMosaic.Lib.StableHlo.ReadAt

@[expose] public section

set_option maxRecDepth 16384

noncomputable section

open Idealize.ShloMosaic Idealize.ShloMosaic.TcCoe Idealize.SL.Sem
open Idealize.ShloMosaic.Pipeline (Dat)

namespace Cert.Kernel7Ideal.Qkv

open Cert.Kernel7Ideal Cert.Kernel7Ideal.Gen

variable (m : (ℓ : Loc nD τ sig) → Buf (Elt Ideal) ℓ)

/-- The rows that the projection took. -/
def h (c : Dev nD) : S4096x1024.Idx → EReal := m ((c.tc : Thread nD τ).loc main_arg0)
/-- The gradient of the projection's result. -/
def dz (c : Dev nD) : S4096x1280.Idx → EReal := m ((c.tc : Thread nD τ).loc main_arg1)

theorem idx : ∀ t : Fin cfg0.N, win0_0.index t = ![t.val % 2, 0] ∧ win0_1.index t = ![t.val % 2, 0] ∧ win0_2.index t = ![0, 0] := by
  decide +kernel

theorem point_lt (t : Fin cfg0.N) : t.val < 2 := lt_of_lt_of_eq t.isLt (by decide)

/-- The row of the whole arrays that row `p` of point `t`'s blocks is. -/
def at_ (t : Fin cfg0.N) (p : Fin 2048) : Fin 4096 := ⟨t.val % 2 * 2048 + p.val, by have := point_lt t; have := p.isLt; omega⟩

theorem dz_block (c : Dev nD) (t : Fin cfg0.N) (p : Fin 2048) (k : Fin 1280) : iblk m c 0 t (ix2 p k) = dz m c (ix2 (at_ t p) k) := by
  have e : V m c main_v0 (ix2 (at_ t p) k) = dz m c (ix2 (at_ t p) k) := by
    unfold V dz; after_reads_at
  have hi := idx t
  rw [← e]
  unfold iblk at_
  blk_ext [hi]

theorem h_block (c : Dev nD) (t : Fin cfg0.N) (p : Fin 2048) (k : Fin 1024) : iblk m c 1 t (ix2 p k) = h m c (ix2 (at_ t p) k) := by
  have e : V m c main_v1 (ix2 (at_ t p) k) = h m c (ix2 (at_ t p) k) := by
    unfold V h; after_reads_at
  have hi := idx t
  rw [← e]
  unfold iblk at_
  blk_ext [hi]

/-- The sum over all rows. -/
def grad (c : Dev nD) (p : Fin 1280) (q : Fin 1024) : EReal := ∑ r : Fin 4096, dz m c (ix2 r p) * h m c (ix2 r q)

/-- What one block of rows adds, element by element. -/
theorem product (a : S2048x1280.Idx → EReal) (b : S2048x1024.Idx → EReal) (p : Fin 1280) (q : Fin 1024)
    {A : Fin 2048 → EReal} {B : Fin 2048 → EReal} (ha : ∀ k, a (ix2 k p) = A k) (hb : ∀ k, b (ix2 k q) = B k) :
    k0_pay1 (F := Ideal) a b (ix2 p q) = ∑ k, A k * B k := by
  pointwise [k0_pay1]
  simp only [ha, hb]

/-- What the second block of rows leaves, element by element. -/
theorem added (a : S2048x1280.Idx → EReal) (b : S2048x1024.Idx → EReal) (o : S1280x1024.Idx → EReal) (p : Fin 1280) (q : Fin 1024)
    {A : Fin 2048 → EReal} {B : Fin 2048 → EReal} {O : EReal} (ha : ∀ k, a (ix2 k p) = A k) (hb : ∀ k, b (ix2 k q) = B k)
    (ho : o (ix2 p q) = O) : k0_pay2 (F := Ideal) a b o (ix2 p q) = O + ∑ k, A k * B k := by
  pointwise [k0_pay2, k0_pay1]
  simp only [ha, hb, ho]

/-- After the first block of rows the result holds the sum over that block. -/
theorem first_value (c : Dev nD) (t : Fin cfg0.N) (ht : t.val % 2 = 0) (p : Fin 1280) (q : Fin 1024) :
    outsAt0 m c t.val t.isLt (ix2 p q) = ∑ k : Fin 2048, dz m c (ix2 (at_ t k) p) * h m c (ix2 (at_ t k) q) := by
  rw [outsAt0_A m c t ht (by omega)]
  frame_out
  exact product _ _ p q (fun k => dz_block m c t k p) (fun k => h_block m c t k q)

/-- After the second block of rows the result holds the sum over all rows. -/
theorem block_value (c : Dev nD) (t : Fin cfg0.N) (ht : t.val % 2 = 1) (p : Fin 1280) (q : Fin 1024) :
    outsAt0 m c t.val t.isLt (ix2 p q) = grad m c p q := by
  have hlt := point_lt t
  rw [outsAt0_B m c t (by omega) ht]
  frame_out
  refine (added _ _ _ p q (fun k => dz_block m c t k p) (fun k => h_block m c t k q)
    (first_value m c ⟨t.val - 1, by omega⟩ (by show (t.val - 1) % 2 = 0; omega) p q)).trans ?_
  unfold grad
  rw [Fin.sum_univ_two_halves 2048 2048 rfl]
  refine congrArg₂ (· + ·) (Finset.sum_congr rfl fun k _ => ?_) (Finset.sum_congr rfl fun k _ => ?_)
  · refine congrArg (fun r => dz m c (ix2 r p) * h m c (ix2 r q)) (Fin.ext ?_)
    show (t.val - 1) % 2 * 2048 + k.val = k.val; omega
  · refine congrArg (fun r => dz m c (ix2 r p) * h m c (ix2 r q)) (Fin.ext ?_)
    show t.val % 2 * 2048 + k.val = 2048 + k.val; omega

/-- The result array after the run. -/
theorem final (c : Dev nD) : (dats m 0 c).arrAt 2 cfg0.N = (fun i => grad m c (i 0) (i 1) : S1280x1024.Idx → EReal) := by
  refine (dats m 0 c).arrAt_eq_of_covers 2 _ (by decide +kernel) fun t hf j => ?_
  obtain ⟨p, q, rfl⟩ : ∃ (p : Fin 1280) (q : Fin 1024), j = ix2 p q := ⟨j 0, j 1, eq_ix2 j⟩
  have ht : t.val % 2 = 1 := by revert t; decide +kernel
  show outsAt0 m c t.val t.isLt (ix2 p q) = _
  rw [block_value m c t ht]
  have hi := idx t
  refine congrArg₂ (grad m c) (Fin.ext ?_) (Fin.ext ?_) <;> blk_simp [hi]

end Cert.Kernel7Ideal.Qkv

namespace Cert.Reference7Ideal.Qkv

open Cert.Reference7Ideal

/-- The transposed weight gradient that differentiating the product gives, element by element. -/
theorem value (x0 : S4096x1024.Idx → EReal) (x1 : S4096x1280.Idx → EReal) (p : Fin 1280) (q : Fin 1024) :
    Read.val_main_v4 (F := Ideal) x0 x1 (ix2 p q) = ∑ r : Fin 4096, x1 (ix2 r p) * x0 (ix2 r q) := by
  pointwise [Read.val_main_v4, Read.val_main_v3, Read.val_main_v2]

end Cert.Reference7Ideal.Qkv

namespace Cert.Proof

/-- The plain gradient runs, keeps its arguments and leaves no semaphore counted up. -/
theorem frame_qkv_weight_reference : quiescent_Reference7Ideal (hReference7Ideal := Cert.Reference7Ideal.Gen.facts) := fun m ρ _ =>
  (θ_run _ _ _).mono (fun r h => ⟨fun c => (h c).2, Idealize.ShloMosaic.sem_eq_zero_of_no_sems (by decide) r.2⟩)
    (Cert.Reference7Ideal.Value.run m ρ)

/-- The kernel's weight gradient is that of the plain product differentiated. -/
theorem qkv_weight : algebraic_Kernel7Ideal_Reference7Ideal (hKernel7Ideal := Cert.Kernel7Ideal.Gen.facts)
    (hReference7Ideal := Cert.Reference7Ideal.Gen.facts) := by
  intro m ρ m' ρ' _ hm
  refine ⟨fun c => (fun i => Cert.Kernel7Ideal.Qkv.grad m c (i 0) (i 1) : Cert.Kernel7Ideal.S1280x1024.Idx → EReal), ?_, ?_⟩
  · exact (θ_run _ _ _).mono (fun r h c => ⟨(h c).1.trans (Cert.Kernel7Ideal.Qkv.final m c), (h c).2⟩)
      (Cert.Kernel7Ideal.Value.run_blocks m ρ)
  · refine (θ_run _ _ _).mono (fun r h c => ⟨(h c).1.trans ?_, (h c).2⟩) (Cert.Reference7Ideal.Value.run m' ρ')
    rw [Cert.Reference7Ideal.Read.val_main_v4_eq, (hm c).1, (hm c).2]
    funext i
    rw [eq_ix2 i]
    exact Cert.Reference7Ideal.Qkv.value _ _ _ _

end Cert.Proof

end
-- ==== Proof.GatesGrad.lean ====
/-
  The gradient of the input projection's gate columns: kernel, plain product and their claims.
-/
module

public import proofs.«01_k».proof.Defs
public import proofs.«01_k».proof.Proof.Gen.Kernel8Ideal.Value
public import proofs.«01_k».proof.Proof.Gen.Reference8Ideal.Run
public import proofs.«01_k».proof.Proof.Gen.Reference8Ideal.Read
public import Idealize.ShloMosaic.Lib.Pipeline.ValueKit
public import Idealize.ShloMosaic.Lib.Pointwise
public import Idealize.ShloMosaic.Lib.StableHlo.ReadAt

@[expose] public section

set_option maxRecDepth 16384

noncomputable section

open Idealize.ShloMosaic Idealize.ShloMosaic.TcCoe Idealize.SL.Sem
open Idealize.ShloMosaic.Pipeline (Dat)

namespace Cert.Kernel8Ideal.Gates

open Cert.Kernel8Ideal Cert.Kernel8Ideal.Gen

variable (m : (ℓ : Loc nD τ sig) → Buf (Elt Ideal) ℓ)

/-- The rows that the projection took. -/
def h (c : Dev nD) : S4096x1024.Idx → EReal := m ((c.tc : Thread nD τ).loc main_arg0)
/-- The gradient of the projection's result. -/
def dz (c : Dev nD) : S4096x2048.Idx → EReal := m ((c.tc : Thread nD τ).loc main_arg1)

theorem idx : ∀ t : Fin cfg0.N, win0_0.index t = ![t.val % 2, 0] ∧ win0_1.index t = ![t.val % 2, 0] ∧ win0_2.index t = ![0, 0] := by
  decide +kernel

theorem point_lt (t : Fin cfg0.N) : t.val < 2 := lt_of_lt_of_eq t.isLt (by decide)

/-- The row of the whole arrays that row `p` of point `t`'s blocks is. -/
def at_ (t : Fin cfg0.N) (p : Fin 2048) : Fin 4096 := ⟨t.val % 2 * 2048 + p.val, by have := point_lt t; have := p.isLt; omega⟩

theorem dz_block (c : Dev nD) (t : Fin cfg0.N) (p : Fin 2048) (k : Fin 2048) : iblk m c 0 t (ix2 p k) = dz m c (ix2 (at_ t p) k) := by
  have e : V m c main_v0 (ix2 (at_ t p) k) = dz m c (ix2 (at_ t p) k) := by
    unfold V dz; after_reads_at
  have hi := idx t
  rw [← e]
  unfold iblk at_
  blk_ext [hi]

theorem h_block (c : Dev nD) (t : Fin cfg0.N) (p : Fin 2048) (k : Fin 1024) : iblk m c 1 t (ix2 p k) = h m c (ix2 (at_ t p) k) := by
  have e : V m c main_v1 (ix2 (at_ t p) k) = h m c (ix2 (at_ t p) k) := by
    unfold V h; after_reads_at
  have hi := idx t
  rw [← e]
  unfold iblk at_
  blk_ext [hi]

/-- The sum over all rows. -/
def grad (c : Dev nD) (p : Fin 2048) (q : Fin 1024) : EReal := ∑ r : Fin 4096, dz m c (ix2 r p) * h m c (ix2 r q)

/-- What one block of rows adds, element by element. -/
theorem product (a : S2048x2048.Idx → EReal) (b : S2048x1024.Idx → EReal) (p : Fin 2048) (q : Fin 1024)
    {A : Fin 2048 → EReal} {B : Fin 2048 → EReal} (ha : ∀ k, a (ix2 k p) = A k) (hb : ∀ k, b (ix2 k q) = B k) :
    k0_pay1 (F := Ideal) a b (ix2 p q) = ∑ k, A k * B k := by
  pointwise [k0_pay1]
  simp only [ha, hb]

/-- What the second block of rows leaves, element by element. -/
theorem added (a : S2048x2048.Idx → EReal) (b : S2048x1024.Idx → EReal) (o : S2048x1024.Idx → EReal) (p : Fin 2048) (q : Fin 1024)
    {A : Fin 2048 → EReal} {B : Fin 2048 → EReal} {O : EReal} (ha : ∀ k, a (ix2 k p) = A k) (hb : ∀ k, b (ix2 k q) = B k)
    (ho : o (ix2 p q) = O) : k0_pay2 (F := Ideal) a b o (ix2 p q) = O + ∑ k, A k * B k := by
  pointwise [k0_pay2, k0_pay1]
  simp only [ha, hb, ho]

/-- After the first block of rows the result holds the sum over that block. -/
theorem first_value (c : Dev nD) (t : Fin cfg0.N) (ht : t.val % 2 = 0) (p : Fin 2048) (q : Fin 1024) :
    outsAt0 m c t.val t.isLt (ix2 p q) = ∑ k : Fin 2048, dz m c (ix2 (at_ t k) p) * h m c (ix2 (at_ t k) q) := by
  rw [outsAt0_A m c t ht (by omega)]
  frame_out
  exact product _ _ p q (fun k => dz_block m c t k p) (fun k => h_block m c t k q)

/-- After the second block of rows the result holds the sum over all rows. -/
theorem block_value (c : Dev nD) (t : Fin cfg0.N) (ht : t.val % 2 = 1) (p : Fin 2048) (q : Fin 1024) :
    outsAt0 m c t.val t.isLt (ix2 p q) = grad m c p q := by
  have hlt := point_lt t
  rw [outsAt0_B m c t (by omega) ht]
  frame_out
  refine (added _ _ _ p q (fun k => dz_block m c t k p) (fun k => h_block m c t k q)
    (first_value m c ⟨t.val - 1, by omega⟩ (by show (t.val - 1) % 2 = 0; omega) p q)).trans ?_
  unfold grad
  rw [Fin.sum_univ_two_halves 2048 2048 rfl]
  refine congrArg₂ (· + ·) (Finset.sum_congr rfl fun k _ => ?_) (Finset.sum_congr rfl fun k _ => ?_)
  · refine congrArg (fun r => dz m c (ix2 r p) * h m c (ix2 r q)) (Fin.ext ?_)
    show (t.val - 1) % 2 * 2048 + k.val = k.val; omega
  · refine congrArg (fun r => dz m c (ix2 r p) * h m c (ix2 r q)) (Fin.ext ?_)
    show t.val % 2 * 2048 + k.val = 2048 + k.val; omega

/-- The result array after the run. -/
theorem final (c : Dev nD) : (dats m 0 c).arrAt 2 cfg0.N = (fun i => grad m c (i 0) (i 1) : S2048x1024.Idx → EReal) := by
  refine (dats m 0 c).arrAt_eq_of_covers 2 _ (by decide +kernel) fun t hf j => ?_
  obtain ⟨p, q, rfl⟩ : ∃ (p : Fin 2048) (q : Fin 1024), j = ix2 p q := ⟨j 0, j 1, eq_ix2 j⟩
  have ht : t.val % 2 = 1 := by revert t; decide +kernel
  show outsAt0 m c t.val t.isLt (ix2 p q) = _
  rw [block_value m c t ht]
  have hi := idx t
  refine congrArg₂ (grad m c) (Fin.ext ?_) (Fin.ext ?_) <;> blk_simp [hi]

end Cert.Kernel8Ideal.Gates

namespace Cert.Reference8Ideal.Gates

open Cert.Reference8Ideal

/-- The transposed weight gradient that differentiating the product gives, element by element. -/
theorem value (x0 : S4096x1024.Idx → EReal) (x1 : S4096x2048.Idx → EReal) (p : Fin 2048) (q : Fin 1024) :
    Read.val_main_v4 (F := Ideal) x0 x1 (ix2 p q) = ∑ r : Fin 4096, x1 (ix2 r p) * x0 (ix2 r q) := by
  pointwise [Read.val_main_v4, Read.val_main_v3, Read.val_main_v2]

end Cert.Reference8Ideal.Gates

namespace Cert.Proof

/-- The plain gradient runs, keeps its arguments and leaves no semaphore counted up. -/
theorem frame_gates_weight_reference : quiescent_Reference8Ideal (hReference8Ideal := Cert.Reference8Ideal.Gen.facts) := fun m ρ _ =>
  (θ_run _ _ _).mono (fun r h => ⟨fun c => (h c).2, Idealize.ShloMosaic.sem_eq_zero_of_no_sems (by decide) r.2⟩)
    (Cert.Reference8Ideal.Value.run m ρ)

/-- The kernel's weight gradient is that of the plain product differentiated. -/
theorem gates_weight : algebraic_Kernel8Ideal_Reference8Ideal (hKernel8Ideal := Cert.Kernel8Ideal.Gen.facts)
    (hReference8Ideal := Cert.Reference8Ideal.Gen.facts) := by
  intro m ρ m' ρ' _ hm
  refine ⟨fun c => (fun i => Cert.Kernel8Ideal.Gates.grad m c (i 0) (i 1) : Cert.Kernel8Ideal.S2048x1024.Idx → EReal), ?_, ?_⟩
  · exact (θ_run _ _ _).mono (fun r h c => ⟨(h c).1.trans (Cert.Kernel8Ideal.Gates.final m c), (h c).2⟩)
      (Cert.Kernel8Ideal.Value.run_blocks m ρ)
  · refine (θ_run _ _ _).mono (fun r h c => ⟨(h c).1.trans ?_, (h c).2⟩) (Cert.Reference8Ideal.Value.run m' ρ')
    rw [Cert.Reference8Ideal.Read.val_main_v4_eq, (hm c).1, (hm c).2]
    funext i
    rw [eq_ix2 i]
    exact Cert.Reference8Ideal.Gates.value _ _ _ _

end Cert.Proof

end
-- ==== Proof.UpValueGrad.lean ====
/-
  The gradient of the up projection's value columns, written into the array the gate columns' gradient came in: kernel,
  plain product and their claims.
-/
module

public import proofs.«01_k».proof.Defs
public import proofs.«01_k».proof.Proof.Gen.Kernel9Ideal.Value
public import proofs.«01_k».proof.Proof.Gen.Reference9Ideal.Run
public import proofs.«01_k».proof.Proof.Gen.Reference9Ideal.Read
public import Idealize.ShloMosaic.Lib.Pipeline.ValueKit
public import Idealize.ShloMosaic.Lib.Pointwise
public import Idealize.ShloMosaic.Lib.StableHlo.ReadAt

@[expose] public section

set_option maxRecDepth 16384

noncomputable section

open Idealize.ShloMosaic Idealize.ShloMosaic.TcCoe Idealize.SL.Sem
open Idealize.ShloMosaic.Pipeline (Dat)

namespace Cert.Kernel9Ideal.UpValue

open Cert.Kernel9Ideal Cert.Kernel9Ideal.Gen

variable (m : (ℓ : Loc nD τ sig) → Buf (Elt Ideal) ℓ)

/-- The rows that the projection took. -/
def h (c : Dev nD) : S4096x1024.Idx → EReal := m ((c.tc : Thread nD τ).loc main_arg0)
/-- The gradient of the projection's value columns. -/
def dp (c : Dev nD) : S4096x2816.Idx → EReal := m ((c.tc : Thread nD τ).loc main_arg1)
/-- The array that holds the gate columns' gradient in its first two shards. -/
def prev (c : Dev nD) : S4x1024x1408.Idx → EReal := m ((c.tc : Thread nD τ).loc main_arg2)

theorem idx : ∀ t : Fin cfg0.N, win0_0.index t = ![t.val % 2, 0] ∧ win0_1.index t = ![t.val % 2, t.val / 2] ∧
    win0_2.index t = ![2 + t.val / 2, 0, 0] := by
  decide +kernel

theorem point_lt (t : Fin cfg0.N) : t.val < 4 := lt_of_lt_of_eq t.isLt (by decide)

/-- The row of the whole arrays that row `p` of point `t`'s blocks is. -/
def at_ (t : Fin cfg0.N) (p : Fin 2048) : Fin 4096 := ⟨t.val % 2 * 2048 + p.val, by have := point_lt t; have := p.isLt; omega⟩
/-- The column of the whole gradient that column `q` of point `t`'s block is. -/
def col (t : Fin cfg0.N) (q : Fin 1408) : Fin 2816 := ⟨t.val / 2 * 1408 + q.val, by have := point_lt t; have := q.isLt; omega⟩

theorem h_block (c : Dev nD) (t : Fin cfg0.N) (p : Fin 2048) (k : Fin 1024) : iblk m c 0 t (ix2 p k) = h m c (ix2 (at_ t p) k) := by
  have e : V m c main_v0 (ix2 (at_ t p) k) = h m c (ix2 (at_ t p) k) := by
    unfold V h; after_reads_at
  have hi := idx t
  rw [← e]
  unfold iblk at_
  blk_ext [hi]

theorem dp_block (c : Dev nD) (t : Fin cfg0.N) (p : Fin 2048) (k : Fin 1408) :
    iblk m c 1 t (ix2 p k) = dp m c (ix2 (at_ t p) (col t k)) := by
  have e : V m c main_v1 (ix2 (at_ t p) (col t k)) = dp m c (ix2 (at_ t p) (col t k)) := by
    unfold V dp; after_reads_at
  have hi := idx t
  rw [← e]
  unfold iblk at_ col
  blk_ext [hi]

/-- The sum over all rows. -/
def grad (c : Dev nD) (p : Fin 1024) (q : Fin 2816) : EReal := ∑ r : Fin 4096, h m c (ix2 r p) * dp m c (ix2 r q)

/-- What one block of rows adds, element by element. -/
theorem product (a : S2048x1024.Idx → EReal) (b : S2048x1408.Idx → EReal) (p : Fin 1024) (q : Fin 1408)
    {A : Fin 2048 → EReal} {B : Fin 2048 → EReal} (ha : ∀ k, a (ix2 k p) = A k) (hb : ∀ k, b (ix2 k q) = B k) :
    k0_pay1 (F := Ideal) a b (ix3 0 p q) = ∑ k, A k * B k := by
  pointwise [k0_pay1]
  simp only [ha, hb]

/-- What the second block of rows leaves, element by element. -/
theorem added (a : S2048x1024.Idx → EReal) (b : S2048x1408.Idx → EReal) (o : S1x1024x1408.Idx → EReal) (p : Fin 1024)
    (q : Fin 1408) {A : Fin 2048 → EReal} {B : Fin 2048 → EReal} {O : EReal} (ha : ∀ k, a (ix2 k p) = A k)
    (hb : ∀ k, b (ix2 k q) = B k) (ho : o (ix3 0 p q) = O) : k0_pay2 (F := Ideal) a b o (ix3 0 p q) = O + ∑ k, A k * B k := by
  pointwise [k0_pay2, k0_pay1]
  simp only [ha, hb, ho]

/-- After the first block of rows the shard holds the sum over that block. -/
theorem first_value (c : Dev nD) (t : Fin cfg0.N) (ht : t.val % 2 = 0) (p : Fin 1024) (q : Fin 1408) :
    outsAt0 m c t.val t.isLt (ix3 0 p q) = ∑ k : Fin 2048, h m c (ix2 (at_ t k) p) * dp m c (ix2 (at_ t k) (col t q)) := by
  rw [outsAt0_A m c t ht (by omega)]
  frame_out
  exact product _ _ p q (fun k => h_block m c t k p) (fun k => dp_block m c t k q)

/-- After the second block of rows the shard holds the sum over all rows. -/
theorem block_value (c : Dev nD) (t : Fin cfg0.N) (ht : t.val % 2 = 1) (p : Fin 1024) (q : Fin 1408) :
    outsAt0 m c t.val t.isLt (ix3 0 p q) = grad m c p (col t q) := by
  have hlt := point_lt t
  rw [outsAt0_B m c t (by omega) ht]
  frame_out
  refine (added _ _ _ p q (fun k => h_block m c t k p) (fun k => dp_block m c t k q)
    (first_value m c ⟨t.val - 1, by omega⟩ (by show (t.val - 1) % 2 = 0; omega) p q)).trans ?_
  unfold grad
  rw [Fin.sum_univ_two_halves 2048 2048 rfl]
  refine congrArg₂ (· + ·) (Finset.sum_congr rfl fun k _ => ?_) (Finset.sum_congr rfl fun k _ => ?_)
  · refine congrArg₂ (fun r q => h m c (ix2 r p) * dp m c (ix2 r q)) (Fin.ext ?_) (Fin.ext ?_)
    · show (t.val - 1) % 2 * 2048 + k.val = k.val; omega
    · show (t.val - 1) / 2 * 1408 + q.val = t.val / 2 * 1408 + q.val; omega
  · refine congrArg (fun r => h m c (ix2 r p) * dp m c (ix2 r (col t q))) (Fin.ext ?_)
    show t.val % 2 * 2048 + k.val = 2048 + k.val; omega

/-- Where a shard and its column lie in the columns of the whole gradient. -/
def place (s : Fin 4) (q : Fin 1408) : Fin 2816 := ⟨(s.val - 2) * 1408 + q.val, by have := s.isLt; have := q.isLt; omega⟩

/-- The array after the run: the last two shards hold the gradient, the first two what they held. -/
def result (c : Dev nD) (i : S4x1024x1408.Idx) : EReal :=
  if 2 ≤ (i 0).val then grad m c (i 1) (place (i 0) (i 2)) else prev m c i

theorem final (c : Dev nD) : (dats m 0 c).arrAt 2 cfg0.N = result m c := by
  refine ((dats m 0 c).arrAt_eq_of_coversWhere 2 (fun i => grad m c (i 1) (place (i 0) (i 2)) : S4x1024x1408.Idx → EReal)
    (P := fun i : S4x1024x1408.Idx => 2 ≤ (i 0).val) (fun β => 2 ≤ β (0 : Fin 3)) (by decide +kernel) (fun t hf j => ?_)
    (fun j => by blk_simp [Pipeline.Window.cell_apply]; omega)).trans ?_
  · obtain ⟨s, p, q, rfl⟩ : ∃ (s : Fin 1) (p : Fin 1024) (q : Fin 1408), j = ix3 s p q := ⟨j 0, j 1, j 2, eq_ix3 j⟩
    obtain rfl : s = 0 := Subsingleton.elim _ _
    have ht : t.val % 2 = 1 := by revert t; decide +kernel
    show outsAt0 m c t.val t.isLt (ix3 0 p q) = _
    rw [block_value m c t ht]
    have hi := idx t
    refine congrArg₂ (grad m c) (Fin.ext ?_) (Fin.ext ?_)
    · blk_simp [hi]
    · unfold col place
      blk_simp [hi]
      show t.val / 2 * 1408 + q.val = (2 + t.val / 2 + 0 - 2) * 1408 + q.val
      omega
  · funext i
    unfold result
    refine if_congr Iff.rfl rfl ?_
    show V m c main_v2 i = prev m c i
    unfold V prev; after_reads_at; rfl

end Cert.Kernel9Ideal.UpValue

namespace Cert.Reference9Ideal.UpValue

open Cert.Reference9Ideal

/-- The first two shards of the plain gradient are those handed over. -/
theorem value_kept (x0 : S4096x1024.Idx → EReal) (x1 : S4096x2816.Idx → EReal) (x2 : S4x1024x1408.Idx → EReal) (s : Fin 4)
    (p : Fin 1024) (q : Fin 1408) (hs : ¬2 ≤ s.val) :
    Read.val_main_v7 (F := Ideal) x0 x1 x2 (ix3 s p q) = x2 (ix3 s p q) := by
  pointwise [Read.val_main_v7, Read.val_main_v6, Read.val_main_v5, Read.val_main_v4, Read.val_main_v3, Read.val_main_v2]
  exact dif_pos (by omega)

/-- The last two shards of the plain gradient are the weight gradient that differentiating the product gives. -/
theorem value_new (x0 : S4096x1024.Idx → EReal) (x1 : S4096x2816.Idx → EReal) (x2 : S4x1024x1408.Idx → EReal) (s : Fin 4)
    (p : Fin 1024) (q : Fin 1408) (hs : 2 ≤ s.val) :
    Read.val_main_v7 (F := Ideal) x0 x1 x2 (ix3 s p q)
      = ∑ r : Fin 4096, x0 (ix2 r p) * x1 (ix2 r (Cert.Kernel9Ideal.UpValue.place s q)) := by
  pointwise [Read.val_main_v7, Read.val_main_v6, Read.val_main_v5, Read.val_main_v4, Read.val_main_v3, Read.val_main_v2]
  refine (dif_neg (by omega)).trans (Finset.sum_congr rfl fun r _ => mul_comm _ _)

end Cert.Reference9Ideal.UpValue

namespace Cert.Proof

/-- The plain gradient runs, keeps its arguments and leaves no semaphore counted up. -/
theorem frame_up_value_weight_reference : quiescent_Reference9Ideal (hReference9Ideal := Cert.Reference9Ideal.Gen.facts) := fun m ρ _ =>
  (θ_run _ _ _).mono (fun r h => ⟨fun c => (h c).2, Idealize.ShloMosaic.sem_eq_zero_of_no_sems (by decide) r.2⟩)
    (Cert.Reference9Ideal.Value.run m ρ)

/-- The kernel's weight gradient is that of the plain product differentiated. -/
theorem up_value_weight : algebraic_Kernel9Ideal_Reference9Ideal (hKernel9Ideal := Cert.Kernel9Ideal.Gen.facts)
    (hReference9Ideal := Cert.Reference9Ideal.Gen.facts) := by
  intro m ρ m' ρ' _ hm
  refine ⟨fun c => Cert.Kernel9Ideal.UpValue.result m c, ?_, ?_⟩
  · exact (θ_run _ _ _).mono (fun r h c => ⟨(h c).1.trans (Cert.Kernel9Ideal.UpValue.final m c), (h c).2⟩)
      (Cert.Kernel9Ideal.Value.run_blocks m ρ)
  · refine (θ_run _ _ _).mono (fun r h c => ⟨(h c).1.trans ?_, (h c).2⟩) (Cert.Reference9Ideal.Value.run m' ρ')
    rw [Cert.Reference9Ideal.Read.val_main_v7_eq, (hm c).1, (hm c).2.1, (hm c).2.2]
    funext i
    rw [eq_ix3 i]
    by_cases hs : 2 ≤ (i 0).val
    · exact (Cert.Reference9Ideal.UpValue.value_new _ _ _ _ _ _ hs).trans (if_pos hs).symm
    · exact (Cert.Reference9Ideal.UpValue.value_kept _ _ _ _ _ _ hs).trans (if_neg hs).symm

end Cert.Proof

end
-- ==== Proof.Loss.lean ====
/-
  The down projection with the loss: what the kernel's three result arrays hold.
-/
module

public import proofs.«01_k».proof.Proof.Gen.Kernel10Ideal.Value
public import proofs.«01_k».proof.Proof.Rms
public import Idealize.ShloMosaic.Lib.Pipeline.ValueKit
public import Idealize.ShloMosaic.Lib.Pipeline.ReadBack
public import Idealize.ShloMosaic.Lib.Pointwise
public import Idealize.ShloMosaic.Lib.StableHlo.ReadAt

@[expose] public section

set_option maxRecDepth 16384

noncomputable section

open Idealize.ShloMosaic Idealize.ShloMosaic.TcCoe Idealize.SL.Sem
open Idealize.ShloMosaic.Pipeline (Dat)

namespace Cert.Kernel10Ideal.Loss

open Cert.Kernel10Ideal Cert.Kernel10Ideal.Gen

variable (m : (ℓ : Loc nD τ sig) → Buf (Elt Ideal) ℓ)

/-- The gated product's rows. -/
def act (c : Dev nD) : S4096x2816.Idx → EReal := m ((c.tc : Thread nD τ).loc main_arg0)
/-- The down projection's weight. -/
def w (c : Dev nD) : S2816x1024.Idx → EReal := m ((c.tc : Thread nD τ).loc main_arg1)
/-- The rows the projection is added to. -/
def y (c : Dev nD) : S4096x1024.Idx → EReal := m ((c.tc : Thread nD τ).loc main_arg2)
/-- The target. -/
def target (c : Dev nD) : S4096x1024.Idx → EReal := m ((c.tc : Thread nD τ).loc main_arg3)

/-- The error: the rows with the projection added, less the target. -/
def err (c : Dev nD) (r : Fin 4096) (q : Fin 1024) : EReal :=
  y m c (ix2 r q) + (∑ k : Fin 2816, act m c (ix2 r k) * w m c (ix2 k q)) - target m c (ix2 r q)

/-- The loss's gradient by the output: the error over the width. -/
def grad (c : Dev nD) (r : Fin 4096) (q : Fin 1024) : EReal := err m c r q * Ideal.ofBits .f32 0x3A800000#32

/-- Row `p` of the `a`-th group of eight rows, and column `q` of the `j`-th group of 128 columns. -/
def row (a : Fin 512) (p : Fin 8) : Fin 4096 := ⟨8 * a.val + p.val, by omega⟩
def col (j : Fin 8) (q : Fin 128) : Fin 1024 := ⟨128 * j.val + q.val, by omega⟩

/-- The squared error there. -/
def square (c : Dev nD) (a : Fin 512) (j : Fin 8) (p : Fin 8) (q : Fin 128) : EReal :=
  err m c (row a p) (col j q) * err m c (row a p) (col j q)

theorem idx : ∀ t : Fin cfg0.N, win0_0.index t = ![t.val, 0] ∧ win0_1.index t = ![0, 0] ∧ win0_2.index t = ![t.val, 0] ∧
    win0_3.index t = ![t.val, 0] ∧ win0_4.index t = ![t.val, 0] ∧ win0_5.index t = ![t.val, 0] ∧ win0_6.index t = ![0, 0] := by
  decide +kernel

theorem point_lt (t : Fin cfg0.N) : t.val < 8 := lt_of_lt_of_eq t.isLt (by decide)

/-- The array's row that row `p` of point `t`'s block is. -/
def at_ (t : Fin cfg0.N) (p : Fin 512) : Fin 4096 := ⟨t.val * 512 + p.val, by have := point_lt t; have := p.isLt; omega⟩

/-- The group of eight rows that group `a` of point `t`'s block is. -/
def group (t : Fin cfg0.N) (a : Fin 64) : Fin 512 := ⟨t.val * 64 + a.val, by have := point_lt t; have := a.isLt; omega⟩

theorem act_block (c : Dev nD) (t : Fin cfg0.N) (p : Fin 512) (k : Fin 2816) :
    iblk m c 0 t (ix2 p k) = act m c (ix2 (at_ t p) k) := by
  have e : V m c main_v0 (ix2 (at_ t p) k) = act m c (ix2 (at_ t p) k) := by
    unfold V act; after_reads_at
  have h := idx t
  rw [← e]
  unfold iblk at_
  blk_ext [h]

theorem weight_block (c : Dev nD) (t : Fin cfg0.N) (k : Fin 2816) (q : Fin 1024) :
    iblk m c 1 t (ix2 k q) = w m c (ix2 k q) := by
  have e : V m c main_v1 (ix2 k q) = w m c (ix2 k q) := by
    unfold V w; after_reads_at
  have h := idx t
  rw [← e]
  unfold iblk
  blk_ext [h]

theorem row_block (c : Dev nD) (t : Fin cfg0.N) (p : Fin 512) (q : Fin 1024) :
    iblk m c 2 t (ix2 p q) = y m c (ix2 (at_ t p) q) := by
  have h := idx t
  unfold y at_
  blk_ext [iblk, V, h]

theorem target_block (c : Dev nD) (t : Fin cfg0.N) (p : Fin 512) (q : Fin 1024) :
    iblk m c 3 t (ix2 p q) = target m c (ix2 (at_ t p) q) := by
  have h := idx t
  unfold target at_
  blk_ext [iblk, V, h]

/-- The error of a block, element by element, from the blocks it reads. -/
theorem stored_err (b d : S512x1024.Idx → EReal) (a : S512x2816.Idx → EReal) (v : S2816x1024.Idx → EReal) (p : Fin 512)
    (q : Fin 1024) {A W : Fin 2816 → EReal} {B D : EReal} (hb : b (ix2 p q) = B) (ha : ∀ k, a (ix2 p k) = A k)
    (hv : ∀ k, v (ix2 k q) = W k) (hd : d (ix2 p q) = D) :
    k0_pay3 (F := Ideal) b a v d (ix2 p q) = B + (∑ k, A k * W k) - D := by
  pointwise [k0_pay3]
  simp only [hb, ha, hv, hd]

/-- The stored gradient is the error over the width. -/
theorem stored_grad (b d : S512x1024.Idx → EReal) (a : S512x2816.Idx → EReal) (v : S2816x1024.Idx → EReal) (p : Fin 512)
    (q : Fin 1024) {E : EReal} (h : k0_pay3 (F := Ideal) b a v d (ix2 p q) = E) :
    k0_pay4 (F := Ideal) b a v d (ix2 p q) = E * Ideal.ofBits .f32 0x3A800000#32 := by
  pointwise [k0_pay4]
  rw [h]

/-- Its shorter copy is the same. -/
theorem stored_copy (b d : S512x1024.Idx → EReal) (a : S512x2816.Idx → EReal) (v : S2816x1024.Idx → EReal) (p : Fin 512)
    (q : Fin 1024) {E : EReal} (h : k0_pay3 (F := Ideal) b a v d (ix2 p q) = E) :
    k0_pay5 (F := Ideal) b a v d (ix2 p q) = E * Ideal.ofBits .f32 0x3A800000#32 := by
  pointwise [k0_pay5]
  exact stored_grad b d a v p q h

/-- The sum of a block's squared errors over its groups of eight rows and its groups of 128 columns. -/
theorem stored_sum (b d : S512x1024.Idx → EReal) (a : S512x2816.Idx → EReal) (v : S2816x1024.Idx → EReal) (p : Fin 8)
    (q : Fin 128) {E : Fin 64 → Fin 8 → EReal}
    (h : ∀ (g : Fin 64) (j : Fin 8), k0_pay3 (F := Ideal) b a v d (ix2 (⟨8 * g.val + p.val, by omega⟩ : Fin 512) (col j q)) = E g j) :
    k0_pay6 (F := Ideal) b a v d (ix2 p q) = ∑ j : Fin 8, ∑ g : Fin 64, E g j * E g j := by
  pointwise [k0_pay6]
  rw [Fin.sum_univ_eight]
  have e : ∀ (g : Fin 64) (j : Fin 8) (s : Fin 1024), s.val = 128 * j.val + q.val →
      k0_pay3 (F := Ideal) b a v d (ix2 (⟨g.val * 8 + p.val, by omega⟩ : Fin 512) s) = E g j := by
    intro g j s hs
    rw [← h g j]
    exact congrArg₂ (fun r s => k0_pay3 (F := Ideal) b a v d (ix2 r s)) (Fin.ext (by simp; omega)) (Fin.ext hs)
  have f : ∀ (j : Fin 8) (s : Fin 1024), s.val = 128 * j.val + q.val →
      ∑ g : Fin 64, k0_pay3 (F := Ideal) b a v d (ix2 (⟨g.val * 8 + p.val, by omega⟩ : Fin 512) s)
          * k0_pay3 (F := Ideal) b a v d (ix2 (⟨g.val * 8 + p.val, by omega⟩ : Fin 512) s) = ∑ g : Fin 64, E g j * E g j :=
    fun j s hs => Finset.sum_congr rfl fun g _ => congrArg₂ (· * ·) (e g j s hs) (e g j s hs)
  exact congrArg₂ (· + ·) (congrArg₂ (· + ·) (congrArg₂ (· + ·) (congrArg₂ (· + ·) (congrArg₂ (· + ·) (congrArg₂ (· + ·)
    (congrArg₂ (· + ·) (f 0 _ (Nat.zero_add _).symm) (f 1 _ rfl)) (f 2 _ rfl)) (f 3 _ rfl)) (f 4 _ rfl)) (f 5 _ rfl)) (f 6 _
    rfl)) (f 7 _ rfl)

/-- The error over a point's block. -/
theorem err_block (c : Dev nD) (t : Fin cfg0.N) (p : Fin 512) (q : Fin 1024) :
    k0_pay3 (F := Ideal) (iblk m c 2 t) (iblk m c 0 t) (iblk m c 1 t) (iblk m c 3 t) (ix2 p q) = err m c (at_ t p) q :=
  stored_err _ _ _ _ p q (row_block m c t p q) (act_block m c t p) (fun k => weight_block m c t k q) (target_block m c t p q)

/-- The gradient's block after any point. -/
theorem grad_block (c : Dev nD) (t : Fin cfg0.N) (p : Fin 512) (q : Fin 1024) :
    (outsAt0 m c t.val t.isLt).1 (ix2 p q) = grad m c (at_ t p) q := by
  by_cases h0 : t.val % 8 = 0
  · rw [outsAt0_A m c t h0]
    frame_out
    exact stored_grad _ _ _ _ p q (err_block m c t p q)
  · rw [outsAt0_B m c t h0]
    frame_out
    exact stored_grad _ _ _ _ p q (err_block m c t p q)

/-- The shorter copy's block after any point. -/
theorem copy_block (c : Dev nD) (t : Fin cfg0.N) (p : Fin 512) (q : Fin 1024) :
    (outsAt0 m c t.val t.isLt).2.1 (ix2 p q) = grad m c (at_ t p) q := by
  by_cases h0 : t.val % 8 = 0
  · rw [outsAt0_A m c t h0]
    frame_out
    exact stored_copy _ _ _ _ p q (err_block m c t p q)
  · rw [outsAt0_B m c t h0]
    frame_out
    exact stored_copy _ _ _ _ p q (err_block m c t p q)

/-- The gradient's array after the run. -/
theorem grad_final (c : Dev nD) :
    (dats m 0 c).arrAt 4 cfg0.N = (fun i => grad m c (i 0) (i 1) : S4096x1024.Idx → EReal) := by
  refine (dats m 0 c).arrAt_eq_of_covers 4 _ (by decide +kernel) fun t hf j => ?_
  obtain ⟨p, q, rfl⟩ : ∃ (p : Fin 512) (q : Fin 1024), j = ix2 p q := ⟨j 0, j 1, eq_ix2 j⟩
  show (outsAt0 m c t.val t.isLt).1 (ix2 p q) = _
  rw [grad_block]
  have h := idx t
  refine congrArg₂ (grad m c) (Fin.ext ?_) (Fin.ext ?_)
  · unfold at_; blk_simp [h]
  · blk_simp [h]

/-- The shorter copy's array after the run. -/
theorem copy_final (c : Dev nD) :
    (dats m 0 c).arrAt 5 cfg0.N = (fun i => grad m c (i 0) (i 1) : S4096x1024.Idx → EReal) := by
  refine (dats m 0 c).arrAt_eq_of_covers 5 _ (by decide +kernel) fun t hf j => ?_
  obtain ⟨p, q, rfl⟩ : ∃ (p : Fin 512) (q : Fin 1024), j = ix2 p q := ⟨j 0, j 1, eq_ix2 j⟩
  show (outsAt0 m c t.val t.isLt).2.1 (ix2 p q) = _
  rw [copy_block]
  have h := idx t
  refine congrArg₂ (grad m c) (Fin.ext ?_) (Fin.ext ?_)
  · unfold at_; blk_simp [h]
  · blk_simp [h]

/-- What point `t` adds to the sums of squared errors. -/
def part (c : Dev nD) (t : Fin cfg0.N) (p : Fin 8) (q : Fin 128) : EReal :=
  ∑ j : Fin 8, ∑ g : Fin 64, square m c (group t g) j p q

def added (c : Dev nD) (n : ℕ) (i : Fin 8 × Fin 128) : EReal :=
  if hn : n < cfg0.N then part m c ⟨n, hn⟩ i.1 i.2 else 0

theorem added_at (c : Dev nD) (n : ℕ) (hn : n < cfg0.N) (i : Fin 8 × Fin 128) :
    added m c n i = part m c ⟨n, hn⟩ i.1 i.2 := by
  unfold added
  exact dif_pos hn

/-- The sum a point's body forms. -/
theorem sum_block (c : Dev nD) (t : Fin cfg0.N) (p : Fin 8) (q : Fin 128) :
    k0_pay6 (F := Ideal) (iblk m c 2 t) (iblk m c 0 t) (iblk m c 1 t) (iblk m c 3 t) (ix2 p q) = part m c t p q := by
  refine stored_sum _ _ _ _ p q (E := fun g j => err m c (row (group t g) p) (col j q)) fun g j => ?_
  rw [err_block]
  refine congrArg (fun r => err m c r (col j q)) (Fin.ext ?_)
  simp only [at_, row, group]
  omega

/-- The sums with a block's own added. -/
theorem stored_part (s o : S8x128.Idx → EReal) (p : Fin 8) (q : Fin 128) {P O : EReal} (hs : s (ix2 p q) = P)
    (ho : o (ix2 p q) = O) : k0_pay1 (F := Ideal) s (k0_pay7 (F := Ideal) o) (ix2 p q) = O + P := by
  pointwise [k0_pay1, k0_pay7]
  rw [hs, ho]

/-- The sums of squared errors after point `t`. -/
theorem part_block (c : Dev nD) (t : Fin cfg0.N) (i : Fin 8 × Fin 128) :
    (outsAt0 m c t.val t.isLt).2.2 (ix2 i.1 i.2) = 0 + ∑ k ∈ Finset.range (t.val % 8 + 1), added m c (8 * (t.val / 8) + k) i := by
  refine Pipeline.eq_sum_of_reset_step_apply (fun n h (i : Fin 8 × Fin 128) => (outsAt0 m c n h).2.2 (ix2 i.1 i.2)) 8 (fun _ => 0)
    (added m c) ?_ ?_ t i
  · intro t h0 i
    show (outsAt0 m c t.val t.isLt).2.2 (ix2 i.1 i.2) = _
    rw [outsAt0_A m c t h0, added_at m c t.val t.isLt]
    frame_out
    exact stored_part _ _ i.1 i.2 (sum_block m c t i.1 i.2) (by pointwise [k0_pay2])
  · intro t h0 i
    show (outsAt0 m c t.val t.isLt).2.2 (ix2 i.1 i.2) = _
    rw [outsAt0_B m c t h0, added_at m c t.val t.isLt]
    frame_out
    try simp only [read_unread_whole]
    exact stored_part _ _ i.1 i.2 (sum_block m c t i.1 i.2) rfl

/-- The sums of squared errors after the run: over all the groups of rows and of columns. -/
theorem part_final (c : Dev nD) :
    (dats m 0 c).arrAt 6 cfg0.N = (fun i => ∑ a : Fin 512, ∑ j : Fin 8, square m c a j (i 0) (i 1) : S8x128.Idx → EReal) := by
  refine (dats m 0 c).arrAt_eq_of_covers 6 _ (by decide +kernel) fun t hf j => ?_
  obtain ⟨p, q, rfl⟩ : ∃ (p : Fin 8) (q : Fin 128), j = ix2 p q := ⟨j 0, j 1, eq_ix2 j⟩
  have ht : t.val = 7 := by revert t; decide +kernel
  show (outsAt0 m c t.val t.isLt).2.2 (ix2 p q) = _
  rw [part_block m c t (p, q), ht]
  have h := idx t
  have hp : (((cfg0.win 6).blk t).view.emb (ix2 p q)) 0 = p := by refine Fin.ext ?_; blk_simp [h]
  have hq : (((cfg0.win 6).blk t).view.emb (ix2 p q)) 1 = q := by refine Fin.ext ?_; blk_simp [h]
  show _ = ∑ a : Fin 512, ∑ j : Fin 8, square m c a j ((((cfg0.win 6).blk t).view.emb (ix2 p q)) 0)
    ((((cfg0.win 6).blk t).view.emb (ix2 p q)) 1)
  rw [hp, hq, zero_add, Fin.sum_univ_tiles 8 64 rfl, Finset.sum_range]
  refine Finset.sum_congr rfl fun k _ => ?_
  have hk : 8 * (7 / 8) + k.val < cfg0.N := by
    have h8 : cfg0.N = 8 := by decide
    have := k.isLt
    omega
  rw [added_at m c _ hk]
  refine Finset.sum_comm.trans (Finset.sum_congr rfl fun g _ => Finset.sum_congr rfl fun j _ =>
    congrArg (fun a => square m c a j p q) (Fin.ext ?_))
  simp [group]

end Cert.Kernel10Ideal.Loss

end
-- ==== Proof.LossClaim.lean ====
/-
  The claims about the down projection with the loss.
-/
module

public import proofs.«01_k».proof.Defs
public import proofs.«01_k».proof.Proof.Loss
public import proofs.«01_k».proof.Proof.Gen.Reference10Ideal.Run
public import proofs.«01_k».proof.Proof.Gen.Reference10Ideal.Read

@[expose] public section

set_option maxRecDepth 16384

noncomputable section

open Idealize.ShloMosaic Idealize.SL.Sem

namespace Cert.Reference10Ideal.Loss

open Cert.Reference10Ideal

variable (x0 : S4096x2816.Idx → EReal) (x1 : S2816x1024.Idx → EReal) (x2 x3 : S4096x1024.Idx → EReal)

/-- The error of one output. -/
def err (r : Fin 4096) (q : Fin 1024) : EReal := x2 (ix2 r q) + (∑ k : Fin 2816, x0 (ix2 r k) * x1 (ix2 k q)) - x3 (ix2 r q)

/-- Half over the width, times twice the error, is the error over the width. -/
theorem scale (e : EReal) : Ideal.div (Ideal.ofBits .f32 0x3F000000#32) (Ideal.ofBits .f32 0x44800000#32)
    * (Ideal.ofBits .f32 0x40000000#32 * e) = e * Ideal.ofBits .f32 0x3A800000#32 := by
  have h : Ideal.ofBits .f32 0x3F000000#32 = ((1 / 2 : ℝ) : EReal) := by
    simp [Ideal.ofBits, Ideal.ieee, -EReal.coe_mul]; norm_num
  have d : Ideal.ofBits .f32 0x40000000#32 = ((2 : ℝ) : EReal) := by
    simp [Ideal.ofBits, Ideal.ieee, -EReal.coe_mul]; norm_num
  have s : Ideal.ofBits .f32 0x3A800000#32 = ((1 / 1024 : ℝ) : EReal) := by
    simp [Ideal.ofBits, Ideal.ieee, -EReal.coe_mul]; norm_num
  have n : ((1024 : ℝ) : EReal) ≠ 0 := by exact_mod_cast (by norm_num : (1024 : ℝ) ≠ 0)
  rw [h, d, s, Rms.width, Ideal.div, if_neg n, ← mul_assoc, mul_comm, ← EReal.coe_inv,
    ← EReal.coe_mul, ← EReal.coe_mul]
  norm_num

/-- The gradient that differentiating the loss gives, element by element. -/
theorem grad_value (r : Fin 4096) (q : Fin 1024) :
    Read.val_main_v16 (F := Ideal) x0 x1 x2 x3 (ix2 r q) = err x0 x1 x2 x3 r q * Ideal.ofBits .f32 0x3A800000#32 := by
  pointwise [Read.val_main_v0, Read.val_main_v1, Read.val_main_v2, Read.val_main_v3, Read.val_main_cst, Read.val_main_v4,
    Read.val_main_v5, Read.val_main_cst_0, Read.val_main_v6, Read.val_main_cst_1, Read.val_main_v7, Read.val_main_v8,
    Read.val_main_cst_2, Read.val_main_v9, Read.val_main_cst_3, Read.val_main_v10, Read.val_main_cst_4, Read.val_main_cst_5,
    Read.val_main_v11, Read.val_main_v12, Read.val_main_cst_6, Read.val_main_v13, Read.val_main_v14, Read.val_main_v15,
    Read.val_main_v16]
  exact scale _

/-- Its shorter copy. -/
theorem copy_value (r : Fin 4096) (q : Fin 1024) :
    Read.val_main_v17 (F := Ideal) x0 x1 x2 x3 (ix2 r q) = err x0 x1 x2 x3 r q * Ideal.ofBits .f32 0x3A800000#32 := by
  pointwise [Read.val_main_v17]
  exact grad_value x0 x1 x2 x3 r q

/-- The sums of squared errors, element by element. -/
theorem part_value (p : Fin 8) (q : Fin 128) :
    Read.val_main_v22 (F := Ideal) x0 x1 x2 x3 (ix2 p q)
      = ∑ a : Fin 512, ∑ j : Fin 8, err x0 x1 x2 x3 (Cert.Kernel10Ideal.Loss.row a p) (Cert.Kernel10Ideal.Loss.col j q)
          * err x0 x1 x2 x3 (Cert.Kernel10Ideal.Loss.row a p) (Cert.Kernel10Ideal.Loss.col j q) := by
  pointwise [Read.val_main_v0, Read.val_main_v1, Read.val_main_v2, Read.val_main_v3, Read.val_main_cst, Read.val_main_v4,
    Read.val_main_v5, Read.val_main_cst_0, Read.val_main_v6, Read.val_main_cst_1, Read.val_main_v7, Read.val_main_v8,
    Read.val_main_cst_2, Read.val_main_v9, Read.val_main_cst_3, Read.val_main_v10, Read.val_main_cst_4, Read.val_main_cst_5,
    Read.val_main_v11, Read.val_main_v12, Read.val_main_cst_6, Read.val_main_v13, Read.val_main_v14, Read.val_main_v15,
    Read.val_main_v16, Read.val_main_v17, Read.val_main_v18, Read.val_main_v19, Read.val_main_v20, Read.val_main_cst_7,
    Read.val_main_v21, Read.val_main_cst_8, Read.val_main_v22]
  have e : ∀ (r r' : Fin 4096) (s s' : Fin 1024), r = r' → s = s' →
      x2 (ix2 r s) + (∑ k : Fin 2816, x0 (ix2 r k) * x1 (ix2 k s)) - x3 (ix2 r s) = err x0 x1 x2 x3 r' s' := by
    rintro r _ s _ rfl rfl
    rfl
  refine Finset.sum_congr rfl fun a _ => Finset.sum_congr rfl fun j _ => congrArg₂ (· * ·) (e _ _ _ _ ?_ ?_) (e _ _ _ _ ?_ ?_) <;>
    refine Fin.ext ?_ <;> simp only [Cert.Kernel10Ideal.Loss.row, Cert.Kernel10Ideal.Loss.col] <;> omega

end Cert.Reference10Ideal.Loss

namespace Cert.Proof

/-- The plain projection with its loss runs, keeps its arguments and leaves no semaphore counted up. -/
theorem frame_loss_reference : quiescent_Reference10Ideal (hReference10Ideal := Cert.Reference10Ideal.Gen.facts) := fun m ρ _ =>
  (θ_run _ _ _).mono (fun r h => ⟨fun c => (h c).2.2.2, Idealize.ShloMosaic.sem_eq_zero_of_no_sems (by decide) r.2⟩)
    (Cert.Reference10Ideal.Value.run m ρ)

/-- The kernel's gradients of the output and its sums of squared errors are those of the loss written plainly and
    differentiated. -/
theorem loss : algebraic_Kernel10Ideal_Reference10Ideal (hKernel10Ideal := Cert.Kernel10Ideal.Gen.facts)
    (hReference10Ideal := Cert.Reference10Ideal.Gen.facts) := by
  intro m ρ m' ρ' _ hm
  refine ⟨fun c => (fun i => Cert.Kernel10Ideal.Loss.grad m c (i 0) (i 1) : Cert.Kernel10Ideal.S4096x1024.Idx → EReal),
    fun c => (fun i => Cert.Kernel10Ideal.Loss.grad m c (i 0) (i 1) : Cert.Kernel10Ideal.S4096x1024.Idx → EReal),
    fun c => (fun i => ∑ a : Fin 512, ∑ j : Fin 8, Cert.Kernel10Ideal.Loss.square m c a j (i 0) (i 1) :
      Cert.Kernel10Ideal.S8x128.Idx → EReal), ?_, ?_⟩
  · exact (θ_run _ _ _).mono (fun r h c => ⟨(h c).1.trans (Cert.Kernel10Ideal.Loss.grad_final m c),
      (h c).2.1.trans (Cert.Kernel10Ideal.Loss.copy_final m c), (h c).2.2.1.trans (Cert.Kernel10Ideal.Loss.part_final m c),
      (h c).2.2.2⟩) (Cert.Kernel10Ideal.Value.run_blocks m ρ)
  · refine (θ_run _ _ _).mono (fun r h c => ⟨(h c).1.trans ?_, (h c).2.1.trans ?_, (h c).2.2.1.trans ?_, (h c).2.2.2⟩)
      (Cert.Reference10Ideal.Value.run m' ρ')
    · rw [Cert.Reference10Ideal.Read.val_main_v16_eq, (hm c).1, (hm c).2.1, (hm c).2.2.1, (hm c).2.2.2]
      funext i
      rw [eq_ix2 i]
      exact Cert.Reference10Ideal.Loss.grad_value _ _ _ _ _ _
    · rw [Cert.Reference10Ideal.Read.val_main_v17_eq, (hm c).1, (hm c).2.1, (hm c).2.2.1, (hm c).2.2.2]
      funext i
      rw [eq_ix2 i]
      exact Cert.Reference10Ideal.Loss.copy_value _ _ _ _ _ _
    · rw [Cert.Reference10Ideal.Read.val_main_v22_eq, (hm c).1, (hm c).2.1, (hm c).2.2.1, (hm c).2.2.2]
      funext i
      rw [eq_ix2 i]
      exact Cert.Reference10Ideal.Loss.part_value _ _ _ _ _ _

end Cert.Proof

end
-- ==== Proof.InForward.lean ====
/-
  The norm and the input projection: what the kernel's four result arrays hold.
-/
module

public import proofs.«01_k».proof.Proof.Gen.Kernel11Ideal.Value
public import proofs.«01_k».proof.Proof.Rms
public import Idealize.ShloMosaic.Lib.Pipeline.ValueKit
public import Idealize.ShloMosaic.Lib.Pointwise
public import Idealize.ShloMosaic.Lib.StableHlo.ReadAt

@[expose] public section

set_option maxRecDepth 16384

noncomputable section

open Idealize.ShloMosaic Idealize.ShloMosaic.TcCoe Idealize.SL.Sem
open Idealize.ShloMosaic.Pipeline (Dat)

namespace Cert.Kernel11Ideal.In

open Cert.Kernel11Ideal Cert.Kernel11Ideal.Gen

variable (m : (ℓ : Loc nD τ sig) → Buf (Elt Ideal) ℓ)

/-- The rows before the norm. -/
def x (c : Dev nD) : S4096x1024.Idx → EReal := m ((c.tc : Thread nD τ).loc main_arg0)
/-- The norm's weight. -/
def g (c : Dev nD) : S1x1024.Idx → EReal := m ((c.tc : Thread nD τ).loc main_arg1)
/-- The projection's weight. -/
def w (c : Dev nD) : S1024x4352.Idx → EReal := m ((c.tc : Thread nD τ).loc main_arg2)
/-- The gates' bias. -/
def b (c : Dev nD) : S1x2048.Idx → EReal := m ((c.tc : Thread nD τ).loc main_arg3)

/-- A row after the norm: the row over its root mean square, times the norm's weight. -/
def norm (y v : Fin 1024 → EReal) (k : Fin 1024) : EReal := y k * Ideal.rsqrt (Rms.ms y) * v k

/-- Row `r` after the norm. -/
def h (c : Dev nD) (r : Fin 4096) : Fin 1024 → EReal := norm (fun k => x m c (ix2 r k)) (fun k => g m c (ix2 0 k))

/-- The projection's result: one row after the norm against one column of the weight. -/
def z (c : Dev nD) (r : Fin 4096) (q : Fin 4352) : EReal := ∑ k : Fin 1024, h m c r k * w m c (ix2 k q)

/-- A column of the pooling part, of the attention's part and of the gates' part of the result. -/
def uc (q : Fin 1024) : Fin 4352 := ⟨q.val, by omega⟩
def ac (q : Fin 1280) : Fin 4352 := ⟨1024 + q.val, by omega⟩
def gc (q : Fin 2048) : Fin 4352 := ⟨2304 + q.val, by omega⟩

/-- The gates. -/
def gate (c : Dev nD) (r : Fin 4096) (q : Fin 2048) : EReal := Ideal.logistic (z m c r (gc q) + b m c (ix2 0 q))

theorem idx : ∀ t : Fin cfg0.N, win0_0.index t = ![t.val, 0] ∧ win0_1.index t = ![0, 0] ∧ win0_2.index t = ![0, 0] ∧
    win0_3.index t = ![0, 0] ∧ win0_4.index t = ![t.val, 0] ∧ win0_5.index t = ![t.val, 0] ∧ win0_6.index t = ![t.val, 0] ∧
    win0_7.index t = ![t.val, 0] := by decide +kernel

theorem point_lt (t : Fin cfg0.N) : t.val < 8 := lt_of_lt_of_eq t.isLt (by decide)

/-- The row of the whole array that row `p` of point `t`'s blocks is. -/
def at_ (t : Fin cfg0.N) (p : Fin 512) : Fin 4096 := ⟨t.val * 512 + p.val, by have := point_lt t; have := p.isLt; omega⟩

theorem row_block (c : Dev nD) (t : Fin cfg0.N) (p : Fin 512) (k : Fin 1024) :
    iblk m c 0 t (ix2 p k) = x m c (ix2 (at_ t p) k) := by
  have h := idx t
  unfold x at_
  blk_ext [iblk, V, h]

theorem norm_block (c : Dev nD) (t : Fin cfg0.N) (p : Fin 1) (k : Fin 1024) :
    iblk m c 1 t (ix2 p k) = g m c (ix2 0 k) := by
  have h := idx t
  unfold g
  blk_ext [iblk, V, h]

theorem weight_block (c : Dev nD) (t : Fin cfg0.N) (k : Fin 4352) (q : Fin 1024) :
    iblk m c 2 t (ix2 k q) = w m c (ix2 q k) := by
  have e : V m c main_v1 (ix2 k q) = w m c (ix2 q k) := by
    unfold V w; after_reads_at
  have h := idx t
  rw [← e]
  unfold iblk
  blk_ext [h]

theorem bias_block (c : Dev nD) (t : Fin cfg0.N) (p : Fin 1) (k : Fin 2048) :
    iblk m c 3 t (ix2 p k) = b m c (ix2 0 k) := by
  have h := idx t
  unfold b
  blk_ext [iblk, V, h]

/-- The stored norm, element by element. -/
theorem stored_norm (y : S512x1024.Idx → EReal) (v : S1x1024.Idx → EReal) (p : Fin 512) (q : Fin 1024) {Y N : Fin 1024 → EReal}
    (hy : ∀ k, y (ix2 p k) = Y k) (hv : ∀ k, v (ix2 0 k) = N k) : k0_pay1 (F := Ideal) y v (ix2 p q) = norm Y N q := by
  pointwise [k0_pay1]
  simp only [hy, hv, norm, Rms.ms]

/-- The norm's block after any point. -/
theorem norm_stored (c : Dev nD) (t : Fin cfg0.N) (p : Fin 512) (q : Fin 1024) :
    k0_pay1 (F := Ideal) (iblk m c 0 t) (iblk m c 1 t) (ix2 p q) = h m c (at_ t p) q :=
  stored_norm _ _ p q (row_block m c t p) (norm_block m c t 0)

/-- The pooling part's block after any point. -/
theorem u_stored (c : Dev nD) (t : Fin cfg0.N) (p : Fin 512) (q : Fin 1024) :
    k0_pay2 (F := Ideal) (iblk m c 0 t) (iblk m c 1 t)
      (View.ld (iblk m c 2 t) (Rect.unit ![0, 0] ![1024, 1024] inb_S4352x1024_S1024x1024_0_0)) (ix2 p q) = z m c (at_ t p) (uc q) := by
  pointwise [k0_pay2]
  simp only [norm_stored, weight_block, z, uc]

/-- The attention part's block after any point. -/
theorem a_stored (c : Dev nD) (t : Fin cfg0.N) (p : Fin 512) (q : Fin 1280) :
    k0_pay3 (F := Ideal) (iblk m c 0 t) (iblk m c 1 t)
      (View.ld (iblk m c 2 t) (Rect.unit ![1024, 0] ![1280, 1024] inb_S4352x1024_S1280x1024_1024_0)) (ix2 p q)
      = z m c (at_ t p) (ac q) := by
  pointwise [k0_pay3]
  simp only [norm_stored, weight_block, z, ac]

/-- The gates' block after any point. -/
theorem g_stored (c : Dev nD) (t : Fin cfg0.N) (p : Fin 512) (q : Fin 2048) :
    k0_pay4 (F := Ideal) (iblk m c 0 t) (iblk m c 1 t)
      (View.ld (iblk m c 2 t) (Rect.unit ![2304, 0] ![2048, 1024] inb_S4352x1024_S2048x1024_2304_0)) (iblk m c 3 t) (ix2 p q)
      = gate m c (at_ t p) q := by
  pointwise [k0_pay4]
  simp only [norm_stored, weight_block, bias_block, gate, z, gc]

/-- The normed rows that a point leaves. -/
theorem norm_out (c : Dev nD) (t : Fin cfg0.N) (p : Fin 512) (q : Fin 1024) :
    out0_4 (iblk m c 0 t) (iblk m c 1 t) (iblk m c 2 t) (iblk m c 3 t) (ix2 p q) = h m c (at_ t p) q := by
  unfold out0_4
  frame_out
  exact norm_stored m c t p q

/-- The norm's array after the run. -/
theorem norm_final (c : Dev nD) : (dats m 0 c).arrAt 4 cfg0.N = (fun i => h m c (i 0) (i 1) : S4096x1024.Idx → EReal) := by
  refine (dats m 0 c).arrAt_eq_of_covers 4 _ (by decide +kernel) fun t hf j => ?_
  obtain ⟨p, q, rfl⟩ : ∃ (p : Fin 512) (q : Fin 1024), j = ix2 p q := ⟨j 0, j 1, eq_ix2 j⟩
  show (dats m 0 c).after 4 t (ix2 p q) = _
  rw [after0_4]
  refine (norm_out m c t p q).trans ?_
  have h := idx t
  refine congrArg₂ (In.h m c) (Fin.ext ?_) (Fin.ext ?_)
  · unfold at_; blk_simp [h]
  · blk_simp [h]

/-- The mixer's rows that a point leaves. -/
theorem u_out (c : Dev nD) (t : Fin cfg0.N) (p : Fin 512) (q : Fin 1024) :
    out0_5 (iblk m c 0 t) (iblk m c 1 t) (iblk m c 2 t) (iblk m c 3 t) (ix2 p q) = z m c (at_ t p) (uc q) := by
  unfold out0_5
  frame_out
  exact u_stored m c t p q

/-- The pooling part's array after the run. -/
theorem u_final (c : Dev nD) : (dats m 0 c).arrAt 5 cfg0.N = (fun i => z m c (i 0) (uc (i 1)) : S4096x1024.Idx → EReal) := by
  refine (dats m 0 c).arrAt_eq_of_covers 5 _ (by decide +kernel) fun t hf j => ?_
  obtain ⟨p, q, rfl⟩ : ∃ (p : Fin 512) (q : Fin 1024), j = ix2 p q := ⟨j 0, j 1, eq_ix2 j⟩
  show (dats m 0 c).after 5 t (ix2 p q) = _
  rw [after0_5]
  refine (u_out m c t p q).trans ?_
  have h := idx t
  refine congrArg₂ (fun r q => z m c r (uc q)) (Fin.ext ?_) (Fin.ext ?_)
  · unfold at_; blk_simp [h]
  · blk_simp [h]

/-- The attention's rows that a point leaves. -/
theorem a_out (c : Dev nD) (t : Fin cfg0.N) (p : Fin 512) (q : Fin 1280) :
    out0_6 (iblk m c 0 t) (iblk m c 1 t) (iblk m c 2 t) (iblk m c 3 t) (ix2 p q) = z m c (at_ t p) (ac q) := by
  unfold out0_6
  frame_out
  exact a_stored m c t p q

/-- The attention part's array after the run. -/
theorem a_final (c : Dev nD) : (dats m 0 c).arrAt 6 cfg0.N = (fun i => z m c (i 0) (ac (i 1)) : S4096x1280.Idx → EReal) := by
  refine (dats m 0 c).arrAt_eq_of_covers 6 _ (by decide +kernel) fun t hf j => ?_
  obtain ⟨p, q, rfl⟩ : ∃ (p : Fin 512) (q : Fin 1280), j = ix2 p q := ⟨j 0, j 1, eq_ix2 j⟩
  show (dats m 0 c).after 6 t (ix2 p q) = _
  rw [after0_6]
  refine (a_out m c t p q).trans ?_
  have h := idx t
  refine congrArg₂ (fun r q => z m c r (ac q)) (Fin.ext ?_) (Fin.ext ?_)
  · unfold at_; blk_simp [h]
  · blk_simp [h]

/-- The gates that a point leaves. -/
theorem g_out (c : Dev nD) (t : Fin cfg0.N) (p : Fin 512) (q : Fin 2048) :
    out0_7 (iblk m c 0 t) (iblk m c 1 t) (iblk m c 2 t) (iblk m c 3 t) (ix2 p q) = gate m c (at_ t p) q := by
  unfold out0_7
  frame_out
  exact g_stored m c t p q

/-- The gates' array after the run. -/
theorem g_final (c : Dev nD) : (dats m 0 c).arrAt 7 cfg0.N = (fun i => gate m c (i 0) (i 1) : S4096x2048.Idx → EReal) := by
  refine (dats m 0 c).arrAt_eq_of_covers 7 _ (by decide +kernel) fun t hf j => ?_
  obtain ⟨p, q, rfl⟩ : ∃ (p : Fin 512) (q : Fin 2048), j = ix2 p q := ⟨j 0, j 1, eq_ix2 j⟩
  show (dats m 0 c).after 7 t (ix2 p q) = _
  rw [after0_7]
  refine (g_out m c t p q).trans ?_
  have h := idx t
  refine congrArg₂ (gate m c) (Fin.ext ?_) (Fin.ext ?_)
  · unfold at_; blk_simp [h]
  · blk_simp [h]

end Cert.Kernel11Ideal.In

end
-- ==== Proof.InForwardClaim.lean ====
/-
  The claims about the norm and the input projection.
-/
module

public import proofs.«01_k».proof.Defs
public import proofs.«01_k».proof.Proof.InForward
public import proofs.«01_k».proof.Proof.Gen.Reference11Ideal.Run
public import proofs.«01_k».proof.Proof.Gen.Reference11Ideal.Read

@[expose] public section

set_option maxRecDepth 16384

noncomputable section

open Idealize.ShloMosaic Idealize.SL.Sem

namespace Cert.Reference11Ideal.In

open Cert.Reference11Ideal
open Cert.Kernel11Ideal.In (norm uc ac gc)

/-- A row after the norm. -/
theorem norm_value (x0 : S4096x1024.Idx → EReal) (x1 : S1x1024.Idx → EReal) (p : Fin 4096) (q : Fin 1024) :
    Read.val_main_v24 (F := Ideal) x0 x1 (ix2 p q) = norm (fun k => x0 (ix2 p k)) (fun k => x1 (ix2 0 k)) q := by
  pointwise [Read.val_main_v0, Read.val_main_v1, Read.val_main_cst, Read.val_main_v2, Read.val_main_v3, Read.val_main_cst_0,
    Read.val_main_v4, Read.val_main_v5, Read.val_main_cst_1, Read.val_main_v6, Read.val_main_v7, Read.val_main_v8,
    Read.val_main_v9, Read.val_main_v10, Read.val_main_v11, Read.val_main_v12, Read.val_main_v13, Read.val_main_v14,
    Read.val_main_v15, Read.val_main_v16, Read.val_main_v17, Read.val_main_v18, Read.val_main_v19, Read.val_main_cst_2,
    Read.val_main_v20, Read.val_main_v21, Read.val_main_cst_3, Read.val_main_v22, Read.val_main_v23, Read.val_main_v24,
    Read.val_main_v25, Read.val_main_v26, Read.val_main_v27]
  rfl

/-- The projection's pooling columns. -/
theorem u_value (x0 : S4096x1024.Idx → EReal) (x1 : S1x1024.Idx → EReal) (x2 : S1024x4352.Idx → EReal) (p : Fin 4096) (q : Fin 1024) :
    Read.val_main_v25 (F := Ideal) x0 x1 x2 (ix2 p q) = ∑ k, norm (fun k => x0 (ix2 p k)) (fun k => x1 (ix2 0 k)) k * x2 (ix2 k (uc q)) := by
  pointwise [Read.val_main_v0, Read.val_main_v1, Read.val_main_cst, Read.val_main_v2, Read.val_main_v3, Read.val_main_cst_0,
    Read.val_main_v4, Read.val_main_v5, Read.val_main_cst_1, Read.val_main_v6, Read.val_main_v7, Read.val_main_v8,
    Read.val_main_v9, Read.val_main_v10, Read.val_main_v11, Read.val_main_v12, Read.val_main_v13, Read.val_main_v14,
    Read.val_main_v15, Read.val_main_v16, Read.val_main_v17, Read.val_main_v18, Read.val_main_v19, Read.val_main_cst_2,
    Read.val_main_v20, Read.val_main_v21, Read.val_main_cst_3, Read.val_main_v22, Read.val_main_v23, Read.val_main_v24,
    Read.val_main_v25, Read.val_main_v26, Read.val_main_v27]
  rfl

/-- The projection's attention columns. -/
theorem a_value (x0 : S4096x1024.Idx → EReal) (x1 : S1x1024.Idx → EReal) (x2 : S1024x4352.Idx → EReal) (p : Fin 4096) (q : Fin 1280) :
    Read.val_main_v26 (F := Ideal) x0 x1 x2 (ix2 p q) = ∑ k, norm (fun k => x0 (ix2 p k)) (fun k => x1 (ix2 0 k)) k * x2 (ix2 k (ac q)) := by
  pointwise [Read.val_main_v0, Read.val_main_v1, Read.val_main_cst, Read.val_main_v2, Read.val_main_v3, Read.val_main_cst_0,
    Read.val_main_v4, Read.val_main_v5, Read.val_main_cst_1, Read.val_main_v6, Read.val_main_v7, Read.val_main_v8,
    Read.val_main_v9, Read.val_main_v10, Read.val_main_v11, Read.val_main_v12, Read.val_main_v13, Read.val_main_v14,
    Read.val_main_v15, Read.val_main_v16, Read.val_main_v17, Read.val_main_v18, Read.val_main_v19, Read.val_main_cst_2,
    Read.val_main_v20, Read.val_main_v21, Read.val_main_cst_3, Read.val_main_v22, Read.val_main_v23, Read.val_main_v24,
    Read.val_main_v25, Read.val_main_v26, Read.val_main_v27]
  rfl

/-- The gates. -/
theorem gate_value (x0 : S4096x1024.Idx → EReal) (x1 : S1x1024.Idx → EReal) (x2 : S1024x4352.Idx → EReal) (x3 : S1x2048.Idx → EReal) (p : Fin 4096) (q : Fin 2048) :
    Read.val_main_v27 (F := Ideal) x0 x1 x2 x3 (ix2 p q)
      = Ideal.logistic ((∑ k, norm (fun k => x0 (ix2 p k)) (fun k => x1 (ix2 0 k)) k * x2 (ix2 k (gc q))) + x3 (ix2 0 q)) := by
  pointwise [Read.val_main_v0, Read.val_main_v1, Read.val_main_cst, Read.val_main_v2, Read.val_main_v3, Read.val_main_cst_0,
    Read.val_main_v4, Read.val_main_v5, Read.val_main_cst_1, Read.val_main_v6, Read.val_main_v7, Read.val_main_v8,
    Read.val_main_v9, Read.val_main_v10, Read.val_main_v11, Read.val_main_v12, Read.val_main_v13, Read.val_main_v14,
    Read.val_main_v15, Read.val_main_v16, Read.val_main_v17, Read.val_main_v18, Read.val_main_v19, Read.val_main_cst_2,
    Read.val_main_v20, Read.val_main_v21, Read.val_main_cst_3, Read.val_main_v22, Read.val_main_v23, Read.val_main_v24,
    Read.val_main_v25, Read.val_main_v26, Read.val_main_v27]
  rfl

end Cert.Reference11Ideal.In

namespace Cert.Proof

/-- The plain forward lines run, keep their arguments and leave no semaphore counted up. -/
theorem frame_in_forward_reference : quiescent_Reference11Ideal (hReference11Ideal := Cert.Reference11Ideal.Gen.facts) := fun m ρ _ =>
  (θ_run _ _ _).mono (fun r h => ⟨fun c => (h c).2.2.2.2, Idealize.ShloMosaic.sem_eq_zero_of_no_sems (by decide) r.2⟩)
    (Cert.Reference11Ideal.Value.run m ρ)

/-- The kernel's norm, its three parts of the projection and its gates are the plain ones. -/
theorem in_forward : algebraic_Kernel11Ideal_Reference11Ideal (hKernel11Ideal := Cert.Kernel11Ideal.Gen.facts)
    (hReference11Ideal := Cert.Reference11Ideal.Gen.facts) := by
  intro m ρ m' ρ' hp hm
  refine ⟨fun c => (fun i => Cert.Kernel11Ideal.In.h m c (i 0) (i 1) : Cert.Kernel11Ideal.S4096x1024.Idx → EReal),
    fun c => (fun i => Cert.Kernel11Ideal.In.z m c (i 0) (Cert.Kernel11Ideal.In.uc (i 1)) : Cert.Kernel11Ideal.S4096x1024.Idx → EReal),
    fun c => (fun i => Cert.Kernel11Ideal.In.z m c (i 0) (Cert.Kernel11Ideal.In.ac (i 1)) : Cert.Kernel11Ideal.S4096x1280.Idx → EReal),
    fun c => (fun i => Cert.Kernel11Ideal.In.gate m c (i 0) (i 1) : Cert.Kernel11Ideal.S4096x2048.Idx → EReal), ?_, ?_⟩
  · exact (θ_run _ _ _).mono (fun r h c => ⟨(h c).1.trans (Cert.Kernel11Ideal.In.norm_final m c),
      (h c).2.1.trans (Cert.Kernel11Ideal.In.u_final m c), (h c).2.2.1.trans (Cert.Kernel11Ideal.In.a_final m c),
      (h c).2.2.2.1.trans (Cert.Kernel11Ideal.In.g_final m c), (h c).2.2.2.2⟩) (Cert.Kernel11Ideal.Value.run_blocks m ρ)
  · refine (θ_run _ _ _).mono (fun r h c => ⟨(h c).1.trans ?_, (h c).2.1.trans ?_, (h c).2.2.1.trans ?_, (h c).2.2.2.1.trans ?_,
      (h c).2.2.2.2⟩) (Cert.Reference11Ideal.Value.run m' ρ')
    · rw [Cert.Reference11Ideal.Read.val_main_v24_eq, (hm c).1, (hm c).2.1]
      funext i
      rw [eq_ix2 i]
      exact Cert.Reference11Ideal.In.norm_value _ _ _ _
    · rw [Cert.Reference11Ideal.Read.val_main_v25_eq, (hm c).1, (hm c).2.1, (hm c).2.2.1]
      funext i
      rw [eq_ix2 i]
      exact Cert.Reference11Ideal.In.u_value _ _ _ _ _
    · rw [Cert.Reference11Ideal.Read.val_main_v26_eq, (hm c).1, (hm c).2.1, (hm c).2.2.1]
      funext i
      rw [eq_ix2 i]
      exact Cert.Reference11Ideal.In.a_value _ _ _ _ _
    · rw [Cert.Reference11Ideal.Read.val_main_v27_eq, (hm c).1, (hm c).2.1, (hm c).2.2.1, (hm c).2.2.2]
      funext i
      rw [eq_ix2 i]
      exact Cert.Reference11Ideal.In.gate_value _ _ _ _ _ _

end Cert.Proof

end
-- ==== Proof.Mix.lean ====
/-
  The gated mixture, the output projection and the norm after it: what the kernel's three result arrays hold.
-/
module

public import proofs.«01_k».proof.Proof.Gen.Kernel12Ideal.Value
public import proofs.«01_k».proof.Proof.Rms
public import Idealize.ShloMosaic.Lib.Pipeline.ValueKit
public import Idealize.ShloMosaic.Lib.Pointwise
public import Idealize.ShloMosaic.Lib.StableHlo.ReadAt

@[expose] public section

set_option maxRecDepth 16384

noncomputable section

open Idealize.ShloMosaic Idealize.ShloMosaic.TcCoe Idealize.SL.Sem
open Idealize.ShloMosaic.Pipeline (Dat)

namespace Cert.Kernel12Ideal.Mix

open Cert.Kernel12Ideal Cert.Kernel12Ideal.Gen

variable (m : (ℓ : Loc nD τ sig) → Buf (Elt Ideal) ℓ)

/-- The pooling branch. -/
def a (c : Dev nD) : S4096x1024.Idx → EReal := m ((c.tc : Thread nD τ).loc main_arg0)
/-- The attention branch. -/
def b (c : Dev nD) : S4096x1024.Idx → EReal := m ((c.tc : Thread nD τ).loc main_arg1)
/-- The gates, the pooling half before the attention half. -/
def gt (c : Dev nD) : S4096x2048.Idx → EReal := m ((c.tc : Thread nD τ).loc main_arg2)
/-- The block's input. -/
def x (c : Dev nD) : S4096x1024.Idx → EReal := m ((c.tc : Thread nD τ).loc main_arg3)
/-- The output projection. -/
def w (c : Dev nD) : S1024x1024.Idx → EReal := m ((c.tc : Thread nD τ).loc main_arg4)
/-- The norm's weight. -/
def g (c : Dev nD) : S1x1024.Idx → EReal := m ((c.tc : Thread nD τ).loc main_arg5)

/-- A column of the pooling half and of the attention half of the gates. -/
def pc (q : Fin 1024) : Fin 2048 := ⟨q.val, by omega⟩
def ac (q : Fin 1024) : Fin 2048 := ⟨1024 + q.val, by omega⟩

/-- The gated mixture of the two branches. -/
def mix (c : Dev nD) (r : Fin 4096) (q : Fin 1024) : EReal :=
  gt m c (ix2 r (pc q)) * a m c (ix2 r q) + gt m c (ix2 r (ac q)) * b m c (ix2 r q)

/-- The input plus the projected mixture. -/
def y (c : Dev nD) (r : Fin 4096) (q : Fin 1024) : EReal := x m c (ix2 r q) + ∑ k : Fin 1024, mix m c r k * w m c (ix2 k q)

/-- A row after the norm: the row over its root mean square, times the norm's weight. -/
def norm (y v : Fin 1024 → EReal) (k : Fin 1024) : EReal := y k * Ideal.rsqrt (Rms.ms y) * v k

/-- The norm of the sum. -/
def h (c : Dev nD) (r : Fin 4096) (q : Fin 1024) : EReal := norm (y m c r) (fun k => g m c (ix2 0 k)) q

theorem idx : ∀ t : Fin cfg0.N, win0_0.index t = ![t.val, 0] ∧ win0_1.index t = ![t.val, 0] ∧ win0_2.index t = ![t.val, 0] ∧
    win0_3.index t = ![t.val, 0] ∧ win0_4.index t = ![0, 0] ∧ win0_5.index t = ![0, 0] ∧ win0_6.index t = ![t.val, 0] ∧
    win0_7.index t = ![t.val, 0] ∧ win0_8.index t = ![t.val, 0] := by decide +kernel

theorem point_lt (t : Fin cfg0.N) : t.val < 8 := lt_of_lt_of_eq t.isLt (by decide)

/-- The row of the whole array that row `p` of point `t`'s blocks is. -/
def at_ (t : Fin cfg0.N) (p : Fin 512) : Fin 4096 := ⟨t.val * 512 + p.val, by have := point_lt t; have := p.isLt; omega⟩

theorem a_block (c : Dev nD) (t : Fin cfg0.N) (p : Fin 512) (k : Fin 1024) :
    iblk m c 0 t (ix2 p k) = a m c (ix2 (at_ t p) k) := by
  have e : V m c main_v0 (ix2 (at_ t p) k) = a m c (ix2 (at_ t p) k) := by
    unfold V a; after_reads_at
  have h := idx t
  rw [← e]
  unfold iblk at_
  blk_ext [h]

theorem b_block (c : Dev nD) (t : Fin cfg0.N) (p : Fin 512) (k : Fin 1024) :
    iblk m c 1 t (ix2 p k) = b m c (ix2 (at_ t p) k) := by
  have e : V m c main_v1 (ix2 (at_ t p) k) = b m c (ix2 (at_ t p) k) := by
    unfold V b; after_reads_at
  have h := idx t
  rw [← e]
  unfold iblk at_
  blk_ext [h]

theorem gate_block (c : Dev nD) (t : Fin cfg0.N) (p : Fin 512) (k : Fin 2048) :
    iblk m c 2 t (ix2 p k) = gt m c (ix2 (at_ t p) k) := by
  have e : V m c main_v2 (ix2 (at_ t p) k) = gt m c (ix2 (at_ t p) k) := by
    unfold V gt; after_reads_at
  have h := idx t
  rw [← e]
  unfold iblk at_
  blk_ext [h]

theorem x_block (c : Dev nD) (t : Fin cfg0.N) (p : Fin 512) (k : Fin 1024) :
    iblk m c 3 t (ix2 p k) = x m c (ix2 (at_ t p) k) := by
  have h := idx t
  unfold x at_
  blk_ext [iblk, V, h]

theorem weight_block (c : Dev nD) (t : Fin cfg0.N) (p : Fin 1024) (k : Fin 1024) :
    iblk m c 4 t (ix2 p k) = w m c (ix2 p k) := by
  have e : V m c main_v3 (ix2 p k) = w m c (ix2 p k) := by
    unfold V w; after_reads_at
  have h := idx t
  rw [← e]
  unfold iblk
  blk_ext [h]

theorem norm_block (c : Dev nD) (t : Fin cfg0.N) (p : Fin 1) (k : Fin 1024) :
    iblk m c 5 t (ix2 p k) = g m c (ix2 0 k) := by
  have h := idx t
  unfold g
  blk_ext [iblk, V, h]

/-- The two halves of the gates' block. -/
def gp (c : Dev nD) (t : Fin cfg0.N) : Vec Ideal S512x1024 .bf16 := View.ld (iblk m c 2 t) r0_0
def ga (c : Dev nD) (t : Fin cfg0.N) : Vec Ideal S512x1024 .bf16 := View.ld (iblk m c 2 t) r0_2

theorem gp_at (c : Dev nD) (t : Fin cfg0.N) (p : Fin 512) (q : Fin 1024) : gp m c t (ix2 p q) = gt m c (ix2 (at_ t p) (pc q)) := by
  unfold gp
  pointwise []
  simp only [gate_block, pc]

theorem ga_at (c : Dev nD) (t : Fin cfg0.N) (p : Fin 512) (q : Fin 1024) : ga m c t (ix2 p q) = gt m c (ix2 (at_ t p) (ac q)) := by
  unfold ga
  pointwise []
  simp only [gate_block, ac]

/-- The mixture's block after any point. -/
theorem mix_stored (c : Dev nD) (t : Fin cfg0.N) (p : Fin 512) (q : Fin 1024) :
    k0_pay2 (F := Ideal) (gp m c t) (iblk m c 0 t) (ga m c t) (iblk m c 1 t) (ix2 p q) = mix m c (at_ t p) q := by
  pointwise [k0_pay2]
  simp only [gp_at, ga_at, a_block, b_block, mix]

/-- The sum's block after any point. -/
theorem y_stored (c : Dev nD) (t : Fin cfg0.N) (p : Fin 512) (q : Fin 1024) :
    k0_pay3 (F := Ideal) (gp m c t) (iblk m c 0 t) (ga m c t) (iblk m c 1 t) (iblk m c 3 t) (iblk m c 4 t) (ix2 p q)
      = y m c (at_ t p) q := by
  pointwise [k0_pay3]
  simp only [mix_stored, x_block, weight_block, y]

/-- The norm's block after any point. -/
theorem h_stored (c : Dev nD) (t : Fin cfg0.N) (p : Fin 512) (q : Fin 1024) :
    k0_pay1 (F := Ideal) (k0_pay4 (gp m c t) (iblk m c 0 t) (ga m c t) (iblk m c 1 t) (iblk m c 3 t) (iblk m c 4 t))
      (k0_pay5 (iblk m c 5 t)) (ix2 p q) = h m c (at_ t p) q := by
  pointwise [k0_pay1, k0_pay4, k0_pay5]
  simp only [y_stored, norm_block, h, norm, Rms.ms]

/-- The mixture's block after any point, read out of the window's staging buffer. -/
theorem mix_out (c : Dev nD) (t : Fin cfg0.N) (p : Fin 512) (q : Fin 1024) :
    out0_6 (iblk m c 0 t) (iblk m c 1 t) (iblk m c 2 t) (iblk m c 3 t) (iblk m c 4 t) (iblk m c 5 t) (ix2 p q) = mix m c (at_ t p) q := by
  unfold out0_6
  frame_out
  exact mix_stored m c t p q

/-- The mixture's array after the run. -/
theorem mix_final (c : Dev nD) : (dats m 0 c).arrAt 6 cfg0.N = (fun i => mix m c (i 0) (i 1) : S4096x1024.Idx → EReal) := by
  refine (dats m 0 c).arrAt_eq_of_covers 6 _ (by decide +kernel) fun t hf j => ?_
  obtain ⟨p, q, rfl⟩ : ∃ (p : Fin 512) (q : Fin 1024), j = ix2 p q := ⟨j 0, j 1, eq_ix2 j⟩
  show (dats m 0 c).after 6 t (ix2 p q) = _
  rw [after0_6]
  refine (mix_out m c t p q).trans ?_
  have h := idx t
  refine congrArg₂ (Mix.mix m c) (Fin.ext ?_) (Fin.ext ?_)
  · unfold at_; blk_simp [h]
  · blk_simp [h]

/-- The sum's block after any point, read out of the window's staging buffer. -/
theorem y_out (c : Dev nD) (t : Fin cfg0.N) (p : Fin 512) (q : Fin 1024) :
    out0_7 (iblk m c 0 t) (iblk m c 1 t) (iblk m c 2 t) (iblk m c 3 t) (iblk m c 4 t) (iblk m c 5 t) (ix2 p q) = y m c (at_ t p) q := by
  unfold out0_7
  frame_out
  exact y_stored m c t p q

/-- The sum's array after the run. -/
theorem y_final (c : Dev nD) : (dats m 0 c).arrAt 7 cfg0.N = (fun i => y m c (i 0) (i 1) : S4096x1024.Idx → EReal) := by
  refine (dats m 0 c).arrAt_eq_of_covers 7 _ (by decide +kernel) fun t hf j => ?_
  obtain ⟨p, q, rfl⟩ : ∃ (p : Fin 512) (q : Fin 1024), j = ix2 p q := ⟨j 0, j 1, eq_ix2 j⟩
  show (dats m 0 c).after 7 t (ix2 p q) = _
  rw [after0_7]
  refine (y_out m c t p q).trans ?_
  have h := idx t
  refine congrArg₂ (Mix.y m c) (Fin.ext ?_) (Fin.ext ?_)
  · unfold at_; blk_simp [h]
  · blk_simp [h]

/-- The norm's block after any point, read out of the window's staging buffer. -/
theorem h_out (c : Dev nD) (t : Fin cfg0.N) (p : Fin 512) (q : Fin 1024) :
    out0_8 (iblk m c 0 t) (iblk m c 1 t) (iblk m c 2 t) (iblk m c 3 t) (iblk m c 4 t) (iblk m c 5 t) (ix2 p q) = h m c (at_ t p) q := by
  unfold out0_8
  frame_out
  exact h_stored m c t p q

/-- The norm's array after the run. -/
theorem h_final (c : Dev nD) : (dats m 0 c).arrAt 8 cfg0.N = (fun i => h m c (i 0) (i 1) : S4096x1024.Idx → EReal) := by
  refine (dats m 0 c).arrAt_eq_of_covers 8 _ (by decide +kernel) fun t hf j => ?_
  obtain ⟨p, q, rfl⟩ : ∃ (p : Fin 512) (q : Fin 1024), j = ix2 p q := ⟨j 0, j 1, eq_ix2 j⟩
  show (dats m 0 c).after 8 t (ix2 p q) = _
  rw [after0_8]
  refine (h_out m c t p q).trans ?_
  have h := idx t
  refine congrArg₂ (Mix.h m c) (Fin.ext ?_) (Fin.ext ?_)
  · unfold at_; blk_simp [h]
  · blk_simp [h]

end Cert.Kernel12Ideal.Mix

end
-- ==== Proof.MixClaim.lean ====
/-
  The claims about the gated mixture, the output projection and the norm after it.
-/
module

public import proofs.«01_k».proof.Defs
public import proofs.«01_k».proof.Proof.Mix
public import proofs.«01_k».proof.Proof.Gen.Reference12Ideal.Run
public import proofs.«01_k».proof.Proof.Gen.Reference12Ideal.Read

@[expose] public section

set_option maxRecDepth 16384

noncomputable section

open Idealize.ShloMosaic Idealize.SL.Sem

namespace Cert.Reference12Ideal.Mix

open Cert.Reference12Ideal
open Cert.Kernel12Ideal.Mix (norm pc ac)

/-- The gated mixture, from the branches and the gates. -/
def mixed (x0 x1 : S4096x1024.Idx → EReal) (x2 : S4096x2048.Idx → EReal) (p : Fin 4096) (q : Fin 1024) : EReal :=
  x2 (ix2 p (pc q)) * x0 (ix2 p q) + x2 (ix2 p (ac q)) * x1 (ix2 p q)

/-- The input plus the projected mixture. -/
def sum (x0 x1 : S4096x1024.Idx → EReal) (x2 : S4096x2048.Idx → EReal) (x3 : S4096x1024.Idx → EReal) (x4 : S1024x1024.Idx → EReal) (p : Fin 4096) (q : Fin 1024) : EReal :=
  x3 (ix2 p q) + ∑ k, mixed x0 x1 x2 p k * x4 (ix2 k q)

/-- The plain mixture. -/
theorem mix_value (x0 x1 : S4096x1024.Idx → EReal) (x2 : S4096x2048.Idx → EReal) (p : Fin 4096) (q : Fin 1024) :
    Read.val_main_v7 (F := Ideal) x0 x1 x2 (ix2 p q) = mixed x0 x1 x2 p q := by
  pointwise [Read.val_main_v0, Read.val_main_v1, Read.val_main_v2, Read.val_main_v3, Read.val_main_v4, Read.val_main_v5,
    Read.val_main_v6, Read.val_main_v7, Read.val_main_v8, Read.val_main_v9, Read.val_main_cst, Read.val_main_v10,
    Read.val_main_v11, Read.val_main_cst_0, Read.val_main_v12, Read.val_main_v13, Read.val_main_cst_1, Read.val_main_v14,
    Read.val_main_v15, Read.val_main_v16, Read.val_main_v17, Read.val_main_v18, Read.val_main_v19, Read.val_main_v20,
    Read.val_main_v21, Read.val_main_v22]
  rfl

/-- The plain sum. -/
theorem y_value (x0 x1 : S4096x1024.Idx → EReal) (x2 : S4096x2048.Idx → EReal) (x3 : S4096x1024.Idx → EReal) (x4 : S1024x1024.Idx → EReal) (p : Fin 4096) (q : Fin 1024) :
    Read.val_main_v6 (F := Ideal) x0 x1 x2 x3 x4 (ix2 p q) = sum x0 x1 x2 x3 x4 p q := by
  pointwise [Read.val_main_v0, Read.val_main_v1, Read.val_main_v2, Read.val_main_v3, Read.val_main_v4, Read.val_main_v5,
    Read.val_main_v6, Read.val_main_v7, Read.val_main_v8, Read.val_main_v9, Read.val_main_cst, Read.val_main_v10,
    Read.val_main_v11, Read.val_main_cst_0, Read.val_main_v12, Read.val_main_v13, Read.val_main_cst_1, Read.val_main_v14,
    Read.val_main_v15, Read.val_main_v16, Read.val_main_v17, Read.val_main_v18, Read.val_main_v19, Read.val_main_v20,
    Read.val_main_v21, Read.val_main_v22]
  rfl

/-- The plain norm of the sum. -/
theorem h_value (x0 x1 : S4096x1024.Idx → EReal) (x2 : S4096x2048.Idx → EReal) (x3 : S4096x1024.Idx → EReal) (x4 : S1024x1024.Idx → EReal) (x5 : S1x1024.Idx → EReal) (p : Fin 4096) (q : Fin 1024) :
    Read.val_main_v22 (F := Ideal) x0 x1 x2 x3 x4 x5 (ix2 p q)
      = norm (sum x0 x1 x2 x3 x4 p) (fun k => x5 (ix2 0 k)) q := by
  pointwise [Read.val_main_v0, Read.val_main_v1, Read.val_main_v2, Read.val_main_v3, Read.val_main_v4, Read.val_main_v5,
    Read.val_main_v7, Read.val_main_v8, Read.val_main_v9, Read.val_main_cst, Read.val_main_v10, Read.val_main_v11,
    Read.val_main_cst_0, Read.val_main_v12, Read.val_main_v13, Read.val_main_cst_1, Read.val_main_v14, Read.val_main_v15,
    Read.val_main_v16, Read.val_main_v17, Read.val_main_v18, Read.val_main_v19, Read.val_main_v20, Read.val_main_v21,
    Read.val_main_v22]
  simp only [y_value]
  rfl

end Cert.Reference12Ideal.Mix

namespace Cert.Proof

/-- The plain forward lines run, keep their arguments and leave no semaphore counted up. -/
theorem frame_mix_reference : quiescent_Reference12Ideal (hReference12Ideal := Cert.Reference12Ideal.Gen.facts) := fun m ρ _ =>
  (θ_run _ _ _).mono (fun r h => ⟨fun c => (h c).2.2.2, Idealize.ShloMosaic.sem_eq_zero_of_no_sems (by decide) r.2⟩)
    (Cert.Reference12Ideal.Value.run m ρ)

/-- The kernel's mixture, projection and norm are the plain ones. -/
theorem mix : algebraic_Kernel12Ideal_Reference12Ideal (hKernel12Ideal := Cert.Kernel12Ideal.Gen.facts)
    (hReference12Ideal := Cert.Reference12Ideal.Gen.facts) := by
  intro m ρ m' ρ' hp hm
  refine ⟨fun c => (fun i => Cert.Kernel12Ideal.Mix.mix m c (i 0) (i 1) : Cert.Kernel12Ideal.S4096x1024.Idx → EReal),
    fun c => (fun i => Cert.Kernel12Ideal.Mix.y m c (i 0) (i 1) : Cert.Kernel12Ideal.S4096x1024.Idx → EReal),
    fun c => (fun i => Cert.Kernel12Ideal.Mix.h m c (i 0) (i 1) : Cert.Kernel12Ideal.S4096x1024.Idx → EReal), ?_, ?_⟩
  · exact (θ_run _ _ _).mono (fun r h c => ⟨(h c).1.trans (Cert.Kernel12Ideal.Mix.mix_final m c),
      (h c).2.1.trans (Cert.Kernel12Ideal.Mix.y_final m c), (h c).2.2.1.trans (Cert.Kernel12Ideal.Mix.h_final m c),
      (h c).2.2.2⟩) (Cert.Kernel12Ideal.Value.run_blocks m ρ)
  · refine (θ_run _ _ _).mono (fun r h c => ⟨(h c).1.trans ?_, (h c).2.1.trans ?_, (h c).2.2.1.trans ?_,
      (h c).2.2.2⟩) (Cert.Reference12Ideal.Value.run m' ρ')
    · rw [Cert.Reference12Ideal.Read.val_main_v7_eq, (hm c).1, (hm c).2.1, (hm c).2.2.1]
      funext i
      rw [eq_ix2 i]
      exact Cert.Reference12Ideal.Mix.mix_value _ _ _ _ _
    · rw [Cert.Reference12Ideal.Read.val_main_v6_eq, (hm c).1, (hm c).2.1, (hm c).2.2.1, (hm c).2.2.2.1, (hm c).2.2.2.2.1]
      funext i
      rw [eq_ix2 i]
      exact Cert.Reference12Ideal.Mix.y_value _ _ _ _ _ _ _
    · rw [Cert.Reference12Ideal.Read.val_main_v22_eq, (hm c).1, (hm c).2.1, (hm c).2.2.1, (hm c).2.2.2.1, (hm c).2.2.2.2.1,
        (hm c).2.2.2.2.2]
      funext i
      rw [eq_ix2 i]
      exact Cert.Reference12Ideal.Mix.h_value _ _ _ _ _ _ _ _

end Cert.Proof

end
-- ==== Proof.UpForward.lean ====
/-
  The up projection with its gated causal convolution: what the kernel's five result arrays hold.
-/
module

public import proofs.«01_k».proof.Proof.Gen.Kernel13Ideal.Value
public import Idealize.ShloMosaic.Lib.Pipeline.ValueKit
public import Idealize.ShloMosaic.Lib.Pipeline.ReadBack
public import Idealize.ShloMosaic.Lib.Pointwise
public import Idealize.ShloMosaic.Lib.StableHlo.ReadAt

@[expose] public section

set_option maxRecDepth 16384

noncomputable section

open Idealize.ShloMosaic Idealize.ShloMosaic.TcCoe Idealize.SL.Sem
open Idealize.ShloMosaic.Pipeline (Dat)

namespace Cert.Kernel13Ideal.Up

open Cert.Kernel13Ideal Cert.Kernel13Ideal.Gen

variable (m : (ℓ : Loc nD τ sig) → Buf (Elt Ideal) ℓ)

/-- The rows before the projection. -/
def x (c : Dev nD) : S4096x1024.Idx → EReal := m ((c.tc : Thread nD τ).loc main_arg0)
/-- The up projection's weight. -/
def w (c : Dev nD) : S1024x5632.Idx → EReal := m ((c.tc : Thread nD τ).loc main_arg1)
/-- The convolution's three taps. -/
def cw (c : Dev nD) : S3x5632.Idx → EReal := m ((c.tc : Thread nD τ).loc main_arg2)
/-- The convolution's bias. -/
def cb (c : Dev nD) : S5632.Idx → EReal := m ((c.tc : Thread nD τ).loc main_arg3)

/-- A column of the gate half and of the value half. -/
def gc (j : Fin 2816) : Fin 5632 := ⟨j.val, by omega⟩
def vc (j : Fin 2816) : Fin 5632 := ⟨2816 + j.val, by omega⟩

/-- The projection: one row against one column of the weight. -/
def pre (c : Dev nD) (q : Fin 5632) (r : Fin 4096) : EReal := ∑ k : Fin 1024, x m c (ix2 r k) * w m c (ix2 k q)

/-- A column of rows with eight zeros before the first one: its entry `s` is row `s - 8`. -/
def ext (d : Fin 4096 → EReal) (s : ℕ) : EReal := if h : 8 ≤ s ∧ s < 4104 then d ⟨s - 8, by omega⟩ else 0

/-- The causal convolution: a row is its bias, and the taps on the row two back, the row one back and the row itself; a row
    before the first is zero. -/
def conv (d : Fin 4096 → EReal) (a : Fin 3 → EReal) (b : EReal) (r : ℕ) : EReal :=
  ((b + a 0 * ext d (r + 6)) + a 1 * ext d (r + 7)) + a 2 * ext d (r + 8)

/-- The convolution of the projection's column `q`. -/
def up (c : Dev nD) (q : Fin 5632) (r : ℕ) : EReal := conv (pre m c q) (fun b => cw m c (ix2 b q)) (cb m c (ix1 q)) r

/-- The gated product: the gate times its sigmoid, times the value. -/
def act (c : Dev nD) (j : Fin 2816) (r : ℕ) : EReal := up m c (gc j) r * Ideal.logistic (up m c (gc j) r) * up m c (vc j) r

theorem ext_row (d : Fin 4096 → EReal) (r : Fin 4096) : ext d (8 + r.val) = d r := by
  unfold ext
  rw [dif_pos ⟨by omega, by omega⟩]
  exact congrArg d (Fin.ext (by show 8 + r.val - 8 = r.val; omega))

theorem ext_before (d : Fin 4096 → EReal) {s : ℕ} (h : s < 8) : ext d s = 0 := dif_neg (by omega)

theorem idx : ∀ t : Fin cfg0.N, win0_0.index t = ![t.val % 8, 0] ∧ win0_1.index t = ![t.val / 8, 0, 0] ∧
    win0_2.index t = ![t.val / 8 + 2, 0, 0] ∧ win0_3.index t = ![t.val / 8, 0, 0] ∧ win0_4.index t = ![t.val / 8 + 2, 0, 0] ∧
    win0_5.index t = ![0, t.val / 8] ∧ win0_6.index t = ![0, t.val / 8 + 2] ∧ win0_7.index t = ![t.val % 8, t.val / 8] ∧
    win0_8.index t = ![t.val % 8, t.val / 8] ∧ win0_9.index t = ![t.val % 8, t.val / 8] ∧
    win0_10.index t = ![t.val % 8, t.val / 8] ∧ win0_11.index t = ![t.val % 8, t.val / 8] := by
  decide +kernel

theorem point_lt (t : Fin cfg0.N) : t.val < 16 := lt_of_lt_of_eq t.isLt (by decide)

/-- The first row of point `t`'s blocks. -/
def base (n : ℕ) : ℕ := n % 8 * 512
/-- The row of the whole array that row `p` of point `t`'s blocks is. -/
def at_ (t : Fin cfg0.N) (p : Fin 512) : Fin 4096 := ⟨t.val % 8 * 512 + p.val, by have := p.isLt; omega⟩
/-- The column of a half that column `q` of point `t`'s blocks is. -/
def col (t : Fin cfg0.N) (q : Fin 1408) : Fin 2816 := ⟨t.val / 8 * 1408 + q.val, by have := point_lt t; have := q.isLt; omega⟩

theorem row_block (c : Dev nD) (t : Fin cfg0.N) (p : Fin 512) (k : Fin 1024) : iblk m c 0 t (ix2 p k) = x m c (ix2 (at_ t p) k) := by
  have e : V m c main_v4 (ix2 (at_ t p) k) = x m c (ix2 (at_ t p) k) := by
    unfold V x; after_reads_at
  have h := idx t
  rw [← e]
  unfold iblk at_
  blk_ext [h]

theorem weights (c : Dev nD) (a : Fin 4) (k : Fin 1024) (q : Fin 1408) :
    V m c main_v5 (ix3 a k q) = w m c (ix2 k ⟨a.val * 1408 + q.val, by have := a.isLt; have := q.isLt; omega⟩) := by
  unfold V w; after_reads_at

theorem taps (c : Dev nD) (a : Fin 4) (b : Fin 3) (q : Fin 1408) :
    V m c main_v3 (ix3 a b q) = cw m c (ix2 b ⟨a.val * 1408 + q.val, by have := a.isLt; have := q.isLt; omega⟩) := by
  unfold V cw; after_reads_at

theorem bias (c : Dev nD) (q : Fin 5632) : V m c main_v6 (ix2 0 q) = cb m c (ix1 q) := by
  unfold V cb; after_reads_at

theorem gate_weight_block (c : Dev nD) (t : Fin cfg0.N) (k : Fin 1024) (q : Fin 1408) :
    iblk m c 1 t (ix3 0 k q) = w m c (ix2 k (gc (col t q))) := by
  have ht := point_lt t
  have e := weights m c ⟨t.val / 8, by omega⟩ k q
  have h := idx t
  refine Eq.trans ?_ (e.trans (congrArg (fun j => w m c (ix2 k j)) (Fin.ext rfl)))
  unfold iblk
  blk_ext [h]

theorem gate_taps_block (c : Dev nD) (t : Fin cfg0.N) (b : Fin 3) (q : Fin 1408) :
    iblk m c 3 t (ix3 0 b q) = cw m c (ix2 b (gc (col t q))) := by
  have ht := point_lt t
  have e := taps m c ⟨t.val / 8, by omega⟩ b q
  have h := idx t
  refine Eq.trans ?_ (e.trans (congrArg (fun j => cw m c (ix2 b j)) (Fin.ext rfl)))
  unfold iblk
  blk_ext [h]

theorem gate_bias_block (c : Dev nD) (t : Fin cfg0.N) (p : Fin 1) (q : Fin 1408) :
    iblk m c 5 t (ix2 p q) = cb m c (ix1 (gc (col t q))) := by
  have ht := point_lt t
  rw [← bias m c (gc (col t q))]
  have h := idx t
  unfold iblk gc col
  blk_ext [h]

theorem value_weight_block (c : Dev nD) (t : Fin cfg0.N) (k : Fin 1024) (q : Fin 1408) :
    iblk m c 2 t (ix3 0 k q) = w m c (ix2 k (vc (col t q))) := by
  have ht := point_lt t
  have e := weights m c ⟨t.val / 8 + 2, by omega⟩ k q
  have h := idx t
  refine Eq.trans ?_ (e.trans (congrArg (fun j => w m c (ix2 k j)) (Fin.ext ?_)))
  · unfold iblk
    blk_ext [h]
  · show (t.val / 8 + 2) * 1408 + q.val = 2816 + (t.val / 8 * 1408 + q.val)
    omega

theorem value_taps_block (c : Dev nD) (t : Fin cfg0.N) (b : Fin 3) (q : Fin 1408) :
    iblk m c 4 t (ix3 0 b q) = cw m c (ix2 b (vc (col t q))) := by
  have ht := point_lt t
  have e := taps m c ⟨t.val / 8 + 2, by omega⟩ b q
  have h := idx t
  refine Eq.trans ?_ (e.trans (congrArg (fun j => cw m c (ix2 b j)) (Fin.ext ?_)))
  · unfold iblk
    blk_ext [h]
  · show (t.val / 8 + 2) * 1408 + q.val = 2816 + (t.val / 8 * 1408 + q.val)
    omega

theorem value_bias_block (c : Dev nD) (t : Fin cfg0.N) (p : Fin 1) (q : Fin 1408) :
    iblk m c 6 t (ix2 p q) = cb m c (ix1 (vc (col t q))) := by
  have ht := point_lt t
  rw [← bias m c (vc (col t q))]
  have h := idx t
  unfold iblk vc col
  blk_ext [h]

/-! ## What the body stores, element by element -/

/-- The projection's block. -/
theorem stored_pre (y : S512x1024.Idx → EReal) (v : S1x1024x1408.Idx → EReal) (p : Fin 512) (q : Fin 1408) {Y W : Fin 1024 → EReal}
    (hy : ∀ k, y (ix2 p k) = Y k) (hv : ∀ k, v (ix3 0 k q) = W k) : k0_pay5 (F := Ideal) y v (ix2 p q) = ∑ k, Y k * W k := by
  pointwise [k0_pay5, k0_pay4]
  simp only [hy, hv]

/-- The convolution's block, from the last rows of the block before and the projection's block. -/
theorem stored_up (y : S512x1024.Idx → EReal) (v : S1x1024x1408.Idx → EReal) (n : S8x1408.Idx → EReal) (a : S1x3x1408.Idx → EReal)
    (b : S1x1408.Idx → EReal) (q : Fin 1408) {D : ℕ → EReal} {A : Fin 3 → EReal} {B : EReal} (hn : ∀ h : Fin 8, n (ix2 h q) = D h.val)
    (hd : ∀ p : Fin 512, k0_pay5 (F := Ideal) y v (ix2 p q) = D (8 + p.val)) (ha : ∀ k, a (ix3 0 k q) = A k) (hb : b (ix2 0 q) = B)
    (p : Fin 512) :
    k0_pay7 (F := Ideal) y v n a b (ix2 p q) = ((B + A 0 * D (p.val + 6)) + A 1 * D (p.val + 7)) + A 2 * D (p.val + 8) := by
  pointwise [k0_pay7]
  rw [ha, ha, ha, hb, hd]
  have hp := p.isLt
  refine (congrArg₂ (fun s r => ((B + A 0 * s) + A 1 * r) + A 2 * D (8 + p.val)) (?_ : _ = D (p.val + 6))
    (?_ : _ = D (p.val + 7))).trans (by rw [Nat.add_comm 8])
  · split
    · rw [hn]; refine congrArg D ?_; dsimp only; omega
    · rw [hd]; refine congrArg D ?_; dsimp only; omega
  · split
    · rw [hn]; refine congrArg D ?_; dsimp only; omega
    · rw [hd]; refine congrArg D ?_; dsimp only; omega

/-- The gated product's block. -/
theorem stored_act (g v : S512x1408.Idx → EReal) (p : Fin 512) (q : Fin 1408) {G U : EReal} (hg : g (ix2 p q) = G)
    (hv : v (ix2 p q) = U) : k0_pay1 (F := Ideal) g v (ix2 p q) = G * Ideal.logistic G * U := by
  pointwise [k0_pay1]
  simp only [hg, hv]

/-- The value half's payloads are the gate half's. -/
theorem pre_value (y : S512x1024.Idx → EReal) (v : S1x1024x1408.Idx → EReal) :
    k0_pay11 (F := Ideal) (k0_pay4 y) v = k0_pay5 y v := rfl
theorem up_value (y : S512x1024.Idx → EReal) (v : S1x1024x1408.Idx → EReal) (n : S8x1408.Idx → EReal) (a : S1x3x1408.Idx → EReal)
    (b : S1x1408.Idx → EReal) : k0_pay13 (F := Ideal) (k0_pay4 y) v n a b = k0_pay7 y v n a b := rfl
theorem kept_value (y : S512x1024.Idx → EReal) (v : S1x1024x1408.Idx → EReal) :
    k0_pay14 (F := Ideal) (k0_pay4 y) v = k0_pay9 (k0_pay8 y v) := rfl

/-! ## The projection at a point, and the rows kept for the next point -/

theorem gate_pre_at (c : Dev nD) (t : Fin cfg0.N) (q : Fin 1408) (p : Fin 512) :
    k0_pay5 (F := Ideal) (iblk m c 0 t) (iblk m c 1 t) (ix2 p q) = pre m c (gc (col t q)) (at_ t p) :=
  stored_pre _ _ p q (row_block m c t p) (fun k => gate_weight_block m c t k q)

theorem gate_pre_ext (c : Dev nD) (t : Fin cfg0.N) (q : Fin 1408) (p : Fin 512) :
    k0_pay5 (F := Ideal) (iblk m c 0 t) (iblk m c 1 t) (ix2 p q) = ext (pre m c (gc (col t q))) (base t.val + (8 + p.val)) := by
  refine ((gate_pre_at m c t q p).trans (ext_row (pre m c (gc (col t q))) (at_ t p)).symm).trans (congrArg (ext _) ?_)
  show 8 + (t.val % 8 * 512 + p.val) = t.val % 8 * 512 + (8 + p.val)
  omega

/-- The gate half's kept rows are the block's last eight. -/
theorem gate_kept (c : Dev nD) (t : Fin cfg0.N) (h : Fin 8) (q : Fin 1408) : (outsAt0 m c t.val t.isLt).2.2.2.2.2.1 (ix2 h q)
    = ext (pre m c (gc (col t q))) (base t.val + (512 + h.val)) := by
  have e := gate_pre_ext m c t q ⟨504 + h.val, by omega⟩
  have e' : base t.val + (8 + (504 + h.val)) = base t.val + (512 + h.val) := by omega
  rw [← e']
  refine Eq.trans ?_ e
  by_cases h0 : t.val % 8 = 0
  · rw [outsAt0_A m c t h0]
    frame_out
    pointwise [k0_pay9, k0_pay8]
  · rw [outsAt0_B m c t h0]
    frame_out
    pointwise [k0_pay9, k0_pay8]

theorem value_pre_at (c : Dev nD) (t : Fin cfg0.N) (q : Fin 1408) (p : Fin 512) :
    k0_pay5 (F := Ideal) (iblk m c 0 t) (iblk m c 2 t) (ix2 p q) = pre m c (vc (col t q)) (at_ t p) :=
  stored_pre _ _ p q (row_block m c t p) (fun k => value_weight_block m c t k q)

theorem value_pre_ext (c : Dev nD) (t : Fin cfg0.N) (q : Fin 1408) (p : Fin 512) :
    k0_pay5 (F := Ideal) (iblk m c 0 t) (iblk m c 2 t) (ix2 p q) = ext (pre m c (vc (col t q))) (base t.val + (8 + p.val)) := by
  refine ((value_pre_at m c t q p).trans (ext_row (pre m c (vc (col t q))) (at_ t p)).symm).trans (congrArg (ext _) ?_)
  show 8 + (t.val % 8 * 512 + p.val) = t.val % 8 * 512 + (8 + p.val)
  omega

/-- The value half's kept rows are the block's last eight. -/
theorem value_kept (c : Dev nD) (t : Fin cfg0.N) (h : Fin 8) (q : Fin 1408) : (outsAt0 m c t.val t.isLt).2.2.2.2.2.2 (ix2 h q)
    = ext (pre m c (vc (col t q))) (base t.val + (512 + h.val)) := by
  have e := value_pre_ext m c t q ⟨504 + h.val, by omega⟩
  have e' : base t.val + (8 + (504 + h.val)) = base t.val + (512 + h.val) := by omega
  rw [← e']
  refine Eq.trans ?_ e
  by_cases h0 : t.val % 8 = 0
  · rw [outsAt0_A m c t h0]
    frame_out
    rw [kept_value]
    pointwise [k0_pay9, k0_pay8]
  · rw [outsAt0_B m c t h0]
    frame_out
    rw [kept_value]
    pointwise [k0_pay9, k0_pay8]

theorem before_lt (t : Fin cfg0.N) (h0 : ¬t.val % 8 = 0) : t.val - 1 < cfg0.N := by have := t.isLt; omega

theorem base_before (n h : ℕ) (h0 : ¬n % 8 = 0) : base (n - 1) + (512 + h) = base n + h := by
  unfold base
  have e : (n - 1) % 8 = n % 8 - 1 := by omega
  have := Nat.mod_lt n (by decide : 0 < 8)
  rw [e]
  omega

theorem col_before (t : Fin cfg0.N) (h0 : ¬t.val % 8 = 0) (q : Fin 1408) : col ⟨t.val - 1, before_lt t h0⟩ q = col t q :=
  Fin.ext (by
    show (t.val - 1) / 8 * 1408 + q.val = t.val / 8 * 1408 + q.val
    have e : (t.val - 1) / 8 = t.val / 8 := by omega
    rw [e])

/-- The rows kept are the ones just before the gate half's next block. -/
theorem gate_next (c : Dev nD) (t : Fin cfg0.N) (h0 : ¬t.val % 8 = 0) (q : Fin 1408) (h : Fin 8) :
    (outsAt0 m c (t.val - 1) (before_lt t h0)).2.2.2.2.2.1 (ix2 h q) = ext (pre m c (gc (col t q))) (base t.val + h.val) := by
  rw [← base_before t.val h.val h0, ← col_before t h0 q]
  exact gate_kept m c ⟨t.val - 1, before_lt t h0⟩ h q

/-- Before the first block there are zeros. -/
theorem gate_first (c : Dev nD) (t : Fin cfg0.N) (h0 : t.val % 8 = 0) (q : Fin 1408) (h : Fin 8) :
    k0_pay2 (F := Ideal) (ix2 h q) = ext (pre m c (gc (col t q))) (base t.val + h.val) := by
  rw [ext_before _ (by unfold base; rw [h0]; have := h.isLt; omega)]
  pointwise [k0_pay2]

/-- The rows kept are the ones just before the value half's next block. -/
theorem value_next (c : Dev nD) (t : Fin cfg0.N) (h0 : ¬t.val % 8 = 0) (q : Fin 1408) (h : Fin 8) :
    (outsAt0 m c (t.val - 1) (before_lt t h0)).2.2.2.2.2.2 (ix2 h q) = ext (pre m c (vc (col t q))) (base t.val + h.val) := by
  rw [← base_before t.val h.val h0, ← col_before t h0 q]
  exact value_kept m c ⟨t.val - 1, before_lt t h0⟩ h q

/-- Before the first block there are zeros. -/
theorem value_first (c : Dev nD) (t : Fin cfg0.N) (h0 : t.val % 8 = 0) (q : Fin 1408) (h : Fin 8) :
    k0_pay3 (F := Ideal) (ix2 h q) = ext (pre m c (vc (col t q))) (base t.val + h.val) := by
  rw [ext_before _ (by unfold base; rw [h0]; have := h.isLt; omega)]
  pointwise [k0_pay3]

theorem conv_at (d : Fin 4096 → EReal) (a : Fin 3 → EReal) (b : EReal) (s p : ℕ) :
    ((b + a 0 * ext d (s + (p + 6))) + a 1 * ext d (s + (p + 7))) + a 2 * ext d (s + (p + 8)) = conv d a b (s + p) := by
  unfold conv
  simp only [Nat.add_assoc]

/-- The gate half's convolution, from kept rows that are the ones before the block. -/
theorem gate_up_at (c : Dev nD) (t : Fin cfg0.N) (n : S8x1408.Idx → EReal) (q : Fin 1408)
    (hn : ∀ h : Fin 8, n (ix2 h q) = ext (pre m c (gc (col t q))) (base t.val + h.val)) (p : Fin 512) :
    k0_pay7 (F := Ideal) (iblk m c 0 t) (iblk m c 1 t) n (iblk m c 3 t) (iblk m c 5 t) (ix2 p q)
      = up m c (gc (col t q)) (base t.val + p.val) :=
  (stored_up _ _ _ _ _ q (D := fun s => ext (pre m c (gc (col t q))) (base t.val + s)) hn (gate_pre_ext m c t q)
    (fun b => gate_taps_block m c t b q) (gate_bias_block m c t 0 q) p).trans (conv_at (pre m c (gc (col t q)))
    (fun b => cw m c (ix2 b (gc (col t q)))) (cb m c (ix1 (gc (col t q)))) (base t.val) p.val)

/-- The value half's convolution, from kept rows that are the ones before the block. -/
theorem value_up_at (c : Dev nD) (t : Fin cfg0.N) (n : S8x1408.Idx → EReal) (q : Fin 1408)
    (hn : ∀ h : Fin 8, n (ix2 h q) = ext (pre m c (vc (col t q))) (base t.val + h.val)) (p : Fin 512) :
    k0_pay7 (F := Ideal) (iblk m c 0 t) (iblk m c 2 t) n (iblk m c 4 t) (iblk m c 6 t) (ix2 p q)
      = up m c (vc (col t q)) (base t.val + p.val) :=
  (stored_up _ _ _ _ _ q (D := fun s => ext (pre m c (vc (col t q))) (base t.val + s)) hn (value_pre_ext m c t q)
    (fun b => value_taps_block m c t b q) (value_bias_block m c t 0 q) p).trans (conv_at (pre m c (vc (col t q)))
    (fun b => cw m c (ix2 b (vc (col t q)))) (cb m c (ix1 (vc (col t q)))) (base t.val) p.val)

/-! ## The five result blocks after any point -/

/-- The gate half's projection. -/
theorem gate_pre_block (c : Dev nD) (t : Fin cfg0.N) (p : Fin 512) (q : Fin 1408) :
    (outsAt0 m c t.val t.isLt).1 (ix2 p q) = pre m c (gc (col t q)) (at_ t p) := by
  refine Eq.trans ?_ (gate_pre_at m c t q p)
  by_cases h0 : t.val % 8 = 0
  · rw [outsAt0_A m c t h0]
    frame_out
    pointwise [k0_pay6]
  · rw [outsAt0_B m c t h0]
    frame_out
    pointwise [k0_pay6]

/-- The value half's projection. -/
theorem value_pre_block (c : Dev nD) (t : Fin cfg0.N) (p : Fin 512) (q : Fin 1408) :
    (outsAt0 m c t.val t.isLt).2.1 (ix2 p q) = pre m c (vc (col t q)) (at_ t p) := by
  refine Eq.trans ?_ (value_pre_at m c t q p)
  by_cases h0 : t.val % 8 = 0
  · rw [outsAt0_A m c t h0]
    frame_out
    pointwise [k0_pay12]
    rw [pre_value]
  · rw [outsAt0_B m c t h0]
    frame_out
    pointwise [k0_pay12]
    rw [pre_value]

/-- The gate half's convolution. -/
theorem gate_up_block (c : Dev nD) (t : Fin cfg0.N) (p : Fin 512) (q : Fin 1408) :
    (outsAt0 m c t.val t.isLt).2.2.1 (ix2 p q) = up m c (gc (col t q)) (base t.val + p.val) := by
  by_cases h0 : t.val % 8 = 0
  · rw [outsAt0_A m c t h0]
    frame_out
    pointwise [k0_pay10]
    exact gate_up_at m c t _ q (gate_first m c t h0 q) p
  · rw [outsAt0_B m c t h0]
    frame_out
    pointwise [k0_pay10]
    simp only [read_unread_whole]
    exact gate_up_at m c t _ q (gate_next m c t h0 q) p

/-- The value half's convolution. -/
theorem value_up_block (c : Dev nD) (t : Fin cfg0.N) (p : Fin 512) (q : Fin 1408) :
    (outsAt0 m c t.val t.isLt).2.2.2.1 (ix2 p q) = up m c (vc (col t q)) (base t.val + p.val) := by
  by_cases h0 : t.val % 8 = 0
  · rw [outsAt0_A m c t h0]
    frame_out
    pointwise [k0_pay15]
    rw [up_value]
    exact value_up_at m c t _ q (value_first m c t h0 q) p
  · rw [outsAt0_B m c t h0]
    frame_out
    pointwise [k0_pay15]
    simp only [read_unread_whole]
    rw [up_value]
    exact value_up_at m c t _ q (value_next m c t h0 q) p

/-- The gated product. -/
theorem act_block (c : Dev nD) (t : Fin cfg0.N) (p : Fin 512) (q : Fin 1408) :
    (outsAt0 m c t.val t.isLt).2.2.2.2.1 (ix2 p q) = act m c (col t q) (base t.val + p.val) := by
  by_cases h0 : t.val % 8 = 0
  · rw [outsAt0_A m c t h0]
    frame_out
    rw [up_value]
    exact stored_act _ _ p q (gate_up_at m c t _ q (gate_first m c t h0 q) p) (value_up_at m c t _ q (value_first m c t h0 q) p)
  · rw [outsAt0_B m c t h0]
    frame_out
    simp only [read_unread_whole]
    rw [up_value]
    exact stored_act _ _ p q (gate_up_at m c t _ q (gate_next m c t h0 q) p) (value_up_at m c t _ q (value_next m c t h0 q) p)

/-! ## The five result arrays after the run -/

/-- The gate half's projection. -/
theorem gate_pre_final (c : Dev nD) : (dats m 0 c).arrAt 7 cfg0.N = (fun i => pre m c (gc (i 1)) (i 0) : S4096x2816.Idx → EReal) := by
  refine (dats m 0 c).arrAt_eq_of_covers 7 _ (by decide +kernel) fun t hf j => ?_
  obtain ⟨p, q, rfl⟩ : ∃ (p : Fin 512) (q : Fin 1408), j = ix2 p q := ⟨j 0, j 1, eq_ix2 j⟩
  show (outsAt0 m c t.val t.isLt).1 (ix2 p q) = _
  rw [gate_pre_block]
  have h := idx t
  refine congrArg₂ (fun r k => pre m c (gc k) r) (Fin.ext ?_) (Fin.ext ?_)
  · unfold at_; blk_simp [h]
  · unfold col; blk_simp [h]

/-- The value half's projection. -/
theorem value_pre_final (c : Dev nD) : (dats m 0 c).arrAt 8 cfg0.N = (fun i => pre m c (vc (i 1)) (i 0) : S4096x2816.Idx → EReal) := by
  refine (dats m 0 c).arrAt_eq_of_covers 8 _ (by decide +kernel) fun t hf j => ?_
  obtain ⟨p, q, rfl⟩ : ∃ (p : Fin 512) (q : Fin 1408), j = ix2 p q := ⟨j 0, j 1, eq_ix2 j⟩
  show (outsAt0 m c t.val t.isLt).2.1 (ix2 p q) = _
  rw [value_pre_block]
  have h := idx t
  refine congrArg₂ (fun r k => pre m c (vc k) r) (Fin.ext ?_) (Fin.ext ?_)
  · unfold at_; blk_simp [h]
  · unfold col; blk_simp [h]

/-- The gate half's convolution. -/
theorem gate_up_final (c : Dev nD) : (dats m 0 c).arrAt 9 cfg0.N = (fun i => up m c (gc (i 1)) (i 0).val : S4096x2816.Idx → EReal) := by
  refine (dats m 0 c).arrAt_eq_of_covers 9 _ (by decide +kernel) fun t hf j => ?_
  obtain ⟨p, q, rfl⟩ : ∃ (p : Fin 512) (q : Fin 1408), j = ix2 p q := ⟨j 0, j 1, eq_ix2 j⟩
  show (outsAt0 m c t.val t.isLt).2.2.1 (ix2 p q) = _
  rw [gate_up_block]
  have h := idx t
  refine congrArg₂ (fun (s : ℕ) k => up m c (gc k) s) ?_ (Fin.ext ?_)
  · unfold base; blk_simp [h]
  · unfold col; blk_simp [h]

/-- The value half's convolution. -/
theorem value_up_final (c : Dev nD) : (dats m 0 c).arrAt 10 cfg0.N = (fun i => up m c (vc (i 1)) (i 0).val : S4096x2816.Idx → EReal) := by
  refine (dats m 0 c).arrAt_eq_of_covers 10 _ (by decide +kernel) fun t hf j => ?_
  obtain ⟨p, q, rfl⟩ : ∃ (p : Fin 512) (q : Fin 1408), j = ix2 p q := ⟨j 0, j 1, eq_ix2 j⟩
  show (outsAt0 m c t.val t.isLt).2.2.2.1 (ix2 p q) = _
  rw [value_up_block]
  have h := idx t
  refine congrArg₂ (fun (s : ℕ) k => up m c (vc k) s) ?_ (Fin.ext ?_)
  · unfold base; blk_simp [h]
  · unfold col; blk_simp [h]

/-- The gated product. -/
theorem act_final (c : Dev nD) : (dats m 0 c).arrAt 11 cfg0.N = (fun i => act m c (i 1) (i 0).val : S4096x2816.Idx → EReal) := by
  refine (dats m 0 c).arrAt_eq_of_covers 11 _ (by decide +kernel) fun t hf j => ?_
  obtain ⟨p, q, rfl⟩ : ∃ (p : Fin 512) (q : Fin 1408), j = ix2 p q := ⟨j 0, j 1, eq_ix2 j⟩
  show (outsAt0 m c t.val t.isLt).2.2.2.2.1 (ix2 p q) = _
  rw [act_block]
  have h := idx t
  refine congrArg₂ (fun (s : ℕ) k => act m c k s) ?_ (Fin.ext ?_)
  · unfold base; blk_simp [h]
  · unfold col; blk_simp [h]

end Cert.Kernel13Ideal.Up

end
-- ==== Proof.UpForwardClaim.lean ====
/-
  The claims about the up projection and its gated causal convolution.
-/
module

public import proofs.«01_k».proof.Defs
public import proofs.«01_k».proof.Proof.UpForward
public import proofs.«01_k».proof.Proof.Gen.Reference13Ideal.Run
public import proofs.«01_k».proof.Proof.Gen.Reference13Ideal.Read

@[expose] public section

set_option maxRecDepth 16384

noncomputable section

open Idealize.ShloMosaic Idealize.SL.Sem

namespace Cert.Reference13Ideal.Up

open Cert.Reference13Ideal
open Cert.Kernel13Ideal.Up (ext conv gc vc ext_row ext_before)

/-- The projection: one row against one column of the weight. -/
def rows (x0 : S4096x1024.Idx → EReal) (x1 : S1024x5632.Idx → EReal) (q : Fin 5632) (r : Fin 4096) : EReal := ∑ k : Fin 1024, x0 (ix2 r k) * x1 (ix2 k q)

/-- The convolution of the projection's column `q`. -/
def up (x0 : S4096x1024.Idx → EReal) (x1 : S1024x5632.Idx → EReal) (x2 : S3x5632.Idx → EReal) (x3 : S5632.Idx → EReal) (q : Fin 5632) (r : ℕ) : EReal :=
  conv (rows x0 x1 q) (fun b => x2 (ix2 b q)) (x3 (ix1 q)) r

/-- The plain projection. -/
theorem pre_value (x0 : S4096x1024.Idx → EReal) (x1 : S1024x5632.Idx → EReal) (p : Fin 4096) (q : Fin 5632) :
    Read.val_main_v0 (F := Ideal) x0 x1 (ix2 p q) = rows x0 x1 q p := by
  pointwise [Read.val_main_v0]
  rfl

/-- A column with two zeros before its rows is the column with eight of them, six entries on. -/
theorem ext_two (d : Fin 4096 → EReal) (z : EReal) (hz : z = 0) (s : ℕ) (hs : s < 4098) :
    (if h : s < 2 then z else d ⟨s - 2, by omega⟩) = ext d (s + 6) := by
  split
  · rw [hz, ext_before d (by omega)]
  · have e := ext_row d ⟨s - 2, by omega⟩
    rw [← e]
    exact congrArg (ext d) (by show 8 + (s - 2) = s + 6; omega)

/-- The plain convolution. -/
theorem up_value (x0 : S4096x1024.Idx → EReal) (x1 : S1024x5632.Idx → EReal) (x2 : S3x5632.Idx → EReal) (x3 : S5632.Idx → EReal) (p : Fin 4096) (q : Fin 5632) :
    Read.val_main_v28 (F := Ideal) x0 x1 x2 x3 (ix2 p q) = up x0 x1 x2 x3 q p.val := by
  pointwise [Read.val_main_v1, Read.val_main_v2, Read.val_main_cst, Read.val_main_v3, Read.val_main_v4, Read.val_main_v5,
    Read.val_main_v6, Read.val_main_v7, Read.val_main_v8, Read.val_main_v9, Read.val_main_v10, Read.val_main_v11,
    Read.val_main_v12, Read.val_main_v13, Read.val_main_v14, Read.val_main_v15, Read.val_main_v16, Read.val_main_v17,
    Read.val_main_v18, Read.val_main_v19, Read.val_main_v20, Read.val_main_v21, Read.val_main_v22, Read.val_main_v23,
    Read.val_main_v24, Read.val_main_v25, Read.val_main_v26, Read.val_main_v27, Read.val_main_v28]
  simp only [pre_value]
  have e6 := ext_two (rows x0 x1 q) 0 rfl p.val (by omega)
  have e7 := ext_two (rows x0 x1 q) 0 rfl (1 + p.val) (by omega)
  have s7 : 1 + p.val + 6 = p.val + 7 := by omega
  have s8 : 8 + p.val = p.val + 8 := by omega
  rw [s7] at e7
  refine (congrArg₂ (fun s r => ((x3 (ix1 q) + x2 (ix2 0 q) * s) + x2 (ix2 1 q) * r) + x2 (ix2 2 q) * rows x0 x1 q p) e6 e7).trans ?_
  rw [← ext_row (rows x0 x1 q) p, s8]
  rfl

/-- The plain projection's gate half. -/
theorem v34_value (x0 : S4096x1024.Idx → EReal) (x1 : S1024x5632.Idx → EReal) (p : Fin 4096) (q : Fin 2816) :
    Read.val_main_v34 (F := Ideal) x0 x1 (ix2 p q) = rows x0 x1 (gc q) p := by
  pointwise [Read.val_main_v33, Read.val_main_v34, Read.val_main_v35, Read.val_main_v36]
  exact pre_value _ _ _ _

/-- The plain projection's value half. -/
theorem v36_value (x0 : S4096x1024.Idx → EReal) (x1 : S1024x5632.Idx → EReal) (p : Fin 4096) (q : Fin 2816) :
    Read.val_main_v36 (F := Ideal) x0 x1 (ix2 p q) = rows x0 x1 (vc q) p := by
  pointwise [Read.val_main_v33, Read.val_main_v34, Read.val_main_v35, Read.val_main_v36]
  exact pre_value _ _ _ _

/-- The plain convolution's gate half. -/
theorem v37_value (x0 : S4096x1024.Idx → EReal) (x1 : S1024x5632.Idx → EReal) (x2 : S3x5632.Idx → EReal) (x3 : S5632.Idx → EReal) (p : Fin 4096) (q : Fin 2816) :
    Read.val_main_v37 (F := Ideal) x0 x1 x2 x3 (ix2 p q) = up x0 x1 x2 x3 (gc q) p.val := by
  pointwise [Read.val_main_v29, Read.val_main_v30, Read.val_main_v37, Read.val_main_v38]
  exact up_value _ _ _ _ _ _

/-- The plain convolution's value half. -/
theorem v38_value (x0 : S4096x1024.Idx → EReal) (x1 : S1024x5632.Idx → EReal) (x2 : S3x5632.Idx → EReal) (x3 : S5632.Idx → EReal) (p : Fin 4096) (q : Fin 2816) :
    Read.val_main_v38 (F := Ideal) x0 x1 x2 x3 (ix2 p q) = up x0 x1 x2 x3 (vc q) p.val := by
  pointwise [Read.val_main_v29, Read.val_main_v30, Read.val_main_v37, Read.val_main_v38]
  exact up_value _ _ _ _ _ _

/-- The plain gated product. -/
theorem v39_value (x0 : S4096x1024.Idx → EReal) (x1 : S1024x5632.Idx → EReal) (x2 : S3x5632.Idx → EReal) (x3 : S5632.Idx → EReal) (p : Fin 4096) (q : Fin 2816) :
    Read.val_main_v39 (F := Ideal) x0 x1 x2 x3 (ix2 p q)
      = up x0 x1 x2 x3 (gc q) p.val * Ideal.logistic (up x0 x1 x2 x3 (gc q) p.val) * up x0 x1 x2 x3 (vc q) p.val := by
  rw [← up_value, ← up_value]
  pointwise [Read.val_main_v29, Read.val_main_v30, Read.val_main_call0_v0, Read.val_main_call0_v1, Read.val_main_call0_cst,
    Read.val_main_call0_v2, Read.val_main_call0_v3, Read.val_main_call0_cst_0, Read.val_main_call0_v4, Read.val_main_call0_v5,
    Read.val_main_v31, Read.val_main_v32, Read.val_main_v33, Read.val_main_v34, Read.val_main_v35, Read.val_main_v36,
    Read.val_main_v37, Read.val_main_v38, Read.val_main_v39]
  rfl

end Cert.Reference13Ideal.Up

namespace Cert.Proof

/-- The plain forward lines run, keep their arguments and leave no semaphore counted up. -/
theorem frame_up_forward_reference : quiescent_Reference13Ideal (hReference13Ideal := Cert.Reference13Ideal.Gen.facts) := fun m ρ _ =>
  (θ_run _ _ _).mono (fun r h => ⟨fun c => (h c).2.2.2.2.2, Idealize.ShloMosaic.sem_eq_zero_of_no_sems (by decide) r.2⟩)
    (Cert.Reference13Ideal.Value.run m ρ)

/-- The kernel's projection, convolution and gated product are the plain ones. -/
theorem up_forward : algebraic_Kernel13Ideal_Reference13Ideal (hKernel13Ideal := Cert.Kernel13Ideal.Gen.facts)
    (hReference13Ideal := Cert.Reference13Ideal.Gen.facts) := by
  intro m ρ m' ρ' hp hm
  refine ⟨fun c => (fun i => Cert.Kernel13Ideal.Up.pre m c (Cert.Kernel13Ideal.Up.gc (i 1)) (i 0) : Cert.Kernel13Ideal.S4096x2816.Idx → EReal),
    fun c => (fun i => Cert.Kernel13Ideal.Up.pre m c (Cert.Kernel13Ideal.Up.vc (i 1)) (i 0) : Cert.Kernel13Ideal.S4096x2816.Idx → EReal),
    fun c => (fun i => Cert.Kernel13Ideal.Up.up m c (Cert.Kernel13Ideal.Up.gc (i 1)) (i 0).val : Cert.Kernel13Ideal.S4096x2816.Idx → EReal),
    fun c => (fun i => Cert.Kernel13Ideal.Up.up m c (Cert.Kernel13Ideal.Up.vc (i 1)) (i 0).val : Cert.Kernel13Ideal.S4096x2816.Idx → EReal),
    fun c => (fun i => Cert.Kernel13Ideal.Up.act m c (i 1) (i 0).val : Cert.Kernel13Ideal.S4096x2816.Idx → EReal), ?_, ?_⟩
  · exact (θ_run _ _ _).mono (fun r h c => ⟨(h c).1.trans (Cert.Kernel13Ideal.Up.gate_pre_final m c),
      (h c).2.1.trans (Cert.Kernel13Ideal.Up.value_pre_final m c),
      (h c).2.2.1.trans (Cert.Kernel13Ideal.Up.gate_up_final m c),
      (h c).2.2.2.1.trans (Cert.Kernel13Ideal.Up.value_up_final m c),
      (h c).2.2.2.2.1.trans (Cert.Kernel13Ideal.Up.act_final m c),
      (h c).2.2.2.2.2⟩) (Cert.Kernel13Ideal.Value.run_blocks m ρ)
  · refine (θ_run _ _ _).mono (fun r h c => ⟨(h c).1.trans ?_, (h c).2.1.trans ?_, (h c).2.2.1.trans ?_, (h c).2.2.2.1.trans ?_, (h c).2.2.2.2.1.trans ?_,
      (h c).2.2.2.2.2⟩) (Cert.Reference13Ideal.Value.run m' ρ')
    · rw [Cert.Reference13Ideal.Read.val_main_v34_eq, (hm c).1, (hm c).2.1]
      funext i
      rw [eq_ix2 i]
      exact Cert.Reference13Ideal.Up.v34_value _ _ _ _
    · rw [Cert.Reference13Ideal.Read.val_main_v36_eq, (hm c).1, (hm c).2.1]
      funext i
      rw [eq_ix2 i]
      exact Cert.Reference13Ideal.Up.v36_value _ _ _ _
    · rw [Cert.Reference13Ideal.Read.val_main_v37_eq, (hm c).1, (hm c).2.1, (hm c).2.2.1, (hm c).2.2.2]
      funext i
      rw [eq_ix2 i]
      exact Cert.Reference13Ideal.Up.v37_value _ _ _ _ _ _
    · rw [Cert.Reference13Ideal.Read.val_main_v38_eq, (hm c).1, (hm c).2.1, (hm c).2.2.1, (hm c).2.2.2]
      funext i
      rw [eq_ix2 i]
      exact Cert.Reference13Ideal.Up.v38_value _ _ _ _ _ _
    · rw [Cert.Reference13Ideal.Read.val_main_v39_eq, (hm c).1, (hm c).2.1, (hm c).2.2.1, (hm c).2.2.2]
      funext i
      rw [eq_ix2 i]
      exact Cert.Reference13Ideal.Up.v39_value _ _ _ _ _ _

end Cert.Proof

end
-- ==== Proof.lean ====
/-
  The proof of `Cert.Claim`: of each program, that the kernel and the reference run and keep their arguments, and that the
  kernel's results are the reference's. The frames of the kernels come from the generated modules, the rest from the
  modules imported last.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Reference5Ideal
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Reference6Ideal
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Reference7Ideal
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Reference8Ideal
public import proofs.«01_k».proof.Proof.Gen.Kernel9
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9.Frame
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Reference9Ideal
public import proofs.«01_k».proof.Proof.Gen.Kernel10
public import proofs.«01_k».proof.Proof.Gen.Kernel10.Skeleton
public import proofs.«01_k».proof.Proof.Gen.Kernel10.Launch
public import proofs.«01_k».proof.Proof.Gen.Kernel10.Points
public import proofs.«01_k».proof.Proof.Gen.Kernel10.Frame
public import proofs.«01_k».proof.Proof.Gen.Kernel10Ideal
public import proofs.«01_k».proof.Proof.Gen.Kernel10Ideal.Skeleton
public import proofs.«01_k».proof.Proof.Gen.Kernel10Ideal.Launch
public import proofs.«01_k».proof.Proof.Gen.Kernel10Ideal.Points
public import proofs.«01_k».proof.Proof.Gen.Kernel10Ideal.Frame
public import proofs.«01_k».proof.Proof.Gen.Reference10Ideal
public import proofs.«01_k».proof.Proof.Gen.Kernel11
public import proofs.«01_k».proof.Proof.Gen.Kernel11.Skeleton
public import proofs.«01_k».proof.Proof.Gen.Kernel11.Launch
public import proofs.«01_k».proof.Proof.Gen.Kernel11.Points
public import proofs.«01_k».proof.Proof.Gen.Kernel11.Frame
public import proofs.«01_k».proof.Proof.Gen.Kernel11Ideal
public import proofs.«01_k».proof.Proof.Gen.Kernel11Ideal.Skeleton
public import proofs.«01_k».proof.Proof.Gen.Kernel11Ideal.Launch
public import proofs.«01_k».proof.Proof.Gen.Kernel11Ideal.Points
public import proofs.«01_k».proof.Proof.Gen.Kernel11Ideal.Frame
public import proofs.«01_k».proof.Proof.Gen.Reference11Ideal
public import proofs.«01_k».proof.Proof.Gen.Kernel12
public import proofs.«01_k».proof.Proof.Gen.Kernel12.Skeleton
public import proofs.«01_k».proof.Proof.Gen.Kernel12.Launch
public import proofs.«01_k».proof.Proof.Gen.Kernel12.Points
public import proofs.«01_k».proof.Proof.Gen.Kernel12.Frame
public import proofs.«01_k».proof.Proof.Gen.Kernel12Ideal
public import proofs.«01_k».proof.Proof.Gen.Kernel12Ideal.Skeleton
public import proofs.«01_k».proof.Proof.Gen.Kernel12Ideal.Launch
public import proofs.«01_k».proof.Proof.Gen.Kernel12Ideal.Points
public import proofs.«01_k».proof.Proof.Gen.Kernel12Ideal.Frame
public import proofs.«01_k».proof.Proof.Gen.Reference12Ideal
public import proofs.«01_k».proof.Proof.Gen.Kernel13
public import proofs.«01_k».proof.Proof.Gen.Kernel13.Skeleton
public import proofs.«01_k».proof.Proof.Gen.Kernel13.Launch
public import proofs.«01_k».proof.Proof.Gen.Kernel13.Points
public import proofs.«01_k».proof.Proof.Gen.Kernel13.Frame
public import proofs.«01_k».proof.Proof.Gen.Kernel13Ideal
public import proofs.«01_k».proof.Proof.Gen.Kernel13Ideal.Skeleton
public import proofs.«01_k».proof.Proof.Gen.Kernel13Ideal.Launch
public import proofs.«01_k».proof.Proof.Gen.Kernel13Ideal.Points
public import proofs.«01_k».proof.Proof.Gen.Kernel13Ideal.Frame
public import proofs.«01_k».proof.Proof.Gen.Reference13Ideal
public import proofs.«01_k».proof.Proof.Gen.Pre_finite
public import proofs.«01_k».proof.Proof.Gen.Pre_finite2
public import proofs.«01_k».proof.Proof.Gen.Pre_finite3
public import proofs.«01_k».proof.Proof.Gen.Pre_finite5
public import Idealize.ShloMosaic.Adequacy
public import Idealize.ShloMosaic.Init
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Kernel2Ideal.Value
public import proofs.«01_k».proof.Proof.Gen.Reference2Ideal.Run
public import proofs.«01_k».proof.Proof.Gen.Reference2Ideal.Read
public import proofs.«01_k».proof.Proof.Gen.Kernel3Ideal.Value
public import proofs.«01_k».proof.Proof.Gen.Reference3Ideal.Run
public import proofs.«01_k».proof.Proof.Gen.Reference3Ideal.Read
public import proofs.«01_k».proof.Proof.Gen.Kernel4Ideal.Value
public import proofs.«01_k».proof.Proof.Gen.Reference4Ideal.Run
public import proofs.«01_k».proof.Proof.Gen.Reference4Ideal.Read
public import proofs.«01_k».proof.Proof.Gen.Kernel5Ideal.Value
public import proofs.«01_k».proof.Proof.Gen.Reference5Ideal.Run
public import proofs.«01_k».proof.Proof.Gen.Reference5Ideal.Read
public import proofs.«01_k».proof.Proof.Gen.Kernel6Ideal.Value
public import proofs.«01_k».proof.Proof.Gen.Reference6Ideal.Run
public import proofs.«01_k».proof.Proof.Gen.Reference6Ideal.Read
public import proofs.«01_k».proof.Proof.Gen.Kernel7Ideal.Value
public import proofs.«01_k».proof.Proof.Gen.Reference7Ideal.Run
public import proofs.«01_k».proof.Proof.Gen.Reference7Ideal.Read
public import proofs.«01_k».proof.Proof.Gen.Kernel8Ideal.Value
public import proofs.«01_k».proof.Proof.Gen.Reference8Ideal.Run
public import proofs.«01_k».proof.Proof.Gen.Reference8Ideal.Read
public import proofs.«01_k».proof.Proof.Gen.Kernel9Ideal.Value
public import proofs.«01_k».proof.Proof.Gen.Reference9Ideal.Run
public import proofs.«01_k».proof.Proof.Gen.Reference9Ideal.Read
public import proofs.«01_k».proof.Proof.Gen.Kernel10Ideal.Value
public import proofs.«01_k».proof.Proof.Gen.Reference10Ideal.Run
public import proofs.«01_k».proof.Proof.Gen.Reference10Ideal.Read
public import proofs.«01_k».proof.Proof.Gen.Kernel11Ideal.Value
public import proofs.«01_k».proof.Proof.Gen.Reference11Ideal.Run
public import proofs.«01_k».proof.Proof.Gen.Reference11Ideal.Read
public import proofs.«01_k».proof.Proof.Gen.Kernel12Ideal.Value
public import proofs.«01_k».proof.Proof.Gen.Reference12Ideal.Run
public import proofs.«01_k».proof.Proof.Gen.Reference12Ideal.Read
public import proofs.«01_k».proof.Proof.Gen.Kernel13Ideal.Value
public import proofs.«01_k».proof.Proof.Gen.Reference13Ideal.Run
public import proofs.«01_k».proof.Proof.Gen.Reference13Ideal.Read
public import proofs.«01_k».proof.Proof.ActClaim
public import proofs.«01_k».proof.Proof.UpClaim
public import proofs.«01_k».proof.Proof.InClaim
public import proofs.«01_k».proof.Proof.OutClaim
public import proofs.«01_k».proof.Proof.PoolClaim
public import proofs.«01_k».proof.Proof.DownClaim
public import proofs.«01_k».proof.Proof.QkvGrad
public import proofs.«01_k».proof.Proof.GatesGrad
public import proofs.«01_k».proof.Proof.UpValueGrad
public import proofs.«01_k».proof.Proof.LossClaim
public import proofs.«01_k».proof.Proof.InForwardClaim
public import proofs.«01_k».proof.Proof.MixClaim
public import proofs.«01_k».proof.Proof.UpForwardClaim

@[expose] public section

noncomputable section

namespace Cert.Proof

open Idealize.ShloMosaic Idealize.SL.Sem

/-- Every claim: the frames first, then of each program that the idealized kernel is the kernel and that its results are
    the reference's. -/
theorem claim : Cert.Claim :=
  ⟨Cert.Kernel.Gen.facts,
    Cert.KernelIdeal.Gen.facts,
    Cert.ReferenceIdeal.Gen.facts,
    Cert.Kernel2.Gen.facts,
    Cert.Kernel2Ideal.Gen.facts,
    Cert.Reference2Ideal.Gen.facts,
    Cert.Kernel3.Gen.facts,
    Cert.Kernel3Ideal.Gen.facts,
    Cert.Reference3Ideal.Gen.facts,
    Cert.Kernel4.Gen.facts,
    Cert.Kernel4Ideal.Gen.facts,
    Cert.Reference4Ideal.Gen.facts,
    Cert.Kernel5.Gen.facts,
    Cert.Kernel5Ideal.Gen.facts,
    Cert.Reference5Ideal.Gen.facts,
    Cert.Kernel6.Gen.facts,
    Cert.Kernel6Ideal.Gen.facts,
    Cert.Reference6Ideal.Gen.facts,
    Cert.Kernel7.Gen.facts,
    Cert.Kernel7Ideal.Gen.facts,
    Cert.Reference7Ideal.Gen.facts,
    Cert.Kernel8.Gen.facts,
    Cert.Kernel8Ideal.Gen.facts,
    Cert.Reference8Ideal.Gen.facts,
    Cert.Kernel9.Gen.facts,
    Cert.Kernel9Ideal.Gen.facts,
    Cert.Reference9Ideal.Gen.facts,
    Cert.Kernel10.Gen.facts,
    Cert.Kernel10Ideal.Gen.facts,
    Cert.Reference10Ideal.Gen.facts,
    Cert.Kernel11.Gen.facts,
    Cert.Kernel11Ideal.Gen.facts,
    Cert.Reference11Ideal.Gen.facts,
    Cert.Kernel12.Gen.facts,
    Cert.Kernel12Ideal.Gen.facts,
    Cert.Reference12Ideal.Gen.facts,
    Cert.Kernel13.Gen.facts,
    Cert.Kernel13Ideal.Gen.facts,
    Cert.Reference13Ideal.Gen.facts,
    Cert.Pre_finite.Gen.facts,
    Cert.Pre_finite2.Gen.facts,
    Cert.Pre_finite3.Gen.facts,
    Cert.Pre_finite5.Gen.facts,
    fun m ρ _ => Cert.Kernel.Gen.frame m ρ,
    fun m ρ _ => Cert.KernelIdeal.Gen.frame m ρ,
    fun m ρ _ => Cert.KernelIdeal.Gen.frame m ρ,
    frame_act_reference,
    fun m ρ _ => frame_act_reference m ρ trivial,
    fun m ρ _ => Cert.Kernel2.Gen.frame m ρ,
    fun m ρ _ => Cert.Kernel2Ideal.Gen.frame m ρ,
    fun m ρ _ => Cert.Kernel2Ideal.Gen.frame m ρ,
    frame_up_reference,
    fun m ρ _ => frame_up_reference m ρ trivial,
    fun m ρ _ => Cert.Kernel3.Gen.frame m ρ,
    fun m ρ _ => Cert.Kernel3Ideal.Gen.frame m ρ,
    fun m ρ _ => Cert.Kernel3Ideal.Gen.frame m ρ,
    frame_in_reference,
    fun m ρ _ => frame_in_reference m ρ trivial,
    fun m ρ _ => Cert.Kernel4.Gen.frame m ρ,
    fun m ρ _ => Cert.Kernel4Ideal.Gen.frame m ρ,
    frame_out_reference,
    fun m ρ _ => Cert.Kernel5.Gen.frame m ρ,
    fun m ρ _ => Cert.Kernel5Ideal.Gen.frame m ρ,
    fun m ρ _ => Cert.Kernel5Ideal.Gen.frame m ρ,
    frame_pool_reference,
    fun m ρ _ => frame_pool_reference m ρ trivial,
    fun m ρ _ => Cert.Kernel6.Gen.frame m ρ,
    fun m ρ _ => Cert.Kernel6Ideal.Gen.frame m ρ,
    frame_down_reference,
    fun m ρ _ => Cert.Kernel7.Gen.frame m ρ,
    fun m ρ _ => Cert.Kernel7Ideal.Gen.frame m ρ,
    frame_qkv_weight_reference,
    fun m ρ _ => Cert.Kernel8.Gen.frame m ρ,
    fun m ρ _ => Cert.Kernel8Ideal.Gen.frame m ρ,
    frame_gates_weight_reference,
    fun m ρ _ => Cert.Kernel9.Gen.frame m ρ,
    fun m ρ _ => Cert.Kernel9Ideal.Gen.frame m ρ,
    frame_up_value_weight_reference,
    fun m ρ _ => Cert.Kernel10.Gen.frame m ρ,
    fun m ρ _ => Cert.Kernel10Ideal.Gen.frame m ρ,
    frame_loss_reference,
    fun m ρ _ => Cert.Kernel11.Gen.frame m ρ,
    fun m ρ _ => Cert.Kernel11Ideal.Gen.frame m ρ,
    frame_in_forward_reference,
    fun m ρ _ => Cert.Kernel12.Gen.frame m ρ,
    fun m ρ _ => Cert.Kernel12Ideal.Gen.frame m ρ,
    frame_mix_reference,
    fun m ρ _ => Cert.Kernel13.Gen.frame m ρ,
    fun m ρ _ => Cert.Kernel13Ideal.Gen.frame m ρ,
    frame_up_forward_reference,
    trivial,
    act,
    trivial,
    up,
    trivial,
    in_proj,
    trivial,
    out_proj,
    trivial,
    pool,
    trivial,
    down,
    trivial,
    qkv_weight,
    trivial,
    gates_weight,
    trivial,
    up_value_weight,
    trivial,
    loss,
    trivial,
    in_forward,
    trivial,
    mix,
    trivial,
    up_forward⟩

end Cert.Proof

end
